-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 1024]⟩ ⟨2, ![32768, 1024]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v5) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x1024 : Shape := ⟨2, ![2048, 1024]⟩
abbrev S1024x1024 : Shape := ⟨2, ![1024, 1024]⟩
abbrev S1920x1024 : Shape := ⟨2, ![1920, 1024]⟩
abbrev S16 : Shape := ⟨1, ![16]⟩
abbrev S_ : Shape := ⟨0, ![]⟩
abbrev S1 : Shape := ⟨1, ![1]⟩
abbrev S256x1024 : Shape := ⟨2, ![256, 1024]⟩
abbrev S128x1024 : Shape := ⟨2, ![128, 1024]⟩
abbrev S64x1024 : Shape := ⟨2, ![64, 1024]⟩
abbrev S32x1024 : Shape := ⟨2, ![32, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .bf16⟩
  | .local _ .vmem, ⟨0, _⟩ => ⟨S2048x1024, .bf16⟩
  | .local _ .vmem, ⟨1, _⟩ => ⟨S1024x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1920x1024, .bf16⟩
  | .local _ .vmem, ⟨5, _⟩ => ⟨S1024x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 67 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | _ => false

abbrev sig : RefSig :=
  (ofTc nBuf bufTy 1 67 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_20 : BitVec 32 := 1#32
  let v58 : BitVec 32 := Scalar.addi v2 c1_i32_20
  let c2_i32_22 : BitVec 32 := 2#32
  let c4_i32 : BitVec 32 := 4#32
  let v3 : BitVec 32 := Scalar.remsi v2 c4_i32
  let c2_i32_21 : BitVec 32 := 2#32
  let v59 : BitVec 32 := Scalar.remsi v3 c2_i32_21
  let v60 : BitVec 32 := Scalar.muli c2_i32_22 v59
  let v61 : BitVec 32 := Scalar.subi v58 v60
  let c1_i32_31 : BitVec 32 := 1#32
  let v74 : BitVec 32 := Scalar.muli v61 c1_i32_31
  let v75 : BitVec 32 := Scalar.addi c0_i32_32 v74
  v75.toNat
def k0_dev2 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_23 : BitVec 32 := 3#32
  let v62 : BitVec 32 := Scalar.addi v2 c3_i32_23
  let c2_i32_24 : BitVec 32 := 2#32
  let c4_i32 : BitVec 32 := 4#32
  let v3 : BitVec 32 := Scalar.remsi v2 c4_i32
  let v63 : BitVec 32 := Scalar.muli c2_i32_24 v3
  let v64 : BitVec 32 := Scalar.subi v62 v63
  let c1_i32_34 : BitVec 32 := 1#32
  let v76 : BitVec 32 := Scalar.muli v64 c1_i32_34
  let v77 : BitVec 32 := Scalar.addi c0_i32_35 v76
  v77.toNat
def k0_dev3 (d0 : Dev nD) : Nat :=
  let c0_i32_38 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_27 : BitVec 32 := 4#32
  let c1_i32_26 : BitVec 32 := 1#32
  let c2_i32_25 : BitVec 32 := 2#32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32_12 : BitVec 32 := 2#32
  let v40 : BitVec 32 := Scalar.remsi v20 c2_i32_12
  let v65 : BitVec 32 := Scalar.muli c2_i32_25 v40
  let v66 : BitVec 32 := Scalar.subi c1_i32_26 v65
  let v67 : BitVec 32 := Scalar.muli c4_i32_27 v66
  let v68 : BitVec 32 := Scalar.addi v2 v67
  let c1_i32_37 : BitVec 32 := 1#32
  let v78 : BitVec 32 := Scalar.muli v68 c1_i32_37
  let v79 : BitVec 32 := Scalar.addi c0_i32_38 v78
  v79.toNat
def k0_dev4 (d0 : Dev nD) : Nat :=
  let c0_i32_41 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let c1_i32_29 : BitVec 32 := 1#32
  let c2_i32_28 : BitVec 32 := 2#32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_14 : BitVec 32 := 0#32
  let v42 : BitVec 1 := Scalar.cmpi .sgt v20 c0_i32_14
  let v43 : BitVec 32 := Scalar.extui v42
  let c0_i32_15 : BitVec 32 := 0#32
  let v44 : BitVec 1 := Scalar.cmpi .slt v20 c0_i32_15
  let v45 : BitVec 32 := Scalar.extui v44
  let v46 : BitVec 32 := Scalar.subi v43 v45
  let c2_i32_13 : BitVec 32 := 2#32
  let c0_i32_16 : BitVec 32 := 0#32
  let v47 : BitVec 1 := Scalar.cmpi .sgt c2_i32_13 c0_i32_16
  let v48 : BitVec 32 := Scalar.extui v47
  let c0_i32_17 : BitVec 32 := 0#32
  let v49 : BitVec 1 := Scalar.cmpi .slt c2_i32_13 c0_i32_17
  let v50 : BitVec 32 := Scalar.extui v49
  let v51 : BitVec 32 := Scalar.subi v48 v50
  let v52 : BitVec 1 := Scalar.cmpi .ne v46 v51
  let v53 : BitVec 32 := Scalar.remsi v20 c2_i32_13
  let c0_i32_18 : BitVec 32 := 0#32
  let v54 : BitVec 1 := Scalar.cmpi .ne v53 c0_i32_18
  let v55 : BitVec 1 := Scalar.andi v52 v54
  let v41 : BitVec 32 := Scalar.divsi v20 c2_i32_13
  let c1_i32_19 : BitVec 32 := 1#32
  let v56 : BitVec 32 := Scalar.subi v41 c1_i32_19
  let v57 : BitVec 32 := Scalar.select v55 v56 v41
  let v69 : BitVec 32 := Scalar.muli c2_i32_28 v57
  let v70 : BitVec 32 := Scalar.subi c1_i32_29 v69
  let v71 : BitVec 32 := Scalar.muli c8_i32 v70
  let v72 : BitVec 32 := Scalar.addi v2 v71
  let c1_i32_40 : BitVec 32 := 1#32
  let v80 : BitVec 32 := Scalar.muli v72 c1_i32_40
  let v81 : BitVec 32 := Scalar.addi c0_i32_41 v80
  v81.toNat
def k0_off1 (d0 : Dev nD) : Fin 2 → Nat :=
  let c0_i32_47 : BitVec 32 := 0#32
  let c1_i32_46 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c3_i32 : BitVec 32 := 3#32
  let v21 : BitVec 32 := Scalar.subi c3_i32 v3
  let v22 : BitVec 32 := Scalar.minsi v3 v21
  let v87 : BitVec 32 := Scalar.subi c1_i32_46 v22
  let c256_i32 : BitVec 32 := 256#32
  let v88 : BitVec 32 := Scalar.muli v87 c256_i32
  let v89 : BitVec 32 := Scalar.addi c0_i32_47 v88
  let c0_i32_54 : BitVec 32 := 0#32
  ![v89.toNat, 0]
def k0_dev5 (d0 : Dev nD) : Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_20 : BitVec 32 := 1#32
  let v58 : BitVec 32 := Scalar.addi v2 c1_i32_20
  let c2_i32_22 : BitVec 32 := 2#32
  let c4_i32 : BitVec 32 := 4#32
  let v3 : BitVec 32 := Scalar.remsi v2 c4_i32
  let c2_i32_21 : BitVec 32 := 2#32
  let v59 : BitVec 32 := Scalar.remsi v3 c2_i32_21
  let v60 : BitVec 32 := Scalar.muli c2_i32_22 v59
  let v61 : BitVec 32 := Scalar.subi v58 v60
  let c1_i32_50 : BitVec 32 := 1#32
  let v90 : BitVec 32 := Scalar.muli v61 c1_i32_50
  let v91 : BitVec 32 := Scalar.addi c0_i32_51 v90
  v91.toNat
def k0_off2 (d0 : Dev nD) : Fin 2 → Nat :=
  let c512_i32 : BitVec 32 := 512#32
  let c1_i32_55 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v24 : BitVec 1 := Scalar.cmpi .sgt v3 c0_i32_6
  let v25 : BitVec 32 := Scalar.extui v24
  let c0_i32_7 : BitVec 32 := 0#32
  let v26 : BitVec 1 := Scalar.cmpi .slt v3 c0_i32_7
  let v27 : BitVec 32 := Scalar.extui v26
  let v28 : BitVec 32 := Scalar.subi v25 v27
  let c2_i32 : BitVec 32 := 2#32
  let c0_i32_8 : BitVec 32 := 0#32
  let v29 : BitVec 1 := Scalar.cmpi .sgt c2_i32 c0_i32_8
  let v30 : BitVec 32 := Scalar.extui v29
  let c0_i32_9 : BitVec 32 := 0#32
  let v31 : BitVec 1 := Scalar.cmpi .slt c2_i32 c0_i32_9
  let v32 : BitVec 32 := Scalar.extui v31
  let v33 : BitVec 32 := Scalar.subi v30 v32
  let v34 : BitVec 1 := Scalar.cmpi .ne v28 v33
  let v35 : BitVec 32 := Scalar.remsi v3 c2_i32
  let c0_i32_10 : BitVec 32 := 0#32
  let v36 : BitVec 1 := Scalar.cmpi .ne v35 c0_i32_10
  let v37 : BitVec 1 := Scalar.andi v34 v36
  let v23 : BitVec 32 := Scalar.divsi v3 c2_i32
  let c1_i32_11 : BitVec 32 := 1#32
  let v38 : BitVec 32 := Scalar.subi v23 c1_i32_11
  let v39 : BitVec 32 := Scalar.select v37 v38 v23
  let v98 : BitVec 32 := Scalar.subi c1_i32_55 v39
  let c256_i32_56 : BitVec 32 := 256#32
  let v99 : BitVec 32 := Scalar.muli v98 c256_i32_56
  let v100 : BitVec 32 := Scalar.addi c512_i32 v99
  let c0_i32_62 : BitVec 32 := 0#32
  ![v100.toNat, 0]
def k0_dev6 (d0 : Dev nD) : Nat :=
  let c0_i32_60 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_23 : BitVec 32 := 3#32
  let v62 : BitVec 32 := Scalar.addi v2 c3_i32_23
  let c2_i32_24 : BitVec 32 := 2#32
  let c4_i32 : BitVec 32 := 4#32
  let v3 : BitVec 32 := Scalar.remsi v2 c4_i32
  let v63 : BitVec 32 := Scalar.muli c2_i32_24 v3
  let v64 : BitVec 32 := Scalar.subi v62 v63
  let c1_i32_59 : BitVec 32 := 1#32
  let v101 : BitVec 32 := Scalar.muli v64 c1_i32_59
  let v102 : BitVec 32 := Scalar.addi c0_i32_60 v101
  v102.toNat
def k0_off3 (d0 : Dev nD) : Fin 2 → Nat :=
  let c1024_i32 : BitVec 32 := 1024#32
  let c1_i32_63 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32_12 : BitVec 32 := 2#32
  let v40 : BitVec 32 := Scalar.remsi v20 c2_i32_12
  let v109 : BitVec 32 := Scalar.subi c1_i32_63 v40
  let c256_i32_64 : BitVec 32 := 256#32
  let v110 : BitVec 32 := Scalar.muli v109 c256_i32_64
  let v111 : BitVec 32 := Scalar.addi c1024_i32 v110
  let c0_i32_70 : BitVec 32 := 0#32
  ![v111.toNat, 0]
def k0_dev7 (d0 : Dev nD) : Nat :=
  let c0_i32_68 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_27 : BitVec 32 := 4#32
  let c1_i32_26 : BitVec 32 := 1#32
  let c2_i32_25 : BitVec 32 := 2#32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32_12 : BitVec 32 := 2#32
  let v40 : BitVec 32 := Scalar.remsi v20 c2_i32_12
  let v65 : BitVec 32 := Scalar.muli c2_i32_25 v40
  let v66 : BitVec 32 := Scalar.subi c1_i32_26 v65
  let v67 : BitVec 32 := Scalar.muli c4_i32_27 v66
  let v68 : BitVec 32 := Scalar.addi v2 v67
  let c1_i32_67 : BitVec 32 := 1#32
  let v112 : BitVec 32 := Scalar.muli v68 c1_i32_67
  let v113 : BitVec 32 := Scalar.addi c0_i32_68 v112
  v113.toNat
def k0_off4 (d0 : Dev nD) : Fin 2 → Nat :=
  let c1536_i32 : BitVec 32 := 1536#32
  let c1_i32_71 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_14 : BitVec 32 := 0#32
  let v42 : BitVec 1 := Scalar.cmpi .sgt v20 c0_i32_14
  let v43 : BitVec 32 := Scalar.extui v42
  let c0_i32_15 : BitVec 32 := 0#32
  let v44 : BitVec 1 := Scalar.cmpi .slt v20 c0_i32_15
  let v45 : BitVec 32 := Scalar.extui v44
  let v46 : BitVec 32 := Scalar.subi v43 v45
  let c2_i32_13 : BitVec 32 := 2#32
  let c0_i32_16 : BitVec 32 := 0#32
  let v47 : BitVec 1 := Scalar.cmpi .sgt c2_i32_13 c0_i32_16
  let v48 : BitVec 32 := Scalar.extui v47
  let c0_i32_17 : BitVec 32 := 0#32
  let v49 : BitVec 1 := Scalar.cmpi .slt c2_i32_13 c0_i32_17
  let v50 : BitVec 32 := Scalar.extui v49
  let v51 : BitVec 32 := Scalar.subi v48 v50
  let v52 : BitVec 1 := Scalar.cmpi .ne v46 v51
  let v53 : BitVec 32 := Scalar.remsi v20 c2_i32_13
  let c0_i32_18 : BitVec 32 := 0#32
  let v54 : BitVec 1 := Scalar.cmpi .ne v53 c0_i32_18
  let v55 : BitVec 1 := Scalar.andi v52 v54
  let v41 : BitVec 32 := Scalar.divsi v20 c2_i32_13
  let c1_i32_19 : BitVec 32 := 1#32
  let v56 : BitVec 32 := Scalar.subi v41 c1_i32_19
  let v57 : BitVec 32 := Scalar.select v55 v56 v41
  let v120 : BitVec 32 := Scalar.subi c1_i32_71 v57
  let c256_i32_72 : BitVec 32 := 256#32
  let v121 : BitVec 32 := Scalar.muli v120 c256_i32_72
  let v122 : BitVec 32 := Scalar.addi c1536_i32 v121
  let c0_i32_77 : BitVec 32 := 0#32
  ![v122.toNat, 0]
def k0_dev8 (d0 : Dev nD) : Nat :=
  let c0_i32_75 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let c1_i32_29 : BitVec 32 := 1#32
  let c2_i32_28 : BitVec 32 := 2#32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_14 : BitVec 32 := 0#32
  let v42 : BitVec 1 := Scalar.cmpi .sgt v20 c0_i32_14
  let v43 : BitVec 32 := Scalar.extui v42
  let c0_i32_15 : BitVec 32 := 0#32
  let v44 : BitVec 1 := Scalar.cmpi .slt v20 c0_i32_15
  let v45 : BitVec 32 := Scalar.extui v44
  let v46 : BitVec 32 := Scalar.subi v43 v45
  let c2_i32_13 : BitVec 32 := 2#32
  let c0_i32_16 : BitVec 32 := 0#32
  let v47 : BitVec 1 := Scalar.cmpi .sgt c2_i32_13 c0_i32_16
  let v48 : BitVec 32 := Scalar.extui v47
  let c0_i32_17 : BitVec 32 := 0#32
  let v49 : BitVec 1 := Scalar.cmpi .slt c2_i32_13 c0_i32_17
  let v50 : BitVec 32 := Scalar.extui v49
  let v51 : BitVec 32 := Scalar.subi v48 v50
  let v52 : BitVec 1 := Scalar.cmpi .ne v46 v51
  let v53 : BitVec 32 := Scalar.remsi v20 c2_i32_13
  let c0_i32_18 : BitVec 32 := 0#32
  let v54 : BitVec 1 := Scalar.cmpi .ne v53 c0_i32_18
  let v55 : BitVec 1 := Scalar.andi v52 v54
  let v41 : BitVec 32 := Scalar.divsi v20 c2_i32_13
  let c1_i32_19 : BitVec 32 := 1#32
  let v56 : BitVec 32 := Scalar.subi v41 c1_i32_19
  let v57 : BitVec 32 := Scalar.select v55 v56 v41
  let v69 : BitVec 32 := Scalar.muli c2_i32_28 v57
  let v70 : BitVec 32 := Scalar.subi c1_i32_29 v69
  let v71 : BitVec 32 := Scalar.muli c8_i32 v70
  let v72 : BitVec 32 := Scalar.addi v2 v71
  let c1_i32_74 : BitVec 32 := 1#32
  let v123 : BitVec 32 := Scalar.muli v72 c1_i32_74
  let v124 : BitVec 32 := Scalar.addi c0_i32_75 v123
  v124.toNat
def k0_off5 (d0 : Dev nD) : Fin 2 → Nat :=
  let c0_i32_83 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c3_i32 : BitVec 32 := 3#32
  let v21 : BitVec 32 := Scalar.subi c3_i32 v3
  let v22 : BitVec 32 := Scalar.minsi v3 v21
  let c256_i32_82 : BitVec 32 := 256#32
  let v136 : BitVec 32 := Scalar.muli v22 c256_i32_82
  let v137 : BitVec 32 := Scalar.addi c0_i32_83 v136
  let c0_i32_90 : BitVec 32 := 0#32
  ![v137.toNat, 0]
def k0_off6 (d0 : Dev nD) : Fin 2 → Nat :=
  let c0_i32_83 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c3_i32 : BitVec 32 := 3#32
  let v21 : BitVec 32 := Scalar.subi c3_i32 v3
  let v22 : BitVec 32 := Scalar.minsi v3 v21
  let c256_i32_82 : BitVec 32 := 256#32
  let v136 : BitVec 32 := Scalar.muli v22 c256_i32_82
  let v137 : BitVec 32 := Scalar.addi c0_i32_83 v136
  let v144 : Index := Scalar.indexCast v137
  let c0_91 : Index := 0#32
  ![v144.toNat, 0]
def k0_off7 (d0 : Dev nD) : Fin 2 → Nat :=
  let c0_i32_83 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c3_i32 : BitVec 32 := 3#32
  let v21 : BitVec 32 := Scalar.subi c3_i32 v3
  let v22 : BitVec 32 := Scalar.minsi v3 v21
  let c256_i32_82 : BitVec 32 := 256#32
  let v136 : BitVec 32 := Scalar.muli v22 c256_i32_82
  let v137 : BitVec 32 := Scalar.addi c0_i32_83 v136
  let c1_i32_95 : BitVec 32 := 1#32
  let c0_i32_6 : BitVec 32 := 0#32
  let v24 : BitVec 1 := Scalar.cmpi .sgt v3 c0_i32_6
  let v25 : BitVec 32 := Scalar.extui v24
  let c0_i32_7 : BitVec 32 := 0#32
  let v26 : BitVec 1 := Scalar.cmpi .slt v3 c0_i32_7
  let v27 : BitVec 32 := Scalar.extui v26
  let v28 : BitVec 32 := Scalar.subi v25 v27
  let c2_i32 : BitVec 32 := 2#32
  let c0_i32_8 : BitVec 32 := 0#32
  let v29 : BitVec 1 := Scalar.cmpi .sgt c2_i32 c0_i32_8
  let v30 : BitVec 32 := Scalar.extui v29
  let c0_i32_9 : BitVec 32 := 0#32
  let v31 : BitVec 1 := Scalar.cmpi .slt c2_i32 c0_i32_9
  let v32 : BitVec 32 := Scalar.extui v31
  let v33 : BitVec 32 := Scalar.subi v30 v32
  let v34 : BitVec 1 := Scalar.cmpi .ne v28 v33
  let v35 : BitVec 32 := Scalar.remsi v3 c2_i32
  let c0_i32_10 : BitVec 32 := 0#32
  let v36 : BitVec 1 := Scalar.cmpi .ne v35 c0_i32_10
  let v37 : BitVec 1 := Scalar.andi v34 v36
  let v23 : BitVec 32 := Scalar.divsi v3 c2_i32
  let c1_i32_11 : BitVec 32 := 1#32
  let v38 : BitVec 32 := Scalar.subi v23 c1_i32_11
  let v39 : BitVec 32 := Scalar.select v37 v38 v23
  let v155 : BitVec 32 := Scalar.subi c1_i32_95 v39
  let c128_i32 : BitVec 32 := 128#32
  let v156 : BitVec 32 := Scalar.muli v155 c128_i32
  let v157 : BitVec 32 := Scalar.addi v137 v156
  let c0_i32_102 : BitVec 32 := 0#32
  ![v157.toNat, 0]
def k0_dev9 (d0 : Dev nD) : Nat :=
  let c0_i32_99 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_23 : BitVec 32 := 3#32
  let v62 : BitVec 32 := Scalar.addi v2 c3_i32_23
  let c2_i32_24 : BitVec 32 := 2#32
  let c4_i32 : BitVec 32 := 4#32
  let v3 : BitVec 32 := Scalar.remsi v2 c4_i32
  let v63 : BitVec 32 := Scalar.muli c2_i32_24 v3
  let v64 : BitVec 32 := Scalar.subi v62 v63
  let c1_i32_98 : BitVec 32 := 1#32
  let v158 : BitVec 32 := Scalar.muli v64 c1_i32_98
  let v159 : BitVec 32 := Scalar.addi c0_i32_99 v158
  v159.toNat
def k0_off8 (d0 : Dev nD) : Fin 2 → Nat :=
  let c512_i32_104 : BitVec 32 := 512#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v24 : BitVec 1 := Scalar.cmpi .sgt v3 c0_i32_6
  let v25 : BitVec 32 := Scalar.extui v24
  let c0_i32_7 : BitVec 32 := 0#32
  let v26 : BitVec 1 := Scalar.cmpi .slt v3 c0_i32_7
  let v27 : BitVec 32 := Scalar.extui v26
  let v28 : BitVec 32 := Scalar.subi v25 v27
  let c2_i32 : BitVec 32 := 2#32
  let c0_i32_8 : BitVec 32 := 0#32
  let v29 : BitVec 1 := Scalar.cmpi .sgt c2_i32 c0_i32_8
  let v30 : BitVec 32 := Scalar.extui v29
  let c0_i32_9 : BitVec 32 := 0#32
  let v31 : BitVec 1 := Scalar.cmpi .slt c2_i32 c0_i32_9
  let v32 : BitVec 32 := Scalar.extui v31
  let v33 : BitVec 32 := Scalar.subi v30 v32
  let v34 : BitVec 1 := Scalar.cmpi .ne v28 v33
  let v35 : BitVec 32 := Scalar.remsi v3 c2_i32
  let c0_i32_10 : BitVec 32 := 0#32
  let v36 : BitVec 1 := Scalar.cmpi .ne v35 c0_i32_10
  let v37 : BitVec 1 := Scalar.andi v34 v36
  let v23 : BitVec 32 := Scalar.divsi v3 c2_i32
  let c1_i32_11 : BitVec 32 := 1#32
  let v38 : BitVec 32 := Scalar.subi v23 c1_i32_11
  let v39 : BitVec 32 := Scalar.select v37 v38 v23
  let c256_i32_103 : BitVec 32 := 256#32
  let v166 : BitVec 32 := Scalar.muli v39 c256_i32_103
  let v167 : BitVec 32 := Scalar.addi c512_i32_104 v166
  let c0_i32_111 : BitVec 32 := 0#32
  ![v167.toNat, 0]
def k0_off9 (d0 : Dev nD) : Fin 2 → Nat :=
  let c512_i32_104 : BitVec 32 := 512#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v24 : BitVec 1 := Scalar.cmpi .sgt v3 c0_i32_6
  let v25 : BitVec 32 := Scalar.extui v24
  let c0_i32_7 : BitVec 32 := 0#32
  let v26 : BitVec 1 := Scalar.cmpi .slt v3 c0_i32_7
  let v27 : BitVec 32 := Scalar.extui v26
  let v28 : BitVec 32 := Scalar.subi v25 v27
  let c2_i32 : BitVec 32 := 2#32
  let c0_i32_8 : BitVec 32 := 0#32
  let v29 : BitVec 1 := Scalar.cmpi .sgt c2_i32 c0_i32_8
  let v30 : BitVec 32 := Scalar.extui v29
  let c0_i32_9 : BitVec 32 := 0#32
  let v31 : BitVec 1 := Scalar.cmpi .slt c2_i32 c0_i32_9
  let v32 : BitVec 32 := Scalar.extui v31
  let v33 : BitVec 32 := Scalar.subi v30 v32
  let v34 : BitVec 1 := Scalar.cmpi .ne v28 v33
  let v35 : BitVec 32 := Scalar.remsi v3 c2_i32
  let c0_i32_10 : BitVec 32 := 0#32
  let v36 : BitVec 1 := Scalar.cmpi .ne v35 c0_i32_10
  let v37 : BitVec 1 := Scalar.andi v34 v36
  let v23 : BitVec 32 := Scalar.divsi v3 c2_i32
  let c1_i32_11 : BitVec 32 := 1#32
  let v38 : BitVec 32 := Scalar.subi v23 c1_i32_11
  let v39 : BitVec 32 := Scalar.select v37 v38 v23
  let c256_i32_103 : BitVec 32 := 256#32
  let v166 : BitVec 32 := Scalar.muli v39 c256_i32_103
  let v167 : BitVec 32 := Scalar.addi c512_i32_104 v166
  let v174 : Index := Scalar.indexCast v167
  let c0_112 : Index := 0#32
  ![v174.toNat, 0]
def k0_off10 (d0 : Dev nD) : Fin 2 → Nat :=
  let c512_i32_104 : BitVec 32 := 512#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v24 : BitVec 1 := Scalar.cmpi .sgt v3 c0_i32_6
  let v25 : BitVec 32 := Scalar.extui v24
  let c0_i32_7 : BitVec 32 := 0#32
  let v26 : BitVec 1 := Scalar.cmpi .slt v3 c0_i32_7
  let v27 : BitVec 32 := Scalar.extui v26
  let v28 : BitVec 32 := Scalar.subi v25 v27
  let c2_i32 : BitVec 32 := 2#32
  let c0_i32_8 : BitVec 32 := 0#32
  let v29 : BitVec 1 := Scalar.cmpi .sgt c2_i32 c0_i32_8
  let v30 : BitVec 32 := Scalar.extui v29
  let c0_i32_9 : BitVec 32 := 0#32
  let v31 : BitVec 1 := Scalar.cmpi .slt c2_i32 c0_i32_9
  let v32 : BitVec 32 := Scalar.extui v31
  let v33 : BitVec 32 := Scalar.subi v30 v32
  let v34 : BitVec 1 := Scalar.cmpi .ne v28 v33
  let v35 : BitVec 32 := Scalar.remsi v3 c2_i32
  let c0_i32_10 : BitVec 32 := 0#32
  let v36 : BitVec 1 := Scalar.cmpi .ne v35 c0_i32_10
  let v37 : BitVec 1 := Scalar.andi v34 v36
  let v23 : BitVec 32 := Scalar.divsi v3 c2_i32
  let c1_i32_11 : BitVec 32 := 1#32
  let v38 : BitVec 32 := Scalar.subi v23 c1_i32_11
  let v39 : BitVec 32 := Scalar.select v37 v38 v23
  let c256_i32_103 : BitVec 32 := 256#32
  let v166 : BitVec 32 := Scalar.muli v39 c256_i32_103
  let v167 : BitVec 32 := Scalar.addi c512_i32_104 v166
  let c1_i32_115 : BitVec 32 := 1#32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32_12 : BitVec 32 := 2#32
  let v40 : BitVec 32 := Scalar.remsi v20 c2_i32_12
  let v185 : BitVec 32 := Scalar.subi c1_i32_115 v40
  let c128_i32_116 : BitVec 32 := 128#32
  let v186 : BitVec 32 := Scalar.muli v185 c128_i32_116
  let v187 : BitVec 32 := Scalar.addi v167 v186
  let c0_i32_121 : BitVec 32 := 0#32
  ![v187.toNat, 0]
def k0_dev10 (d0 : Dev nD) : Nat :=
  let c0_i32_119 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_27 : BitVec 32 := 4#32
  let c1_i32_26 : BitVec 32 := 1#32
  let c2_i32_25 : BitVec 32 := 2#32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32_12 : BitVec 32 := 2#32
  let v40 : BitVec 32 := Scalar.remsi v20 c2_i32_12
  let v65 : BitVec 32 := Scalar.muli c2_i32_25 v40
  let v66 : BitVec 32 := Scalar.subi c1_i32_26 v65
  let v67 : BitVec 32 := Scalar.muli c4_i32_27 v66
  let v68 : BitVec 32 := Scalar.addi v2 v67
  let c1_i32_118 : BitVec 32 := 1#32
  let v188 : BitVec 32 := Scalar.muli v68 c1_i32_118
  let v189 : BitVec 32 := Scalar.addi c0_i32_119 v188
  v189.toNat
def k0_off11 (d0 : Dev nD) : Fin 2 → Nat :=
  let c1024_i32_123 : BitVec 32 := 1024#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32_12 : BitVec 32 := 2#32
  let v40 : BitVec 32 := Scalar.remsi v20 c2_i32_12
  let c256_i32_122 : BitVec 32 := 256#32
  let v196 : BitVec 32 := Scalar.muli v40 c256_i32_122
  let v197 : BitVec 32 := Scalar.addi c1024_i32_123 v196
  let c0_i32_130 : BitVec 32 := 0#32
  ![v197.toNat, 0]
def k0_off12 (d0 : Dev nD) : Fin 2 → Nat :=
  let c1024_i32_123 : BitVec 32 := 1024#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32_12 : BitVec 32 := 2#32
  let v40 : BitVec 32 := Scalar.remsi v20 c2_i32_12
  let c256_i32_122 : BitVec 32 := 256#32
  let v196 : BitVec 32 := Scalar.muli v40 c256_i32_122
  let v197 : BitVec 32 := Scalar.addi c1024_i32_123 v196
  let v204 : Index := Scalar.indexCast v197
  let c0_131 : Index := 0#32
  ![v204.toNat, 0]
def k0_off13 (d0 : Dev nD) : Fin 2 → Nat :=
  let c1024_i32_123 : BitVec 32 := 1024#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32_12 : BitVec 32 := 2#32
  let v40 : BitVec 32 := Scalar.remsi v20 c2_i32_12
  let c256_i32_122 : BitVec 32 := 256#32
  let v196 : BitVec 32 := Scalar.muli v40 c256_i32_122
  let v197 : BitVec 32 := Scalar.addi c1024_i32_123 v196
  let c1_i32_134 : BitVec 32 := 1#32
  let c0_i32_14 : BitVec 32 := 0#32
  let v42 : BitVec 1 := Scalar.cmpi .sgt v20 c0_i32_14
  let v43 : BitVec 32 := Scalar.extui v42
  let c0_i32_15 : BitVec 32 := 0#32
  let v44 : BitVec 1 := Scalar.cmpi .slt v20 c0_i32_15
  let v45 : BitVec 32 := Scalar.extui v44
  let v46 : BitVec 32 := Scalar.subi v43 v45
  let c2_i32_13 : BitVec 32 := 2#32
  let c0_i32_16 : BitVec 32 := 0#32
  let v47 : BitVec 1 := Scalar.cmpi .sgt c2_i32_13 c0_i32_16
  let v48 : BitVec 32 := Scalar.extui v47
  let c0_i32_17 : BitVec 32 := 0#32
  let v49 : BitVec 1 := Scalar.cmpi .slt c2_i32_13 c0_i32_17
  let v50 : BitVec 32 := Scalar.extui v49
  let v51 : BitVec 32 := Scalar.subi v48 v50
  let v52 : BitVec 1 := Scalar.cmpi .ne v46 v51
  let v53 : BitVec 32 := Scalar.remsi v20 c2_i32_13
  let c0_i32_18 : BitVec 32 := 0#32
  let v54 : BitVec 1 := Scalar.cmpi .ne v53 c0_i32_18
  let v55 : BitVec 1 := Scalar.andi v52 v54
  let v41 : BitVec 32 := Scalar.divsi v20 c2_i32_13
  let c1_i32_19 : BitVec 32 := 1#32
  let v56 : BitVec 32 := Scalar.subi v41 c1_i32_19
  let v57 : BitVec 32 := Scalar.select v55 v56 v41
  let v215 : BitVec 32 := Scalar.subi c1_i32_134 v57
  let c128_i32_135 : BitVec 32 := 128#32
  let v216 : BitVec 32 := Scalar.muli v215 c128_i32_135
  let v217 : BitVec 32 := Scalar.addi v197 v216
  let c0_i32_140 : BitVec 32 := 0#32
  ![v217.toNat, 0]
def k0_dev11 (d0 : Dev nD) : Nat :=
  let c0_i32_138 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let c1_i32_29 : BitVec 32 := 1#32
  let c2_i32_28 : BitVec 32 := 2#32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_14 : BitVec 32 := 0#32
  let v42 : BitVec 1 := Scalar.cmpi .sgt v20 c0_i32_14
  let v43 : BitVec 32 := Scalar.extui v42
  let c0_i32_15 : BitVec 32 := 0#32
  let v44 : BitVec 1 := Scalar.cmpi .slt v20 c0_i32_15
  let v45 : BitVec 32 := Scalar.extui v44
  let v46 : BitVec 32 := Scalar.subi v43 v45
  let c2_i32_13 : BitVec 32 := 2#32
  let c0_i32_16 : BitVec 32 := 0#32
  let v47 : BitVec 1 := Scalar.cmpi .sgt c2_i32_13 c0_i32_16
  let v48 : BitVec 32 := Scalar.extui v47
  let c0_i32_17 : BitVec 32 := 0#32
  let v49 : BitVec 1 := Scalar.cmpi .slt c2_i32_13 c0_i32_17
  let v50 : BitVec 32 := Scalar.extui v49
  let v51 : BitVec 32 := Scalar.subi v48 v50
  let v52 : BitVec 1 := Scalar.cmpi .ne v46 v51
  let v53 : BitVec 32 := Scalar.remsi v20 c2_i32_13
  let c0_i32_18 : BitVec 32 := 0#32
  let v54 : BitVec 1 := Scalar.cmpi .ne v53 c0_i32_18
  let v55 : BitVec 1 := Scalar.andi v52 v54
  let v41 : BitVec 32 := Scalar.divsi v20 c2_i32_13
  let c1_i32_19 : BitVec 32 := 1#32
  let v56 : BitVec 32 := Scalar.subi v41 c1_i32_19
  let v57 : BitVec 32 := Scalar.select v55 v56 v41
  let v69 : BitVec 32 := Scalar.muli c2_i32_28 v57
  let v70 : BitVec 32 := Scalar.subi c1_i32_29 v69
  let v71 : BitVec 32 := Scalar.muli c8_i32 v70
  let v72 : BitVec 32 := Scalar.addi v2 v71
  let c1_i32_137 : BitVec 32 := 1#32
  let v218 : BitVec 32 := Scalar.muli v72 c1_i32_137
  let v219 : BitVec 32 := Scalar.addi c0_i32_138 v218
  v219.toNat
def k0_off14 (d0 : Dev nD) : Fin 2 → Nat :=
  let c1536_i32_142 : BitVec 32 := 1536#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_14 : BitVec 32 := 0#32
  let v42 : BitVec 1 := Scalar.cmpi .sgt v20 c0_i32_14
  let v43 : BitVec 32 := Scalar.extui v42
  let c0_i32_15 : BitVec 32 := 0#32
  let v44 : BitVec 1 := Scalar.cmpi .slt v20 c0_i32_15
  let v45 : BitVec 32 := Scalar.extui v44
  let v46 : BitVec 32 := Scalar.subi v43 v45
  let c2_i32_13 : BitVec 32 := 2#32
  let c0_i32_16 : BitVec 32 := 0#32
  let v47 : BitVec 1 := Scalar.cmpi .sgt c2_i32_13 c0_i32_16
  let v48 : BitVec 32 := Scalar.extui v47
  let c0_i32_17 : BitVec 32 := 0#32
  let v49 : BitVec 1 := Scalar.cmpi .slt c2_i32_13 c0_i32_17
  let v50 : BitVec 32 := Scalar.extui v49
  let v51 : BitVec 32 := Scalar.subi v48 v50
  let v52 : BitVec 1 := Scalar.cmpi .ne v46 v51
  let v53 : BitVec 32 := Scalar.remsi v20 c2_i32_13
  let c0_i32_18 : BitVec 32 := 0#32
  let v54 : BitVec 1 := Scalar.cmpi .ne v53 c0_i32_18
  let v55 : BitVec 1 := Scalar.andi v52 v54
  let v41 : BitVec 32 := Scalar.divsi v20 c2_i32_13
  let c1_i32_19 : BitVec 32 := 1#32
  let v56 : BitVec 32 := Scalar.subi v41 c1_i32_19
  let v57 : BitVec 32 := Scalar.select v55 v56 v41
  let c256_i32_141 : BitVec 32 := 256#32
  let v226 : BitVec 32 := Scalar.muli v57 c256_i32_141
  let v227 : BitVec 32 := Scalar.addi c1536_i32_142 v226
  let c0_i32_149 : BitVec 32 := 0#32
  ![v227.toNat, 0]
def k0_off15 (d0 : Dev nD) : Fin 2 → Nat :=
  let c1536_i32_142 : BitVec 32 := 1536#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_14 : BitVec 32 := 0#32
  let v42 : BitVec 1 := Scalar.cmpi .sgt v20 c0_i32_14
  let v43 : BitVec 32 := Scalar.extui v42
  let c0_i32_15 : BitVec 32 := 0#32
  let v44 : BitVec 1 := Scalar.cmpi .slt v20 c0_i32_15
  let v45 : BitVec 32 := Scalar.extui v44
  let v46 : BitVec 32 := Scalar.subi v43 v45
  let c2_i32_13 : BitVec 32 := 2#32
  let c0_i32_16 : BitVec 32 := 0#32
  let v47 : BitVec 1 := Scalar.cmpi .sgt c2_i32_13 c0_i32_16
  let v48 : BitVec 32 := Scalar.extui v47
  let c0_i32_17 : BitVec 32 := 0#32
  let v49 : BitVec 1 := Scalar.cmpi .slt c2_i32_13 c0_i32_17
  let v50 : BitVec 32 := Scalar.extui v49
  let v51 : BitVec 32 := Scalar.subi v48 v50
  let v52 : BitVec 1 := Scalar.cmpi .ne v46 v51
  let v53 : BitVec 32 := Scalar.remsi v20 c2_i32_13
  let c0_i32_18 : BitVec 32 := 0#32
  let v54 : BitVec 1 := Scalar.cmpi .ne v53 c0_i32_18
  let v55 : BitVec 1 := Scalar.andi v52 v54
  let v41 : BitVec 32 := Scalar.divsi v20 c2_i32_13
  let c1_i32_19 : BitVec 32 := 1#32
  let v56 : BitVec 32 := Scalar.subi v41 c1_i32_19
  let v57 : BitVec 32 := Scalar.select v55 v56 v41
  let c256_i32_141 : BitVec 32 := 256#32
  let v226 : BitVec 32 := Scalar.muli v57 c256_i32_141
  let v227 : BitVec 32 := Scalar.addi c1536_i32_142 v226
  let v234 : Index := Scalar.indexCast v227
  let c0_150 : Index := 0#32
  ![v234.toNat, 0]
def k0_off16 (d0 : Dev nD) : Fin 2 → Nat :=
  let c1536_i32_142 : BitVec 32 := 1536#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_14 : BitVec 32 := 0#32
  let v42 : BitVec 1 := Scalar.cmpi .sgt v20 c0_i32_14
  let v43 : BitVec 32 := Scalar.extui v42
  let c0_i32_15 : BitVec 32 := 0#32
  let v44 : BitVec 1 := Scalar.cmpi .slt v20 c0_i32_15
  let v45 : BitVec 32 := Scalar.extui v44
  let v46 : BitVec 32 := Scalar.subi v43 v45
  let c2_i32_13 : BitVec 32 := 2#32
  let c0_i32_16 : BitVec 32 := 0#32
  let v47 : BitVec 1 := Scalar.cmpi .sgt c2_i32_13 c0_i32_16
  let v48 : BitVec 32 := Scalar.extui v47
  let c0_i32_17 : BitVec 32 := 0#32
  let v49 : BitVec 1 := Scalar.cmpi .slt c2_i32_13 c0_i32_17
  let v50 : BitVec 32 := Scalar.extui v49
  let v51 : BitVec 32 := Scalar.subi v48 v50
  let v52 : BitVec 1 := Scalar.cmpi .ne v46 v51
  let v53 : BitVec 32 := Scalar.remsi v20 c2_i32_13
  let c0_i32_18 : BitVec 32 := 0#32
  let v54 : BitVec 1 := Scalar.cmpi .ne v53 c0_i32_18
  let v55 : BitVec 1 := Scalar.andi v52 v54
  let v41 : BitVec 32 := Scalar.divsi v20 c2_i32_13
  let c1_i32_19 : BitVec 32 := 1#32
  let v56 : BitVec 32 := Scalar.subi v41 c1_i32_19
  let v57 : BitVec 32 := Scalar.select v55 v56 v41
  let c256_i32_141 : BitVec 32 := 256#32
  let v226 : BitVec 32 := Scalar.muli v57 c256_i32_141
  let v227 : BitVec 32 := Scalar.addi c1536_i32_142 v226
  let c1_i32_153 : BitVec 32 := 1#32
  let c4_i32 : BitVec 32 := 4#32
  let v3 : BitVec 32 := Scalar.remsi v2 c4_i32
  let c3_i32 : BitVec 32 := 3#32
  let v21 : BitVec 32 := Scalar.subi c3_i32 v3
  let v22 : BitVec 32 := Scalar.minsi v3 v21
  let v245 : BitVec 32 := Scalar.subi c1_i32_153 v22
  let c128_i32_154 : BitVec 32 := 128#32
  let v246 : BitVec 32 := Scalar.muli v245 c128_i32_154
  let v247 : BitVec 32 := Scalar.addi v227 v246
  let c0_i32_159 : BitVec 32 := 0#32
  ![v247.toNat, 0]
def k0_dev12 (d0 : Dev nD) : Nat :=
  let c0_i32_157 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_20 : BitVec 32 := 1#32
  let v58 : BitVec 32 := Scalar.addi v2 c1_i32_20
  let c2_i32_22 : BitVec 32 := 2#32
  let c4_i32 : BitVec 32 := 4#32
  let v3 : BitVec 32 := Scalar.remsi v2 c4_i32
  let c2_i32_21 : BitVec 32 := 2#32
  let v59 : BitVec 32 := Scalar.remsi v3 c2_i32_21
  let v60 : BitVec 32 := Scalar.muli c2_i32_22 v59
  let v61 : BitVec 32 := Scalar.subi v58 v60
  let c1_i32_156 : BitVec 32 := 1#32
  let v248 : BitVec 32 := Scalar.muli v61 c1_i32_156
  let v249 : BitVec 32 := Scalar.addi c0_i32_157 v248
  v249.toNat
def k0_off17 (d0 : Dev nD) : Fin 2 → Nat :=
  let c0_i32_83 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c3_i32 : BitVec 32 := 3#32
  let v21 : BitVec 32 := Scalar.subi c3_i32 v3
  let v22 : BitVec 32 := Scalar.minsi v3 v21
  let c256_i32_82 : BitVec 32 := 256#32
  let v136 : BitVec 32 := Scalar.muli v22 c256_i32_82
  let v137 : BitVec 32 := Scalar.addi c0_i32_83 v136
  let c0_i32_6 : BitVec 32 := 0#32
  let v24 : BitVec 1 := Scalar.cmpi .sgt v3 c0_i32_6
  let v25 : BitVec 32 := Scalar.extui v24
  let c0_i32_7 : BitVec 32 := 0#32
  let v26 : BitVec 1 := Scalar.cmpi .slt v3 c0_i32_7
  let v27 : BitVec 32 := Scalar.extui v26
  let v28 : BitVec 32 := Scalar.subi v25 v27
  let c2_i32 : BitVec 32 := 2#32
  let c0_i32_8 : BitVec 32 := 0#32
  let v29 : BitVec 1 := Scalar.cmpi .sgt c2_i32 c0_i32_8
  let v30 : BitVec 32 := Scalar.extui v29
  let c0_i32_9 : BitVec 32 := 0#32
  let v31 : BitVec 1 := Scalar.cmpi .slt c2_i32 c0_i32_9
  let v32 : BitVec 32 := Scalar.extui v31
  let v33 : BitVec 32 := Scalar.subi v30 v32
  let v34 : BitVec 1 := Scalar.cmpi .ne v28 v33
  let v35 : BitVec 32 := Scalar.remsi v3 c2_i32
  let c0_i32_10 : BitVec 32 := 0#32
  let v36 : BitVec 1 := Scalar.cmpi .ne v35 c0_i32_10
  let v37 : BitVec 1 := Scalar.andi v34 v36
  let v23 : BitVec 32 := Scalar.divsi v3 c2_i32
  let c1_i32_11 : BitVec 32 := 1#32
  let v38 : BitVec 32 := Scalar.subi v23 c1_i32_11
  let v39 : BitVec 32 := Scalar.select v37 v38 v23
  let c128_i32_160 : BitVec 32 := 128#32
  let v256 : BitVec 32 := Scalar.muli v39 c128_i32_160
  let v257 : BitVec 32 := Scalar.addi v137 v256
  let c0_i32_167 : BitVec 32 := 0#32
  ![v257.toNat, 0]
def k0_off18 (d0 : Dev nD) : Fin 2 → Nat :=
  let c0_i32_83 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c3_i32 : BitVec 32 := 3#32
  let v21 : BitVec 32 := Scalar.subi c3_i32 v3
  let v22 : BitVec 32 := Scalar.minsi v3 v21
  let c256_i32_82 : BitVec 32 := 256#32
  let v136 : BitVec 32 := Scalar.muli v22 c256_i32_82
  let v137 : BitVec 32 := Scalar.addi c0_i32_83 v136
  let c0_i32_6 : BitVec 32 := 0#32
  let v24 : BitVec 1 := Scalar.cmpi .sgt v3 c0_i32_6
  let v25 : BitVec 32 := Scalar.extui v24
  let c0_i32_7 : BitVec 32 := 0#32
  let v26 : BitVec 1 := Scalar.cmpi .slt v3 c0_i32_7
  let v27 : BitVec 32 := Scalar.extui v26
  let v28 : BitVec 32 := Scalar.subi v25 v27
  let c2_i32 : BitVec 32 := 2#32
  let c0_i32_8 : BitVec 32 := 0#32
  let v29 : BitVec 1 := Scalar.cmpi .sgt c2_i32 c0_i32_8
  let v30 : BitVec 32 := Scalar.extui v29
  let c0_i32_9 : BitVec 32 := 0#32
  let v31 : BitVec 1 := Scalar.cmpi .slt c2_i32 c0_i32_9
  let v32 : BitVec 32 := Scalar.extui v31
  let v33 : BitVec 32 := Scalar.subi v30 v32
  let v34 : BitVec 1 := Scalar.cmpi .ne v28 v33
  let v35 : BitVec 32 := Scalar.remsi v3 c2_i32
  let c0_i32_10 : BitVec 32 := 0#32
  let v36 : BitVec 1 := Scalar.cmpi .ne v35 c0_i32_10
  let v37 : BitVec 1 := Scalar.andi v34 v36
  let v23 : BitVec 32 := Scalar.divsi v3 c2_i32
  let c1_i32_11 : BitVec 32 := 1#32
  let v38 : BitVec 32 := Scalar.subi v23 c1_i32_11
  let v39 : BitVec 32 := Scalar.select v37 v38 v23
  let c128_i32_160 : BitVec 32 := 128#32
  let v256 : BitVec 32 := Scalar.muli v39 c128_i32_160
  let v257 : BitVec 32 := Scalar.addi v137 v256
  let v264 : Index := Scalar.indexCast v257
  let c0_168 : Index := 0#32
  ![v264.toNat, 0]
def k0_off19 (d0 : Dev nD) : Fin 2 → Nat :=
  let c0_i32_83 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c3_i32 : BitVec 32 := 3#32
  let v21 : BitVec 32 := Scalar.subi c3_i32 v3
  let v22 : BitVec 32 := Scalar.minsi v3 v21
  let c256_i32_82 : BitVec 32 := 256#32
  let v136 : BitVec 32 := Scalar.muli v22 c256_i32_82
  let v137 : BitVec 32 := Scalar.addi c0_i32_83 v136
  let c0_i32_6 : BitVec 32 := 0#32
  let v24 : BitVec 1 := Scalar.cmpi .sgt v3 c0_i32_6
  let v25 : BitVec 32 := Scalar.extui v24
  let c0_i32_7 : BitVec 32 := 0#32
  let v26 : BitVec 1 := Scalar.cmpi .slt v3 c0_i32_7
  let v27 : BitVec 32 := Scalar.extui v26
  let v28 : BitVec 32 := Scalar.subi v25 v27
  let c2_i32 : BitVec 32 := 2#32
  let c0_i32_8 : BitVec 32 := 0#32
  let v29 : BitVec 1 := Scalar.cmpi .sgt c2_i32 c0_i32_8
  let v30 : BitVec 32 := Scalar.extui v29
  let c0_i32_9 : BitVec 32 := 0#32
  let v31 : BitVec 1 := Scalar.cmpi .slt c2_i32 c0_i32_9
  let v32 : BitVec 32 := Scalar.extui v31
  let v33 : BitVec 32 := Scalar.subi v30 v32
  let v34 : BitVec 1 := Scalar.cmpi .ne v28 v33
  let v35 : BitVec 32 := Scalar.remsi v3 c2_i32
  let c0_i32_10 : BitVec 32 := 0#32
  let v36 : BitVec 1 := Scalar.cmpi .ne v35 c0_i32_10
  let v37 : BitVec 1 := Scalar.andi v34 v36
  let v23 : BitVec 32 := Scalar.divsi v3 c2_i32
  let c1_i32_11 : BitVec 32 := 1#32
  let v38 : BitVec 32 := Scalar.subi v23 c1_i32_11
  let v39 : BitVec 32 := Scalar.select v37 v38 v23
  let c128_i32_160 : BitVec 32 := 128#32
  let v256 : BitVec 32 := Scalar.muli v39 c128_i32_160
  let v257 : BitVec 32 := Scalar.addi v137 v256
  let c1_i32_171 : BitVec 32 := 1#32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32_12 : BitVec 32 := 2#32
  let v40 : BitVec 32 := Scalar.remsi v20 c2_i32_12
  let v275 : BitVec 32 := Scalar.subi c1_i32_171 v40
  let c64_i32 : BitVec 32 := 64#32
  let v276 : BitVec 32 := Scalar.muli v275 c64_i32
  let v277 : BitVec 32 := Scalar.addi v257 v276
  let c0_i32_177 : BitVec 32 := 0#32
  ![v277.toNat, 0]
def k0_dev13 (d0 : Dev nD) : Nat :=
  let c0_i32_175 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_27 : BitVec 32 := 4#32
  let c1_i32_26 : BitVec 32 := 1#32
  let c2_i32_25 : BitVec 32 := 2#32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32_12 : BitVec 32 := 2#32
  let v40 : BitVec 32 := Scalar.remsi v20 c2_i32_12
  let v65 : BitVec 32 := Scalar.muli c2_i32_25 v40
  let v66 : BitVec 32 := Scalar.subi c1_i32_26 v65
  let v67 : BitVec 32 := Scalar.muli c4_i32_27 v66
  let v68 : BitVec 32 := Scalar.addi v2 v67
  let c1_i32_174 : BitVec 32 := 1#32
  let v278 : BitVec 32 := Scalar.muli v68 c1_i32_174
  let v279 : BitVec 32 := Scalar.addi c0_i32_175 v278
  v279.toNat
def k0_off20 (d0 : Dev nD) : Fin 2 → Nat :=
  let c512_i32_104 : BitVec 32 := 512#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v24 : BitVec 1 := Scalar.cmpi .sgt v3 c0_i32_6
  let v25 : BitVec 32 := Scalar.extui v24
  let c0_i32_7 : BitVec 32 := 0#32
  let v26 : BitVec 1 := Scalar.cmpi .slt v3 c0_i32_7
  let v27 : BitVec 32 := Scalar.extui v26
  let v28 : BitVec 32 := Scalar.subi v25 v27
  let c2_i32 : BitVec 32 := 2#32
  let c0_i32_8 : BitVec 32 := 0#32
  let v29 : BitVec 1 := Scalar.cmpi .sgt c2_i32 c0_i32_8
  let v30 : BitVec 32 := Scalar.extui v29
  let c0_i32_9 : BitVec 32 := 0#32
  let v31 : BitVec 1 := Scalar.cmpi .slt c2_i32 c0_i32_9
  let v32 : BitVec 32 := Scalar.extui v31
  let v33 : BitVec 32 := Scalar.subi v30 v32
  let v34 : BitVec 1 := Scalar.cmpi .ne v28 v33
  let v35 : BitVec 32 := Scalar.remsi v3 c2_i32
  let c0_i32_10 : BitVec 32 := 0#32
  let v36 : BitVec 1 := Scalar.cmpi .ne v35 c0_i32_10
  let v37 : BitVec 1 := Scalar.andi v34 v36
  let v23 : BitVec 32 := Scalar.divsi v3 c2_i32
  let c1_i32_11 : BitVec 32 := 1#32
  let v38 : BitVec 32 := Scalar.subi v23 c1_i32_11
  let v39 : BitVec 32 := Scalar.select v37 v38 v23
  let c256_i32_103 : BitVec 32 := 256#32
  let v166 : BitVec 32 := Scalar.muli v39 c256_i32_103
  let v167 : BitVec 32 := Scalar.addi c512_i32_104 v166
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32_12 : BitVec 32 := 2#32
  let v40 : BitVec 32 := Scalar.remsi v20 c2_i32_12
  let c128_i32_178 : BitVec 32 := 128#32
  let v286 : BitVec 32 := Scalar.muli v40 c128_i32_178
  let v287 : BitVec 32 := Scalar.addi v167 v286
  let c0_i32_185 : BitVec 32 := 0#32
  ![v287.toNat, 0]
def k0_off21 (d0 : Dev nD) : Fin 2 → Nat :=
  let c512_i32_104 : BitVec 32 := 512#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v24 : BitVec 1 := Scalar.cmpi .sgt v3 c0_i32_6
  let v25 : BitVec 32 := Scalar.extui v24
  let c0_i32_7 : BitVec 32 := 0#32
  let v26 : BitVec 1 := Scalar.cmpi .slt v3 c0_i32_7
  let v27 : BitVec 32 := Scalar.extui v26
  let v28 : BitVec 32 := Scalar.subi v25 v27
  let c2_i32 : BitVec 32 := 2#32
  let c0_i32_8 : BitVec 32 := 0#32
  let v29 : BitVec 1 := Scalar.cmpi .sgt c2_i32 c0_i32_8
  let v30 : BitVec 32 := Scalar.extui v29
  let c0_i32_9 : BitVec 32 := 0#32
  let v31 : BitVec 1 := Scalar.cmpi .slt c2_i32 c0_i32_9
  let v32 : BitVec 32 := Scalar.extui v31
  let v33 : BitVec 32 := Scalar.subi v30 v32
  let v34 : BitVec 1 := Scalar.cmpi .ne v28 v33
  let v35 : BitVec 32 := Scalar.remsi v3 c2_i32
  let c0_i32_10 : BitVec 32 := 0#32
  let v36 : BitVec 1 := Scalar.cmpi .ne v35 c0_i32_10
  let v37 : BitVec 1 := Scalar.andi v34 v36
  let v23 : BitVec 32 := Scalar.divsi v3 c2_i32
  let c1_i32_11 : BitVec 32 := 1#32
  let v38 : BitVec 32 := Scalar.subi v23 c1_i32_11
  let v39 : BitVec 32 := Scalar.select v37 v38 v23
  let c256_i32_103 : BitVec 32 := 256#32
  let v166 : BitVec 32 := Scalar.muli v39 c256_i32_103
  let v167 : BitVec 32 := Scalar.addi c512_i32_104 v166
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32_12 : BitVec 32 := 2#32
  let v40 : BitVec 32 := Scalar.remsi v20 c2_i32_12
  let c128_i32_178 : BitVec 32 := 128#32
  let v286 : BitVec 32 := Scalar.muli v40 c128_i32_178
  let v287 : BitVec 32 := Scalar.addi v167 v286
  let v294 : Index := Scalar.indexCast v287
  let c0_186 : Index := 0#32
  ![v294.toNat, 0]
def k0_off22 (d0 : Dev nD) : Fin 2 → Nat :=
  let c512_i32_104 : BitVec 32 := 512#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v24 : BitVec 1 := Scalar.cmpi .sgt v3 c0_i32_6
  let v25 : BitVec 32 := Scalar.extui v24
  let c0_i32_7 : BitVec 32 := 0#32
  let v26 : BitVec 1 := Scalar.cmpi .slt v3 c0_i32_7
  let v27 : BitVec 32 := Scalar.extui v26
  let v28 : BitVec 32 := Scalar.subi v25 v27
  let c2_i32 : BitVec 32 := 2#32
  let c0_i32_8 : BitVec 32 := 0#32
  let v29 : BitVec 1 := Scalar.cmpi .sgt c2_i32 c0_i32_8
  let v30 : BitVec 32 := Scalar.extui v29
  let c0_i32_9 : BitVec 32 := 0#32
  let v31 : BitVec 1 := Scalar.cmpi .slt c2_i32 c0_i32_9
  let v32 : BitVec 32 := Scalar.extui v31
  let v33 : BitVec 32 := Scalar.subi v30 v32
  let v34 : BitVec 1 := Scalar.cmpi .ne v28 v33
  let v35 : BitVec 32 := Scalar.remsi v3 c2_i32
  let c0_i32_10 : BitVec 32 := 0#32
  let v36 : BitVec 1 := Scalar.cmpi .ne v35 c0_i32_10
  let v37 : BitVec 1 := Scalar.andi v34 v36
  let v23 : BitVec 32 := Scalar.divsi v3 c2_i32
  let c1_i32_11 : BitVec 32 := 1#32
  let v38 : BitVec 32 := Scalar.subi v23 c1_i32_11
  let v39 : BitVec 32 := Scalar.select v37 v38 v23
  let c256_i32_103 : BitVec 32 := 256#32
  let v166 : BitVec 32 := Scalar.muli v39 c256_i32_103
  let v167 : BitVec 32 := Scalar.addi c512_i32_104 v166
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32_12 : BitVec 32 := 2#32
  let v40 : BitVec 32 := Scalar.remsi v20 c2_i32_12
  let c128_i32_178 : BitVec 32 := 128#32
  let v286 : BitVec 32 := Scalar.muli v40 c128_i32_178
  let v287 : BitVec 32 := Scalar.addi v167 v286
  let c1_i32_189 : BitVec 32 := 1#32
  let c0_i32_14 : BitVec 32 := 0#32
  let v42 : BitVec 1 := Scalar.cmpi .sgt v20 c0_i32_14
  let v43 : BitVec 32 := Scalar.extui v42
  let c0_i32_15 : BitVec 32 := 0#32
  let v44 : BitVec 1 := Scalar.cmpi .slt v20 c0_i32_15
  let v45 : BitVec 32 := Scalar.extui v44
  let v46 : BitVec 32 := Scalar.subi v43 v45
  let c2_i32_13 : BitVec 32 := 2#32
  let c0_i32_16 : BitVec 32 := 0#32
  let v47 : BitVec 1 := Scalar.cmpi .sgt c2_i32_13 c0_i32_16
  let v48 : BitVec 32 := Scalar.extui v47
  let c0_i32_17 : BitVec 32 := 0#32
  let v49 : BitVec 1 := Scalar.cmpi .slt c2_i32_13 c0_i32_17
  let v50 : BitVec 32 := Scalar.extui v49
  let v51 : BitVec 32 := Scalar.subi v48 v50
  let v52 : BitVec 1 := Scalar.cmpi .ne v46 v51
  let v53 : BitVec 32 := Scalar.remsi v20 c2_i32_13
  let c0_i32_18 : BitVec 32 := 0#32
  let v54 : BitVec 1 := Scalar.cmpi .ne v53 c0_i32_18
  let v55 : BitVec 1 := Scalar.andi v52 v54
  let v41 : BitVec 32 := Scalar.divsi v20 c2_i32_13
  let c1_i32_19 : BitVec 32 := 1#32
  let v56 : BitVec 32 := Scalar.subi v41 c1_i32_19
  let v57 : BitVec 32 := Scalar.select v55 v56 v41
  let v305 : BitVec 32 := Scalar.subi c1_i32_189 v57
  let c64_i32_190 : BitVec 32 := 64#32
  let v306 : BitVec 32 := Scalar.muli v305 c64_i32_190
  let v307 : BitVec 32 := Scalar.addi v287 v306
  let c0_i32_195 : BitVec 32 := 0#32
  ![v307.toNat, 0]
def k0_dev14 (d0 : Dev nD) : Nat :=
  let c0_i32_193 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let c1_i32_29 : BitVec 32 := 1#32
  let c2_i32_28 : BitVec 32 := 2#32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_14 : BitVec 32 := 0#32
  let v42 : BitVec 1 := Scalar.cmpi .sgt v20 c0_i32_14
  let v43 : BitVec 32 := Scalar.extui v42
  let c0_i32_15 : BitVec 32 := 0#32
  let v44 : BitVec 1 := Scalar.cmpi .slt v20 c0_i32_15
  let v45 : BitVec 32 := Scalar.extui v44
  let v46 : BitVec 32 := Scalar.subi v43 v45
  let c2_i32_13 : BitVec 32 := 2#32
  let c0_i32_16 : BitVec 32 := 0#32
  let v47 : BitVec 1 := Scalar.cmpi .sgt c2_i32_13 c0_i32_16
  let v48 : BitVec 32 := Scalar.extui v47
  let c0_i32_17 : BitVec 32 := 0#32
  let v49 : BitVec 1 := Scalar.cmpi .slt c2_i32_13 c0_i32_17
  let v50 : BitVec 32 := Scalar.extui v49
  let v51 : BitVec 32 := Scalar.subi v48 v50
  let v52 : BitVec 1 := Scalar.cmpi .ne v46 v51
  let v53 : BitVec 32 := Scalar.remsi v20 c2_i32_13
  let c0_i32_18 : BitVec 32 := 0#32
  let v54 : BitVec 1 := Scalar.cmpi .ne v53 c0_i32_18
  let v55 : BitVec 1 := Scalar.andi v52 v54
  let v41 : BitVec 32 := Scalar.divsi v20 c2_i32_13
  let c1_i32_19 : BitVec 32 := 1#32
  let v56 : BitVec 32 := Scalar.subi v41 c1_i32_19
  let v57 : BitVec 32 := Scalar.select v55 v56 v41
  let v69 : BitVec 32 := Scalar.muli c2_i32_28 v57
  let v70 : BitVec 32 := Scalar.subi c1_i32_29 v69
  let v71 : BitVec 32 := Scalar.muli c8_i32 v70
  let v72 : BitVec 32 := Scalar.addi v2 v71
  let c1_i32_192 : BitVec 32 := 1#32
  let v308 : BitVec 32 := Scalar.muli v72 c1_i32_192
  let v309 : BitVec 32 := Scalar.addi c0_i32_193 v308
  v309.toNat
def k0_off23 (d0 : Dev nD) : Fin 2 → Nat :=
  let c1024_i32_123 : BitVec 32 := 1024#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32_12 : BitVec 32 := 2#32
  let v40 : BitVec 32 := Scalar.remsi v20 c2_i32_12
  let c256_i32_122 : BitVec 32 := 256#32
  let v196 : BitVec 32 := Scalar.muli v40 c256_i32_122
  let v197 : BitVec 32 := Scalar.addi c1024_i32_123 v196
  let c0_i32_14 : BitVec 32 := 0#32
  let v42 : BitVec 1 := Scalar.cmpi .sgt v20 c0_i32_14
  let v43 : BitVec 32 := Scalar.extui v42
  let c0_i32_15 : BitVec 32 := 0#32
  let v44 : BitVec 1 := Scalar.cmpi .slt v20 c0_i32_15
  let v45 : BitVec 32 := Scalar.extui v44
  let v46 : BitVec 32 := Scalar.subi v43 v45
  let c2_i32_13 : BitVec 32 := 2#32
  let c0_i32_16 : BitVec 32 := 0#32
  let v47 : BitVec 1 := Scalar.cmpi .sgt c2_i32_13 c0_i32_16
  let v48 : BitVec 32 := Scalar.extui v47
  let c0_i32_17 : BitVec 32 := 0#32
  let v49 : BitVec 1 := Scalar.cmpi .slt c2_i32_13 c0_i32_17
  let v50 : BitVec 32 := Scalar.extui v49
  let v51 : BitVec 32 := Scalar.subi v48 v50
  let v52 : BitVec 1 := Scalar.cmpi .ne v46 v51
  let v53 : BitVec 32 := Scalar.remsi v20 c2_i32_13
  let c0_i32_18 : BitVec 32 := 0#32
  let v54 : BitVec 1 := Scalar.cmpi .ne v53 c0_i32_18
  let v55 : BitVec 1 := Scalar.andi v52 v54
  let v41 : BitVec 32 := Scalar.divsi v20 c2_i32_13
  let c1_i32_19 : BitVec 32 := 1#32
  let v56 : BitVec 32 := Scalar.subi v41 c1_i32_19
  let v57 : BitVec 32 := Scalar.select v55 v56 v41
  let c128_i32_196 : BitVec 32 := 128#32
  let v316 : BitVec 32 := Scalar.muli v57 c128_i32_196
  let v317 : BitVec 32 := Scalar.addi v197 v316
  let c0_i32_203 : BitVec 32 := 0#32
  ![v317.toNat, 0]
def k0_off24 (d0 : Dev nD) : Fin 2 → Nat :=
  let c1024_i32_123 : BitVec 32 := 1024#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32_12 : BitVec 32 := 2#32
  let v40 : BitVec 32 := Scalar.remsi v20 c2_i32_12
  let c256_i32_122 : BitVec 32 := 256#32
  let v196 : BitVec 32 := Scalar.muli v40 c256_i32_122
  let v197 : BitVec 32 := Scalar.addi c1024_i32_123 v196
  let c0_i32_14 : BitVec 32 := 0#32
  let v42 : BitVec 1 := Scalar.cmpi .sgt v20 c0_i32_14
  let v43 : BitVec 32 := Scalar.extui v42
  let c0_i32_15 : BitVec 32 := 0#32
  let v44 : BitVec 1 := Scalar.cmpi .slt v20 c0_i32_15
  let v45 : BitVec 32 := Scalar.extui v44
  let v46 : BitVec 32 := Scalar.subi v43 v45
  let c2_i32_13 : BitVec 32 := 2#32
  let c0_i32_16 : BitVec 32 := 0#32
  let v47 : BitVec 1 := Scalar.cmpi .sgt c2_i32_13 c0_i32_16
  let v48 : BitVec 32 := Scalar.extui v47
  let c0_i32_17 : BitVec 32 := 0#32
  let v49 : BitVec 1 := Scalar.cmpi .slt c2_i32_13 c0_i32_17
  let v50 : BitVec 32 := Scalar.extui v49
  let v51 : BitVec 32 := Scalar.subi v48 v50
  let v52 : BitVec 1 := Scalar.cmpi .ne v46 v51
  let v53 : BitVec 32 := Scalar.remsi v20 c2_i32_13
  let c0_i32_18 : BitVec 32 := 0#32
  let v54 : BitVec 1 := Scalar.cmpi .ne v53 c0_i32_18
  let v55 : BitVec 1 := Scalar.andi v52 v54
  let v41 : BitVec 32 := Scalar.divsi v20 c2_i32_13
  let c1_i32_19 : BitVec 32 := 1#32
  let v56 : BitVec 32 := Scalar.subi v41 c1_i32_19
  let v57 : BitVec 32 := Scalar.select v55 v56 v41
  let c128_i32_196 : BitVec 32 := 128#32
  let v316 : BitVec 32 := Scalar.muli v57 c128_i32_196
  let v317 : BitVec 32 := Scalar.addi v197 v316
  let v324 : Index := Scalar.indexCast v317
  let c0_204 : Index := 0#32
  ![v324.toNat, 0]
def k0_off25 (d0 : Dev nD) : Fin 2 → Nat :=
  let c1024_i32_123 : BitVec 32 := 1024#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32_12 : BitVec 32 := 2#32
  let v40 : BitVec 32 := Scalar.remsi v20 c2_i32_12
  let c256_i32_122 : BitVec 32 := 256#32
  let v196 : BitVec 32 := Scalar.muli v40 c256_i32_122
  let v197 : BitVec 32 := Scalar.addi c1024_i32_123 v196
  let c0_i32_14 : BitVec 32 := 0#32
  let v42 : BitVec 1 := Scalar.cmpi .sgt v20 c0_i32_14
  let v43 : BitVec 32 := Scalar.extui v42
  let c0_i32_15 : BitVec 32 := 0#32
  let v44 : BitVec 1 := Scalar.cmpi .slt v20 c0_i32_15
  let v45 : BitVec 32 := Scalar.extui v44
  let v46 : BitVec 32 := Scalar.subi v43 v45
  let c2_i32_13 : BitVec 32 := 2#32
  let c0_i32_16 : BitVec 32 := 0#32
  let v47 : BitVec 1 := Scalar.cmpi .sgt c2_i32_13 c0_i32_16
  let v48 : BitVec 32 := Scalar.extui v47
  let c0_i32_17 : BitVec 32 := 0#32
  let v49 : BitVec 1 := Scalar.cmpi .slt c2_i32_13 c0_i32_17
  let v50 : BitVec 32 := Scalar.extui v49
  let v51 : BitVec 32 := Scalar.subi v48 v50
  let v52 : BitVec 1 := Scalar.cmpi .ne v46 v51
  let v53 : BitVec 32 := Scalar.remsi v20 c2_i32_13
  let c0_i32_18 : BitVec 32 := 0#32
  let v54 : BitVec 1 := Scalar.cmpi .ne v53 c0_i32_18
  let v55 : BitVec 1 := Scalar.andi v52 v54
  let v41 : BitVec 32 := Scalar.divsi v20 c2_i32_13
  let c1_i32_19 : BitVec 32 := 1#32
  let v56 : BitVec 32 := Scalar.subi v41 c1_i32_19
  let v57 : BitVec 32 := Scalar.select v55 v56 v41
  let c128_i32_196 : BitVec 32 := 128#32
  let v316 : BitVec 32 := Scalar.muli v57 c128_i32_196
  let v317 : BitVec 32 := Scalar.addi v197 v316
  let c1_i32_207 : BitVec 32 := 1#32
  let c4_i32 : BitVec 32 := 4#32
  let v3 : BitVec 32 := Scalar.remsi v2 c4_i32
  let c3_i32 : BitVec 32 := 3#32
  let v21 : BitVec 32 := Scalar.subi c3_i32 v3
  let v22 : BitVec 32 := Scalar.minsi v3 v21
  let v335 : BitVec 32 := Scalar.subi c1_i32_207 v22
  let c64_i32_208 : BitVec 32 := 64#32
  let v336 : BitVec 32 := Scalar.muli v335 c64_i32_208
  let v337 : BitVec 32 := Scalar.addi v317 v336
  let c0_i32_213 : BitVec 32 := 0#32
  ![v337.toNat, 0]
def k0_dev15 (d0 : Dev nD) : Nat :=
  let c0_i32_211 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_20 : BitVec 32 := 1#32
  let v58 : BitVec 32 := Scalar.addi v2 c1_i32_20
  let c2_i32_22 : BitVec 32 := 2#32
  let c4_i32 : BitVec 32 := 4#32
  let v3 : BitVec 32 := Scalar.remsi v2 c4_i32
  let c2_i32_21 : BitVec 32 := 2#32
  let v59 : BitVec 32 := Scalar.remsi v3 c2_i32_21
  let v60 : BitVec 32 := Scalar.muli c2_i32_22 v59
  let v61 : BitVec 32 := Scalar.subi v58 v60
  let c1_i32_210 : BitVec 32 := 1#32
  let v338 : BitVec 32 := Scalar.muli v61 c1_i32_210
  let v339 : BitVec 32 := Scalar.addi c0_i32_211 v338
  v339.toNat
def k0_off26 (d0 : Dev nD) : Fin 2 → Nat :=
  let c1536_i32_142 : BitVec 32 := 1536#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_14 : BitVec 32 := 0#32
  let v42 : BitVec 1 := Scalar.cmpi .sgt v20 c0_i32_14
  let v43 : BitVec 32 := Scalar.extui v42
  let c0_i32_15 : BitVec 32 := 0#32
  let v44 : BitVec 1 := Scalar.cmpi .slt v20 c0_i32_15
  let v45 : BitVec 32 := Scalar.extui v44
  let v46 : BitVec 32 := Scalar.subi v43 v45
  let c2_i32_13 : BitVec 32 := 2#32
  let c0_i32_16 : BitVec 32 := 0#32
  let v47 : BitVec 1 := Scalar.cmpi .sgt c2_i32_13 c0_i32_16
  let v48 : BitVec 32 := Scalar.extui v47
  let c0_i32_17 : BitVec 32 := 0#32
  let v49 : BitVec 1 := Scalar.cmpi .slt c2_i32_13 c0_i32_17
  let v50 : BitVec 32 := Scalar.extui v49
  let v51 : BitVec 32 := Scalar.subi v48 v50
  let v52 : BitVec 1 := Scalar.cmpi .ne v46 v51
  let v53 : BitVec 32 := Scalar.remsi v20 c2_i32_13
  let c0_i32_18 : BitVec 32 := 0#32
  let v54 : BitVec 1 := Scalar.cmpi .ne v53 c0_i32_18
  let v55 : BitVec 1 := Scalar.andi v52 v54
  let v41 : BitVec 32 := Scalar.divsi v20 c2_i32_13
  let c1_i32_19 : BitVec 32 := 1#32
  let v56 : BitVec 32 := Scalar.subi v41 c1_i32_19
  let v57 : BitVec 32 := Scalar.select v55 v56 v41
  let c256_i32_141 : BitVec 32 := 256#32
  let v226 : BitVec 32 := Scalar.muli v57 c256_i32_141
  let v227 : BitVec 32 := Scalar.addi c1536_i32_142 v226
  let c4_i32 : BitVec 32 := 4#32
  let v3 : BitVec 32 := Scalar.remsi v2 c4_i32
  let c3_i32 : BitVec 32 := 3#32
  let v21 : BitVec 32 := Scalar.subi c3_i32 v3
  let v22 : BitVec 32 := Scalar.minsi v3 v21
  let c128_i32_214 : BitVec 32 := 128#32
  let v346 : BitVec 32 := Scalar.muli v22 c128_i32_214
  let v347 : BitVec 32 := Scalar.addi v227 v346
  let c0_i32_221 : BitVec 32 := 0#32
  ![v347.toNat, 0]
def k0_off27 (d0 : Dev nD) : Fin 2 → Nat :=
  let c1536_i32_142 : BitVec 32 := 1536#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_14 : BitVec 32 := 0#32
  let v42 : BitVec 1 := Scalar.cmpi .sgt v20 c0_i32_14
  let v43 : BitVec 32 := Scalar.extui v42
  let c0_i32_15 : BitVec 32 := 0#32
  let v44 : BitVec 1 := Scalar.cmpi .slt v20 c0_i32_15
  let v45 : BitVec 32 := Scalar.extui v44
  let v46 : BitVec 32 := Scalar.subi v43 v45
  let c2_i32_13 : BitVec 32 := 2#32
  let c0_i32_16 : BitVec 32 := 0#32
  let v47 : BitVec 1 := Scalar.cmpi .sgt c2_i32_13 c0_i32_16
  let v48 : BitVec 32 := Scalar.extui v47
  let c0_i32_17 : BitVec 32 := 0#32
  let v49 : BitVec 1 := Scalar.cmpi .slt c2_i32_13 c0_i32_17
  let v50 : BitVec 32 := Scalar.extui v49
  let v51 : BitVec 32 := Scalar.subi v48 v50
  let v52 : BitVec 1 := Scalar.cmpi .ne v46 v51
  let v53 : BitVec 32 := Scalar.remsi v20 c2_i32_13
  let c0_i32_18 : BitVec 32 := 0#32
  let v54 : BitVec 1 := Scalar.cmpi .ne v53 c0_i32_18
  let v55 : BitVec 1 := Scalar.andi v52 v54
  let v41 : BitVec 32 := Scalar.divsi v20 c2_i32_13
  let c1_i32_19 : BitVec 32 := 1#32
  let v56 : BitVec 32 := Scalar.subi v41 c1_i32_19
  let v57 : BitVec 32 := Scalar.select v55 v56 v41
  let c256_i32_141 : BitVec 32 := 256#32
  let v226 : BitVec 32 := Scalar.muli v57 c256_i32_141
  let v227 : BitVec 32 := Scalar.addi c1536_i32_142 v226
  let c4_i32 : BitVec 32 := 4#32
  let v3 : BitVec 32 := Scalar.remsi v2 c4_i32
  let c3_i32 : BitVec 32 := 3#32
  let v21 : BitVec 32 := Scalar.subi c3_i32 v3
  let v22 : BitVec 32 := Scalar.minsi v3 v21
  let c128_i32_214 : BitVec 32 := 128#32
  let v346 : BitVec 32 := Scalar.muli v22 c128_i32_214
  let v347 : BitVec 32 := Scalar.addi v227 v346
  let v354 : Index := Scalar.indexCast v347
  let c0_222 : Index := 0#32
  ![v354.toNat, 0]
def k0_off28 (d0 : Dev nD) : Fin 2 → Nat :=
  let c1536_i32_142 : BitVec 32 := 1536#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_14 : BitVec 32 := 0#32
  let v42 : BitVec 1 := Scalar.cmpi .sgt v20 c0_i32_14
  let v43 : BitVec 32 := Scalar.extui v42
  let c0_i32_15 : BitVec 32 := 0#32
  let v44 : BitVec 1 := Scalar.cmpi .slt v20 c0_i32_15
  let v45 : BitVec 32 := Scalar.extui v44
  let v46 : BitVec 32 := Scalar.subi v43 v45
  let c2_i32_13 : BitVec 32 := 2#32
  let c0_i32_16 : BitVec 32 := 0#32
  let v47 : BitVec 1 := Scalar.cmpi .sgt c2_i32_13 c0_i32_16
  let v48 : BitVec 32 := Scalar.extui v47
  let c0_i32_17 : BitVec 32 := 0#32
  let v49 : BitVec 1 := Scalar.cmpi .slt c2_i32_13 c0_i32_17
  let v50 : BitVec 32 := Scalar.extui v49
  let v51 : BitVec 32 := Scalar.subi v48 v50
  let v52 : BitVec 1 := Scalar.cmpi .ne v46 v51
  let v53 : BitVec 32 := Scalar.remsi v20 c2_i32_13
  let c0_i32_18 : BitVec 32 := 0#32
  let v54 : BitVec 1 := Scalar.cmpi .ne v53 c0_i32_18
  let v55 : BitVec 1 := Scalar.andi v52 v54
  let v41 : BitVec 32 := Scalar.divsi v20 c2_i32_13
  let c1_i32_19 : BitVec 32 := 1#32
  let v56 : BitVec 32 := Scalar.subi v41 c1_i32_19
  let v57 : BitVec 32 := Scalar.select v55 v56 v41
  let c256_i32_141 : BitVec 32 := 256#32
  let v226 : BitVec 32 := Scalar.muli v57 c256_i32_141
  let v227 : BitVec 32 := Scalar.addi c1536_i32_142 v226
  let c4_i32 : BitVec 32 := 4#32
  let v3 : BitVec 32 := Scalar.remsi v2 c4_i32
  let c3_i32 : BitVec 32 := 3#32
  let v21 : BitVec 32 := Scalar.subi c3_i32 v3
  let v22 : BitVec 32 := Scalar.minsi v3 v21
  let c128_i32_214 : BitVec 32 := 128#32
  let v346 : BitVec 32 := Scalar.muli v22 c128_i32_214
  let v347 : BitVec 32 := Scalar.addi v227 v346
  let c1_i32_225 : BitVec 32 := 1#32
  let c0_i32_6 : BitVec 32 := 0#32
  let v24 : BitVec 1 := Scalar.cmpi .sgt v3 c0_i32_6
  let v25 : BitVec 32 := Scalar.extui v24
  let c0_i32_7 : BitVec 32 := 0#32
  let v26 : BitVec 1 := Scalar.cmpi .slt v3 c0_i32_7
  let v27 : BitVec 32 := Scalar.extui v26
  let v28 : BitVec 32 := Scalar.subi v25 v27
  let c2_i32 : BitVec 32 := 2#32
  let c0_i32_8 : BitVec 32 := 0#32
  let v29 : BitVec 1 := Scalar.cmpi .sgt c2_i32 c0_i32_8
  let v30 : BitVec 32 := Scalar.extui v29
  let c0_i32_9 : BitVec 32 := 0#32
  let v31 : BitVec 1 := Scalar.cmpi .slt c2_i32 c0_i32_9
  let v32 : BitVec 32 := Scalar.extui v31
  let v33 : BitVec 32 := Scalar.subi v30 v32
  let v34 : BitVec 1 := Scalar.cmpi .ne v28 v33
  let v35 : BitVec 32 := Scalar.remsi v3 c2_i32
  let c0_i32_10 : BitVec 32 := 0#32
  let v36 : BitVec 1 := Scalar.cmpi .ne v35 c0_i32_10
  let v37 : BitVec 1 := Scalar.andi v34 v36
  let v23 : BitVec 32 := Scalar.divsi v3 c2_i32
  let c1_i32_11 : BitVec 32 := 1#32
  let v38 : BitVec 32 := Scalar.subi v23 c1_i32_11
  let v39 : BitVec 32 := Scalar.select v37 v38 v23
  let v365 : BitVec 32 := Scalar.subi c1_i32_225 v39
  let c64_i32_226 : BitVec 32 := 64#32
  let v366 : BitVec 32 := Scalar.muli v365 c64_i32_226
  let v367 : BitVec 32 := Scalar.addi v347 v366
  let c0_i32_231 : BitVec 32 := 0#32
  ![v367.toNat, 0]
def k0_dev16 (d0 : Dev nD) : Nat :=
  let c0_i32_229 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_23 : BitVec 32 := 3#32
  let v62 : BitVec 32 := Scalar.addi v2 c3_i32_23
  let c2_i32_24 : BitVec 32 := 2#32
  let c4_i32 : BitVec 32 := 4#32
  let v3 : BitVec 32 := Scalar.remsi v2 c4_i32
  let v63 : BitVec 32 := Scalar.muli c2_i32_24 v3
  let v64 : BitVec 32 := Scalar.subi v62 v63
  let c1_i32_228 : BitVec 32 := 1#32
  let v368 : BitVec 32 := Scalar.muli v64 c1_i32_228
  let v369 : BitVec 32 := Scalar.addi c0_i32_229 v368
  v369.toNat
def k0_off29 (d0 : Dev nD) : Fin 2 → Nat :=
  let c0_i32_83 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c3_i32 : BitVec 32 := 3#32
  let v21 : BitVec 32 := Scalar.subi c3_i32 v3
  let v22 : BitVec 32 := Scalar.minsi v3 v21
  let c256_i32_82 : BitVec 32 := 256#32
  let v136 : BitVec 32 := Scalar.muli v22 c256_i32_82
  let v137 : BitVec 32 := Scalar.addi c0_i32_83 v136
  let c0_i32_6 : BitVec 32 := 0#32
  let v24 : BitVec 1 := Scalar.cmpi .sgt v3 c0_i32_6
  let v25 : BitVec 32 := Scalar.extui v24
  let c0_i32_7 : BitVec 32 := 0#32
  let v26 : BitVec 1 := Scalar.cmpi .slt v3 c0_i32_7
  let v27 : BitVec 32 := Scalar.extui v26
  let v28 : BitVec 32 := Scalar.subi v25 v27
  let c2_i32 : BitVec 32 := 2#32
  let c0_i32_8 : BitVec 32 := 0#32
  let v29 : BitVec 1 := Scalar.cmpi .sgt c2_i32 c0_i32_8
  let v30 : BitVec 32 := Scalar.extui v29
  let c0_i32_9 : BitVec 32 := 0#32
  let v31 : BitVec 1 := Scalar.cmpi .slt c2_i32 c0_i32_9
  let v32 : BitVec 32 := Scalar.extui v31
  let v33 : BitVec 32 := Scalar.subi v30 v32
  let v34 : BitVec 1 := Scalar.cmpi .ne v28 v33
  let v35 : BitVec 32 := Scalar.remsi v3 c2_i32
  let c0_i32_10 : BitVec 32 := 0#32
  let v36 : BitVec 1 := Scalar.cmpi .ne v35 c0_i32_10
  let v37 : BitVec 1 := Scalar.andi v34 v36
  let v23 : BitVec 32 := Scalar.divsi v3 c2_i32
  let c1_i32_11 : BitVec 32 := 1#32
  let v38 : BitVec 32 := Scalar.subi v23 c1_i32_11
  let v39 : BitVec 32 := Scalar.select v37 v38 v23
  let c128_i32_160 : BitVec 32 := 128#32
  let v256 : BitVec 32 := Scalar.muli v39 c128_i32_160
  let v257 : BitVec 32 := Scalar.addi v137 v256
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32_12 : BitVec 32 := 2#32
  let v40 : BitVec 32 := Scalar.remsi v20 c2_i32_12
  let c64_i32_232 : BitVec 32 := 64#32
  let v376 : BitVec 32 := Scalar.muli v40 c64_i32_232
  let v377 : BitVec 32 := Scalar.addi v257 v376
  let c0_i32_239 : BitVec 32 := 0#32
  ![v377.toNat, 0]
def k0_off30 (d0 : Dev nD) : Fin 2 → Nat :=
  let c0_i32_83 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c3_i32 : BitVec 32 := 3#32
  let v21 : BitVec 32 := Scalar.subi c3_i32 v3
  let v22 : BitVec 32 := Scalar.minsi v3 v21
  let c256_i32_82 : BitVec 32 := 256#32
  let v136 : BitVec 32 := Scalar.muli v22 c256_i32_82
  let v137 : BitVec 32 := Scalar.addi c0_i32_83 v136
  let c0_i32_6 : BitVec 32 := 0#32
  let v24 : BitVec 1 := Scalar.cmpi .sgt v3 c0_i32_6
  let v25 : BitVec 32 := Scalar.extui v24
  let c0_i32_7 : BitVec 32 := 0#32
  let v26 : BitVec 1 := Scalar.cmpi .slt v3 c0_i32_7
  let v27 : BitVec 32 := Scalar.extui v26
  let v28 : BitVec 32 := Scalar.subi v25 v27
  let c2_i32 : BitVec 32 := 2#32
  let c0_i32_8 : BitVec 32 := 0#32
  let v29 : BitVec 1 := Scalar.cmpi .sgt c2_i32 c0_i32_8
  let v30 : BitVec 32 := Scalar.extui v29
  let c0_i32_9 : BitVec 32 := 0#32
  let v31 : BitVec 1 := Scalar.cmpi .slt c2_i32 c0_i32_9
  let v32 : BitVec 32 := Scalar.extui v31
  let v33 : BitVec 32 := Scalar.subi v30 v32
  let v34 : BitVec 1 := Scalar.cmpi .ne v28 v33
  let v35 : BitVec 32 := Scalar.remsi v3 c2_i32
  let c0_i32_10 : BitVec 32 := 0#32
  let v36 : BitVec 1 := Scalar.cmpi .ne v35 c0_i32_10
  let v37 : BitVec 1 := Scalar.andi v34 v36
  let v23 : BitVec 32 := Scalar.divsi v3 c2_i32
  let c1_i32_11 : BitVec 32 := 1#32
  let v38 : BitVec 32 := Scalar.subi v23 c1_i32_11
  let v39 : BitVec 32 := Scalar.select v37 v38 v23
  let c128_i32_160 : BitVec 32 := 128#32
  let v256 : BitVec 32 := Scalar.muli v39 c128_i32_160
  let v257 : BitVec 32 := Scalar.addi v137 v256
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32_12 : BitVec 32 := 2#32
  let v40 : BitVec 32 := Scalar.remsi v20 c2_i32_12
  let c64_i32_232 : BitVec 32 := 64#32
  let v376 : BitVec 32 := Scalar.muli v40 c64_i32_232
  let v377 : BitVec 32 := Scalar.addi v257 v376
  let v384 : Index := Scalar.indexCast v377
  let c0_240 : Index := 0#32
  ![v384.toNat, 0]
def k0_off31 (d0 : Dev nD) : Fin 2 → Nat :=
  let c0_i32_83 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c3_i32 : BitVec 32 := 3#32
  let v21 : BitVec 32 := Scalar.subi c3_i32 v3
  let v22 : BitVec 32 := Scalar.minsi v3 v21
  let c256_i32_82 : BitVec 32 := 256#32
  let v136 : BitVec 32 := Scalar.muli v22 c256_i32_82
  let v137 : BitVec 32 := Scalar.addi c0_i32_83 v136
  let c0_i32_6 : BitVec 32 := 0#32
  let v24 : BitVec 1 := Scalar.cmpi .sgt v3 c0_i32_6
  let v25 : BitVec 32 := Scalar.extui v24
  let c0_i32_7 : BitVec 32 := 0#32
  let v26 : BitVec 1 := Scalar.cmpi .slt v3 c0_i32_7
  let v27 : BitVec 32 := Scalar.extui v26
  let v28 : BitVec 32 := Scalar.subi v25 v27
  let c2_i32 : BitVec 32 := 2#32
  let c0_i32_8 : BitVec 32 := 0#32
  let v29 : BitVec 1 := Scalar.cmpi .sgt c2_i32 c0_i32_8
  let v30 : BitVec 32 := Scalar.extui v29
  let c0_i32_9 : BitVec 32 := 0#32
  let v31 : BitVec 1 := Scalar.cmpi .slt c2_i32 c0_i32_9
  let v32 : BitVec 32 := Scalar.extui v31
  let v33 : BitVec 32 := Scalar.subi v30 v32
  let v34 : BitVec 1 := Scalar.cmpi .ne v28 v33
  let v35 : BitVec 32 := Scalar.remsi v3 c2_i32
  let c0_i32_10 : BitVec 32 := 0#32
  let v36 : BitVec 1 := Scalar.cmpi .ne v35 c0_i32_10
  let v37 : BitVec 1 := Scalar.andi v34 v36
  let v23 : BitVec 32 := Scalar.divsi v3 c2_i32
  let c1_i32_11 : BitVec 32 := 1#32
  let v38 : BitVec 32 := Scalar.subi v23 c1_i32_11
  let v39 : BitVec 32 := Scalar.select v37 v38 v23
  let c128_i32_160 : BitVec 32 := 128#32
  let v256 : BitVec 32 := Scalar.muli v39 c128_i32_160
  let v257 : BitVec 32 := Scalar.addi v137 v256
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32_12 : BitVec 32 := 2#32
  let v40 : BitVec 32 := Scalar.remsi v20 c2_i32_12
  let c64_i32_232 : BitVec 32 := 64#32
  let v376 : BitVec 32 := Scalar.muli v40 c64_i32_232
  let v377 : BitVec 32 := Scalar.addi v257 v376
  let c1_i32_243 : BitVec 32 := 1#32
  let c0_i32_14 : BitVec 32 := 0#32
  let v42 : BitVec 1 := Scalar.cmpi .sgt v20 c0_i32_14
  let v43 : BitVec 32 := Scalar.extui v42
  let c0_i32_15 : BitVec 32 := 0#32
  let v44 : BitVec 1 := Scalar.cmpi .slt v20 c0_i32_15
  let v45 : BitVec 32 := Scalar.extui v44
  let v46 : BitVec 32 := Scalar.subi v43 v45
  let c2_i32_13 : BitVec 32 := 2#32
  let c0_i32_16 : BitVec 32 := 0#32
  let v47 : BitVec 1 := Scalar.cmpi .sgt c2_i32_13 c0_i32_16
  let v48 : BitVec 32 := Scalar.extui v47
  let c0_i32_17 : BitVec 32 := 0#32
  let v49 : BitVec 1 := Scalar.cmpi .slt c2_i32_13 c0_i32_17
  let v50 : BitVec 32 := Scalar.extui v49
  let v51 : BitVec 32 := Scalar.subi v48 v50
  let v52 : BitVec 1 := Scalar.cmpi .ne v46 v51
  let v53 : BitVec 32 := Scalar.remsi v20 c2_i32_13
  let c0_i32_18 : BitVec 32 := 0#32
  let v54 : BitVec 1 := Scalar.cmpi .ne v53 c0_i32_18
  let v55 : BitVec 1 := Scalar.andi v52 v54
  let v41 : BitVec 32 := Scalar.divsi v20 c2_i32_13
  let c1_i32_19 : BitVec 32 := 1#32
  let v56 : BitVec 32 := Scalar.subi v41 c1_i32_19
  let v57 : BitVec 32 := Scalar.select v55 v56 v41
  let v395 : BitVec 32 := Scalar.subi c1_i32_243 v57
  let c32_i32 : BitVec 32 := 32#32
  let v396 : BitVec 32 := Scalar.muli v395 c32_i32
  let v397 : BitVec 32 := Scalar.addi v377 v396
  let c0_i32_249 : BitVec 32 := 0#32
  ![v397.toNat, 0]
def k0_dev17 (d0 : Dev nD) : Nat :=
  let c0_i32_247 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let c1_i32_29 : BitVec 32 := 1#32
  let c2_i32_28 : BitVec 32 := 2#32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_14 : BitVec 32 := 0#32
  let v42 : BitVec 1 := Scalar.cmpi .sgt v20 c0_i32_14
  let v43 : BitVec 32 := Scalar.extui v42
  let c0_i32_15 : BitVec 32 := 0#32
  let v44 : BitVec 1 := Scalar.cmpi .slt v20 c0_i32_15
  let v45 : BitVec 32 := Scalar.extui v44
  let v46 : BitVec 32 := Scalar.subi v43 v45
  let c2_i32_13 : BitVec 32 := 2#32
  let c0_i32_16 : BitVec 32 := 0#32
  let v47 : BitVec 1 := Scalar.cmpi .sgt c2_i32_13 c0_i32_16
  let v48 : BitVec 32 := Scalar.extui v47
  let c0_i32_17 : BitVec 32 := 0#32
  let v49 : BitVec 1 := Scalar.cmpi .slt c2_i32_13 c0_i32_17
  let v50 : BitVec 32 := Scalar.extui v49
  let v51 : BitVec 32 := Scalar.subi v48 v50
  let v52 : BitVec 1 := Scalar.cmpi .ne v46 v51
  let v53 : BitVec 32 := Scalar.remsi v20 c2_i32_13
  let c0_i32_18 : BitVec 32 := 0#32
  let v54 : BitVec 1 := Scalar.cmpi .ne v53 c0_i32_18
  let v55 : BitVec 1 := Scalar.andi v52 v54
  let v41 : BitVec 32 := Scalar.divsi v20 c2_i32_13
  let c1_i32_19 : BitVec 32 := 1#32
  let v56 : BitVec 32 := Scalar.subi v41 c1_i32_19
  let v57 : BitVec 32 := Scalar.select v55 v56 v41
  let v69 : BitVec 32 := Scalar.muli c2_i32_28 v57
  let v70 : BitVec 32 := Scalar.subi c1_i32_29 v69
  let v71 : BitVec 32 := Scalar.muli c8_i32 v70
  let v72 : BitVec 32 := Scalar.addi v2 v71
  let c1_i32_246 : BitVec 32 := 1#32
  let v398 : BitVec 32 := Scalar.muli v72 c1_i32_246
  let v399 : BitVec 32 := Scalar.addi c0_i32_247 v398
  v399.toNat
def k0_off32 (d0 : Dev nD) : Fin 2 → Nat :=
  let c512_i32_104 : BitVec 32 := 512#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v24 : BitVec 1 := Scalar.cmpi .sgt v3 c0_i32_6
  let v25 : BitVec 32 := Scalar.extui v24
  let c0_i32_7 : BitVec 32 := 0#32
  let v26 : BitVec 1 := Scalar.cmpi .slt v3 c0_i32_7
  let v27 : BitVec 32 := Scalar.extui v26
  let v28 : BitVec 32 := Scalar.subi v25 v27
  let c2_i32 : BitVec 32 := 2#32
  let c0_i32_8 : BitVec 32 := 0#32
  let v29 : BitVec 1 := Scalar.cmpi .sgt c2_i32 c0_i32_8
  let v30 : BitVec 32 := Scalar.extui v29
  let c0_i32_9 : BitVec 32 := 0#32
  let v31 : BitVec 1 := Scalar.cmpi .slt c2_i32 c0_i32_9
  let v32 : BitVec 32 := Scalar.extui v31
  let v33 : BitVec 32 := Scalar.subi v30 v32
  let v34 : BitVec 1 := Scalar.cmpi .ne v28 v33
  let v35 : BitVec 32 := Scalar.remsi v3 c2_i32
  let c0_i32_10 : BitVec 32 := 0#32
  let v36 : BitVec 1 := Scalar.cmpi .ne v35 c0_i32_10
  let v37 : BitVec 1 := Scalar.andi v34 v36
  let v23 : BitVec 32 := Scalar.divsi v3 c2_i32
  let c1_i32_11 : BitVec 32 := 1#32
  let v38 : BitVec 32 := Scalar.subi v23 c1_i32_11
  let v39 : BitVec 32 := Scalar.select v37 v38 v23
  let c256_i32_103 : BitVec 32 := 256#32
  let v166 : BitVec 32 := Scalar.muli v39 c256_i32_103
  let v167 : BitVec 32 := Scalar.addi c512_i32_104 v166
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32_12 : BitVec 32 := 2#32
  let v40 : BitVec 32 := Scalar.remsi v20 c2_i32_12
  let c128_i32_178 : BitVec 32 := 128#32
  let v286 : BitVec 32 := Scalar.muli v40 c128_i32_178
  let v287 : BitVec 32 := Scalar.addi v167 v286
  let c0_i32_14 : BitVec 32 := 0#32
  let v42 : BitVec 1 := Scalar.cmpi .sgt v20 c0_i32_14
  let v43 : BitVec 32 := Scalar.extui v42
  let c0_i32_15 : BitVec 32 := 0#32
  let v44 : BitVec 1 := Scalar.cmpi .slt v20 c0_i32_15
  let v45 : BitVec 32 := Scalar.extui v44
  let v46 : BitVec 32 := Scalar.subi v43 v45
  let c2_i32_13 : BitVec 32 := 2#32
  let c0_i32_16 : BitVec 32 := 0#32
  let v47 : BitVec 1 := Scalar.cmpi .sgt c2_i32_13 c0_i32_16
  let v48 : BitVec 32 := Scalar.extui v47
  let c0_i32_17 : BitVec 32 := 0#32
  let v49 : BitVec 1 := Scalar.cmpi .slt c2_i32_13 c0_i32_17
  let v50 : BitVec 32 := Scalar.extui v49
  let v51 : BitVec 32 := Scalar.subi v48 v50
  let v52 : BitVec 1 := Scalar.cmpi .ne v46 v51
  let v53 : BitVec 32 := Scalar.remsi v20 c2_i32_13
  let c0_i32_18 : BitVec 32 := 0#32
  let v54 : BitVec 1 := Scalar.cmpi .ne v53 c0_i32_18
  let v55 : BitVec 1 := Scalar.andi v52 v54
  let v41 : BitVec 32 := Scalar.divsi v20 c2_i32_13
  let c1_i32_19 : BitVec 32 := 1#32
  let v56 : BitVec 32 := Scalar.subi v41 c1_i32_19
  let v57 : BitVec 32 := Scalar.select v55 v56 v41
  let c64_i32_250 : BitVec 32 := 64#32
  let v406 : BitVec 32 := Scalar.muli v57 c64_i32_250
  let v407 : BitVec 32 := Scalar.addi v287 v406
  let c0_i32_257 : BitVec 32 := 0#32
  ![v407.toNat, 0]
def k0_off33 (d0 : Dev nD) : Fin 2 → Nat :=
  let c512_i32_104 : BitVec 32 := 512#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v24 : BitVec 1 := Scalar.cmpi .sgt v3 c0_i32_6
  let v25 : BitVec 32 := Scalar.extui v24
  let c0_i32_7 : BitVec 32 := 0#32
  let v26 : BitVec 1 := Scalar.cmpi .slt v3 c0_i32_7
  let v27 : BitVec 32 := Scalar.extui v26
  let v28 : BitVec 32 := Scalar.subi v25 v27
  let c2_i32 : BitVec 32 := 2#32
  let c0_i32_8 : BitVec 32 := 0#32
  let v29 : BitVec 1 := Scalar.cmpi .sgt c2_i32 c0_i32_8
  let v30 : BitVec 32 := Scalar.extui v29
  let c0_i32_9 : BitVec 32 := 0#32
  let v31 : BitVec 1 := Scalar.cmpi .slt c2_i32 c0_i32_9
  let v32 : BitVec 32 := Scalar.extui v31
  let v33 : BitVec 32 := Scalar.subi v30 v32
  let v34 : BitVec 1 := Scalar.cmpi .ne v28 v33
  let v35 : BitVec 32 := Scalar.remsi v3 c2_i32
  let c0_i32_10 : BitVec 32 := 0#32
  let v36 : BitVec 1 := Scalar.cmpi .ne v35 c0_i32_10
  let v37 : BitVec 1 := Scalar.andi v34 v36
  let v23 : BitVec 32 := Scalar.divsi v3 c2_i32
  let c1_i32_11 : BitVec 32 := 1#32
  let v38 : BitVec 32 := Scalar.subi v23 c1_i32_11
  let v39 : BitVec 32 := Scalar.select v37 v38 v23
  let c256_i32_103 : BitVec 32 := 256#32
  let v166 : BitVec 32 := Scalar.muli v39 c256_i32_103
  let v167 : BitVec 32 := Scalar.addi c512_i32_104 v166
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32_12 : BitVec 32 := 2#32
  let v40 : BitVec 32 := Scalar.remsi v20 c2_i32_12
  let c128_i32_178 : BitVec 32 := 128#32
  let v286 : BitVec 32 := Scalar.muli v40 c128_i32_178
  let v287 : BitVec 32 := Scalar.addi v167 v286
  let c0_i32_14 : BitVec 32 := 0#32
  let v42 : BitVec 1 := Scalar.cmpi .sgt v20 c0_i32_14
  let v43 : BitVec 32 := Scalar.extui v42
  let c0_i32_15 : BitVec 32 := 0#32
  let v44 : BitVec 1 := Scalar.cmpi .slt v20 c0_i32_15
  let v45 : BitVec 32 := Scalar.extui v44
  let v46 : BitVec 32 := Scalar.subi v43 v45
  let c2_i32_13 : BitVec 32 := 2#32
  let c0_i32_16 : BitVec 32 := 0#32
  let v47 : BitVec 1 := Scalar.cmpi .sgt c2_i32_13 c0_i32_16
  let v48 : BitVec 32 := Scalar.extui v47
  let c0_i32_17 : BitVec 32 := 0#32
  let v49 : BitVec 1 := Scalar.cmpi .slt c2_i32_13 c0_i32_17
  let v50 : BitVec 32 := Scalar.extui v49
  let v51 : BitVec 32 := Scalar.subi v48 v50
  let v52 : BitVec 1 := Scalar.cmpi .ne v46 v51
  let v53 : BitVec 32 := Scalar.remsi v20 c2_i32_13
  let c0_i32_18 : BitVec 32 := 0#32
  let v54 : BitVec 1 := Scalar.cmpi .ne v53 c0_i32_18
  let v55 : BitVec 1 := Scalar.andi v52 v54
  let v41 : BitVec 32 := Scalar.divsi v20 c2_i32_13
  let c1_i32_19 : BitVec 32 := 1#32
  let v56 : BitVec 32 := Scalar.subi v41 c1_i32_19
  let v57 : BitVec 32 := Scalar.select v55 v56 v41
  let c64_i32_250 : BitVec 32 := 64#32
  let v406 : BitVec 32 := Scalar.muli v57 c64_i32_250
  let v407 : BitVec 32 := Scalar.addi v287 v406
  let v414 : Index := Scalar.indexCast v407
  let c0_258 : Index := 0#32
  ![v414.toNat, 0]
def k0_off34 (d0 : Dev nD) : Fin 2 → Nat :=
  let c512_i32_104 : BitVec 32 := 512#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v24 : BitVec 1 := Scalar.cmpi .sgt v3 c0_i32_6
  let v25 : BitVec 32 := Scalar.extui v24
  let c0_i32_7 : BitVec 32 := 0#32
  let v26 : BitVec 1 := Scalar.cmpi .slt v3 c0_i32_7
  let v27 : BitVec 32 := Scalar.extui v26
  let v28 : BitVec 32 := Scalar.subi v25 v27
  let c2_i32 : BitVec 32 := 2#32
  let c0_i32_8 : BitVec 32 := 0#32
  let v29 : BitVec 1 := Scalar.cmpi .sgt c2_i32 c0_i32_8
  let v30 : BitVec 32 := Scalar.extui v29
  let c0_i32_9 : BitVec 32 := 0#32
  let v31 : BitVec 1 := Scalar.cmpi .slt c2_i32 c0_i32_9
  let v32 : BitVec 32 := Scalar.extui v31
  let v33 : BitVec 32 := Scalar.subi v30 v32
  let v34 : BitVec 1 := Scalar.cmpi .ne v28 v33
  let v35 : BitVec 32 := Scalar.remsi v3 c2_i32
  let c0_i32_10 : BitVec 32 := 0#32
  let v36 : BitVec 1 := Scalar.cmpi .ne v35 c0_i32_10
  let v37 : BitVec 1 := Scalar.andi v34 v36
  let v23 : BitVec 32 := Scalar.divsi v3 c2_i32
  let c1_i32_11 : BitVec 32 := 1#32
  let v38 : BitVec 32 := Scalar.subi v23 c1_i32_11
  let v39 : BitVec 32 := Scalar.select v37 v38 v23
  let c256_i32_103 : BitVec 32 := 256#32
  let v166 : BitVec 32 := Scalar.muli v39 c256_i32_103
  let v167 : BitVec 32 := Scalar.addi c512_i32_104 v166
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32_12 : BitVec 32 := 2#32
  let v40 : BitVec 32 := Scalar.remsi v20 c2_i32_12
  let c128_i32_178 : BitVec 32 := 128#32
  let v286 : BitVec 32 := Scalar.muli v40 c128_i32_178
  let v287 : BitVec 32 := Scalar.addi v167 v286
  let c0_i32_14 : BitVec 32 := 0#32
  let v42 : BitVec 1 := Scalar.cmpi .sgt v20 c0_i32_14
  let v43 : BitVec 32 := Scalar.extui v42
  let c0_i32_15 : BitVec 32 := 0#32
  let v44 : BitVec 1 := Scalar.cmpi .slt v20 c0_i32_15
  let v45 : BitVec 32 := Scalar.extui v44
  let v46 : BitVec 32 := Scalar.subi v43 v45
  let c2_i32_13 : BitVec 32 := 2#32
  let c0_i32_16 : BitVec 32 := 0#32
  let v47 : BitVec 1 := Scalar.cmpi .sgt c2_i32_13 c0_i32_16
  let v48 : BitVec 32 := Scalar.extui v47
  let c0_i32_17 : BitVec 32 := 0#32
  let v49 : BitVec 1 := Scalar.cmpi .slt c2_i32_13 c0_i32_17
  let v50 : BitVec 32 := Scalar.extui v49
  let v51 : BitVec 32 := Scalar.subi v48 v50
  let v52 : BitVec 1 := Scalar.cmpi .ne v46 v51
  let v53 : BitVec 32 := Scalar.remsi v20 c2_i32_13
  let c0_i32_18 : BitVec 32 := 0#32
  let v54 : BitVec 1 := Scalar.cmpi .ne v53 c0_i32_18
  let v55 : BitVec 1 := Scalar.andi v52 v54
  let v41 : BitVec 32 := Scalar.divsi v20 c2_i32_13
  let c1_i32_19 : BitVec 32 := 1#32
  let v56 : BitVec 32 := Scalar.subi v41 c1_i32_19
  let v57 : BitVec 32 := Scalar.select v55 v56 v41
  let c64_i32_250 : BitVec 32 := 64#32
  let v406 : BitVec 32 := Scalar.muli v57 c64_i32_250
  let v407 : BitVec 32 := Scalar.addi v287 v406
  let c1_i32_261 : BitVec 32 := 1#32
  let c3_i32 : BitVec 32 := 3#32
  let v21 : BitVec 32 := Scalar.subi c3_i32 v3
  let v22 : BitVec 32 := Scalar.minsi v3 v21
  let v425 : BitVec 32 := Scalar.subi c1_i32_261 v22
  let c32_i32_262 : BitVec 32 := 32#32
  let v426 : BitVec 32 := Scalar.muli v425 c32_i32_262
  let v427 : BitVec 32 := Scalar.addi v407 v426
  let c0_i32_267 : BitVec 32 := 0#32
  ![v427.toNat, 0]
def k0_dev18 (d0 : Dev nD) : Nat :=
  let c0_i32_265 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_20 : BitVec 32 := 1#32
  let v58 : BitVec 32 := Scalar.addi v2 c1_i32_20
  let c2_i32_22 : BitVec 32 := 2#32
  let c4_i32 : BitVec 32 := 4#32
  let v3 : BitVec 32 := Scalar.remsi v2 c4_i32
  let c2_i32_21 : BitVec 32 := 2#32
  let v59 : BitVec 32 := Scalar.remsi v3 c2_i32_21
  let v60 : BitVec 32 := Scalar.muli c2_i32_22 v59
  let v61 : BitVec 32 := Scalar.subi v58 v60
  let c1_i32_264 : BitVec 32 := 1#32
  let v428 : BitVec 32 := Scalar.muli v61 c1_i32_264
  let v429 : BitVec 32 := Scalar.addi c0_i32_265 v428
  v429.toNat
def k0_off35 (d0 : Dev nD) : Fin 2 → Nat :=
  let c1024_i32_123 : BitVec 32 := 1024#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32_12 : BitVec 32 := 2#32
  let v40 : BitVec 32 := Scalar.remsi v20 c2_i32_12
  let c256_i32_122 : BitVec 32 := 256#32
  let v196 : BitVec 32 := Scalar.muli v40 c256_i32_122
  let v197 : BitVec 32 := Scalar.addi c1024_i32_123 v196
  let c0_i32_14 : BitVec 32 := 0#32
  let v42 : BitVec 1 := Scalar.cmpi .sgt v20 c0_i32_14
  let v43 : BitVec 32 := Scalar.extui v42
  let c0_i32_15 : BitVec 32 := 0#32
  let v44 : BitVec 1 := Scalar.cmpi .slt v20 c0_i32_15
  let v45 : BitVec 32 := Scalar.extui v44
  let v46 : BitVec 32 := Scalar.subi v43 v45
  let c2_i32_13 : BitVec 32 := 2#32
  let c0_i32_16 : BitVec 32 := 0#32
  let v47 : BitVec 1 := Scalar.cmpi .sgt c2_i32_13 c0_i32_16
  let v48 : BitVec 32 := Scalar.extui v47
  let c0_i32_17 : BitVec 32 := 0#32
  let v49 : BitVec 1 := Scalar.cmpi .slt c2_i32_13 c0_i32_17
  let v50 : BitVec 32 := Scalar.extui v49
  let v51 : BitVec 32 := Scalar.subi v48 v50
  let v52 : BitVec 1 := Scalar.cmpi .ne v46 v51
  let v53 : BitVec 32 := Scalar.remsi v20 c2_i32_13
  let c0_i32_18 : BitVec 32 := 0#32
  let v54 : BitVec 1 := Scalar.cmpi .ne v53 c0_i32_18
  let v55 : BitVec 1 := Scalar.andi v52 v54
  let v41 : BitVec 32 := Scalar.divsi v20 c2_i32_13
  let c1_i32_19 : BitVec 32 := 1#32
  let v56 : BitVec 32 := Scalar.subi v41 c1_i32_19
  let v57 : BitVec 32 := Scalar.select v55 v56 v41
  let c128_i32_196 : BitVec 32 := 128#32
  let v316 : BitVec 32 := Scalar.muli v57 c128_i32_196
  let v317 : BitVec 32 := Scalar.addi v197 v316
  let c4_i32 : BitVec 32 := 4#32
  let v3 : BitVec 32 := Scalar.remsi v2 c4_i32
  let c3_i32 : BitVec 32 := 3#32
  let v21 : BitVec 32 := Scalar.subi c3_i32 v3
  let v22 : BitVec 32 := Scalar.minsi v3 v21
  let c64_i32_268 : BitVec 32 := 64#32
  let v436 : BitVec 32 := Scalar.muli v22 c64_i32_268
  let v437 : BitVec 32 := Scalar.addi v317 v436
  let c0_i32_275 : BitVec 32 := 0#32
  ![v437.toNat, 0]
def k0_off36 (d0 : Dev nD) : Fin 2 → Nat :=
  let c1024_i32_123 : BitVec 32 := 1024#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32_12 : BitVec 32 := 2#32
  let v40 : BitVec 32 := Scalar.remsi v20 c2_i32_12
  let c256_i32_122 : BitVec 32 := 256#32
  let v196 : BitVec 32 := Scalar.muli v40 c256_i32_122
  let v197 : BitVec 32 := Scalar.addi c1024_i32_123 v196
  let c0_i32_14 : BitVec 32 := 0#32
  let v42 : BitVec 1 := Scalar.cmpi .sgt v20 c0_i32_14
  let v43 : BitVec 32 := Scalar.extui v42
  let c0_i32_15 : BitVec 32 := 0#32
  let v44 : BitVec 1 := Scalar.cmpi .slt v20 c0_i32_15
  let v45 : BitVec 32 := Scalar.extui v44
  let v46 : BitVec 32 := Scalar.subi v43 v45
  let c2_i32_13 : BitVec 32 := 2#32
  let c0_i32_16 : BitVec 32 := 0#32
  let v47 : BitVec 1 := Scalar.cmpi .sgt c2_i32_13 c0_i32_16
  let v48 : BitVec 32 := Scalar.extui v47
  let c0_i32_17 : BitVec 32 := 0#32
  let v49 : BitVec 1 := Scalar.cmpi .slt c2_i32_13 c0_i32_17
  let v50 : BitVec 32 := Scalar.extui v49
  let v51 : BitVec 32 := Scalar.subi v48 v50
  let v52 : BitVec 1 := Scalar.cmpi .ne v46 v51
  let v53 : BitVec 32 := Scalar.remsi v20 c2_i32_13
  let c0_i32_18 : BitVec 32 := 0#32
  let v54 : BitVec 1 := Scalar.cmpi .ne v53 c0_i32_18
  let v55 : BitVec 1 := Scalar.andi v52 v54
  let v41 : BitVec 32 := Scalar.divsi v20 c2_i32_13
  let c1_i32_19 : BitVec 32 := 1#32
  let v56 : BitVec 32 := Scalar.subi v41 c1_i32_19
  let v57 : BitVec 32 := Scalar.select v55 v56 v41
  let c128_i32_196 : BitVec 32 := 128#32
  let v316 : BitVec 32 := Scalar.muli v57 c128_i32_196
  let v317 : BitVec 32 := Scalar.addi v197 v316
  let c4_i32 : BitVec 32 := 4#32
  let v3 : BitVec 32 := Scalar.remsi v2 c4_i32
  let c3_i32 : BitVec 32 := 3#32
  let v21 : BitVec 32 := Scalar.subi c3_i32 v3
  let v22 : BitVec 32 := Scalar.minsi v3 v21
  let c64_i32_268 : BitVec 32 := 64#32
  let v436 : BitVec 32 := Scalar.muli v22 c64_i32_268
  let v437 : BitVec 32 := Scalar.addi v317 v436
  let v444 : Index := Scalar.indexCast v437
  let c0_276 : Index := 0#32
  ![v444.toNat, 0]
def k0_off37 (d0 : Dev nD) : Fin 2 → Nat :=
  let c1024_i32_123 : BitVec 32 := 1024#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32_12 : BitVec 32 := 2#32
  let v40 : BitVec 32 := Scalar.remsi v20 c2_i32_12
  let c256_i32_122 : BitVec 32 := 256#32
  let v196 : BitVec 32 := Scalar.muli v40 c256_i32_122
  let v197 : BitVec 32 := Scalar.addi c1024_i32_123 v196
  let c0_i32_14 : BitVec 32 := 0#32
  let v42 : BitVec 1 := Scalar.cmpi .sgt v20 c0_i32_14
  let v43 : BitVec 32 := Scalar.extui v42
  let c0_i32_15 : BitVec 32 := 0#32
  let v44 : BitVec 1 := Scalar.cmpi .slt v20 c0_i32_15
  let v45 : BitVec 32 := Scalar.extui v44
  let v46 : BitVec 32 := Scalar.subi v43 v45
  let c2_i32_13 : BitVec 32 := 2#32
  let c0_i32_16 : BitVec 32 := 0#32
  let v47 : BitVec 1 := Scalar.cmpi .sgt c2_i32_13 c0_i32_16
  let v48 : BitVec 32 := Scalar.extui v47
  let c0_i32_17 : BitVec 32 := 0#32
  let v49 : BitVec 1 := Scalar.cmpi .slt c2_i32_13 c0_i32_17
  let v50 : BitVec 32 := Scalar.extui v49
  let v51 : BitVec 32 := Scalar.subi v48 v50
  let v52 : BitVec 1 := Scalar.cmpi .ne v46 v51
  let v53 : BitVec 32 := Scalar.remsi v20 c2_i32_13
  let c0_i32_18 : BitVec 32 := 0#32
  let v54 : BitVec 1 := Scalar.cmpi .ne v53 c0_i32_18
  let v55 : BitVec 1 := Scalar.andi v52 v54
  let v41 : BitVec 32 := Scalar.divsi v20 c2_i32_13
  let c1_i32_19 : BitVec 32 := 1#32
  let v56 : BitVec 32 := Scalar.subi v41 c1_i32_19
  let v57 : BitVec 32 := Scalar.select v55 v56 v41
  let c128_i32_196 : BitVec 32 := 128#32
  let v316 : BitVec 32 := Scalar.muli v57 c128_i32_196
  let v317 : BitVec 32 := Scalar.addi v197 v316
  let c4_i32 : BitVec 32 := 4#32
  let v3 : BitVec 32 := Scalar.remsi v2 c4_i32
  let c3_i32 : BitVec 32 := 3#32
  let v21 : BitVec 32 := Scalar.subi c3_i32 v3
  let v22 : BitVec 32 := Scalar.minsi v3 v21
  let c64_i32_268 : BitVec 32 := 64#32
  let v436 : BitVec 32 := Scalar.muli v22 c64_i32_268
  let v437 : BitVec 32 := Scalar.addi v317 v436
  let c1_i32_279 : BitVec 32 := 1#32
  let c0_i32_6 : BitVec 32 := 0#32
  let v24 : BitVec 1 := Scalar.cmpi .sgt v3 c0_i32_6
  let v25 : BitVec 32 := Scalar.extui v24
  let c0_i32_7 : BitVec 32 := 0#32
  let v26 : BitVec 1 := Scalar.cmpi .slt v3 c0_i32_7
  let v27 : BitVec 32 := Scalar.extui v26
  let v28 : BitVec 32 := Scalar.subi v25 v27
  let c2_i32 : BitVec 32 := 2#32
  let c0_i32_8 : BitVec 32 := 0#32
  let v29 : BitVec 1 := Scalar.cmpi .sgt c2_i32 c0_i32_8
  let v30 : BitVec 32 := Scalar.extui v29
  let c0_i32_9 : BitVec 32 := 0#32
  let v31 : BitVec 1 := Scalar.cmpi .slt c2_i32 c0_i32_9
  let v32 : BitVec 32 := Scalar.extui v31
  let v33 : BitVec 32 := Scalar.subi v30 v32
  let v34 : BitVec 1 := Scalar.cmpi .ne v28 v33
  let v35 : BitVec 32 := Scalar.remsi v3 c2_i32
  let c0_i32_10 : BitVec 32 := 0#32
  let v36 : BitVec 1 := Scalar.cmpi .ne v35 c0_i32_10
  let v37 : BitVec 1 := Scalar.andi v34 v36
  let v23 : BitVec 32 := Scalar.divsi v3 c2_i32
  let c1_i32_11 : BitVec 32 := 1#32
  let v38 : BitVec 32 := Scalar.subi v23 c1_i32_11
  let v39 : BitVec 32 := Scalar.select v37 v38 v23
  let v455 : BitVec 32 := Scalar.subi c1_i32_279 v39
  let c32_i32_280 : BitVec 32 := 32#32
  let v456 : BitVec 32 := Scalar.muli v455 c32_i32_280
  let v457 : BitVec 32 := Scalar.addi v437 v456
  let c0_i32_285 : BitVec 32 := 0#32
  ![v457.toNat, 0]
def k0_dev19 (d0 : Dev nD) : Nat :=
  let c0_i32_283 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_23 : BitVec 32 := 3#32
  let v62 : BitVec 32 := Scalar.addi v2 c3_i32_23
  let c2_i32_24 : BitVec 32 := 2#32
  let c4_i32 : BitVec 32 := 4#32
  let v3 : BitVec 32 := Scalar.remsi v2 c4_i32
  let v63 : BitVec 32 := Scalar.muli c2_i32_24 v3
  let v64 : BitVec 32 := Scalar.subi v62 v63
  let c1_i32_282 : BitVec 32 := 1#32
  let v458 : BitVec 32 := Scalar.muli v64 c1_i32_282
  let v459 : BitVec 32 := Scalar.addi c0_i32_283 v458
  v459.toNat
def k0_off38 (d0 : Dev nD) : Fin 2 → Nat :=
  let c1536_i32_142 : BitVec 32 := 1536#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_14 : BitVec 32 := 0#32
  let v42 : BitVec 1 := Scalar.cmpi .sgt v20 c0_i32_14
  let v43 : BitVec 32 := Scalar.extui v42
  let c0_i32_15 : BitVec 32 := 0#32
  let v44 : BitVec 1 := Scalar.cmpi .slt v20 c0_i32_15
  let v45 : BitVec 32 := Scalar.extui v44
  let v46 : BitVec 32 := Scalar.subi v43 v45
  let c2_i32_13 : BitVec 32 := 2#32
  let c0_i32_16 : BitVec 32 := 0#32
  let v47 : BitVec 1 := Scalar.cmpi .sgt c2_i32_13 c0_i32_16
  let v48 : BitVec 32 := Scalar.extui v47
  let c0_i32_17 : BitVec 32 := 0#32
  let v49 : BitVec 1 := Scalar.cmpi .slt c2_i32_13 c0_i32_17
  let v50 : BitVec 32 := Scalar.extui v49
  let v51 : BitVec 32 := Scalar.subi v48 v50
  let v52 : BitVec 1 := Scalar.cmpi .ne v46 v51
  let v53 : BitVec 32 := Scalar.remsi v20 c2_i32_13
  let c0_i32_18 : BitVec 32 := 0#32
  let v54 : BitVec 1 := Scalar.cmpi .ne v53 c0_i32_18
  let v55 : BitVec 1 := Scalar.andi v52 v54
  let v41 : BitVec 32 := Scalar.divsi v20 c2_i32_13
  let c1_i32_19 : BitVec 32 := 1#32
  let v56 : BitVec 32 := Scalar.subi v41 c1_i32_19
  let v57 : BitVec 32 := Scalar.select v55 v56 v41
  let c256_i32_141 : BitVec 32 := 256#32
  let v226 : BitVec 32 := Scalar.muli v57 c256_i32_141
  let v227 : BitVec 32 := Scalar.addi c1536_i32_142 v226
  let c4_i32 : BitVec 32 := 4#32
  let v3 : BitVec 32 := Scalar.remsi v2 c4_i32
  let c3_i32 : BitVec 32 := 3#32
  let v21 : BitVec 32 := Scalar.subi c3_i32 v3
  let v22 : BitVec 32 := Scalar.minsi v3 v21
  let c128_i32_214 : BitVec 32 := 128#32
  let v346 : BitVec 32 := Scalar.muli v22 c128_i32_214
  let v347 : BitVec 32 := Scalar.addi v227 v346
  let c0_i32_6 : BitVec 32 := 0#32
  let v24 : BitVec 1 := Scalar.cmpi .sgt v3 c0_i32_6
  let v25 : BitVec 32 := Scalar.extui v24
  let c0_i32_7 : BitVec 32 := 0#32
  let v26 : BitVec 1 := Scalar.cmpi .slt v3 c0_i32_7
  let v27 : BitVec 32 := Scalar.extui v26
  let v28 : BitVec 32 := Scalar.subi v25 v27
  let c2_i32 : BitVec 32 := 2#32
  let c0_i32_8 : BitVec 32 := 0#32
  let v29 : BitVec 1 := Scalar.cmpi .sgt c2_i32 c0_i32_8
  let v30 : BitVec 32 := Scalar.extui v29
  let c0_i32_9 : BitVec 32 := 0#32
  let v31 : BitVec 1 := Scalar.cmpi .slt c2_i32 c0_i32_9
  let v32 : BitVec 32 := Scalar.extui v31
  let v33 : BitVec 32 := Scalar.subi v30 v32
  let v34 : BitVec 1 := Scalar.cmpi .ne v28 v33
  let v35 : BitVec 32 := Scalar.remsi v3 c2_i32
  let c0_i32_10 : BitVec 32 := 0#32
  let v36 : BitVec 1 := Scalar.cmpi .ne v35 c0_i32_10
  let v37 : BitVec 1 := Scalar.andi v34 v36
  let v23 : BitVec 32 := Scalar.divsi v3 c2_i32
  let c1_i32_11 : BitVec 32 := 1#32
  let v38 : BitVec 32 := Scalar.subi v23 c1_i32_11
  let v39 : BitVec 32 := Scalar.select v37 v38 v23
  let c64_i32_286 : BitVec 32 := 64#32
  let v466 : BitVec 32 := Scalar.muli v39 c64_i32_286
  let v467 : BitVec 32 := Scalar.addi v347 v466
  let c0_i32_293 : BitVec 32 := 0#32
  ![v467.toNat, 0]
def k0_off39 (d0 : Dev nD) : Fin 2 → Nat :=
  let c1536_i32_142 : BitVec 32 := 1536#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_14 : BitVec 32 := 0#32
  let v42 : BitVec 1 := Scalar.cmpi .sgt v20 c0_i32_14
  let v43 : BitVec 32 := Scalar.extui v42
  let c0_i32_15 : BitVec 32 := 0#32
  let v44 : BitVec 1 := Scalar.cmpi .slt v20 c0_i32_15
  let v45 : BitVec 32 := Scalar.extui v44
  let v46 : BitVec 32 := Scalar.subi v43 v45
  let c2_i32_13 : BitVec 32 := 2#32
  let c0_i32_16 : BitVec 32 := 0#32
  let v47 : BitVec 1 := Scalar.cmpi .sgt c2_i32_13 c0_i32_16
  let v48 : BitVec 32 := Scalar.extui v47
  let c0_i32_17 : BitVec 32 := 0#32
  let v49 : BitVec 1 := Scalar.cmpi .slt c2_i32_13 c0_i32_17
  let v50 : BitVec 32 := Scalar.extui v49
  let v51 : BitVec 32 := Scalar.subi v48 v50
  let v52 : BitVec 1 := Scalar.cmpi .ne v46 v51
  let v53 : BitVec 32 := Scalar.remsi v20 c2_i32_13
  let c0_i32_18 : BitVec 32 := 0#32
  let v54 : BitVec 1 := Scalar.cmpi .ne v53 c0_i32_18
  let v55 : BitVec 1 := Scalar.andi v52 v54
  let v41 : BitVec 32 := Scalar.divsi v20 c2_i32_13
  let c1_i32_19 : BitVec 32 := 1#32
  let v56 : BitVec 32 := Scalar.subi v41 c1_i32_19
  let v57 : BitVec 32 := Scalar.select v55 v56 v41
  let c256_i32_141 : BitVec 32 := 256#32
  let v226 : BitVec 32 := Scalar.muli v57 c256_i32_141
  let v227 : BitVec 32 := Scalar.addi c1536_i32_142 v226
  let c4_i32 : BitVec 32 := 4#32
  let v3 : BitVec 32 := Scalar.remsi v2 c4_i32
  let c3_i32 : BitVec 32 := 3#32
  let v21 : BitVec 32 := Scalar.subi c3_i32 v3
  let v22 : BitVec 32 := Scalar.minsi v3 v21
  let c128_i32_214 : BitVec 32 := 128#32
  let v346 : BitVec 32 := Scalar.muli v22 c128_i32_214
  let v347 : BitVec 32 := Scalar.addi v227 v346
  let c0_i32_6 : BitVec 32 := 0#32
  let v24 : BitVec 1 := Scalar.cmpi .sgt v3 c0_i32_6
  let v25 : BitVec 32 := Scalar.extui v24
  let c0_i32_7 : BitVec 32 := 0#32
  let v26 : BitVec 1 := Scalar.cmpi .slt v3 c0_i32_7
  let v27 : BitVec 32 := Scalar.extui v26
  let v28 : BitVec 32 := Scalar.subi v25 v27
  let c2_i32 : BitVec 32 := 2#32
  let c0_i32_8 : BitVec 32 := 0#32
  let v29 : BitVec 1 := Scalar.cmpi .sgt c2_i32 c0_i32_8
  let v30 : BitVec 32 := Scalar.extui v29
  let c0_i32_9 : BitVec 32 := 0#32
  let v31 : BitVec 1 := Scalar.cmpi .slt c2_i32 c0_i32_9
  let v32 : BitVec 32 := Scalar.extui v31
  let v33 : BitVec 32 := Scalar.subi v30 v32
  let v34 : BitVec 1 := Scalar.cmpi .ne v28 v33
  let v35 : BitVec 32 := Scalar.remsi v3 c2_i32
  let c0_i32_10 : BitVec 32 := 0#32
  let v36 : BitVec 1 := Scalar.cmpi .ne v35 c0_i32_10
  let v37 : BitVec 1 := Scalar.andi v34 v36
  let v23 : BitVec 32 := Scalar.divsi v3 c2_i32
  let c1_i32_11 : BitVec 32 := 1#32
  let v38 : BitVec 32 := Scalar.subi v23 c1_i32_11
  let v39 : BitVec 32 := Scalar.select v37 v38 v23
  let c64_i32_286 : BitVec 32 := 64#32
  let v466 : BitVec 32 := Scalar.muli v39 c64_i32_286
  let v467 : BitVec 32 := Scalar.addi v347 v466
  let v474 : Index := Scalar.indexCast v467
  let c0_294 : Index := 0#32
  ![v474.toNat, 0]
def k0_off40 (d0 : Dev nD) : Fin 2 → Nat :=
  let c1536_i32_142 : BitVec 32 := 1536#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_14 : BitVec 32 := 0#32
  let v42 : BitVec 1 := Scalar.cmpi .sgt v20 c0_i32_14
  let v43 : BitVec 32 := Scalar.extui v42
  let c0_i32_15 : BitVec 32 := 0#32
  let v44 : BitVec 1 := Scalar.cmpi .slt v20 c0_i32_15
  let v45 : BitVec 32 := Scalar.extui v44
  let v46 : BitVec 32 := Scalar.subi v43 v45
  let c2_i32_13 : BitVec 32 := 2#32
  let c0_i32_16 : BitVec 32 := 0#32
  let v47 : BitVec 1 := Scalar.cmpi .sgt c2_i32_13 c0_i32_16
  let v48 : BitVec 32 := Scalar.extui v47
  let c0_i32_17 : BitVec 32 := 0#32
  let v49 : BitVec 1 := Scalar.cmpi .slt c2_i32_13 c0_i32_17
  let v50 : BitVec 32 := Scalar.extui v49
  let v51 : BitVec 32 := Scalar.subi v48 v50
  let v52 : BitVec 1 := Scalar.cmpi .ne v46 v51
  let v53 : BitVec 32 := Scalar.remsi v20 c2_i32_13
  let c0_i32_18 : BitVec 32 := 0#32
  let v54 : BitVec 1 := Scalar.cmpi .ne v53 c0_i32_18
  let v55 : BitVec 1 := Scalar.andi v52 v54
  let v41 : BitVec 32 := Scalar.divsi v20 c2_i32_13
  let c1_i32_19 : BitVec 32 := 1#32
  let v56 : BitVec 32 := Scalar.subi v41 c1_i32_19
  let v57 : BitVec 32 := Scalar.select v55 v56 v41
  let c256_i32_141 : BitVec 32 := 256#32
  let v226 : BitVec 32 := Scalar.muli v57 c256_i32_141
  let v227 : BitVec 32 := Scalar.addi c1536_i32_142 v226
  let c4_i32 : BitVec 32 := 4#32
  let v3 : BitVec 32 := Scalar.remsi v2 c4_i32
  let c3_i32 : BitVec 32 := 3#32
  let v21 : BitVec 32 := Scalar.subi c3_i32 v3
  let v22 : BitVec 32 := Scalar.minsi v3 v21
  let c128_i32_214 : BitVec 32 := 128#32
  let v346 : BitVec 32 := Scalar.muli v22 c128_i32_214
  let v347 : BitVec 32 := Scalar.addi v227 v346
  let c0_i32_6 : BitVec 32 := 0#32
  let v24 : BitVec 1 := Scalar.cmpi .sgt v3 c0_i32_6
  let v25 : BitVec 32 := Scalar.extui v24
  let c0_i32_7 : BitVec 32 := 0#32
  let v26 : BitVec 1 := Scalar.cmpi .slt v3 c0_i32_7
  let v27 : BitVec 32 := Scalar.extui v26
  let v28 : BitVec 32 := Scalar.subi v25 v27
  let c2_i32 : BitVec 32 := 2#32
  let c0_i32_8 : BitVec 32 := 0#32
  let v29 : BitVec 1 := Scalar.cmpi .sgt c2_i32 c0_i32_8
  let v30 : BitVec 32 := Scalar.extui v29
  let c0_i32_9 : BitVec 32 := 0#32
  let v31 : BitVec 1 := Scalar.cmpi .slt c2_i32 c0_i32_9
  let v32 : BitVec 32 := Scalar.extui v31
  let v33 : BitVec 32 := Scalar.subi v30 v32
  let v34 : BitVec 1 := Scalar.cmpi .ne v28 v33
  let v35 : BitVec 32 := Scalar.remsi v3 c2_i32
  let c0_i32_10 : BitVec 32 := 0#32
  let v36 : BitVec 1 := Scalar.cmpi .ne v35 c0_i32_10
  let v37 : BitVec 1 := Scalar.andi v34 v36
  let v23 : BitVec 32 := Scalar.divsi v3 c2_i32
  let c1_i32_11 : BitVec 32 := 1#32
  let v38 : BitVec 32 := Scalar.subi v23 c1_i32_11
  let v39 : BitVec 32 := Scalar.select v37 v38 v23
  let c64_i32_286 : BitVec 32 := 64#32
  let v466 : BitVec 32 := Scalar.muli v39 c64_i32_286
  let v467 : BitVec 32 := Scalar.addi v347 v466
  let c1_i32_297 : BitVec 32 := 1#32
  let c2_i32_12 : BitVec 32 := 2#32
  let v40 : BitVec 32 := Scalar.remsi v20 c2_i32_12
  let v485 : BitVec 32 := Scalar.subi c1_i32_297 v40
  let c32_i32_298 : BitVec 32 := 32#32
  let v486 : BitVec 32 := Scalar.muli v485 c32_i32_298
  let v487 : BitVec 32 := Scalar.addi v467 v486
  let c0_i32_303 : BitVec 32 := 0#32
  ![v487.toNat, 0]
def k0_dev20 (d0 : Dev nD) : Nat :=
  let c0_i32_301 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_27 : BitVec 32 := 4#32
  let c1_i32_26 : BitVec 32 := 1#32
  let c2_i32_25 : BitVec 32 := 2#32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32_12 : BitVec 32 := 2#32
  let v40 : BitVec 32 := Scalar.remsi v20 c2_i32_12
  let v65 : BitVec 32 := Scalar.muli c2_i32_25 v40
  let v66 : BitVec 32 := Scalar.subi c1_i32_26 v65
  let v67 : BitVec 32 := Scalar.muli c4_i32_27 v66
  let v68 : BitVec 32 := Scalar.addi v2 v67
  let c1_i32_300 : BitVec 32 := 1#32
  let v488 : BitVec 32 := Scalar.muli v68 c1_i32_300
  let v489 : BitVec 32 := Scalar.addi c0_i32_301 v488
  v489.toNat
def k0_off41 (d0 : Dev nD) : Fin 2 → Nat :=
  let c0_i32_83 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c3_i32 : BitVec 32 := 3#32
  let v21 : BitVec 32 := Scalar.subi c3_i32 v3
  let v22 : BitVec 32 := Scalar.minsi v3 v21
  let c256_i32_82 : BitVec 32 := 256#32
  let v136 : BitVec 32 := Scalar.muli v22 c256_i32_82
  let v137 : BitVec 32 := Scalar.addi c0_i32_83 v136
  let c0_i32_6 : BitVec 32 := 0#32
  let v24 : BitVec 1 := Scalar.cmpi .sgt v3 c0_i32_6
  let v25 : BitVec 32 := Scalar.extui v24
  let c0_i32_7 : BitVec 32 := 0#32
  let v26 : BitVec 1 := Scalar.cmpi .slt v3 c0_i32_7
  let v27 : BitVec 32 := Scalar.extui v26
  let v28 : BitVec 32 := Scalar.subi v25 v27
  let c2_i32 : BitVec 32 := 2#32
  let c0_i32_8 : BitVec 32 := 0#32
  let v29 : BitVec 1 := Scalar.cmpi .sgt c2_i32 c0_i32_8
  let v30 : BitVec 32 := Scalar.extui v29
  let c0_i32_9 : BitVec 32 := 0#32
  let v31 : BitVec 1 := Scalar.cmpi .slt c2_i32 c0_i32_9
  let v32 : BitVec 32 := Scalar.extui v31
  let v33 : BitVec 32 := Scalar.subi v30 v32
  let v34 : BitVec 1 := Scalar.cmpi .ne v28 v33
  let v35 : BitVec 32 := Scalar.remsi v3 c2_i32
  let c0_i32_10 : BitVec 32 := 0#32
  let v36 : BitVec 1 := Scalar.cmpi .ne v35 c0_i32_10
  let v37 : BitVec 1 := Scalar.andi v34 v36
  let v23 : BitVec 32 := Scalar.divsi v3 c2_i32
  let c1_i32_11 : BitVec 32 := 1#32
  let v38 : BitVec 32 := Scalar.subi v23 c1_i32_11
  let v39 : BitVec 32 := Scalar.select v37 v38 v23
  let c128_i32_160 : BitVec 32 := 128#32
  let v256 : BitVec 32 := Scalar.muli v39 c128_i32_160
  let v257 : BitVec 32 := Scalar.addi v137 v256
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32_12 : BitVec 32 := 2#32
  let v40 : BitVec 32 := Scalar.remsi v20 c2_i32_12
  let c64_i32_232 : BitVec 32 := 64#32
  let v376 : BitVec 32 := Scalar.muli v40 c64_i32_232
  let v377 : BitVec 32 := Scalar.addi v257 v376
  let c0_i32_14 : BitVec 32 := 0#32
  let v42 : BitVec 1 := Scalar.cmpi .sgt v20 c0_i32_14
  let v43 : BitVec 32 := Scalar.extui v42
  let c0_i32_15 : BitVec 32 := 0#32
  let v44 : BitVec 1 := Scalar.cmpi .slt v20 c0_i32_15
  let v45 : BitVec 32 := Scalar.extui v44
  let v46 : BitVec 32 := Scalar.subi v43 v45
  let c2_i32_13 : BitVec 32 := 2#32
  let c0_i32_16 : BitVec 32 := 0#32
  let v47 : BitVec 1 := Scalar.cmpi .sgt c2_i32_13 c0_i32_16
  let v48 : BitVec 32 := Scalar.extui v47
  let c0_i32_17 : BitVec 32 := 0#32
  let v49 : BitVec 1 := Scalar.cmpi .slt c2_i32_13 c0_i32_17
  let v50 : BitVec 32 := Scalar.extui v49
  let v51 : BitVec 32 := Scalar.subi v48 v50
  let v52 : BitVec 1 := Scalar.cmpi .ne v46 v51
  let v53 : BitVec 32 := Scalar.remsi v20 c2_i32_13
  let c0_i32_18 : BitVec 32 := 0#32
  let v54 : BitVec 1 := Scalar.cmpi .ne v53 c0_i32_18
  let v55 : BitVec 1 := Scalar.andi v52 v54
  let v41 : BitVec 32 := Scalar.divsi v20 c2_i32_13
  let c1_i32_19 : BitVec 32 := 1#32
  let v56 : BitVec 32 := Scalar.subi v41 c1_i32_19
  let v57 : BitVec 32 := Scalar.select v55 v56 v41
  let c32_i32_304 : BitVec 32 := 32#32
  let v496 : BitVec 32 := Scalar.muli v57 c32_i32_304
  let v497 : BitVec 32 := Scalar.addi v377 v496
  let c0_i32_311 : BitVec 32 := 0#32
  ![v497.toNat, 0]
def k0_off42 (d0 : Dev nD) : Fin 2 → Nat :=
  let c0_i32_83 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c3_i32 : BitVec 32 := 3#32
  let v21 : BitVec 32 := Scalar.subi c3_i32 v3
  let v22 : BitVec 32 := Scalar.minsi v3 v21
  let c256_i32_82 : BitVec 32 := 256#32
  let v136 : BitVec 32 := Scalar.muli v22 c256_i32_82
  let v137 : BitVec 32 := Scalar.addi c0_i32_83 v136
  let c0_i32_6 : BitVec 32 := 0#32
  let v24 : BitVec 1 := Scalar.cmpi .sgt v3 c0_i32_6
  let v25 : BitVec 32 := Scalar.extui v24
  let c0_i32_7 : BitVec 32 := 0#32
  let v26 : BitVec 1 := Scalar.cmpi .slt v3 c0_i32_7
  let v27 : BitVec 32 := Scalar.extui v26
  let v28 : BitVec 32 := Scalar.subi v25 v27
  let c2_i32 : BitVec 32 := 2#32
  let c0_i32_8 : BitVec 32 := 0#32
  let v29 : BitVec 1 := Scalar.cmpi .sgt c2_i32 c0_i32_8
  let v30 : BitVec 32 := Scalar.extui v29
  let c0_i32_9 : BitVec 32 := 0#32
  let v31 : BitVec 1 := Scalar.cmpi .slt c2_i32 c0_i32_9
  let v32 : BitVec 32 := Scalar.extui v31
  let v33 : BitVec 32 := Scalar.subi v30 v32
  let v34 : BitVec 1 := Scalar.cmpi .ne v28 v33
  let v35 : BitVec 32 := Scalar.remsi v3 c2_i32
  let c0_i32_10 : BitVec 32 := 0#32
  let v36 : BitVec 1 := Scalar.cmpi .ne v35 c0_i32_10
  let v37 : BitVec 1 := Scalar.andi v34 v36
  let v23 : BitVec 32 := Scalar.divsi v3 c2_i32
  let c1_i32_11 : BitVec 32 := 1#32
  let v38 : BitVec 32 := Scalar.subi v23 c1_i32_11
  let v39 : BitVec 32 := Scalar.select v37 v38 v23
  let c128_i32_160 : BitVec 32 := 128#32
  let v256 : BitVec 32 := Scalar.muli v39 c128_i32_160
  let v257 : BitVec 32 := Scalar.addi v137 v256
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32_12 : BitVec 32 := 2#32
  let v40 : BitVec 32 := Scalar.remsi v20 c2_i32_12
  let c64_i32_232 : BitVec 32 := 64#32
  let v376 : BitVec 32 := Scalar.muli v40 c64_i32_232
  let v377 : BitVec 32 := Scalar.addi v257 v376
  let c0_i32_14 : BitVec 32 := 0#32
  let v42 : BitVec 1 := Scalar.cmpi .sgt v20 c0_i32_14
  let v43 : BitVec 32 := Scalar.extui v42
  let c0_i32_15 : BitVec 32 := 0#32
  let v44 : BitVec 1 := Scalar.cmpi .slt v20 c0_i32_15
  let v45 : BitVec 32 := Scalar.extui v44
  let v46 : BitVec 32 := Scalar.subi v43 v45
  let c2_i32_13 : BitVec 32 := 2#32
  let c0_i32_16 : BitVec 32 := 0#32
  let v47 : BitVec 1 := Scalar.cmpi .sgt c2_i32_13 c0_i32_16
  let v48 : BitVec 32 := Scalar.extui v47
  let c0_i32_17 : BitVec 32 := 0#32
  let v49 : BitVec 1 := Scalar.cmpi .slt c2_i32_13 c0_i32_17
  let v50 : BitVec 32 := Scalar.extui v49
  let v51 : BitVec 32 := Scalar.subi v48 v50
  let v52 : BitVec 1 := Scalar.cmpi .ne v46 v51
  let v53 : BitVec 32 := Scalar.remsi v20 c2_i32_13
  let c0_i32_18 : BitVec 32 := 0#32
  let v54 : BitVec 1 := Scalar.cmpi .ne v53 c0_i32_18
  let v55 : BitVec 1 := Scalar.andi v52 v54
  let v41 : BitVec 32 := Scalar.divsi v20 c2_i32_13
  let c1_i32_19 : BitVec 32 := 1#32
  let v56 : BitVec 32 := Scalar.subi v41 c1_i32_19
  let v57 : BitVec 32 := Scalar.select v55 v56 v41
  let c32_i32_304 : BitVec 32 := 32#32
  let v496 : BitVec 32 := Scalar.muli v57 c32_i32_304
  let v497 : BitVec 32 := Scalar.addi v377 v496
  let v504 : Index := Scalar.indexCast v497
  let c0_312 : Index := 0#32
  ![v504.toNat, 0]
def k0_off43 (d0 : Dev nD) : Fin 2 → Nat :=
  let c512_i32_104 : BitVec 32 := 512#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v24 : BitVec 1 := Scalar.cmpi .sgt v3 c0_i32_6
  let v25 : BitVec 32 := Scalar.extui v24
  let c0_i32_7 : BitVec 32 := 0#32
  let v26 : BitVec 1 := Scalar.cmpi .slt v3 c0_i32_7
  let v27 : BitVec 32 := Scalar.extui v26
  let v28 : BitVec 32 := Scalar.subi v25 v27
  let c2_i32 : BitVec 32 := 2#32
  let c0_i32_8 : BitVec 32 := 0#32
  let v29 : BitVec 1 := Scalar.cmpi .sgt c2_i32 c0_i32_8
  let v30 : BitVec 32 := Scalar.extui v29
  let c0_i32_9 : BitVec 32 := 0#32
  let v31 : BitVec 1 := Scalar.cmpi .slt c2_i32 c0_i32_9
  let v32 : BitVec 32 := Scalar.extui v31
  let v33 : BitVec 32 := Scalar.subi v30 v32
  let v34 : BitVec 1 := Scalar.cmpi .ne v28 v33
  let v35 : BitVec 32 := Scalar.remsi v3 c2_i32
  let c0_i32_10 : BitVec 32 := 0#32
  let v36 : BitVec 1 := Scalar.cmpi .ne v35 c0_i32_10
  let v37 : BitVec 1 := Scalar.andi v34 v36
  let v23 : BitVec 32 := Scalar.divsi v3 c2_i32
  let c1_i32_11 : BitVec 32 := 1#32
  let v38 : BitVec 32 := Scalar.subi v23 c1_i32_11
  let v39 : BitVec 32 := Scalar.select v37 v38 v23
  let c256_i32_103 : BitVec 32 := 256#32
  let v166 : BitVec 32 := Scalar.muli v39 c256_i32_103
  let v167 : BitVec 32 := Scalar.addi c512_i32_104 v166
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32_12 : BitVec 32 := 2#32
  let v40 : BitVec 32 := Scalar.remsi v20 c2_i32_12
  let c128_i32_178 : BitVec 32 := 128#32
  let v286 : BitVec 32 := Scalar.muli v40 c128_i32_178
  let v287 : BitVec 32 := Scalar.addi v167 v286
  let c0_i32_14 : BitVec 32 := 0#32
  let v42 : BitVec 1 := Scalar.cmpi .sgt v20 c0_i32_14
  let v43 : BitVec 32 := Scalar.extui v42
  let c0_i32_15 : BitVec 32 := 0#32
  let v44 : BitVec 1 := Scalar.cmpi .slt v20 c0_i32_15
  let v45 : BitVec 32 := Scalar.extui v44
  let v46 : BitVec 32 := Scalar.subi v43 v45
  let c2_i32_13 : BitVec 32 := 2#32
  let c0_i32_16 : BitVec 32 := 0#32
  let v47 : BitVec 1 := Scalar.cmpi .sgt c2_i32_13 c0_i32_16
  let v48 : BitVec 32 := Scalar.extui v47
  let c0_i32_17 : BitVec 32 := 0#32
  let v49 : BitVec 1 := Scalar.cmpi .slt c2_i32_13 c0_i32_17
  let v50 : BitVec 32 := Scalar.extui v49
  let v51 : BitVec 32 := Scalar.subi v48 v50
  let v52 : BitVec 1 := Scalar.cmpi .ne v46 v51
  let v53 : BitVec 32 := Scalar.remsi v20 c2_i32_13
  let c0_i32_18 : BitVec 32 := 0#32
  let v54 : BitVec 1 := Scalar.cmpi .ne v53 c0_i32_18
  let v55 : BitVec 1 := Scalar.andi v52 v54
  let v41 : BitVec 32 := Scalar.divsi v20 c2_i32_13
  let c1_i32_19 : BitVec 32 := 1#32
  let v56 : BitVec 32 := Scalar.subi v41 c1_i32_19
  let v57 : BitVec 32 := Scalar.select v55 v56 v41
  let c64_i32_250 : BitVec 32 := 64#32
  let v406 : BitVec 32 := Scalar.muli v57 c64_i32_250
  let v407 : BitVec 32 := Scalar.addi v287 v406
  let c3_i32 : BitVec 32 := 3#32
  let v21 : BitVec 32 := Scalar.subi c3_i32 v3
  let v22 : BitVec 32 := Scalar.minsi v3 v21
  let c32_i32_315 : BitVec 32 := 32#32
  let v515 : BitVec 32 := Scalar.muli v22 c32_i32_315
  let v516 : BitVec 32 := Scalar.addi v407 v515
  let c0_i32_322 : BitVec 32 := 0#32
  ![v516.toNat, 0]
def k0_off44 (d0 : Dev nD) : Fin 2 → Nat :=
  let c512_i32_104 : BitVec 32 := 512#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v24 : BitVec 1 := Scalar.cmpi .sgt v3 c0_i32_6
  let v25 : BitVec 32 := Scalar.extui v24
  let c0_i32_7 : BitVec 32 := 0#32
  let v26 : BitVec 1 := Scalar.cmpi .slt v3 c0_i32_7
  let v27 : BitVec 32 := Scalar.extui v26
  let v28 : BitVec 32 := Scalar.subi v25 v27
  let c2_i32 : BitVec 32 := 2#32
  let c0_i32_8 : BitVec 32 := 0#32
  let v29 : BitVec 1 := Scalar.cmpi .sgt c2_i32 c0_i32_8
  let v30 : BitVec 32 := Scalar.extui v29
  let c0_i32_9 : BitVec 32 := 0#32
  let v31 : BitVec 1 := Scalar.cmpi .slt c2_i32 c0_i32_9
  let v32 : BitVec 32 := Scalar.extui v31
  let v33 : BitVec 32 := Scalar.subi v30 v32
  let v34 : BitVec 1 := Scalar.cmpi .ne v28 v33
  let v35 : BitVec 32 := Scalar.remsi v3 c2_i32
  let c0_i32_10 : BitVec 32 := 0#32
  let v36 : BitVec 1 := Scalar.cmpi .ne v35 c0_i32_10
  let v37 : BitVec 1 := Scalar.andi v34 v36
  let v23 : BitVec 32 := Scalar.divsi v3 c2_i32
  let c1_i32_11 : BitVec 32 := 1#32
  let v38 : BitVec 32 := Scalar.subi v23 c1_i32_11
  let v39 : BitVec 32 := Scalar.select v37 v38 v23
  let c256_i32_103 : BitVec 32 := 256#32
  let v166 : BitVec 32 := Scalar.muli v39 c256_i32_103
  let v167 : BitVec 32 := Scalar.addi c512_i32_104 v166
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32_12 : BitVec 32 := 2#32
  let v40 : BitVec 32 := Scalar.remsi v20 c2_i32_12
  let c128_i32_178 : BitVec 32 := 128#32
  let v286 : BitVec 32 := Scalar.muli v40 c128_i32_178
  let v287 : BitVec 32 := Scalar.addi v167 v286
  let c0_i32_14 : BitVec 32 := 0#32
  let v42 : BitVec 1 := Scalar.cmpi .sgt v20 c0_i32_14
  let v43 : BitVec 32 := Scalar.extui v42
  let c0_i32_15 : BitVec 32 := 0#32
  let v44 : BitVec 1 := Scalar.cmpi .slt v20 c0_i32_15
  let v45 : BitVec 32 := Scalar.extui v44
  let v46 : BitVec 32 := Scalar.subi v43 v45
  let c2_i32_13 : BitVec 32 := 2#32
  let c0_i32_16 : BitVec 32 := 0#32
  let v47 : BitVec 1 := Scalar.cmpi .sgt c2_i32_13 c0_i32_16
  let v48 : BitVec 32 := Scalar.extui v47
  let c0_i32_17 : BitVec 32 := 0#32
  let v49 : BitVec 1 := Scalar.cmpi .slt c2_i32_13 c0_i32_17
  let v50 : BitVec 32 := Scalar.extui v49
  let v51 : BitVec 32 := Scalar.subi v48 v50
  let v52 : BitVec 1 := Scalar.cmpi .ne v46 v51
  let v53 : BitVec 32 := Scalar.remsi v20 c2_i32_13
  let c0_i32_18 : BitVec 32 := 0#32
  let v54 : BitVec 1 := Scalar.cmpi .ne v53 c0_i32_18
  let v55 : BitVec 1 := Scalar.andi v52 v54
  let v41 : BitVec 32 := Scalar.divsi v20 c2_i32_13
  let c1_i32_19 : BitVec 32 := 1#32
  let v56 : BitVec 32 := Scalar.subi v41 c1_i32_19
  let v57 : BitVec 32 := Scalar.select v55 v56 v41
  let c64_i32_250 : BitVec 32 := 64#32
  let v406 : BitVec 32 := Scalar.muli v57 c64_i32_250
  let v407 : BitVec 32 := Scalar.addi v287 v406
  let c3_i32 : BitVec 32 := 3#32
  let v21 : BitVec 32 := Scalar.subi c3_i32 v3
  let v22 : BitVec 32 := Scalar.minsi v3 v21
  let c32_i32_315 : BitVec 32 := 32#32
  let v515 : BitVec 32 := Scalar.muli v22 c32_i32_315
  let v516 : BitVec 32 := Scalar.addi v407 v515
  let v523 : Index := Scalar.indexCast v516
  let c0_323 : Index := 0#32
  ![v523.toNat, 0]
def k0_off45 (d0 : Dev nD) : Fin 2 → Nat :=
  let c1024_i32_123 : BitVec 32 := 1024#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32_12 : BitVec 32 := 2#32
  let v40 : BitVec 32 := Scalar.remsi v20 c2_i32_12
  let c256_i32_122 : BitVec 32 := 256#32
  let v196 : BitVec 32 := Scalar.muli v40 c256_i32_122
  let v197 : BitVec 32 := Scalar.addi c1024_i32_123 v196
  let c0_i32_14 : BitVec 32 := 0#32
  let v42 : BitVec 1 := Scalar.cmpi .sgt v20 c0_i32_14
  let v43 : BitVec 32 := Scalar.extui v42
  let c0_i32_15 : BitVec 32 := 0#32
  let v44 : BitVec 1 := Scalar.cmpi .slt v20 c0_i32_15
  let v45 : BitVec 32 := Scalar.extui v44
  let v46 : BitVec 32 := Scalar.subi v43 v45
  let c2_i32_13 : BitVec 32 := 2#32
  let c0_i32_16 : BitVec 32 := 0#32
  let v47 : BitVec 1 := Scalar.cmpi .sgt c2_i32_13 c0_i32_16
  let v48 : BitVec 32 := Scalar.extui v47
  let c0_i32_17 : BitVec 32 := 0#32
  let v49 : BitVec 1 := Scalar.cmpi .slt c2_i32_13 c0_i32_17
  let v50 : BitVec 32 := Scalar.extui v49
  let v51 : BitVec 32 := Scalar.subi v48 v50
  let v52 : BitVec 1 := Scalar.cmpi .ne v46 v51
  let v53 : BitVec 32 := Scalar.remsi v20 c2_i32_13
  let c0_i32_18 : BitVec 32 := 0#32
  let v54 : BitVec 1 := Scalar.cmpi .ne v53 c0_i32_18
  let v55 : BitVec 1 := Scalar.andi v52 v54
  let v41 : BitVec 32 := Scalar.divsi v20 c2_i32_13
  let c1_i32_19 : BitVec 32 := 1#32
  let v56 : BitVec 32 := Scalar.subi v41 c1_i32_19
  let v57 : BitVec 32 := Scalar.select v55 v56 v41
  let c128_i32_196 : BitVec 32 := 128#32
  let v316 : BitVec 32 := Scalar.muli v57 c128_i32_196
  let v317 : BitVec 32 := Scalar.addi v197 v316
  let c4_i32 : BitVec 32 := 4#32
  let v3 : BitVec 32 := Scalar.remsi v2 c4_i32
  let c3_i32 : BitVec 32 := 3#32
  let v21 : BitVec 32 := Scalar.subi c3_i32 v3
  let v22 : BitVec 32 := Scalar.minsi v3 v21
  let c64_i32_268 : BitVec 32 := 64#32
  let v436 : BitVec 32 := Scalar.muli v22 c64_i32_268
  let v437 : BitVec 32 := Scalar.addi v317 v436
  let c0_i32_6 : BitVec 32 := 0#32
  let v24 : BitVec 1 := Scalar.cmpi .sgt v3 c0_i32_6
  let v25 : BitVec 32 := Scalar.extui v24
  let c0_i32_7 : BitVec 32 := 0#32
  let v26 : BitVec 1 := Scalar.cmpi .slt v3 c0_i32_7
  let v27 : BitVec 32 := Scalar.extui v26
  let v28 : BitVec 32 := Scalar.subi v25 v27
  let c2_i32 : BitVec 32 := 2#32
  let c0_i32_8 : BitVec 32 := 0#32
  let v29 : BitVec 1 := Scalar.cmpi .sgt c2_i32 c0_i32_8
  let v30 : BitVec 32 := Scalar.extui v29
  let c0_i32_9 : BitVec 32 := 0#32
  let v31 : BitVec 1 := Scalar.cmpi .slt c2_i32 c0_i32_9
  let v32 : BitVec 32 := Scalar.extui v31
  let v33 : BitVec 32 := Scalar.subi v30 v32
  let v34 : BitVec 1 := Scalar.cmpi .ne v28 v33
  let v35 : BitVec 32 := Scalar.remsi v3 c2_i32
  let c0_i32_10 : BitVec 32 := 0#32
  let v36 : BitVec 1 := Scalar.cmpi .ne v35 c0_i32_10
  let v37 : BitVec 1 := Scalar.andi v34 v36
  let v23 : BitVec 32 := Scalar.divsi v3 c2_i32
  let c1_i32_11 : BitVec 32 := 1#32
  let v38 : BitVec 32 := Scalar.subi v23 c1_i32_11
  let v39 : BitVec 32 := Scalar.select v37 v38 v23
  let c32_i32_326 : BitVec 32 := 32#32
  let v534 : BitVec 32 := Scalar.muli v39 c32_i32_326
  let v535 : BitVec 32 := Scalar.addi v437 v534
  let c0_i32_333 : BitVec 32 := 0#32
  ![v535.toNat, 0]
def k0_off46 (d0 : Dev nD) : Fin 2 → Nat :=
  let c1024_i32_123 : BitVec 32 := 1024#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32_12 : BitVec 32 := 2#32
  let v40 : BitVec 32 := Scalar.remsi v20 c2_i32_12
  let c256_i32_122 : BitVec 32 := 256#32
  let v196 : BitVec 32 := Scalar.muli v40 c256_i32_122
  let v197 : BitVec 32 := Scalar.addi c1024_i32_123 v196
  let c0_i32_14 : BitVec 32 := 0#32
  let v42 : BitVec 1 := Scalar.cmpi .sgt v20 c0_i32_14
  let v43 : BitVec 32 := Scalar.extui v42
  let c0_i32_15 : BitVec 32 := 0#32
  let v44 : BitVec 1 := Scalar.cmpi .slt v20 c0_i32_15
  let v45 : BitVec 32 := Scalar.extui v44
  let v46 : BitVec 32 := Scalar.subi v43 v45
  let c2_i32_13 : BitVec 32 := 2#32
  let c0_i32_16 : BitVec 32 := 0#32
  let v47 : BitVec 1 := Scalar.cmpi .sgt c2_i32_13 c0_i32_16
  let v48 : BitVec 32 := Scalar.extui v47
  let c0_i32_17 : BitVec 32 := 0#32
  let v49 : BitVec 1 := Scalar.cmpi .slt c2_i32_13 c0_i32_17
  let v50 : BitVec 32 := Scalar.extui v49
  let v51 : BitVec 32 := Scalar.subi v48 v50
  let v52 : BitVec 1 := Scalar.cmpi .ne v46 v51
  let v53 : BitVec 32 := Scalar.remsi v20 c2_i32_13
  let c0_i32_18 : BitVec 32 := 0#32
  let v54 : BitVec 1 := Scalar.cmpi .ne v53 c0_i32_18
  let v55 : BitVec 1 := Scalar.andi v52 v54
  let v41 : BitVec 32 := Scalar.divsi v20 c2_i32_13
  let c1_i32_19 : BitVec 32 := 1#32
  let v56 : BitVec 32 := Scalar.subi v41 c1_i32_19
  let v57 : BitVec 32 := Scalar.select v55 v56 v41
  let c128_i32_196 : BitVec 32 := 128#32
  let v316 : BitVec 32 := Scalar.muli v57 c128_i32_196
  let v317 : BitVec 32 := Scalar.addi v197 v316
  let c4_i32 : BitVec 32 := 4#32
  let v3 : BitVec 32 := Scalar.remsi v2 c4_i32
  let c3_i32 : BitVec 32 := 3#32
  let v21 : BitVec 32 := Scalar.subi c3_i32 v3
  let v22 : BitVec 32 := Scalar.minsi v3 v21
  let c64_i32_268 : BitVec 32 := 64#32
  let v436 : BitVec 32 := Scalar.muli v22 c64_i32_268
  let v437 : BitVec 32 := Scalar.addi v317 v436
  let c0_i32_6 : BitVec 32 := 0#32
  let v24 : BitVec 1 := Scalar.cmpi .sgt v3 c0_i32_6
  let v25 : BitVec 32 := Scalar.extui v24
  let c0_i32_7 : BitVec 32 := 0#32
  let v26 : BitVec 1 := Scalar.cmpi .slt v3 c0_i32_7
  let v27 : BitVec 32 := Scalar.extui v26
  let v28 : BitVec 32 := Scalar.subi v25 v27
  let c2_i32 : BitVec 32 := 2#32
  let c0_i32_8 : BitVec 32 := 0#32
  let v29 : BitVec 1 := Scalar.cmpi .sgt c2_i32 c0_i32_8
  let v30 : BitVec 32 := Scalar.extui v29
  let c0_i32_9 : BitVec 32 := 0#32
  let v31 : BitVec 1 := Scalar.cmpi .slt c2_i32 c0_i32_9
  let v32 : BitVec 32 := Scalar.extui v31
  let v33 : BitVec 32 := Scalar.subi v30 v32
  let v34 : BitVec 1 := Scalar.cmpi .ne v28 v33
  let v35 : BitVec 32 := Scalar.remsi v3 c2_i32
  let c0_i32_10 : BitVec 32 := 0#32
  let v36 : BitVec 1 := Scalar.cmpi .ne v35 c0_i32_10
  let v37 : BitVec 1 := Scalar.andi v34 v36
  let v23 : BitVec 32 := Scalar.divsi v3 c2_i32
  let c1_i32_11 : BitVec 32 := 1#32
  let v38 : BitVec 32 := Scalar.subi v23 c1_i32_11
  let v39 : BitVec 32 := Scalar.select v37 v38 v23
  let c32_i32_326 : BitVec 32 := 32#32
  let v534 : BitVec 32 := Scalar.muli v39 c32_i32_326
  let v535 : BitVec 32 := Scalar.addi v437 v534
  let v542 : Index := Scalar.indexCast v535
  let c0_334 : Index := 0#32
  ![v542.toNat, 0]
def k0_off47 (d0 : Dev nD) : Fin 2 → Nat :=
  let c1536_i32_142 : BitVec 32 := 1536#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_14 : BitVec 32 := 0#32
  let v42 : BitVec 1 := Scalar.cmpi .sgt v20 c0_i32_14
  let v43 : BitVec 32 := Scalar.extui v42
  let c0_i32_15 : BitVec 32 := 0#32
  let v44 : BitVec 1 := Scalar.cmpi .slt v20 c0_i32_15
  let v45 : BitVec 32 := Scalar.extui v44
  let v46 : BitVec 32 := Scalar.subi v43 v45
  let c2_i32_13 : BitVec 32 := 2#32
  let c0_i32_16 : BitVec 32 := 0#32
  let v47 : BitVec 1 := Scalar.cmpi .sgt c2_i32_13 c0_i32_16
  let v48 : BitVec 32 := Scalar.extui v47
  let c0_i32_17 : BitVec 32 := 0#32
  let v49 : BitVec 1 := Scalar.cmpi .slt c2_i32_13 c0_i32_17
  let v50 : BitVec 32 := Scalar.extui v49
  let v51 : BitVec 32 := Scalar.subi v48 v50
  let v52 : BitVec 1 := Scalar.cmpi .ne v46 v51
  let v53 : BitVec 32 := Scalar.remsi v20 c2_i32_13
  let c0_i32_18 : BitVec 32 := 0#32
  let v54 : BitVec 1 := Scalar.cmpi .ne v53 c0_i32_18
  let v55 : BitVec 1 := Scalar.andi v52 v54
  let v41 : BitVec 32 := Scalar.divsi v20 c2_i32_13
  let c1_i32_19 : BitVec 32 := 1#32
  let v56 : BitVec 32 := Scalar.subi v41 c1_i32_19
  let v57 : BitVec 32 := Scalar.select v55 v56 v41
  let c256_i32_141 : BitVec 32 := 256#32
  let v226 : BitVec 32 := Scalar.muli v57 c256_i32_141
  let v227 : BitVec 32 := Scalar.addi c1536_i32_142 v226
  let c4_i32 : BitVec 32 := 4#32
  let v3 : BitVec 32 := Scalar.remsi v2 c4_i32
  let c3_i32 : BitVec 32 := 3#32
  let v21 : BitVec 32 := Scalar.subi c3_i32 v3
  let v22 : BitVec 32 := Scalar.minsi v3 v21
  let c128_i32_214 : BitVec 32 := 128#32
  let v346 : BitVec 32 := Scalar.muli v22 c128_i32_214
  let v347 : BitVec 32 := Scalar.addi v227 v346
  let c0_i32_6 : BitVec 32 := 0#32
  let v24 : BitVec 1 := Scalar.cmpi .sgt v3 c0_i32_6
  let v25 : BitVec 32 := Scalar.extui v24
  let c0_i32_7 : BitVec 32 := 0#32
  let v26 : BitVec 1 := Scalar.cmpi .slt v3 c0_i32_7
  let v27 : BitVec 32 := Scalar.extui v26
  let v28 : BitVec 32 := Scalar.subi v25 v27
  let c2_i32 : BitVec 32 := 2#32
  let c0_i32_8 : BitVec 32 := 0#32
  let v29 : BitVec 1 := Scalar.cmpi .sgt c2_i32 c0_i32_8
  let v30 : BitVec 32 := Scalar.extui v29
  let c0_i32_9 : BitVec 32 := 0#32
  let v31 : BitVec 1 := Scalar.cmpi .slt c2_i32 c0_i32_9
  let v32 : BitVec 32 := Scalar.extui v31
  let v33 : BitVec 32 := Scalar.subi v30 v32
  let v34 : BitVec 1 := Scalar.cmpi .ne v28 v33
  let v35 : BitVec 32 := Scalar.remsi v3 c2_i32
  let c0_i32_10 : BitVec 32 := 0#32
  let v36 : BitVec 1 := Scalar.cmpi .ne v35 c0_i32_10
  let v37 : BitVec 1 := Scalar.andi v34 v36
  let v23 : BitVec 32 := Scalar.divsi v3 c2_i32
  let c1_i32_11 : BitVec 32 := 1#32
  let v38 : BitVec 32 := Scalar.subi v23 c1_i32_11
  let v39 : BitVec 32 := Scalar.select v37 v38 v23
  let c64_i32_286 : BitVec 32 := 64#32
  let v466 : BitVec 32 := Scalar.muli v39 c64_i32_286
  let v467 : BitVec 32 := Scalar.addi v347 v466
  let c2_i32_12 : BitVec 32 := 2#32
  let v40 : BitVec 32 := Scalar.remsi v20 c2_i32_12
  let c32_i32_337 : BitVec 32 := 32#32
  let v553 : BitVec 32 := Scalar.muli v40 c32_i32_337
  let v554 : BitVec 32 := Scalar.addi v467 v553
  let c0_i32_344 : BitVec 32 := 0#32
  ![v554.toNat, 0]
def k0_off48 (d0 : Dev nD) : Fin 2 → Nat :=
  let c1536_i32_142 : BitVec 32 := 1536#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_14 : BitVec 32 := 0#32
  let v42 : BitVec 1 := Scalar.cmpi .sgt v20 c0_i32_14
  let v43 : BitVec 32 := Scalar.extui v42
  let c0_i32_15 : BitVec 32 := 0#32
  let v44 : BitVec 1 := Scalar.cmpi .slt v20 c0_i32_15
  let v45 : BitVec 32 := Scalar.extui v44
  let v46 : BitVec 32 := Scalar.subi v43 v45
  let c2_i32_13 : BitVec 32 := 2#32
  let c0_i32_16 : BitVec 32 := 0#32
  let v47 : BitVec 1 := Scalar.cmpi .sgt c2_i32_13 c0_i32_16
  let v48 : BitVec 32 := Scalar.extui v47
  let c0_i32_17 : BitVec 32 := 0#32
  let v49 : BitVec 1 := Scalar.cmpi .slt c2_i32_13 c0_i32_17
  let v50 : BitVec 32 := Scalar.extui v49
  let v51 : BitVec 32 := Scalar.subi v48 v50
  let v52 : BitVec 1 := Scalar.cmpi .ne v46 v51
  let v53 : BitVec 32 := Scalar.remsi v20 c2_i32_13
  let c0_i32_18 : BitVec 32 := 0#32
  let v54 : BitVec 1 := Scalar.cmpi .ne v53 c0_i32_18
  let v55 : BitVec 1 := Scalar.andi v52 v54
  let v41 : BitVec 32 := Scalar.divsi v20 c2_i32_13
  let c1_i32_19 : BitVec 32 := 1#32
  let v56 : BitVec 32 := Scalar.subi v41 c1_i32_19
  let v57 : BitVec 32 := Scalar.select v55 v56 v41
  let c256_i32_141 : BitVec 32 := 256#32
  let v226 : BitVec 32 := Scalar.muli v57 c256_i32_141
  let v227 : BitVec 32 := Scalar.addi c1536_i32_142 v226
  let c4_i32 : BitVec 32 := 4#32
  let v3 : BitVec 32 := Scalar.remsi v2 c4_i32
  let c3_i32 : BitVec 32 := 3#32
  let v21 : BitVec 32 := Scalar.subi c3_i32 v3
  let v22 : BitVec 32 := Scalar.minsi v3 v21
  let c128_i32_214 : BitVec 32 := 128#32
  let v346 : BitVec 32 := Scalar.muli v22 c128_i32_214
  let v347 : BitVec 32 := Scalar.addi v227 v346
  let c0_i32_6 : BitVec 32 := 0#32
  let v24 : BitVec 1 := Scalar.cmpi .sgt v3 c0_i32_6
  let v25 : BitVec 32 := Scalar.extui v24
  let c0_i32_7 : BitVec 32 := 0#32
  let v26 : BitVec 1 := Scalar.cmpi .slt v3 c0_i32_7
  let v27 : BitVec 32 := Scalar.extui v26
  let v28 : BitVec 32 := Scalar.subi v25 v27
  let c2_i32 : BitVec 32 := 2#32
  let c0_i32_8 : BitVec 32 := 0#32
  let v29 : BitVec 1 := Scalar.cmpi .sgt c2_i32 c0_i32_8
  let v30 : BitVec 32 := Scalar.extui v29
  let c0_i32_9 : BitVec 32 := 0#32
  let v31 : BitVec 1 := Scalar.cmpi .slt c2_i32 c0_i32_9
  let v32 : BitVec 32 := Scalar.extui v31
  let v33 : BitVec 32 := Scalar.subi v30 v32
  let v34 : BitVec 1 := Scalar.cmpi .ne v28 v33
  let v35 : BitVec 32 := Scalar.remsi v3 c2_i32
  let c0_i32_10 : BitVec 32 := 0#32
  let v36 : BitVec 1 := Scalar.cmpi .ne v35 c0_i32_10
  let v37 : BitVec 1 := Scalar.andi v34 v36
  let v23 : BitVec 32 := Scalar.divsi v3 c2_i32
  let c1_i32_11 : BitVec 32 := 1#32
  let v38 : BitVec 32 := Scalar.subi v23 c1_i32_11
  let v39 : BitVec 32 := Scalar.select v37 v38 v23
  let c64_i32_286 : BitVec 32 := 64#32
  let v466 : BitVec 32 := Scalar.muli v39 c64_i32_286
  let v467 : BitVec 32 := Scalar.addi v347 v466
  let c2_i32_12 : BitVec 32 := 2#32
  let v40 : BitVec 32 := Scalar.remsi v20 c2_i32_12
  let c32_i32_337 : BitVec 32 := 32#32
  let v553 : BitVec 32 := Scalar.muli v40 c32_i32_337
  let v554 : BitVec 32 := Scalar.addi v467 v553
  let v561 : Index := Scalar.indexCast v554
  let c0_345 : Index := 0#32
  ![v561.toNat, 0]
def k0_dev21 (d0 : Dev nD) : Nat :=
  let c0_i32_373 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let c1_i32_29 : BitVec 32 := 1#32
  let c2_i32_28 : BitVec 32 := 2#32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_14 : BitVec 32 := 0#32
  let v42 : BitVec 1 := Scalar.cmpi .sgt v20 c0_i32_14
  let v43 : BitVec 32 := Scalar.extui v42
  let c0_i32_15 : BitVec 32 := 0#32
  let v44 : BitVec 1 := Scalar.cmpi .slt v20 c0_i32_15
  let v45 : BitVec 32 := Scalar.extui v44
  let v46 : BitVec 32 := Scalar.subi v43 v45
  let c2_i32_13 : BitVec 32 := 2#32
  let c0_i32_16 : BitVec 32 := 0#32
  let v47 : BitVec 1 := Scalar.cmpi .sgt c2_i32_13 c0_i32_16
  let v48 : BitVec 32 := Scalar.extui v47
  let c0_i32_17 : BitVec 32 := 0#32
  let v49 : BitVec 1 := Scalar.cmpi .slt c2_i32_13 c0_i32_17
  let v50 : BitVec 32 := Scalar.extui v49
  let v51 : BitVec 32 := Scalar.subi v48 v50
  let v52 : BitVec 1 := Scalar.cmpi .ne v46 v51
  let v53 : BitVec 32 := Scalar.remsi v20 c2_i32_13
  let c0_i32_18 : BitVec 32 := 0#32
  let v54 : BitVec 1 := Scalar.cmpi .ne v53 c0_i32_18
  let v55 : BitVec 1 := Scalar.andi v52 v54
  let v41 : BitVec 32 := Scalar.divsi v20 c2_i32_13
  let c1_i32_19 : BitVec 32 := 1#32
  let v56 : BitVec 32 := Scalar.subi v41 c1_i32_19
  let v57 : BitVec 32 := Scalar.select v55 v56 v41
  let v69 : BitVec 32 := Scalar.muli c2_i32_28 v57
  let v70 : BitVec 32 := Scalar.subi c1_i32_29 v69
  let v71 : BitVec 32 := Scalar.muli c8_i32 v70
  let v72 : BitVec 32 := Scalar.addi v2 v71
  let c1_i32_372 : BitVec 32 := 1#32
  let v605 : BitVec 32 := Scalar.muli v72 c1_i32_372
  let v606 : BitVec 32 := Scalar.addi c0_i32_373 v605
  v606.toNat
def k0_dev22 (d0 : Dev nD) : Nat :=
  let c0_i32_382 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_20 : BitVec 32 := 1#32
  let v58 : BitVec 32 := Scalar.addi v2 c1_i32_20
  let c2_i32_22 : BitVec 32 := 2#32
  let c4_i32 : BitVec 32 := 4#32
  let v3 : BitVec 32 := Scalar.remsi v2 c4_i32
  let c2_i32_21 : BitVec 32 := 2#32
  let v59 : BitVec 32 := Scalar.remsi v3 c2_i32_21
  let v60 : BitVec 32 := Scalar.muli c2_i32_22 v59
  let v61 : BitVec 32 := Scalar.subi v58 v60
  let c1_i32_381 : BitVec 32 := 1#32
  let v618 : BitVec 32 := Scalar.muli v61 c1_i32_381
  let v619 : BitVec 32 := Scalar.addi c0_i32_382 v618
  v619.toNat
def k0_dev23 (d0 : Dev nD) : Nat :=
  let c0_i32_391 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_23 : BitVec 32 := 3#32
  let v62 : BitVec 32 := Scalar.addi v2 c3_i32_23
  let c2_i32_24 : BitVec 32 := 2#32
  let c4_i32 : BitVec 32 := 4#32
  let v3 : BitVec 32 := Scalar.remsi v2 c4_i32
  let v63 : BitVec 32 := Scalar.muli c2_i32_24 v3
  let v64 : BitVec 32 := Scalar.subi v62 v63
  let c1_i32_390 : BitVec 32 := 1#32
  let v631 : BitVec 32 := Scalar.muli v64 c1_i32_390
  let v632 : BitVec 32 := Scalar.addi c0_i32_391 v631
  v632.toNat
def k0_dev24 (d0 : Dev nD) : Nat :=
  let c0_i32_400 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_27 : BitVec 32 := 4#32
  let c1_i32_26 : BitVec 32 := 1#32
  let c2_i32_25 : BitVec 32 := 2#32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32_12 : BitVec 32 := 2#32
  let v40 : BitVec 32 := Scalar.remsi v20 c2_i32_12
  let v65 : BitVec 32 := Scalar.muli c2_i32_25 v40
  let v66 : BitVec 32 := Scalar.subi c1_i32_26 v65
  let v67 : BitVec 32 := Scalar.muli c4_i32_27 v66
  let v68 : BitVec 32 := Scalar.addi v2 v67
  let c1_i32_399 : BitVec 32 := 1#32
  let v644 : BitVec 32 := Scalar.muli v68 c1_i32_399
  let v645 : BitVec 32 := Scalar.addi c0_i32_400 v644
  v645.toNat
def k0_off49 (d0 : Dev nD) : Fin 2 → Nat :=
  let c0_i32_83 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c3_i32 : BitVec 32 := 3#32
  let v21 : BitVec 32 := Scalar.subi c3_i32 v3
  let v22 : BitVec 32 := Scalar.minsi v3 v21
  let c256_i32_82 : BitVec 32 := 256#32
  let v136 : BitVec 32 := Scalar.muli v22 c256_i32_82
  let v137 : BitVec 32 := Scalar.addi c0_i32_83 v136
  let c0_i32_6 : BitVec 32 := 0#32
  let v24 : BitVec 1 := Scalar.cmpi .sgt v3 c0_i32_6
  let v25 : BitVec 32 := Scalar.extui v24
  let c0_i32_7 : BitVec 32 := 0#32
  let v26 : BitVec 1 := Scalar.cmpi .slt v3 c0_i32_7
  let v27 : BitVec 32 := Scalar.extui v26
  let v28 : BitVec 32 := Scalar.subi v25 v27
  let c2_i32 : BitVec 32 := 2#32
  let c0_i32_8 : BitVec 32 := 0#32
  let v29 : BitVec 1 := Scalar.cmpi .sgt c2_i32 c0_i32_8
  let v30 : BitVec 32 := Scalar.extui v29
  let c0_i32_9 : BitVec 32 := 0#32
  let v31 : BitVec 1 := Scalar.cmpi .slt c2_i32 c0_i32_9
  let v32 : BitVec 32 := Scalar.extui v31
  let v33 : BitVec 32 := Scalar.subi v30 v32
  let v34 : BitVec 1 := Scalar.cmpi .ne v28 v33
  let v35 : BitVec 32 := Scalar.remsi v3 c2_i32
  let c0_i32_10 : BitVec 32 := 0#32
  let v36 : BitVec 1 := Scalar.cmpi .ne v35 c0_i32_10
  let v37 : BitVec 1 := Scalar.andi v34 v36
  let v23 : BitVec 32 := Scalar.divsi v3 c2_i32
  let c1_i32_11 : BitVec 32 := 1#32
  let v38 : BitVec 32 := Scalar.subi v23 c1_i32_11
  let v39 : BitVec 32 := Scalar.select v37 v38 v23
  let c128_i32_160 : BitVec 32 := 128#32
  let v256 : BitVec 32 := Scalar.muli v39 c128_i32_160
  let v257 : BitVec 32 := Scalar.addi v137 v256
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32_12 : BitVec 32 := 2#32
  let v40 : BitVec 32 := Scalar.remsi v20 c2_i32_12
  let c64_i32_232 : BitVec 32 := 64#32
  let v376 : BitVec 32 := Scalar.muli v40 c64_i32_232
  let v377 : BitVec 32 := Scalar.addi v257 v376
  let c0_i32_14 : BitVec 32 := 0#32
  let v42 : BitVec 1 := Scalar.cmpi .sgt v20 c0_i32_14
  let v43 : BitVec 32 := Scalar.extui v42
  let c0_i32_15 : BitVec 32 := 0#32
  let v44 : BitVec 1 := Scalar.cmpi .slt v20 c0_i32_15
  let v45 : BitVec 32 := Scalar.extui v44
  let v46 : BitVec 32 := Scalar.subi v43 v45
  let c2_i32_13 : BitVec 32 := 2#32
  let c0_i32_16 : BitVec 32 := 0#32
  let v47 : BitVec 1 := Scalar.cmpi .sgt c2_i32_13 c0_i32_16
  let v48 : BitVec 32 := Scalar.extui v47
  let c0_i32_17 : BitVec 32 := 0#32
  let v49 : BitVec 1 := Scalar.cmpi .slt c2_i32_13 c0_i32_17
  let v50 : BitVec 32 := Scalar.extui v49
  let v51 : BitVec 32 := Scalar.subi v48 v50
  let v52 : BitVec 1 := Scalar.cmpi .ne v46 v51
  let v53 : BitVec 32 := Scalar.remsi v20 c2_i32_13
  let c0_i32_18 : BitVec 32 := 0#32
  let v54 : BitVec 1 := Scalar.cmpi .ne v53 c0_i32_18
  let v55 : BitVec 1 := Scalar.andi v52 v54
  let v41 : BitVec 32 := Scalar.divsi v20 c2_i32_13
  let c1_i32_19 : BitVec 32 := 1#32
  let v56 : BitVec 32 := Scalar.subi v41 c1_i32_19
  let v57 : BitVec 32 := Scalar.select v55 v56 v41
  let c32_i32_304 : BitVec 32 := 32#32
  let v496 : BitVec 32 := Scalar.muli v57 c32_i32_304
  let v497 : BitVec 32 := Scalar.addi v377 v496
  let c32_i32_367 : BitVec 32 := 32#32
  let v600 : BitVec 32 := Scalar.muli v57 c32_i32_367
  let v601 : BitVec 32 := Scalar.subi v497 v600
  let c1_i32_368 : BitVec 32 := 1#32
  let v602 : BitVec 32 := Scalar.subi c1_i32_368 v57
  let c32_i32_369 : BitVec 32 := 32#32
  let v603 : BitVec 32 := Scalar.muli v602 c32_i32_369
  let v604 : BitVec 32 := Scalar.addi v601 v603
  let c0_i32_407 : BitVec 32 := 0#32
  ![v604.toNat, 0]
def k0_off50 (d0 : Dev nD) : Fin 2 → Nat :=
  let c512_i32_104 : BitVec 32 := 512#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v24 : BitVec 1 := Scalar.cmpi .sgt v3 c0_i32_6
  let v25 : BitVec 32 := Scalar.extui v24
  let c0_i32_7 : BitVec 32 := 0#32
  let v26 : BitVec 1 := Scalar.cmpi .slt v3 c0_i32_7
  let v27 : BitVec 32 := Scalar.extui v26
  let v28 : BitVec 32 := Scalar.subi v25 v27
  let c2_i32 : BitVec 32 := 2#32
  let c0_i32_8 : BitVec 32 := 0#32
  let v29 : BitVec 1 := Scalar.cmpi .sgt c2_i32 c0_i32_8
  let v30 : BitVec 32 := Scalar.extui v29
  let c0_i32_9 : BitVec 32 := 0#32
  let v31 : BitVec 1 := Scalar.cmpi .slt c2_i32 c0_i32_9
  let v32 : BitVec 32 := Scalar.extui v31
  let v33 : BitVec 32 := Scalar.subi v30 v32
  let v34 : BitVec 1 := Scalar.cmpi .ne v28 v33
  let v35 : BitVec 32 := Scalar.remsi v3 c2_i32
  let c0_i32_10 : BitVec 32 := 0#32
  let v36 : BitVec 1 := Scalar.cmpi .ne v35 c0_i32_10
  let v37 : BitVec 1 := Scalar.andi v34 v36
  let v23 : BitVec 32 := Scalar.divsi v3 c2_i32
  let c1_i32_11 : BitVec 32 := 1#32
  let v38 : BitVec 32 := Scalar.subi v23 c1_i32_11
  let v39 : BitVec 32 := Scalar.select v37 v38 v23
  let c256_i32_103 : BitVec 32 := 256#32
  let v166 : BitVec 32 := Scalar.muli v39 c256_i32_103
  let v167 : BitVec 32 := Scalar.addi c512_i32_104 v166
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32_12 : BitVec 32 := 2#32
  let v40 : BitVec 32 := Scalar.remsi v20 c2_i32_12
  let c128_i32_178 : BitVec 32 := 128#32
  let v286 : BitVec 32 := Scalar.muli v40 c128_i32_178
  let v287 : BitVec 32 := Scalar.addi v167 v286
  let c0_i32_14 : BitVec 32 := 0#32
  let v42 : BitVec 1 := Scalar.cmpi .sgt v20 c0_i32_14
  let v43 : BitVec 32 := Scalar.extui v42
  let c0_i32_15 : BitVec 32 := 0#32
  let v44 : BitVec 1 := Scalar.cmpi .slt v20 c0_i32_15
  let v45 : BitVec 32 := Scalar.extui v44
  let v46 : BitVec 32 := Scalar.subi v43 v45
  let c2_i32_13 : BitVec 32 := 2#32
  let c0_i32_16 : BitVec 32 := 0#32
  let v47 : BitVec 1 := Scalar.cmpi .sgt c2_i32_13 c0_i32_16
  let v48 : BitVec 32 := Scalar.extui v47
  let c0_i32_17 : BitVec 32 := 0#32
  let v49 : BitVec 1 := Scalar.cmpi .slt c2_i32_13 c0_i32_17
  let v50 : BitVec 32 := Scalar.extui v49
  let v51 : BitVec 32 := Scalar.subi v48 v50
  let v52 : BitVec 1 := Scalar.cmpi .ne v46 v51
  let v53 : BitVec 32 := Scalar.remsi v20 c2_i32_13
  let c0_i32_18 : BitVec 32 := 0#32
  let v54 : BitVec 1 := Scalar.cmpi .ne v53 c0_i32_18
  let v55 : BitVec 1 := Scalar.andi v52 v54
  let v41 : BitVec 32 := Scalar.divsi v20 c2_i32_13
  let c1_i32_19 : BitVec 32 := 1#32
  let v56 : BitVec 32 := Scalar.subi v41 c1_i32_19
  let v57 : BitVec 32 := Scalar.select v55 v56 v41
  let c64_i32_250 : BitVec 32 := 64#32
  let v406 : BitVec 32 := Scalar.muli v57 c64_i32_250
  let v407 : BitVec 32 := Scalar.addi v287 v406
  let c3_i32 : BitVec 32 := 3#32
  let v21 : BitVec 32 := Scalar.subi c3_i32 v3
  let v22 : BitVec 32 := Scalar.minsi v3 v21
  let c32_i32_315 : BitVec 32 := 32#32
  let v515 : BitVec 32 := Scalar.muli v22 c32_i32_315
  let v516 : BitVec 32 := Scalar.addi v407 v515
  let c32_i32_376 : BitVec 32 := 32#32
  let v613 : BitVec 32 := Scalar.muli v22 c32_i32_376
  let v614 : BitVec 32 := Scalar.subi v516 v613
  let c1_i32_377 : BitVec 32 := 1#32
  let v615 : BitVec 32 := Scalar.subi c1_i32_377 v22
  let c32_i32_378 : BitVec 32 := 32#32
  let v616 : BitVec 32 := Scalar.muli v615 c32_i32_378
  let v617 : BitVec 32 := Scalar.addi v614 v616
  let c0_i32_413 : BitVec 32 := 0#32
  ![v617.toNat, 0]
def k0_off51 (d0 : Dev nD) : Fin 2 → Nat :=
  let c1024_i32_123 : BitVec 32 := 1024#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32_12 : BitVec 32 := 2#32
  let v40 : BitVec 32 := Scalar.remsi v20 c2_i32_12
  let c256_i32_122 : BitVec 32 := 256#32
  let v196 : BitVec 32 := Scalar.muli v40 c256_i32_122
  let v197 : BitVec 32 := Scalar.addi c1024_i32_123 v196
  let c0_i32_14 : BitVec 32 := 0#32
  let v42 : BitVec 1 := Scalar.cmpi .sgt v20 c0_i32_14
  let v43 : BitVec 32 := Scalar.extui v42
  let c0_i32_15 : BitVec 32 := 0#32
  let v44 : BitVec 1 := Scalar.cmpi .slt v20 c0_i32_15
  let v45 : BitVec 32 := Scalar.extui v44
  let v46 : BitVec 32 := Scalar.subi v43 v45
  let c2_i32_13 : BitVec 32 := 2#32
  let c0_i32_16 : BitVec 32 := 0#32
  let v47 : BitVec 1 := Scalar.cmpi .sgt c2_i32_13 c0_i32_16
  let v48 : BitVec 32 := Scalar.extui v47
  let c0_i32_17 : BitVec 32 := 0#32
  let v49 : BitVec 1 := Scalar.cmpi .slt c2_i32_13 c0_i32_17
  let v50 : BitVec 32 := Scalar.extui v49
  let v51 : BitVec 32 := Scalar.subi v48 v50
  let v52 : BitVec 1 := Scalar.cmpi .ne v46 v51
  let v53 : BitVec 32 := Scalar.remsi v20 c2_i32_13
  let c0_i32_18 : BitVec 32 := 0#32
  let v54 : BitVec 1 := Scalar.cmpi .ne v53 c0_i32_18
  let v55 : BitVec 1 := Scalar.andi v52 v54
  let v41 : BitVec 32 := Scalar.divsi v20 c2_i32_13
  let c1_i32_19 : BitVec 32 := 1#32
  let v56 : BitVec 32 := Scalar.subi v41 c1_i32_19
  let v57 : BitVec 32 := Scalar.select v55 v56 v41
  let c128_i32_196 : BitVec 32 := 128#32
  let v316 : BitVec 32 := Scalar.muli v57 c128_i32_196
  let v317 : BitVec 32 := Scalar.addi v197 v316
  let c4_i32 : BitVec 32 := 4#32
  let v3 : BitVec 32 := Scalar.remsi v2 c4_i32
  let c3_i32 : BitVec 32 := 3#32
  let v21 : BitVec 32 := Scalar.subi c3_i32 v3
  let v22 : BitVec 32 := Scalar.minsi v3 v21
  let c64_i32_268 : BitVec 32 := 64#32
  let v436 : BitVec 32 := Scalar.muli v22 c64_i32_268
  let v437 : BitVec 32 := Scalar.addi v317 v436
  let c0_i32_6 : BitVec 32 := 0#32
  let v24 : BitVec 1 := Scalar.cmpi .sgt v3 c0_i32_6
  let v25 : BitVec 32 := Scalar.extui v24
  let c0_i32_7 : BitVec 32 := 0#32
  let v26 : BitVec 1 := Scalar.cmpi .slt v3 c0_i32_7
  let v27 : BitVec 32 := Scalar.extui v26
  let v28 : BitVec 32 := Scalar.subi v25 v27
  let c2_i32 : BitVec 32 := 2#32
  let c0_i32_8 : BitVec 32 := 0#32
  let v29 : BitVec 1 := Scalar.cmpi .sgt c2_i32 c0_i32_8
  let v30 : BitVec 32 := Scalar.extui v29
  let c0_i32_9 : BitVec 32 := 0#32
  let v31 : BitVec 1 := Scalar.cmpi .slt c2_i32 c0_i32_9
  let v32 : BitVec 32 := Scalar.extui v31
  let v33 : BitVec 32 := Scalar.subi v30 v32
  let v34 : BitVec 1 := Scalar.cmpi .ne v28 v33
  let v35 : BitVec 32 := Scalar.remsi v3 c2_i32
  let c0_i32_10 : BitVec 32 := 0#32
  let v36 : BitVec 1 := Scalar.cmpi .ne v35 c0_i32_10
  let v37 : BitVec 1 := Scalar.andi v34 v36
  let v23 : BitVec 32 := Scalar.divsi v3 c2_i32
  let c1_i32_11 : BitVec 32 := 1#32
  let v38 : BitVec 32 := Scalar.subi v23 c1_i32_11
  let v39 : BitVec 32 := Scalar.select v37 v38 v23
  let c32_i32_326 : BitVec 32 := 32#32
  let v534 : BitVec 32 := Scalar.muli v39 c32_i32_326
  let v535 : BitVec 32 := Scalar.addi v437 v534
  let c32_i32_385 : BitVec 32 := 32#32
  let v626 : BitVec 32 := Scalar.muli v39 c32_i32_385
  let v627 : BitVec 32 := Scalar.subi v535 v626
  let c1_i32_386 : BitVec 32 := 1#32
  let v628 : BitVec 32 := Scalar.subi c1_i32_386 v39
  let c32_i32_387 : BitVec 32 := 32#32
  let v629 : BitVec 32 := Scalar.muli v628 c32_i32_387
  let v630 : BitVec 32 := Scalar.addi v627 v629
  let c0_i32_419 : BitVec 32 := 0#32
  ![v630.toNat, 0]
def k0_off52 (d0 : Dev nD) : Fin 2 → Nat :=
  let c1536_i32_142 : BitVec 32 := 1536#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_14 : BitVec 32 := 0#32
  let v42 : BitVec 1 := Scalar.cmpi .sgt v20 c0_i32_14
  let v43 : BitVec 32 := Scalar.extui v42
  let c0_i32_15 : BitVec 32 := 0#32
  let v44 : BitVec 1 := Scalar.cmpi .slt v20 c0_i32_15
  let v45 : BitVec 32 := Scalar.extui v44
  let v46 : BitVec 32 := Scalar.subi v43 v45
  let c2_i32_13 : BitVec 32 := 2#32
  let c0_i32_16 : BitVec 32 := 0#32
  let v47 : BitVec 1 := Scalar.cmpi .sgt c2_i32_13 c0_i32_16
  let v48 : BitVec 32 := Scalar.extui v47
  let c0_i32_17 : BitVec 32 := 0#32
  let v49 : BitVec 1 := Scalar.cmpi .slt c2_i32_13 c0_i32_17
  let v50 : BitVec 32 := Scalar.extui v49
  let v51 : BitVec 32 := Scalar.subi v48 v50
  let v52 : BitVec 1 := Scalar.cmpi .ne v46 v51
  let v53 : BitVec 32 := Scalar.remsi v20 c2_i32_13
  let c0_i32_18 : BitVec 32 := 0#32
  let v54 : BitVec 1 := Scalar.cmpi .ne v53 c0_i32_18
  let v55 : BitVec 1 := Scalar.andi v52 v54
  let v41 : BitVec 32 := Scalar.divsi v20 c2_i32_13
  let c1_i32_19 : BitVec 32 := 1#32
  let v56 : BitVec 32 := Scalar.subi v41 c1_i32_19
  let v57 : BitVec 32 := Scalar.select v55 v56 v41
  let c256_i32_141 : BitVec 32 := 256#32
  let v226 : BitVec 32 := Scalar.muli v57 c256_i32_141
  let v227 : BitVec 32 := Scalar.addi c1536_i32_142 v226
  let c4_i32 : BitVec 32 := 4#32
  let v3 : BitVec 32 := Scalar.remsi v2 c4_i32
  let c3_i32 : BitVec 32 := 3#32
  let v21 : BitVec 32 := Scalar.subi c3_i32 v3
  let v22 : BitVec 32 := Scalar.minsi v3 v21
  let c128_i32_214 : BitVec 32 := 128#32
  let v346 : BitVec 32 := Scalar.muli v22 c128_i32_214
  let v347 : BitVec 32 := Scalar.addi v227 v346
  let c0_i32_6 : BitVec 32 := 0#32
  let v24 : BitVec 1 := Scalar.cmpi .sgt v3 c0_i32_6
  let v25 : BitVec 32 := Scalar.extui v24
  let c0_i32_7 : BitVec 32 := 0#32
  let v26 : BitVec 1 := Scalar.cmpi .slt v3 c0_i32_7
  let v27 : BitVec 32 := Scalar.extui v26
  let v28 : BitVec 32 := Scalar.subi v25 v27
  let c2_i32 : BitVec 32 := 2#32
  let c0_i32_8 : BitVec 32 := 0#32
  let v29 : BitVec 1 := Scalar.cmpi .sgt c2_i32 c0_i32_8
  let v30 : BitVec 32 := Scalar.extui v29
  let c0_i32_9 : BitVec 32 := 0#32
  let v31 : BitVec 1 := Scalar.cmpi .slt c2_i32 c0_i32_9
  let v32 : BitVec 32 := Scalar.extui v31
  let v33 : BitVec 32 := Scalar.subi v30 v32
  let v34 : BitVec 1 := Scalar.cmpi .ne v28 v33
  let v35 : BitVec 32 := Scalar.remsi v3 c2_i32
  let c0_i32_10 : BitVec 32 := 0#32
  let v36 : BitVec 1 := Scalar.cmpi .ne v35 c0_i32_10
  let v37 : BitVec 1 := Scalar.andi v34 v36
  let v23 : BitVec 32 := Scalar.divsi v3 c2_i32
  let c1_i32_11 : BitVec 32 := 1#32
  let v38 : BitVec 32 := Scalar.subi v23 c1_i32_11
  let v39 : BitVec 32 := Scalar.select v37 v38 v23
  let c64_i32_286 : BitVec 32 := 64#32
  let v466 : BitVec 32 := Scalar.muli v39 c64_i32_286
  let v467 : BitVec 32 := Scalar.addi v347 v466
  let c2_i32_12 : BitVec 32 := 2#32
  let v40 : BitVec 32 := Scalar.remsi v20 c2_i32_12
  let c32_i32_337 : BitVec 32 := 32#32
  let v553 : BitVec 32 := Scalar.muli v40 c32_i32_337
  let v554 : BitVec 32 := Scalar.addi v467 v553
  let c32_i32_394 : BitVec 32 := 32#32
  let v639 : BitVec 32 := Scalar.muli v40 c32_i32_394
  let v640 : BitVec 32 := Scalar.subi v554 v639
  let c1_i32_395 : BitVec 32 := 1#32
  let v641 : BitVec 32 := Scalar.subi c1_i32_395 v40
  let c32_i32_396 : BitVec 32 := 32#32
  let v642 : BitVec 32 := Scalar.muli v641 c32_i32_396
  let v643 : BitVec 32 := Scalar.addi v640 v642
  let c0_i32_425 : BitVec 32 := 0#32
  ![v643.toNat, 0]
def k0_off53 (d0 : Dev nD) : Fin 2 → Nat :=
  let c0_i32_83 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c3_i32 : BitVec 32 := 3#32
  let v21 : BitVec 32 := Scalar.subi c3_i32 v3
  let v22 : BitVec 32 := Scalar.minsi v3 v21
  let c256_i32_82 : BitVec 32 := 256#32
  let v136 : BitVec 32 := Scalar.muli v22 c256_i32_82
  let v137 : BitVec 32 := Scalar.addi c0_i32_83 v136
  let c0_i32_6 : BitVec 32 := 0#32
  let v24 : BitVec 1 := Scalar.cmpi .sgt v3 c0_i32_6
  let v25 : BitVec 32 := Scalar.extui v24
  let c0_i32_7 : BitVec 32 := 0#32
  let v26 : BitVec 1 := Scalar.cmpi .slt v3 c0_i32_7
  let v27 : BitVec 32 := Scalar.extui v26
  let v28 : BitVec 32 := Scalar.subi v25 v27
  let c2_i32 : BitVec 32 := 2#32
  let c0_i32_8 : BitVec 32 := 0#32
  let v29 : BitVec 1 := Scalar.cmpi .sgt c2_i32 c0_i32_8
  let v30 : BitVec 32 := Scalar.extui v29
  let c0_i32_9 : BitVec 32 := 0#32
  let v31 : BitVec 1 := Scalar.cmpi .slt c2_i32 c0_i32_9
  let v32 : BitVec 32 := Scalar.extui v31
  let v33 : BitVec 32 := Scalar.subi v30 v32
  let v34 : BitVec 1 := Scalar.cmpi .ne v28 v33
  let v35 : BitVec 32 := Scalar.remsi v3 c2_i32
  let c0_i32_10 : BitVec 32 := 0#32
  let v36 : BitVec 1 := Scalar.cmpi .ne v35 c0_i32_10
  let v37 : BitVec 1 := Scalar.andi v34 v36
  let v23 : BitVec 32 := Scalar.divsi v3 c2_i32
  let c1_i32_11 : BitVec 32 := 1#32
  let v38 : BitVec 32 := Scalar.subi v23 c1_i32_11
  let v39 : BitVec 32 := Scalar.select v37 v38 v23
  let c128_i32_160 : BitVec 32 := 128#32
  let v256 : BitVec 32 := Scalar.muli v39 c128_i32_160
  let v257 : BitVec 32 := Scalar.addi v137 v256
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32_12 : BitVec 32 := 2#32
  let v40 : BitVec 32 := Scalar.remsi v20 c2_i32_12
  let c64_i32_232 : BitVec 32 := 64#32
  let v376 : BitVec 32 := Scalar.muli v40 c64_i32_232
  let v377 : BitVec 32 := Scalar.addi v257 v376
  let c0_i32_14 : BitVec 32 := 0#32
  let v42 : BitVec 1 := Scalar.cmpi .sgt v20 c0_i32_14
  let v43 : BitVec 32 := Scalar.extui v42
  let c0_i32_15 : BitVec 32 := 0#32
  let v44 : BitVec 1 := Scalar.cmpi .slt v20 c0_i32_15
  let v45 : BitVec 32 := Scalar.extui v44
  let v46 : BitVec 32 := Scalar.subi v43 v45
  let c2_i32_13 : BitVec 32 := 2#32
  let c0_i32_16 : BitVec 32 := 0#32
  let v47 : BitVec 1 := Scalar.cmpi .sgt c2_i32_13 c0_i32_16
  let v48 : BitVec 32 := Scalar.extui v47
  let c0_i32_17 : BitVec 32 := 0#32
  let v49 : BitVec 1 := Scalar.cmpi .slt c2_i32_13 c0_i32_17
  let v50 : BitVec 32 := Scalar.extui v49
  let v51 : BitVec 32 := Scalar.subi v48 v50
  let v52 : BitVec 1 := Scalar.cmpi .ne v46 v51
  let v53 : BitVec 32 := Scalar.remsi v20 c2_i32_13
  let c0_i32_18 : BitVec 32 := 0#32
  let v54 : BitVec 1 := Scalar.cmpi .ne v53 c0_i32_18
  let v55 : BitVec 1 := Scalar.andi v52 v54
  let v41 : BitVec 32 := Scalar.divsi v20 c2_i32_13
  let c1_i32_19 : BitVec 32 := 1#32
  let v56 : BitVec 32 := Scalar.subi v41 c1_i32_19
  let v57 : BitVec 32 := Scalar.select v55 v56 v41
  let c32_i32_304 : BitVec 32 := 32#32
  let v496 : BitVec 32 := Scalar.muli v57 c32_i32_304
  let v497 : BitVec 32 := Scalar.addi v377 v496
  let c32_i32_367 : BitVec 32 := 32#32
  let v600 : BitVec 32 := Scalar.muli v57 c32_i32_367
  let v601 : BitVec 32 := Scalar.subi v497 v600
  let c0_i32_434 : BitVec 32 := 0#32
  ![v601.toNat, 0]
def k0_dev25 (d0 : Dev nD) : Nat :=
  let c0_i32_433 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_27 : BitVec 32 := 4#32
  let c1_i32_26 : BitVec 32 := 1#32
  let c2_i32_25 : BitVec 32 := 2#32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32_12 : BitVec 32 := 2#32
  let v40 : BitVec 32 := Scalar.remsi v20 c2_i32_12
  let v65 : BitVec 32 := Scalar.muli c2_i32_25 v40
  let v66 : BitVec 32 := Scalar.subi c1_i32_26 v65
  let v67 : BitVec 32 := Scalar.muli c4_i32_27 v66
  let v68 : BitVec 32 := Scalar.addi v2 v67
  let c1_i32_432 : BitVec 32 := 1#32
  let v681 : BitVec 32 := Scalar.muli v68 c1_i32_432
  let v682 : BitVec 32 := Scalar.addi c0_i32_433 v681
  v682.toNat
def k0_off54 (d0 : Dev nD) : Fin 2 → Nat :=
  let c512_i32_104 : BitVec 32 := 512#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v24 : BitVec 1 := Scalar.cmpi .sgt v3 c0_i32_6
  let v25 : BitVec 32 := Scalar.extui v24
  let c0_i32_7 : BitVec 32 := 0#32
  let v26 : BitVec 1 := Scalar.cmpi .slt v3 c0_i32_7
  let v27 : BitVec 32 := Scalar.extui v26
  let v28 : BitVec 32 := Scalar.subi v25 v27
  let c2_i32 : BitVec 32 := 2#32
  let c0_i32_8 : BitVec 32 := 0#32
  let v29 : BitVec 1 := Scalar.cmpi .sgt c2_i32 c0_i32_8
  let v30 : BitVec 32 := Scalar.extui v29
  let c0_i32_9 : BitVec 32 := 0#32
  let v31 : BitVec 1 := Scalar.cmpi .slt c2_i32 c0_i32_9
  let v32 : BitVec 32 := Scalar.extui v31
  let v33 : BitVec 32 := Scalar.subi v30 v32
  let v34 : BitVec 1 := Scalar.cmpi .ne v28 v33
  let v35 : BitVec 32 := Scalar.remsi v3 c2_i32
  let c0_i32_10 : BitVec 32 := 0#32
  let v36 : BitVec 1 := Scalar.cmpi .ne v35 c0_i32_10
  let v37 : BitVec 1 := Scalar.andi v34 v36
  let v23 : BitVec 32 := Scalar.divsi v3 c2_i32
  let c1_i32_11 : BitVec 32 := 1#32
  let v38 : BitVec 32 := Scalar.subi v23 c1_i32_11
  let v39 : BitVec 32 := Scalar.select v37 v38 v23
  let c256_i32_103 : BitVec 32 := 256#32
  let v166 : BitVec 32 := Scalar.muli v39 c256_i32_103
  let v167 : BitVec 32 := Scalar.addi c512_i32_104 v166
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32_12 : BitVec 32 := 2#32
  let v40 : BitVec 32 := Scalar.remsi v20 c2_i32_12
  let c128_i32_178 : BitVec 32 := 128#32
  let v286 : BitVec 32 := Scalar.muli v40 c128_i32_178
  let v287 : BitVec 32 := Scalar.addi v167 v286
  let c0_i32_14 : BitVec 32 := 0#32
  let v42 : BitVec 1 := Scalar.cmpi .sgt v20 c0_i32_14
  let v43 : BitVec 32 := Scalar.extui v42
  let c0_i32_15 : BitVec 32 := 0#32
  let v44 : BitVec 1 := Scalar.cmpi .slt v20 c0_i32_15
  let v45 : BitVec 32 := Scalar.extui v44
  let v46 : BitVec 32 := Scalar.subi v43 v45
  let c2_i32_13 : BitVec 32 := 2#32
  let c0_i32_16 : BitVec 32 := 0#32
  let v47 : BitVec 1 := Scalar.cmpi .sgt c2_i32_13 c0_i32_16
  let v48 : BitVec 32 := Scalar.extui v47
  let c0_i32_17 : BitVec 32 := 0#32
  let v49 : BitVec 1 := Scalar.cmpi .slt c2_i32_13 c0_i32_17
  let v50 : BitVec 32 := Scalar.extui v49
  let v51 : BitVec 32 := Scalar.subi v48 v50
  let v52 : BitVec 1 := Scalar.cmpi .ne v46 v51
  let v53 : BitVec 32 := Scalar.remsi v20 c2_i32_13
  let c0_i32_18 : BitVec 32 := 0#32
  let v54 : BitVec 1 := Scalar.cmpi .ne v53 c0_i32_18
  let v55 : BitVec 1 := Scalar.andi v52 v54
  let v41 : BitVec 32 := Scalar.divsi v20 c2_i32_13
  let c1_i32_19 : BitVec 32 := 1#32
  let v56 : BitVec 32 := Scalar.subi v41 c1_i32_19
  let v57 : BitVec 32 := Scalar.select v55 v56 v41
  let c64_i32_250 : BitVec 32 := 64#32
  let v406 : BitVec 32 := Scalar.muli v57 c64_i32_250
  let v407 : BitVec 32 := Scalar.addi v287 v406
  let c3_i32 : BitVec 32 := 3#32
  let v21 : BitVec 32 := Scalar.subi c3_i32 v3
  let v22 : BitVec 32 := Scalar.minsi v3 v21
  let c32_i32_315 : BitVec 32 := 32#32
  let v515 : BitVec 32 := Scalar.muli v22 c32_i32_315
  let v516 : BitVec 32 := Scalar.addi v407 v515
  let c32_i32_376 : BitVec 32 := 32#32
  let v613 : BitVec 32 := Scalar.muli v22 c32_i32_376
  let v614 : BitVec 32 := Scalar.subi v516 v613
  let c0_i32_443 : BitVec 32 := 0#32
  ![v614.toNat, 0]
def k0_dev26 (d0 : Dev nD) : Nat :=
  let c0_i32_442 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let c1_i32_29 : BitVec 32 := 1#32
  let c2_i32_28 : BitVec 32 := 2#32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_14 : BitVec 32 := 0#32
  let v42 : BitVec 1 := Scalar.cmpi .sgt v20 c0_i32_14
  let v43 : BitVec 32 := Scalar.extui v42
  let c0_i32_15 : BitVec 32 := 0#32
  let v44 : BitVec 1 := Scalar.cmpi .slt v20 c0_i32_15
  let v45 : BitVec 32 := Scalar.extui v44
  let v46 : BitVec 32 := Scalar.subi v43 v45
  let c2_i32_13 : BitVec 32 := 2#32
  let c0_i32_16 : BitVec 32 := 0#32
  let v47 : BitVec 1 := Scalar.cmpi .sgt c2_i32_13 c0_i32_16
  let v48 : BitVec 32 := Scalar.extui v47
  let c0_i32_17 : BitVec 32 := 0#32
  let v49 : BitVec 1 := Scalar.cmpi .slt c2_i32_13 c0_i32_17
  let v50 : BitVec 32 := Scalar.extui v49
  let v51 : BitVec 32 := Scalar.subi v48 v50
  let v52 : BitVec 1 := Scalar.cmpi .ne v46 v51
  let v53 : BitVec 32 := Scalar.remsi v20 c2_i32_13
  let c0_i32_18 : BitVec 32 := 0#32
  let v54 : BitVec 1 := Scalar.cmpi .ne v53 c0_i32_18
  let v55 : BitVec 1 := Scalar.andi v52 v54
  let v41 : BitVec 32 := Scalar.divsi v20 c2_i32_13
  let c1_i32_19 : BitVec 32 := 1#32
  let v56 : BitVec 32 := Scalar.subi v41 c1_i32_19
  let v57 : BitVec 32 := Scalar.select v55 v56 v41
  let v69 : BitVec 32 := Scalar.muli c2_i32_28 v57
  let v70 : BitVec 32 := Scalar.subi c1_i32_29 v69
  let v71 : BitVec 32 := Scalar.muli c8_i32 v70
  let v72 : BitVec 32 := Scalar.addi v2 v71
  let c1_i32_441 : BitVec 32 := 1#32
  let v694 : BitVec 32 := Scalar.muli v72 c1_i32_441
  let v695 : BitVec 32 := Scalar.addi c0_i32_442 v694
  v695.toNat
def k0_off55 (d0 : Dev nD) : Fin 2 → Nat :=
  let c1024_i32_123 : BitVec 32 := 1024#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32_12 : BitVec 32 := 2#32
  let v40 : BitVec 32 := Scalar.remsi v20 c2_i32_12
  let c256_i32_122 : BitVec 32 := 256#32
  let v196 : BitVec 32 := Scalar.muli v40 c256_i32_122
  let v197 : BitVec 32 := Scalar.addi c1024_i32_123 v196
  let c0_i32_14 : BitVec 32 := 0#32
  let v42 : BitVec 1 := Scalar.cmpi .sgt v20 c0_i32_14
  let v43 : BitVec 32 := Scalar.extui v42
  let c0_i32_15 : BitVec 32 := 0#32
  let v44 : BitVec 1 := Scalar.cmpi .slt v20 c0_i32_15
  let v45 : BitVec 32 := Scalar.extui v44
  let v46 : BitVec 32 := Scalar.subi v43 v45
  let c2_i32_13 : BitVec 32 := 2#32
  let c0_i32_16 : BitVec 32 := 0#32
  let v47 : BitVec 1 := Scalar.cmpi .sgt c2_i32_13 c0_i32_16
  let v48 : BitVec 32 := Scalar.extui v47
  let c0_i32_17 : BitVec 32 := 0#32
  let v49 : BitVec 1 := Scalar.cmpi .slt c2_i32_13 c0_i32_17
  let v50 : BitVec 32 := Scalar.extui v49
  let v51 : BitVec 32 := Scalar.subi v48 v50
  let v52 : BitVec 1 := Scalar.cmpi .ne v46 v51
  let v53 : BitVec 32 := Scalar.remsi v20 c2_i32_13
  let c0_i32_18 : BitVec 32 := 0#32
  let v54 : BitVec 1 := Scalar.cmpi .ne v53 c0_i32_18
  let v55 : BitVec 1 := Scalar.andi v52 v54
  let v41 : BitVec 32 := Scalar.divsi v20 c2_i32_13
  let c1_i32_19 : BitVec 32 := 1#32
  let v56 : BitVec 32 := Scalar.subi v41 c1_i32_19
  let v57 : BitVec 32 := Scalar.select v55 v56 v41
  let c128_i32_196 : BitVec 32 := 128#32
  let v316 : BitVec 32 := Scalar.muli v57 c128_i32_196
  let v317 : BitVec 32 := Scalar.addi v197 v316
  let c4_i32 : BitVec 32 := 4#32
  let v3 : BitVec 32 := Scalar.remsi v2 c4_i32
  let c3_i32 : BitVec 32 := 3#32
  let v21 : BitVec 32 := Scalar.subi c3_i32 v3
  let v22 : BitVec 32 := Scalar.minsi v3 v21
  let c64_i32_268 : BitVec 32 := 64#32
  let v436 : BitVec 32 := Scalar.muli v22 c64_i32_268
  let v437 : BitVec 32 := Scalar.addi v317 v436
  let c0_i32_6 : BitVec 32 := 0#32
  let v24 : BitVec 1 := Scalar.cmpi .sgt v3 c0_i32_6
  let v25 : BitVec 32 := Scalar.extui v24
  let c0_i32_7 : BitVec 32 := 0#32
  let v26 : BitVec 1 := Scalar.cmpi .slt v3 c0_i32_7
  let v27 : BitVec 32 := Scalar.extui v26
  let v28 : BitVec 32 := Scalar.subi v25 v27
  let c2_i32 : BitVec 32 := 2#32
  let c0_i32_8 : BitVec 32 := 0#32
  let v29 : BitVec 1 := Scalar.cmpi .sgt c2_i32 c0_i32_8
  let v30 : BitVec 32 := Scalar.extui v29
  let c0_i32_9 : BitVec 32 := 0#32
  let v31 : BitVec 1 := Scalar.cmpi .slt c2_i32 c0_i32_9
  let v32 : BitVec 32 := Scalar.extui v31
  let v33 : BitVec 32 := Scalar.subi v30 v32
  let v34 : BitVec 1 := Scalar.cmpi .ne v28 v33
  let v35 : BitVec 32 := Scalar.remsi v3 c2_i32
  let c0_i32_10 : BitVec 32 := 0#32
  let v36 : BitVec 1 := Scalar.cmpi .ne v35 c0_i32_10
  let v37 : BitVec 1 := Scalar.andi v34 v36
  let v23 : BitVec 32 := Scalar.divsi v3 c2_i32
  let c1_i32_11 : BitVec 32 := 1#32
  let v38 : BitVec 32 := Scalar.subi v23 c1_i32_11
  let v39 : BitVec 32 := Scalar.select v37 v38 v23
  let c32_i32_326 : BitVec 32 := 32#32
  let v534 : BitVec 32 := Scalar.muli v39 c32_i32_326
  let v535 : BitVec 32 := Scalar.addi v437 v534
  let c32_i32_385 : BitVec 32 := 32#32
  let v626 : BitVec 32 := Scalar.muli v39 c32_i32_385
  let v627 : BitVec 32 := Scalar.subi v535 v626
  let c0_i32_452 : BitVec 32 := 0#32
  ![v627.toNat, 0]
def k0_dev27 (d0 : Dev nD) : Nat :=
  let c0_i32_451 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_20 : BitVec 32 := 1#32
  let v58 : BitVec 32 := Scalar.addi v2 c1_i32_20
  let c2_i32_22 : BitVec 32 := 2#32
  let c4_i32 : BitVec 32 := 4#32
  let v3 : BitVec 32 := Scalar.remsi v2 c4_i32
  let c2_i32_21 : BitVec 32 := 2#32
  let v59 : BitVec 32 := Scalar.remsi v3 c2_i32_21
  let v60 : BitVec 32 := Scalar.muli c2_i32_22 v59
  let v61 : BitVec 32 := Scalar.subi v58 v60
  let c1_i32_450 : BitVec 32 := 1#32
  let v707 : BitVec 32 := Scalar.muli v61 c1_i32_450
  let v708 : BitVec 32 := Scalar.addi c0_i32_451 v707
  v708.toNat
def k0_off56 (d0 : Dev nD) : Fin 2 → Nat :=
  let c1536_i32_142 : BitVec 32 := 1536#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_14 : BitVec 32 := 0#32
  let v42 : BitVec 1 := Scalar.cmpi .sgt v20 c0_i32_14
  let v43 : BitVec 32 := Scalar.extui v42
  let c0_i32_15 : BitVec 32 := 0#32
  let v44 : BitVec 1 := Scalar.cmpi .slt v20 c0_i32_15
  let v45 : BitVec 32 := Scalar.extui v44
  let v46 : BitVec 32 := Scalar.subi v43 v45
  let c2_i32_13 : BitVec 32 := 2#32
  let c0_i32_16 : BitVec 32 := 0#32
  let v47 : BitVec 1 := Scalar.cmpi .sgt c2_i32_13 c0_i32_16
  let v48 : BitVec 32 := Scalar.extui v47
  let c0_i32_17 : BitVec 32 := 0#32
  let v49 : BitVec 1 := Scalar.cmpi .slt c2_i32_13 c0_i32_17
  let v50 : BitVec 32 := Scalar.extui v49
  let v51 : BitVec 32 := Scalar.subi v48 v50
  let v52 : BitVec 1 := Scalar.cmpi .ne v46 v51
  let v53 : BitVec 32 := Scalar.remsi v20 c2_i32_13
  let c0_i32_18 : BitVec 32 := 0#32
  let v54 : BitVec 1 := Scalar.cmpi .ne v53 c0_i32_18
  let v55 : BitVec 1 := Scalar.andi v52 v54
  let v41 : BitVec 32 := Scalar.divsi v20 c2_i32_13
  let c1_i32_19 : BitVec 32 := 1#32
  let v56 : BitVec 32 := Scalar.subi v41 c1_i32_19
  let v57 : BitVec 32 := Scalar.select v55 v56 v41
  let c256_i32_141 : BitVec 32 := 256#32
  let v226 : BitVec 32 := Scalar.muli v57 c256_i32_141
  let v227 : BitVec 32 := Scalar.addi c1536_i32_142 v226
  let c4_i32 : BitVec 32 := 4#32
  let v3 : BitVec 32 := Scalar.remsi v2 c4_i32
  let c3_i32 : BitVec 32 := 3#32
  let v21 : BitVec 32 := Scalar.subi c3_i32 v3
  let v22 : BitVec 32 := Scalar.minsi v3 v21
  let c128_i32_214 : BitVec 32 := 128#32
  let v346 : BitVec 32 := Scalar.muli v22 c128_i32_214
  let v347 : BitVec 32 := Scalar.addi v227 v346
  let c0_i32_6 : BitVec 32 := 0#32
  let v24 : BitVec 1 := Scalar.cmpi .sgt v3 c0_i32_6
  let v25 : BitVec 32 := Scalar.extui v24
  let c0_i32_7 : BitVec 32 := 0#32
  let v26 : BitVec 1 := Scalar.cmpi .slt v3 c0_i32_7
  let v27 : BitVec 32 := Scalar.extui v26
  let v28 : BitVec 32 := Scalar.subi v25 v27
  let c2_i32 : BitVec 32 := 2#32
  let c0_i32_8 : BitVec 32 := 0#32
  let v29 : BitVec 1 := Scalar.cmpi .sgt c2_i32 c0_i32_8
  let v30 : BitVec 32 := Scalar.extui v29
  let c0_i32_9 : BitVec 32 := 0#32
  let v31 : BitVec 1 := Scalar.cmpi .slt c2_i32 c0_i32_9
  let v32 : BitVec 32 := Scalar.extui v31
  let v33 : BitVec 32 := Scalar.subi v30 v32
  let v34 : BitVec 1 := Scalar.cmpi .ne v28 v33
  let v35 : BitVec 32 := Scalar.remsi v3 c2_i32
  let c0_i32_10 : BitVec 32 := 0#32
  let v36 : BitVec 1 := Scalar.cmpi .ne v35 c0_i32_10
  let v37 : BitVec 1 := Scalar.andi v34 v36
  let v23 : BitVec 32 := Scalar.divsi v3 c2_i32
  let c1_i32_11 : BitVec 32 := 1#32
  let v38 : BitVec 32 := Scalar.subi v23 c1_i32_11
  let v39 : BitVec 32 := Scalar.select v37 v38 v23
  let c64_i32_286 : BitVec 32 := 64#32
  let v466 : BitVec 32 := Scalar.muli v39 c64_i32_286
  let v467 : BitVec 32 := Scalar.addi v347 v466
  let c2_i32_12 : BitVec 32 := 2#32
  let v40 : BitVec 32 := Scalar.remsi v20 c2_i32_12
  let c32_i32_337 : BitVec 32 := 32#32
  let v553 : BitVec 32 := Scalar.muli v40 c32_i32_337
  let v554 : BitVec 32 := Scalar.addi v467 v553
  let c32_i32_394 : BitVec 32 := 32#32
  let v639 : BitVec 32 := Scalar.muli v40 c32_i32_394
  let v640 : BitVec 32 := Scalar.subi v554 v639
  let c0_i32_461 : BitVec 32 := 0#32
  ![v640.toNat, 0]
def k0_dev28 (d0 : Dev nD) : Nat :=
  let c0_i32_460 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_23 : BitVec 32 := 3#32
  let v62 : BitVec 32 := Scalar.addi v2 c3_i32_23
  let c2_i32_24 : BitVec 32 := 2#32
  let c4_i32 : BitVec 32 := 4#32
  let v3 : BitVec 32 := Scalar.remsi v2 c4_i32
  let v63 : BitVec 32 := Scalar.muli c2_i32_24 v3
  let v64 : BitVec 32 := Scalar.subi v62 v63
  let c1_i32_459 : BitVec 32 := 1#32
  let v720 : BitVec 32 := Scalar.muli v64 c1_i32_459
  let v721 : BitVec 32 := Scalar.addi c0_i32_460 v720
  v721.toNat
def k0_off57 (d0 : Dev nD) : Fin 2 → Nat :=
  let c0_i32_83 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c3_i32 : BitVec 32 := 3#32
  let v21 : BitVec 32 := Scalar.subi c3_i32 v3
  let v22 : BitVec 32 := Scalar.minsi v3 v21
  let c256_i32_82 : BitVec 32 := 256#32
  let v136 : BitVec 32 := Scalar.muli v22 c256_i32_82
  let v137 : BitVec 32 := Scalar.addi c0_i32_83 v136
  let c0_i32_6 : BitVec 32 := 0#32
  let v24 : BitVec 1 := Scalar.cmpi .sgt v3 c0_i32_6
  let v25 : BitVec 32 := Scalar.extui v24
  let c0_i32_7 : BitVec 32 := 0#32
  let v26 : BitVec 1 := Scalar.cmpi .slt v3 c0_i32_7
  let v27 : BitVec 32 := Scalar.extui v26
  let v28 : BitVec 32 := Scalar.subi v25 v27
  let c2_i32 : BitVec 32 := 2#32
  let c0_i32_8 : BitVec 32 := 0#32
  let v29 : BitVec 1 := Scalar.cmpi .sgt c2_i32 c0_i32_8
  let v30 : BitVec 32 := Scalar.extui v29
  let c0_i32_9 : BitVec 32 := 0#32
  let v31 : BitVec 1 := Scalar.cmpi .slt c2_i32 c0_i32_9
  let v32 : BitVec 32 := Scalar.extui v31
  let v33 : BitVec 32 := Scalar.subi v30 v32
  let v34 : BitVec 1 := Scalar.cmpi .ne v28 v33
  let v35 : BitVec 32 := Scalar.remsi v3 c2_i32
  let c0_i32_10 : BitVec 32 := 0#32
  let v36 : BitVec 1 := Scalar.cmpi .ne v35 c0_i32_10
  let v37 : BitVec 1 := Scalar.andi v34 v36
  let v23 : BitVec 32 := Scalar.divsi v3 c2_i32
  let c1_i32_11 : BitVec 32 := 1#32
  let v38 : BitVec 32 := Scalar.subi v23 c1_i32_11
  let v39 : BitVec 32 := Scalar.select v37 v38 v23
  let c128_i32_160 : BitVec 32 := 128#32
  let v256 : BitVec 32 := Scalar.muli v39 c128_i32_160
  let v257 : BitVec 32 := Scalar.addi v137 v256
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32_12 : BitVec 32 := 2#32
  let v40 : BitVec 32 := Scalar.remsi v20 c2_i32_12
  let c64_i32_232 : BitVec 32 := 64#32
  let v376 : BitVec 32 := Scalar.muli v40 c64_i32_232
  let v377 : BitVec 32 := Scalar.addi v257 v376
  let c0_i32_14 : BitVec 32 := 0#32
  let v42 : BitVec 1 := Scalar.cmpi .sgt v20 c0_i32_14
  let v43 : BitVec 32 := Scalar.extui v42
  let c0_i32_15 : BitVec 32 := 0#32
  let v44 : BitVec 1 := Scalar.cmpi .slt v20 c0_i32_15
  let v45 : BitVec 32 := Scalar.extui v44
  let v46 : BitVec 32 := Scalar.subi v43 v45
  let c2_i32_13 : BitVec 32 := 2#32
  let c0_i32_16 : BitVec 32 := 0#32
  let v47 : BitVec 1 := Scalar.cmpi .sgt c2_i32_13 c0_i32_16
  let v48 : BitVec 32 := Scalar.extui v47
  let c0_i32_17 : BitVec 32 := 0#32
  let v49 : BitVec 1 := Scalar.cmpi .slt c2_i32_13 c0_i32_17
  let v50 : BitVec 32 := Scalar.extui v49
  let v51 : BitVec 32 := Scalar.subi v48 v50
  let v52 : BitVec 1 := Scalar.cmpi .ne v46 v51
  let v53 : BitVec 32 := Scalar.remsi v20 c2_i32_13
  let c0_i32_18 : BitVec 32 := 0#32
  let v54 : BitVec 1 := Scalar.cmpi .ne v53 c0_i32_18
  let v55 : BitVec 1 := Scalar.andi v52 v54
  let v41 : BitVec 32 := Scalar.divsi v20 c2_i32_13
  let c1_i32_19 : BitVec 32 := 1#32
  let v56 : BitVec 32 := Scalar.subi v41 c1_i32_19
  let v57 : BitVec 32 := Scalar.select v55 v56 v41
  let c32_i32_304 : BitVec 32 := 32#32
  let v496 : BitVec 32 := Scalar.muli v57 c32_i32_304
  let v497 : BitVec 32 := Scalar.addi v377 v496
  let c32_i32_367 : BitVec 32 := 32#32
  let v600 : BitVec 32 := Scalar.muli v57 c32_i32_367
  let v601 : BitVec 32 := Scalar.subi v497 v600
  let c64_i32_427 : BitVec 32 := 64#32
  let v676 : BitVec 32 := Scalar.muli v40 c64_i32_427
  let v677 : BitVec 32 := Scalar.subi v601 v676
  let c1_i32_428 : BitVec 32 := 1#32
  let v678 : BitVec 32 := Scalar.subi c1_i32_428 v40
  let c64_i32_429 : BitVec 32 := 64#32
  let v679 : BitVec 32 := Scalar.muli v678 c64_i32_429
  let v680 : BitVec 32 := Scalar.addi v677 v679
  let c0_i32_467 : BitVec 32 := 0#32
  ![v680.toNat, 0]
def k0_off58 (d0 : Dev nD) : Fin 2 → Nat :=
  let c512_i32_104 : BitVec 32 := 512#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v24 : BitVec 1 := Scalar.cmpi .sgt v3 c0_i32_6
  let v25 : BitVec 32 := Scalar.extui v24
  let c0_i32_7 : BitVec 32 := 0#32
  let v26 : BitVec 1 := Scalar.cmpi .slt v3 c0_i32_7
  let v27 : BitVec 32 := Scalar.extui v26
  let v28 : BitVec 32 := Scalar.subi v25 v27
  let c2_i32 : BitVec 32 := 2#32
  let c0_i32_8 : BitVec 32 := 0#32
  let v29 : BitVec 1 := Scalar.cmpi .sgt c2_i32 c0_i32_8
  let v30 : BitVec 32 := Scalar.extui v29
  let c0_i32_9 : BitVec 32 := 0#32
  let v31 : BitVec 1 := Scalar.cmpi .slt c2_i32 c0_i32_9
  let v32 : BitVec 32 := Scalar.extui v31
  let v33 : BitVec 32 := Scalar.subi v30 v32
  let v34 : BitVec 1 := Scalar.cmpi .ne v28 v33
  let v35 : BitVec 32 := Scalar.remsi v3 c2_i32
  let c0_i32_10 : BitVec 32 := 0#32
  let v36 : BitVec 1 := Scalar.cmpi .ne v35 c0_i32_10
  let v37 : BitVec 1 := Scalar.andi v34 v36
  let v23 : BitVec 32 := Scalar.divsi v3 c2_i32
  let c1_i32_11 : BitVec 32 := 1#32
  let v38 : BitVec 32 := Scalar.subi v23 c1_i32_11
  let v39 : BitVec 32 := Scalar.select v37 v38 v23
  let c256_i32_103 : BitVec 32 := 256#32
  let v166 : BitVec 32 := Scalar.muli v39 c256_i32_103
  let v167 : BitVec 32 := Scalar.addi c512_i32_104 v166
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32_12 : BitVec 32 := 2#32
  let v40 : BitVec 32 := Scalar.remsi v20 c2_i32_12
  let c128_i32_178 : BitVec 32 := 128#32
  let v286 : BitVec 32 := Scalar.muli v40 c128_i32_178
  let v287 : BitVec 32 := Scalar.addi v167 v286
  let c0_i32_14 : BitVec 32 := 0#32
  let v42 : BitVec 1 := Scalar.cmpi .sgt v20 c0_i32_14
  let v43 : BitVec 32 := Scalar.extui v42
  let c0_i32_15 : BitVec 32 := 0#32
  let v44 : BitVec 1 := Scalar.cmpi .slt v20 c0_i32_15
  let v45 : BitVec 32 := Scalar.extui v44
  let v46 : BitVec 32 := Scalar.subi v43 v45
  let c2_i32_13 : BitVec 32 := 2#32
  let c0_i32_16 : BitVec 32 := 0#32
  let v47 : BitVec 1 := Scalar.cmpi .sgt c2_i32_13 c0_i32_16
  let v48 : BitVec 32 := Scalar.extui v47
  let c0_i32_17 : BitVec 32 := 0#32
  let v49 : BitVec 1 := Scalar.cmpi .slt c2_i32_13 c0_i32_17
  let v50 : BitVec 32 := Scalar.extui v49
  let v51 : BitVec 32 := Scalar.subi v48 v50
  let v52 : BitVec 1 := Scalar.cmpi .ne v46 v51
  let v53 : BitVec 32 := Scalar.remsi v20 c2_i32_13
  let c0_i32_18 : BitVec 32 := 0#32
  let v54 : BitVec 1 := Scalar.cmpi .ne v53 c0_i32_18
  let v55 : BitVec 1 := Scalar.andi v52 v54
  let v41 : BitVec 32 := Scalar.divsi v20 c2_i32_13
  let c1_i32_19 : BitVec 32 := 1#32
  let v56 : BitVec 32 := Scalar.subi v41 c1_i32_19
  let v57 : BitVec 32 := Scalar.select v55 v56 v41
  let c64_i32_250 : BitVec 32 := 64#32
  let v406 : BitVec 32 := Scalar.muli v57 c64_i32_250
  let v407 : BitVec 32 := Scalar.addi v287 v406
  let c3_i32 : BitVec 32 := 3#32
  let v21 : BitVec 32 := Scalar.subi c3_i32 v3
  let v22 : BitVec 32 := Scalar.minsi v3 v21
  let c32_i32_315 : BitVec 32 := 32#32
  let v515 : BitVec 32 := Scalar.muli v22 c32_i32_315
  let v516 : BitVec 32 := Scalar.addi v407 v515
  let c32_i32_376 : BitVec 32 := 32#32
  let v613 : BitVec 32 := Scalar.muli v22 c32_i32_376
  let v614 : BitVec 32 := Scalar.subi v516 v613
  let c64_i32_436 : BitVec 32 := 64#32
  let v689 : BitVec 32 := Scalar.muli v57 c64_i32_436
  let v690 : BitVec 32 := Scalar.subi v614 v689
  let c1_i32_437 : BitVec 32 := 1#32
  let v691 : BitVec 32 := Scalar.subi c1_i32_437 v57
  let c64_i32_438 : BitVec 32 := 64#32
  let v692 : BitVec 32 := Scalar.muli v691 c64_i32_438
  let v693 : BitVec 32 := Scalar.addi v690 v692
  let c0_i32_473 : BitVec 32 := 0#32
  ![v693.toNat, 0]
def k0_off59 (d0 : Dev nD) : Fin 2 → Nat :=
  let c1024_i32_123 : BitVec 32 := 1024#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32_12 : BitVec 32 := 2#32
  let v40 : BitVec 32 := Scalar.remsi v20 c2_i32_12
  let c256_i32_122 : BitVec 32 := 256#32
  let v196 : BitVec 32 := Scalar.muli v40 c256_i32_122
  let v197 : BitVec 32 := Scalar.addi c1024_i32_123 v196
  let c0_i32_14 : BitVec 32 := 0#32
  let v42 : BitVec 1 := Scalar.cmpi .sgt v20 c0_i32_14
  let v43 : BitVec 32 := Scalar.extui v42
  let c0_i32_15 : BitVec 32 := 0#32
  let v44 : BitVec 1 := Scalar.cmpi .slt v20 c0_i32_15
  let v45 : BitVec 32 := Scalar.extui v44
  let v46 : BitVec 32 := Scalar.subi v43 v45
  let c2_i32_13 : BitVec 32 := 2#32
  let c0_i32_16 : BitVec 32 := 0#32
  let v47 : BitVec 1 := Scalar.cmpi .sgt c2_i32_13 c0_i32_16
  let v48 : BitVec 32 := Scalar.extui v47
  let c0_i32_17 : BitVec 32 := 0#32
  let v49 : BitVec 1 := Scalar.cmpi .slt c2_i32_13 c0_i32_17
  let v50 : BitVec 32 := Scalar.extui v49
  let v51 : BitVec 32 := Scalar.subi v48 v50
  let v52 : BitVec 1 := Scalar.cmpi .ne v46 v51
  let v53 : BitVec 32 := Scalar.remsi v20 c2_i32_13
  let c0_i32_18 : BitVec 32 := 0#32
  let v54 : BitVec 1 := Scalar.cmpi .ne v53 c0_i32_18
  let v55 : BitVec 1 := Scalar.andi v52 v54
  let v41 : BitVec 32 := Scalar.divsi v20 c2_i32_13
  let c1_i32_19 : BitVec 32 := 1#32
  let v56 : BitVec 32 := Scalar.subi v41 c1_i32_19
  let v57 : BitVec 32 := Scalar.select v55 v56 v41
  let c128_i32_196 : BitVec 32 := 128#32
  let v316 : BitVec 32 := Scalar.muli v57 c128_i32_196
  let v317 : BitVec 32 := Scalar.addi v197 v316
  let c4_i32 : BitVec 32 := 4#32
  let v3 : BitVec 32 := Scalar.remsi v2 c4_i32
  let c3_i32 : BitVec 32 := 3#32
  let v21 : BitVec 32 := Scalar.subi c3_i32 v3
  let v22 : BitVec 32 := Scalar.minsi v3 v21
  let c64_i32_268 : BitVec 32 := 64#32
  let v436 : BitVec 32 := Scalar.muli v22 c64_i32_268
  let v437 : BitVec 32 := Scalar.addi v317 v436
  let c0_i32_6 : BitVec 32 := 0#32
  let v24 : BitVec 1 := Scalar.cmpi .sgt v3 c0_i32_6
  let v25 : BitVec 32 := Scalar.extui v24
  let c0_i32_7 : BitVec 32 := 0#32
  let v26 : BitVec 1 := Scalar.cmpi .slt v3 c0_i32_7
  let v27 : BitVec 32 := Scalar.extui v26
  let v28 : BitVec 32 := Scalar.subi v25 v27
  let c2_i32 : BitVec 32 := 2#32
  let c0_i32_8 : BitVec 32 := 0#32
  let v29 : BitVec 1 := Scalar.cmpi .sgt c2_i32 c0_i32_8
  let v30 : BitVec 32 := Scalar.extui v29
  let c0_i32_9 : BitVec 32 := 0#32
  let v31 : BitVec 1 := Scalar.cmpi .slt c2_i32 c0_i32_9
  let v32 : BitVec 32 := Scalar.extui v31
  let v33 : BitVec 32 := Scalar.subi v30 v32
  let v34 : BitVec 1 := Scalar.cmpi .ne v28 v33
  let v35 : BitVec 32 := Scalar.remsi v3 c2_i32
  let c0_i32_10 : BitVec 32 := 0#32
  let v36 : BitVec 1 := Scalar.cmpi .ne v35 c0_i32_10
  let v37 : BitVec 1 := Scalar.andi v34 v36
  let v23 : BitVec 32 := Scalar.divsi v3 c2_i32
  let c1_i32_11 : BitVec 32 := 1#32
  let v38 : BitVec 32 := Scalar.subi v23 c1_i32_11
  let v39 : BitVec 32 := Scalar.select v37 v38 v23
  let c32_i32_326 : BitVec 32 := 32#32
  let v534 : BitVec 32 := Scalar.muli v39 c32_i32_326
  let v535 : BitVec 32 := Scalar.addi v437 v534
  let c32_i32_385 : BitVec 32 := 32#32
  let v626 : BitVec 32 := Scalar.muli v39 c32_i32_385
  let v627 : BitVec 32 := Scalar.subi v535 v626
  let c64_i32_445 : BitVec 32 := 64#32
  let v702 : BitVec 32 := Scalar.muli v22 c64_i32_445
  let v703 : BitVec 32 := Scalar.subi v627 v702
  let c1_i32_446 : BitVec 32 := 1#32
  let v704 : BitVec 32 := Scalar.subi c1_i32_446 v22
  let c64_i32_447 : BitVec 32 := 64#32
  let v705 : BitVec 32 := Scalar.muli v704 c64_i32_447
  let v706 : BitVec 32 := Scalar.addi v703 v705
  let c0_i32_479 : BitVec 32 := 0#32
  ![v706.toNat, 0]
def k0_off60 (d0 : Dev nD) : Fin 2 → Nat :=
  let c1536_i32_142 : BitVec 32 := 1536#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_14 : BitVec 32 := 0#32
  let v42 : BitVec 1 := Scalar.cmpi .sgt v20 c0_i32_14
  let v43 : BitVec 32 := Scalar.extui v42
  let c0_i32_15 : BitVec 32 := 0#32
  let v44 : BitVec 1 := Scalar.cmpi .slt v20 c0_i32_15
  let v45 : BitVec 32 := Scalar.extui v44
  let v46 : BitVec 32 := Scalar.subi v43 v45
  let c2_i32_13 : BitVec 32 := 2#32
  let c0_i32_16 : BitVec 32 := 0#32
  let v47 : BitVec 1 := Scalar.cmpi .sgt c2_i32_13 c0_i32_16
  let v48 : BitVec 32 := Scalar.extui v47
  let c0_i32_17 : BitVec 32 := 0#32
  let v49 : BitVec 1 := Scalar.cmpi .slt c2_i32_13 c0_i32_17
  let v50 : BitVec 32 := Scalar.extui v49
  let v51 : BitVec 32 := Scalar.subi v48 v50
  let v52 : BitVec 1 := Scalar.cmpi .ne v46 v51
  let v53 : BitVec 32 := Scalar.remsi v20 c2_i32_13
  let c0_i32_18 : BitVec 32 := 0#32
  let v54 : BitVec 1 := Scalar.cmpi .ne v53 c0_i32_18
  let v55 : BitVec 1 := Scalar.andi v52 v54
  let v41 : BitVec 32 := Scalar.divsi v20 c2_i32_13
  let c1_i32_19 : BitVec 32 := 1#32
  let v56 : BitVec 32 := Scalar.subi v41 c1_i32_19
  let v57 : BitVec 32 := Scalar.select v55 v56 v41
  let c256_i32_141 : BitVec 32 := 256#32
  let v226 : BitVec 32 := Scalar.muli v57 c256_i32_141
  let v227 : BitVec 32 := Scalar.addi c1536_i32_142 v226
  let c4_i32 : BitVec 32 := 4#32
  let v3 : BitVec 32 := Scalar.remsi v2 c4_i32
  let c3_i32 : BitVec 32 := 3#32
  let v21 : BitVec 32 := Scalar.subi c3_i32 v3
  let v22 : BitVec 32 := Scalar.minsi v3 v21
  let c128_i32_214 : BitVec 32 := 128#32
  let v346 : BitVec 32 := Scalar.muli v22 c128_i32_214
  let v347 : BitVec 32 := Scalar.addi v227 v346
  let c0_i32_6 : BitVec 32 := 0#32
  let v24 : BitVec 1 := Scalar.cmpi .sgt v3 c0_i32_6
  let v25 : BitVec 32 := Scalar.extui v24
  let c0_i32_7 : BitVec 32 := 0#32
  let v26 : BitVec 1 := Scalar.cmpi .slt v3 c0_i32_7
  let v27 : BitVec 32 := Scalar.extui v26
  let v28 : BitVec 32 := Scalar.subi v25 v27
  let c2_i32 : BitVec 32 := 2#32
  let c0_i32_8 : BitVec 32 := 0#32
  let v29 : BitVec 1 := Scalar.cmpi .sgt c2_i32 c0_i32_8
  let v30 : BitVec 32 := Scalar.extui v29
  let c0_i32_9 : BitVec 32 := 0#32
  let v31 : BitVec 1 := Scalar.cmpi .slt c2_i32 c0_i32_9
  let v32 : BitVec 32 := Scalar.extui v31
  let v33 : BitVec 32 := Scalar.subi v30 v32
  let v34 : BitVec 1 := Scalar.cmpi .ne v28 v33
  let v35 : BitVec 32 := Scalar.remsi v3 c2_i32
  let c0_i32_10 : BitVec 32 := 0#32
  let v36 : BitVec 1 := Scalar.cmpi .ne v35 c0_i32_10
  let v37 : BitVec 1 := Scalar.andi v34 v36
  let v23 : BitVec 32 := Scalar.divsi v3 c2_i32
  let c1_i32_11 : BitVec 32 := 1#32
  let v38 : BitVec 32 := Scalar.subi v23 c1_i32_11
  let v39 : BitVec 32 := Scalar.select v37 v38 v23
  let c64_i32_286 : BitVec 32 := 64#32
  let v466 : BitVec 32 := Scalar.muli v39 c64_i32_286
  let v467 : BitVec 32 := Scalar.addi v347 v466
  let c2_i32_12 : BitVec 32 := 2#32
  let v40 : BitVec 32 := Scalar.remsi v20 c2_i32_12
  let c32_i32_337 : BitVec 32 := 32#32
  let v553 : BitVec 32 := Scalar.muli v40 c32_i32_337
  let v554 : BitVec 32 := Scalar.addi v467 v553
  let c32_i32_394 : BitVec 32 := 32#32
  let v639 : BitVec 32 := Scalar.muli v40 c32_i32_394
  let v640 : BitVec 32 := Scalar.subi v554 v639
  let c64_i32_454 : BitVec 32 := 64#32
  let v715 : BitVec 32 := Scalar.muli v39 c64_i32_454
  let v716 : BitVec 32 := Scalar.subi v640 v715
  let c1_i32_455 : BitVec 32 := 1#32
  let v717 : BitVec 32 := Scalar.subi c1_i32_455 v39
  let c64_i32_456 : BitVec 32 := 64#32
  let v718 : BitVec 32 := Scalar.muli v717 c64_i32_456
  let v719 : BitVec 32 := Scalar.addi v716 v718
  let c0_i32_485 : BitVec 32 := 0#32
  ![v719.toNat, 0]
def k0_off61 (d0 : Dev nD) : Fin 2 → Nat :=
  let c0_i32_83 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c3_i32 : BitVec 32 := 3#32
  let v21 : BitVec 32 := Scalar.subi c3_i32 v3
  let v22 : BitVec 32 := Scalar.minsi v3 v21
  let c256_i32_82 : BitVec 32 := 256#32
  let v136 : BitVec 32 := Scalar.muli v22 c256_i32_82
  let v137 : BitVec 32 := Scalar.addi c0_i32_83 v136
  let c0_i32_6 : BitVec 32 := 0#32
  let v24 : BitVec 1 := Scalar.cmpi .sgt v3 c0_i32_6
  let v25 : BitVec 32 := Scalar.extui v24
  let c0_i32_7 : BitVec 32 := 0#32
  let v26 : BitVec 1 := Scalar.cmpi .slt v3 c0_i32_7
  let v27 : BitVec 32 := Scalar.extui v26
  let v28 : BitVec 32 := Scalar.subi v25 v27
  let c2_i32 : BitVec 32 := 2#32
  let c0_i32_8 : BitVec 32 := 0#32
  let v29 : BitVec 1 := Scalar.cmpi .sgt c2_i32 c0_i32_8
  let v30 : BitVec 32 := Scalar.extui v29
  let c0_i32_9 : BitVec 32 := 0#32
  let v31 : BitVec 1 := Scalar.cmpi .slt c2_i32 c0_i32_9
  let v32 : BitVec 32 := Scalar.extui v31
  let v33 : BitVec 32 := Scalar.subi v30 v32
  let v34 : BitVec 1 := Scalar.cmpi .ne v28 v33
  let v35 : BitVec 32 := Scalar.remsi v3 c2_i32
  let c0_i32_10 : BitVec 32 := 0#32
  let v36 : BitVec 1 := Scalar.cmpi .ne v35 c0_i32_10
  let v37 : BitVec 1 := Scalar.andi v34 v36
  let v23 : BitVec 32 := Scalar.divsi v3 c2_i32
  let c1_i32_11 : BitVec 32 := 1#32
  let v38 : BitVec 32 := Scalar.subi v23 c1_i32_11
  let v39 : BitVec 32 := Scalar.select v37 v38 v23
  let c128_i32_160 : BitVec 32 := 128#32
  let v256 : BitVec 32 := Scalar.muli v39 c128_i32_160
  let v257 : BitVec 32 := Scalar.addi v137 v256
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32_12 : BitVec 32 := 2#32
  let v40 : BitVec 32 := Scalar.remsi v20 c2_i32_12
  let c64_i32_232 : BitVec 32 := 64#32
  let v376 : BitVec 32 := Scalar.muli v40 c64_i32_232
  let v377 : BitVec 32 := Scalar.addi v257 v376
  let c0_i32_14 : BitVec 32 := 0#32
  let v42 : BitVec 1 := Scalar.cmpi .sgt v20 c0_i32_14
  let v43 : BitVec 32 := Scalar.extui v42
  let c0_i32_15 : BitVec 32 := 0#32
  let v44 : BitVec 1 := Scalar.cmpi .slt v20 c0_i32_15
  let v45 : BitVec 32 := Scalar.extui v44
  let v46 : BitVec 32 := Scalar.subi v43 v45
  let c2_i32_13 : BitVec 32 := 2#32
  let c0_i32_16 : BitVec 32 := 0#32
  let v47 : BitVec 1 := Scalar.cmpi .sgt c2_i32_13 c0_i32_16
  let v48 : BitVec 32 := Scalar.extui v47
  let c0_i32_17 : BitVec 32 := 0#32
  let v49 : BitVec 1 := Scalar.cmpi .slt c2_i32_13 c0_i32_17
  let v50 : BitVec 32 := Scalar.extui v49
  let v51 : BitVec 32 := Scalar.subi v48 v50
  let v52 : BitVec 1 := Scalar.cmpi .ne v46 v51
  let v53 : BitVec 32 := Scalar.remsi v20 c2_i32_13
  let c0_i32_18 : BitVec 32 := 0#32
  let v54 : BitVec 1 := Scalar.cmpi .ne v53 c0_i32_18
  let v55 : BitVec 1 := Scalar.andi v52 v54
  let v41 : BitVec 32 := Scalar.divsi v20 c2_i32_13
  let c1_i32_19 : BitVec 32 := 1#32
  let v56 : BitVec 32 := Scalar.subi v41 c1_i32_19
  let v57 : BitVec 32 := Scalar.select v55 v56 v41
  let c32_i32_304 : BitVec 32 := 32#32
  let v496 : BitVec 32 := Scalar.muli v57 c32_i32_304
  let v497 : BitVec 32 := Scalar.addi v377 v496
  let c32_i32_367 : BitVec 32 := 32#32
  let v600 : BitVec 32 := Scalar.muli v57 c32_i32_367
  let v601 : BitVec 32 := Scalar.subi v497 v600
  let c64_i32_427 : BitVec 32 := 64#32
  let v676 : BitVec 32 := Scalar.muli v40 c64_i32_427
  let v677 : BitVec 32 := Scalar.subi v601 v676
  let c0_i32_494 : BitVec 32 := 0#32
  ![v677.toNat, 0]
def k0_dev29 (d0 : Dev nD) : Nat :=
  let c0_i32_493 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_23 : BitVec 32 := 3#32
  let v62 : BitVec 32 := Scalar.addi v2 c3_i32_23
  let c2_i32_24 : BitVec 32 := 2#32
  let c4_i32 : BitVec 32 := 4#32
  let v3 : BitVec 32 := Scalar.remsi v2 c4_i32
  let v63 : BitVec 32 := Scalar.muli c2_i32_24 v3
  let v64 : BitVec 32 := Scalar.subi v62 v63
  let c1_i32_492 : BitVec 32 := 1#32
  let v757 : BitVec 32 := Scalar.muli v64 c1_i32_492
  let v758 : BitVec 32 := Scalar.addi c0_i32_493 v757
  v758.toNat
def k0_off62 (d0 : Dev nD) : Fin 2 → Nat :=
  let c512_i32_104 : BitVec 32 := 512#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v24 : BitVec 1 := Scalar.cmpi .sgt v3 c0_i32_6
  let v25 : BitVec 32 := Scalar.extui v24
  let c0_i32_7 : BitVec 32 := 0#32
  let v26 : BitVec 1 := Scalar.cmpi .slt v3 c0_i32_7
  let v27 : BitVec 32 := Scalar.extui v26
  let v28 : BitVec 32 := Scalar.subi v25 v27
  let c2_i32 : BitVec 32 := 2#32
  let c0_i32_8 : BitVec 32 := 0#32
  let v29 : BitVec 1 := Scalar.cmpi .sgt c2_i32 c0_i32_8
  let v30 : BitVec 32 := Scalar.extui v29
  let c0_i32_9 : BitVec 32 := 0#32
  let v31 : BitVec 1 := Scalar.cmpi .slt c2_i32 c0_i32_9
  let v32 : BitVec 32 := Scalar.extui v31
  let v33 : BitVec 32 := Scalar.subi v30 v32
  let v34 : BitVec 1 := Scalar.cmpi .ne v28 v33
  let v35 : BitVec 32 := Scalar.remsi v3 c2_i32
  let c0_i32_10 : BitVec 32 := 0#32
  let v36 : BitVec 1 := Scalar.cmpi .ne v35 c0_i32_10
  let v37 : BitVec 1 := Scalar.andi v34 v36
  let v23 : BitVec 32 := Scalar.divsi v3 c2_i32
  let c1_i32_11 : BitVec 32 := 1#32
  let v38 : BitVec 32 := Scalar.subi v23 c1_i32_11
  let v39 : BitVec 32 := Scalar.select v37 v38 v23
  let c256_i32_103 : BitVec 32 := 256#32
  let v166 : BitVec 32 := Scalar.muli v39 c256_i32_103
  let v167 : BitVec 32 := Scalar.addi c512_i32_104 v166
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32_12 : BitVec 32 := 2#32
  let v40 : BitVec 32 := Scalar.remsi v20 c2_i32_12
  let c128_i32_178 : BitVec 32 := 128#32
  let v286 : BitVec 32 := Scalar.muli v40 c128_i32_178
  let v287 : BitVec 32 := Scalar.addi v167 v286
  let c0_i32_14 : BitVec 32 := 0#32
  let v42 : BitVec 1 := Scalar.cmpi .sgt v20 c0_i32_14
  let v43 : BitVec 32 := Scalar.extui v42
  let c0_i32_15 : BitVec 32 := 0#32
  let v44 : BitVec 1 := Scalar.cmpi .slt v20 c0_i32_15
  let v45 : BitVec 32 := Scalar.extui v44
  let v46 : BitVec 32 := Scalar.subi v43 v45
  let c2_i32_13 : BitVec 32 := 2#32
  let c0_i32_16 : BitVec 32 := 0#32
  let v47 : BitVec 1 := Scalar.cmpi .sgt c2_i32_13 c0_i32_16
  let v48 : BitVec 32 := Scalar.extui v47
  let c0_i32_17 : BitVec 32 := 0#32
  let v49 : BitVec 1 := Scalar.cmpi .slt c2_i32_13 c0_i32_17
  let v50 : BitVec 32 := Scalar.extui v49
  let v51 : BitVec 32 := Scalar.subi v48 v50
  let v52 : BitVec 1 := Scalar.cmpi .ne v46 v51
  let v53 : BitVec 32 := Scalar.remsi v20 c2_i32_13
  let c0_i32_18 : BitVec 32 := 0#32
  let v54 : BitVec 1 := Scalar.cmpi .ne v53 c0_i32_18
  let v55 : BitVec 1 := Scalar.andi v52 v54
  let v41 : BitVec 32 := Scalar.divsi v20 c2_i32_13
  let c1_i32_19 : BitVec 32 := 1#32
  let v56 : BitVec 32 := Scalar.subi v41 c1_i32_19
  let v57 : BitVec 32 := Scalar.select v55 v56 v41
  let c64_i32_250 : BitVec 32 := 64#32
  let v406 : BitVec 32 := Scalar.muli v57 c64_i32_250
  let v407 : BitVec 32 := Scalar.addi v287 v406
  let c3_i32 : BitVec 32 := 3#32
  let v21 : BitVec 32 := Scalar.subi c3_i32 v3
  let v22 : BitVec 32 := Scalar.minsi v3 v21
  let c32_i32_315 : BitVec 32 := 32#32
  let v515 : BitVec 32 := Scalar.muli v22 c32_i32_315
  let v516 : BitVec 32 := Scalar.addi v407 v515
  let c32_i32_376 : BitVec 32 := 32#32
  let v613 : BitVec 32 := Scalar.muli v22 c32_i32_376
  let v614 : BitVec 32 := Scalar.subi v516 v613
  let c64_i32_436 : BitVec 32 := 64#32
  let v689 : BitVec 32 := Scalar.muli v57 c64_i32_436
  let v690 : BitVec 32 := Scalar.subi v614 v689
  let c0_i32_503 : BitVec 32 := 0#32
  ![v690.toNat, 0]
def k0_dev30 (d0 : Dev nD) : Nat :=
  let c0_i32_502 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_27 : BitVec 32 := 4#32
  let c1_i32_26 : BitVec 32 := 1#32
  let c2_i32_25 : BitVec 32 := 2#32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32_12 : BitVec 32 := 2#32
  let v40 : BitVec 32 := Scalar.remsi v20 c2_i32_12
  let v65 : BitVec 32 := Scalar.muli c2_i32_25 v40
  let v66 : BitVec 32 := Scalar.subi c1_i32_26 v65
  let v67 : BitVec 32 := Scalar.muli c4_i32_27 v66
  let v68 : BitVec 32 := Scalar.addi v2 v67
  let c1_i32_501 : BitVec 32 := 1#32
  let v770 : BitVec 32 := Scalar.muli v68 c1_i32_501
  let v771 : BitVec 32 := Scalar.addi c0_i32_502 v770
  v771.toNat
def k0_off63 (d0 : Dev nD) : Fin 2 → Nat :=
  let c1024_i32_123 : BitVec 32 := 1024#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32_12 : BitVec 32 := 2#32
  let v40 : BitVec 32 := Scalar.remsi v20 c2_i32_12
  let c256_i32_122 : BitVec 32 := 256#32
  let v196 : BitVec 32 := Scalar.muli v40 c256_i32_122
  let v197 : BitVec 32 := Scalar.addi c1024_i32_123 v196
  let c0_i32_14 : BitVec 32 := 0#32
  let v42 : BitVec 1 := Scalar.cmpi .sgt v20 c0_i32_14
  let v43 : BitVec 32 := Scalar.extui v42
  let c0_i32_15 : BitVec 32 := 0#32
  let v44 : BitVec 1 := Scalar.cmpi .slt v20 c0_i32_15
  let v45 : BitVec 32 := Scalar.extui v44
  let v46 : BitVec 32 := Scalar.subi v43 v45
  let c2_i32_13 : BitVec 32 := 2#32
  let c0_i32_16 : BitVec 32 := 0#32
  let v47 : BitVec 1 := Scalar.cmpi .sgt c2_i32_13 c0_i32_16
  let v48 : BitVec 32 := Scalar.extui v47
  let c0_i32_17 : BitVec 32 := 0#32
  let v49 : BitVec 1 := Scalar.cmpi .slt c2_i32_13 c0_i32_17
  let v50 : BitVec 32 := Scalar.extui v49
  let v51 : BitVec 32 := Scalar.subi v48 v50
  let v52 : BitVec 1 := Scalar.cmpi .ne v46 v51
  let v53 : BitVec 32 := Scalar.remsi v20 c2_i32_13
  let c0_i32_18 : BitVec 32 := 0#32
  let v54 : BitVec 1 := Scalar.cmpi .ne v53 c0_i32_18
  let v55 : BitVec 1 := Scalar.andi v52 v54
  let v41 : BitVec 32 := Scalar.divsi v20 c2_i32_13
  let c1_i32_19 : BitVec 32 := 1#32
  let v56 : BitVec 32 := Scalar.subi v41 c1_i32_19
  let v57 : BitVec 32 := Scalar.select v55 v56 v41
  let c128_i32_196 : BitVec 32 := 128#32
  let v316 : BitVec 32 := Scalar.muli v57 c128_i32_196
  let v317 : BitVec 32 := Scalar.addi v197 v316
  let c4_i32 : BitVec 32 := 4#32
  let v3 : BitVec 32 := Scalar.remsi v2 c4_i32
  let c3_i32 : BitVec 32 := 3#32
  let v21 : BitVec 32 := Scalar.subi c3_i32 v3
  let v22 : BitVec 32 := Scalar.minsi v3 v21
  let c64_i32_268 : BitVec 32 := 64#32
  let v436 : BitVec 32 := Scalar.muli v22 c64_i32_268
  let v437 : BitVec 32 := Scalar.addi v317 v436
  let c0_i32_6 : BitVec 32 := 0#32
  let v24 : BitVec 1 := Scalar.cmpi .sgt v3 c0_i32_6
  let v25 : BitVec 32 := Scalar.extui v24
  let c0_i32_7 : BitVec 32 := 0#32
  let v26 : BitVec 1 := Scalar.cmpi .slt v3 c0_i32_7
  let v27 : BitVec 32 := Scalar.extui v26
  let v28 : BitVec 32 := Scalar.subi v25 v27
  let c2_i32 : BitVec 32 := 2#32
  let c0_i32_8 : BitVec 32 := 0#32
  let v29 : BitVec 1 := Scalar.cmpi .sgt c2_i32 c0_i32_8
  let v30 : BitVec 32 := Scalar.extui v29
  let c0_i32_9 : BitVec 32 := 0#32
  let v31 : BitVec 1 := Scalar.cmpi .slt c2_i32 c0_i32_9
  let v32 : BitVec 32 := Scalar.extui v31
  let v33 : BitVec 32 := Scalar.subi v30 v32
  let v34 : BitVec 1 := Scalar.cmpi .ne v28 v33
  let v35 : BitVec 32 := Scalar.remsi v3 c2_i32
  let c0_i32_10 : BitVec 32 := 0#32
  let v36 : BitVec 1 := Scalar.cmpi .ne v35 c0_i32_10
  let v37 : BitVec 1 := Scalar.andi v34 v36
  let v23 : BitVec 32 := Scalar.divsi v3 c2_i32
  let c1_i32_11 : BitVec 32 := 1#32
  let v38 : BitVec 32 := Scalar.subi v23 c1_i32_11
  let v39 : BitVec 32 := Scalar.select v37 v38 v23
  let c32_i32_326 : BitVec 32 := 32#32
  let v534 : BitVec 32 := Scalar.muli v39 c32_i32_326
  let v535 : BitVec 32 := Scalar.addi v437 v534
  let c32_i32_385 : BitVec 32 := 32#32
  let v626 : BitVec 32 := Scalar.muli v39 c32_i32_385
  let v627 : BitVec 32 := Scalar.subi v535 v626
  let c64_i32_445 : BitVec 32 := 64#32
  let v702 : BitVec 32 := Scalar.muli v22 c64_i32_445
  let v703 : BitVec 32 := Scalar.subi v627 v702
  let c0_i32_512 : BitVec 32 := 0#32
  ![v703.toNat, 0]
def k0_dev31 (d0 : Dev nD) : Nat :=
  let c0_i32_511 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let c1_i32_29 : BitVec 32 := 1#32
  let c2_i32_28 : BitVec 32 := 2#32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_14 : BitVec 32 := 0#32
  let v42 : BitVec 1 := Scalar.cmpi .sgt v20 c0_i32_14
  let v43 : BitVec 32 := Scalar.extui v42
  let c0_i32_15 : BitVec 32 := 0#32
  let v44 : BitVec 1 := Scalar.cmpi .slt v20 c0_i32_15
  let v45 : BitVec 32 := Scalar.extui v44
  let v46 : BitVec 32 := Scalar.subi v43 v45
  let c2_i32_13 : BitVec 32 := 2#32
  let c0_i32_16 : BitVec 32 := 0#32
  let v47 : BitVec 1 := Scalar.cmpi .sgt c2_i32_13 c0_i32_16
  let v48 : BitVec 32 := Scalar.extui v47
  let c0_i32_17 : BitVec 32 := 0#32
  let v49 : BitVec 1 := Scalar.cmpi .slt c2_i32_13 c0_i32_17
  let v50 : BitVec 32 := Scalar.extui v49
  let v51 : BitVec 32 := Scalar.subi v48 v50
  let v52 : BitVec 1 := Scalar.cmpi .ne v46 v51
  let v53 : BitVec 32 := Scalar.remsi v20 c2_i32_13
  let c0_i32_18 : BitVec 32 := 0#32
  let v54 : BitVec 1 := Scalar.cmpi .ne v53 c0_i32_18
  let v55 : BitVec 1 := Scalar.andi v52 v54
  let v41 : BitVec 32 := Scalar.divsi v20 c2_i32_13
  let c1_i32_19 : BitVec 32 := 1#32
  let v56 : BitVec 32 := Scalar.subi v41 c1_i32_19
  let v57 : BitVec 32 := Scalar.select v55 v56 v41
  let v69 : BitVec 32 := Scalar.muli c2_i32_28 v57
  let v70 : BitVec 32 := Scalar.subi c1_i32_29 v69
  let v71 : BitVec 32 := Scalar.muli c8_i32 v70
  let v72 : BitVec 32 := Scalar.addi v2 v71
  let c1_i32_510 : BitVec 32 := 1#32
  let v783 : BitVec 32 := Scalar.muli v72 c1_i32_510
  let v784 : BitVec 32 := Scalar.addi c0_i32_511 v783
  v784.toNat
def k0_off64 (d0 : Dev nD) : Fin 2 → Nat :=
  let c1536_i32_142 : BitVec 32 := 1536#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_14 : BitVec 32 := 0#32
  let v42 : BitVec 1 := Scalar.cmpi .sgt v20 c0_i32_14
  let v43 : BitVec 32 := Scalar.extui v42
  let c0_i32_15 : BitVec 32 := 0#32
  let v44 : BitVec 1 := Scalar.cmpi .slt v20 c0_i32_15
  let v45 : BitVec 32 := Scalar.extui v44
  let v46 : BitVec 32 := Scalar.subi v43 v45
  let c2_i32_13 : BitVec 32 := 2#32
  let c0_i32_16 : BitVec 32 := 0#32
  let v47 : BitVec 1 := Scalar.cmpi .sgt c2_i32_13 c0_i32_16
  let v48 : BitVec 32 := Scalar.extui v47
  let c0_i32_17 : BitVec 32 := 0#32
  let v49 : BitVec 1 := Scalar.cmpi .slt c2_i32_13 c0_i32_17
  let v50 : BitVec 32 := Scalar.extui v49
  let v51 : BitVec 32 := Scalar.subi v48 v50
  let v52 : BitVec 1 := Scalar.cmpi .ne v46 v51
  let v53 : BitVec 32 := Scalar.remsi v20 c2_i32_13
  let c0_i32_18 : BitVec 32 := 0#32
  let v54 : BitVec 1 := Scalar.cmpi .ne v53 c0_i32_18
  let v55 : BitVec 1 := Scalar.andi v52 v54
  let v41 : BitVec 32 := Scalar.divsi v20 c2_i32_13
  let c1_i32_19 : BitVec 32 := 1#32
  let v56 : BitVec 32 := Scalar.subi v41 c1_i32_19
  let v57 : BitVec 32 := Scalar.select v55 v56 v41
  let c256_i32_141 : BitVec 32 := 256#32
  let v226 : BitVec 32 := Scalar.muli v57 c256_i32_141
  let v227 : BitVec 32 := Scalar.addi c1536_i32_142 v226
  let c4_i32 : BitVec 32 := 4#32
  let v3 : BitVec 32 := Scalar.remsi v2 c4_i32
  let c3_i32 : BitVec 32 := 3#32
  let v21 : BitVec 32 := Scalar.subi c3_i32 v3
  let v22 : BitVec 32 := Scalar.minsi v3 v21
  let c128_i32_214 : BitVec 32 := 128#32
  let v346 : BitVec 32 := Scalar.muli v22 c128_i32_214
  let v347 : BitVec 32 := Scalar.addi v227 v346
  let c0_i32_6 : BitVec 32 := 0#32
  let v24 : BitVec 1 := Scalar.cmpi .sgt v3 c0_i32_6
  let v25 : BitVec 32 := Scalar.extui v24
  let c0_i32_7 : BitVec 32 := 0#32
  let v26 : BitVec 1 := Scalar.cmpi .slt v3 c0_i32_7
  let v27 : BitVec 32 := Scalar.extui v26
  let v28 : BitVec 32 := Scalar.subi v25 v27
  let c2_i32 : BitVec 32 := 2#32
  let c0_i32_8 : BitVec 32 := 0#32
  let v29 : BitVec 1 := Scalar.cmpi .sgt c2_i32 c0_i32_8
  let v30 : BitVec 32 := Scalar.extui v29
  let c0_i32_9 : BitVec 32 := 0#32
  let v31 : BitVec 1 := Scalar.cmpi .slt c2_i32 c0_i32_9
  let v32 : BitVec 32 := Scalar.extui v31
  let v33 : BitVec 32 := Scalar.subi v30 v32
  let v34 : BitVec 1 := Scalar.cmpi .ne v28 v33
  let v35 : BitVec 32 := Scalar.remsi v3 c2_i32
  let c0_i32_10 : BitVec 32 := 0#32
  let v36 : BitVec 1 := Scalar.cmpi .ne v35 c0_i32_10
  let v37 : BitVec 1 := Scalar.andi v34 v36
  let v23 : BitVec 32 := Scalar.divsi v3 c2_i32
  let c1_i32_11 : BitVec 32 := 1#32
  let v38 : BitVec 32 := Scalar.subi v23 c1_i32_11
  let v39 : BitVec 32 := Scalar.select v37 v38 v23
  let c64_i32_286 : BitVec 32 := 64#32
  let v466 : BitVec 32 := Scalar.muli v39 c64_i32_286
  let v467 : BitVec 32 := Scalar.addi v347 v466
  let c2_i32_12 : BitVec 32 := 2#32
  let v40 : BitVec 32 := Scalar.remsi v20 c2_i32_12
  let c32_i32_337 : BitVec 32 := 32#32
  let v553 : BitVec 32 := Scalar.muli v40 c32_i32_337
  let v554 : BitVec 32 := Scalar.addi v467 v553
  let c32_i32_394 : BitVec 32 := 32#32
  let v639 : BitVec 32 := Scalar.muli v40 c32_i32_394
  let v640 : BitVec 32 := Scalar.subi v554 v639
  let c64_i32_454 : BitVec 32 := 64#32
  let v715 : BitVec 32 := Scalar.muli v39 c64_i32_454
  let v716 : BitVec 32 := Scalar.subi v640 v715
  let c0_i32_521 : BitVec 32 := 0#32
  ![v716.toNat, 0]
def k0_dev32 (d0 : Dev nD) : Nat :=
  let c0_i32_520 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_20 : BitVec 32 := 1#32
  let v58 : BitVec 32 := Scalar.addi v2 c1_i32_20
  let c2_i32_22 : BitVec 32 := 2#32
  let c4_i32 : BitVec 32 := 4#32
  let v3 : BitVec 32 := Scalar.remsi v2 c4_i32
  let c2_i32_21 : BitVec 32 := 2#32
  let v59 : BitVec 32 := Scalar.remsi v3 c2_i32_21
  let v60 : BitVec 32 := Scalar.muli c2_i32_22 v59
  let v61 : BitVec 32 := Scalar.subi v58 v60
  let c1_i32_519 : BitVec 32 := 1#32
  let v796 : BitVec 32 := Scalar.muli v61 c1_i32_519
  let v797 : BitVec 32 := Scalar.addi c0_i32_520 v796
  v797.toNat
def k0_off65 (d0 : Dev nD) : Fin 2 → Nat :=
  let c0_i32_83 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c3_i32 : BitVec 32 := 3#32
  let v21 : BitVec 32 := Scalar.subi c3_i32 v3
  let v22 : BitVec 32 := Scalar.minsi v3 v21
  let c256_i32_82 : BitVec 32 := 256#32
  let v136 : BitVec 32 := Scalar.muli v22 c256_i32_82
  let v137 : BitVec 32 := Scalar.addi c0_i32_83 v136
  let c0_i32_6 : BitVec 32 := 0#32
  let v24 : BitVec 1 := Scalar.cmpi .sgt v3 c0_i32_6
  let v25 : BitVec 32 := Scalar.extui v24
  let c0_i32_7 : BitVec 32 := 0#32
  let v26 : BitVec 1 := Scalar.cmpi .slt v3 c0_i32_7
  let v27 : BitVec 32 := Scalar.extui v26
  let v28 : BitVec 32 := Scalar.subi v25 v27
  let c2_i32 : BitVec 32 := 2#32
  let c0_i32_8 : BitVec 32 := 0#32
  let v29 : BitVec 1 := Scalar.cmpi .sgt c2_i32 c0_i32_8
  let v30 : BitVec 32 := Scalar.extui v29
  let c0_i32_9 : BitVec 32 := 0#32
  let v31 : BitVec 1 := Scalar.cmpi .slt c2_i32 c0_i32_9
  let v32 : BitVec 32 := Scalar.extui v31
  let v33 : BitVec 32 := Scalar.subi v30 v32
  let v34 : BitVec 1 := Scalar.cmpi .ne v28 v33
  let v35 : BitVec 32 := Scalar.remsi v3 c2_i32
  let c0_i32_10 : BitVec 32 := 0#32
  let v36 : BitVec 1 := Scalar.cmpi .ne v35 c0_i32_10
  let v37 : BitVec 1 := Scalar.andi v34 v36
  let v23 : BitVec 32 := Scalar.divsi v3 c2_i32
  let c1_i32_11 : BitVec 32 := 1#32
  let v38 : BitVec 32 := Scalar.subi v23 c1_i32_11
  let v39 : BitVec 32 := Scalar.select v37 v38 v23
  let c128_i32_160 : BitVec 32 := 128#32
  let v256 : BitVec 32 := Scalar.muli v39 c128_i32_160
  let v257 : BitVec 32 := Scalar.addi v137 v256
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32_12 : BitVec 32 := 2#32
  let v40 : BitVec 32 := Scalar.remsi v20 c2_i32_12
  let c64_i32_232 : BitVec 32 := 64#32
  let v376 : BitVec 32 := Scalar.muli v40 c64_i32_232
  let v377 : BitVec 32 := Scalar.addi v257 v376
  let c0_i32_14 : BitVec 32 := 0#32
  let v42 : BitVec 1 := Scalar.cmpi .sgt v20 c0_i32_14
  let v43 : BitVec 32 := Scalar.extui v42
  let c0_i32_15 : BitVec 32 := 0#32
  let v44 : BitVec 1 := Scalar.cmpi .slt v20 c0_i32_15
  let v45 : BitVec 32 := Scalar.extui v44
  let v46 : BitVec 32 := Scalar.subi v43 v45
  let c2_i32_13 : BitVec 32 := 2#32
  let c0_i32_16 : BitVec 32 := 0#32
  let v47 : BitVec 1 := Scalar.cmpi .sgt c2_i32_13 c0_i32_16
  let v48 : BitVec 32 := Scalar.extui v47
  let c0_i32_17 : BitVec 32 := 0#32
  let v49 : BitVec 1 := Scalar.cmpi .slt c2_i32_13 c0_i32_17
  let v50 : BitVec 32 := Scalar.extui v49
  let v51 : BitVec 32 := Scalar.subi v48 v50
  let v52 : BitVec 1 := Scalar.cmpi .ne v46 v51
  let v53 : BitVec 32 := Scalar.remsi v20 c2_i32_13
  let c0_i32_18 : BitVec 32 := 0#32
  let v54 : BitVec 1 := Scalar.cmpi .ne v53 c0_i32_18
  let v55 : BitVec 1 := Scalar.andi v52 v54
  let v41 : BitVec 32 := Scalar.divsi v20 c2_i32_13
  let c1_i32_19 : BitVec 32 := 1#32
  let v56 : BitVec 32 := Scalar.subi v41 c1_i32_19
  let v57 : BitVec 32 := Scalar.select v55 v56 v41
  let c32_i32_304 : BitVec 32 := 32#32
  let v496 : BitVec 32 := Scalar.muli v57 c32_i32_304
  let v497 : BitVec 32 := Scalar.addi v377 v496
  let c32_i32_367 : BitVec 32 := 32#32
  let v600 : BitVec 32 := Scalar.muli v57 c32_i32_367
  let v601 : BitVec 32 := Scalar.subi v497 v600
  let c64_i32_427 : BitVec 32 := 64#32
  let v676 : BitVec 32 := Scalar.muli v40 c64_i32_427
  let v677 : BitVec 32 := Scalar.subi v601 v676
  let c128_i32_487 : BitVec 32 := 128#32
  let v752 : BitVec 32 := Scalar.muli v39 c128_i32_487
  let v753 : BitVec 32 := Scalar.subi v677 v752
  let c1_i32_488 : BitVec 32 := 1#32
  let v754 : BitVec 32 := Scalar.subi c1_i32_488 v39
  let c128_i32_489 : BitVec 32 := 128#32
  let v755 : BitVec 32 := Scalar.muli v754 c128_i32_489
  let v756 : BitVec 32 := Scalar.addi v753 v755
  let c0_i32_527 : BitVec 32 := 0#32
  ![v756.toNat, 0]
def k0_off66 (d0 : Dev nD) : Fin 2 → Nat :=
  let c512_i32_104 : BitVec 32 := 512#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v24 : BitVec 1 := Scalar.cmpi .sgt v3 c0_i32_6
  let v25 : BitVec 32 := Scalar.extui v24
  let c0_i32_7 : BitVec 32 := 0#32
  let v26 : BitVec 1 := Scalar.cmpi .slt v3 c0_i32_7
  let v27 : BitVec 32 := Scalar.extui v26
  let v28 : BitVec 32 := Scalar.subi v25 v27
  let c2_i32 : BitVec 32 := 2#32
  let c0_i32_8 : BitVec 32 := 0#32
  let v29 : BitVec 1 := Scalar.cmpi .sgt c2_i32 c0_i32_8
  let v30 : BitVec 32 := Scalar.extui v29
  let c0_i32_9 : BitVec 32 := 0#32
  let v31 : BitVec 1 := Scalar.cmpi .slt c2_i32 c0_i32_9
  let v32 : BitVec 32 := Scalar.extui v31
  let v33 : BitVec 32 := Scalar.subi v30 v32
  let v34 : BitVec 1 := Scalar.cmpi .ne v28 v33
  let v35 : BitVec 32 := Scalar.remsi v3 c2_i32
  let c0_i32_10 : BitVec 32 := 0#32
  let v36 : BitVec 1 := Scalar.cmpi .ne v35 c0_i32_10
  let v37 : BitVec 1 := Scalar.andi v34 v36
  let v23 : BitVec 32 := Scalar.divsi v3 c2_i32
  let c1_i32_11 : BitVec 32 := 1#32
  let v38 : BitVec 32 := Scalar.subi v23 c1_i32_11
  let v39 : BitVec 32 := Scalar.select v37 v38 v23
  let c256_i32_103 : BitVec 32 := 256#32
  let v166 : BitVec 32 := Scalar.muli v39 c256_i32_103
  let v167 : BitVec 32 := Scalar.addi c512_i32_104 v166
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32_12 : BitVec 32 := 2#32
  let v40 : BitVec 32 := Scalar.remsi v20 c2_i32_12
  let c128_i32_178 : BitVec 32 := 128#32
  let v286 : BitVec 32 := Scalar.muli v40 c128_i32_178
  let v287 : BitVec 32 := Scalar.addi v167 v286
  let c0_i32_14 : BitVec 32 := 0#32
  let v42 : BitVec 1 := Scalar.cmpi .sgt v20 c0_i32_14
  let v43 : BitVec 32 := Scalar.extui v42
  let c0_i32_15 : BitVec 32 := 0#32
  let v44 : BitVec 1 := Scalar.cmpi .slt v20 c0_i32_15
  let v45 : BitVec 32 := Scalar.extui v44
  let v46 : BitVec 32 := Scalar.subi v43 v45
  let c2_i32_13 : BitVec 32 := 2#32
  let c0_i32_16 : BitVec 32 := 0#32
  let v47 : BitVec 1 := Scalar.cmpi .sgt c2_i32_13 c0_i32_16
  let v48 : BitVec 32 := Scalar.extui v47
  let c0_i32_17 : BitVec 32 := 0#32
  let v49 : BitVec 1 := Scalar.cmpi .slt c2_i32_13 c0_i32_17
  let v50 : BitVec 32 := Scalar.extui v49
  let v51 : BitVec 32 := Scalar.subi v48 v50
  let v52 : BitVec 1 := Scalar.cmpi .ne v46 v51
  let v53 : BitVec 32 := Scalar.remsi v20 c2_i32_13
  let c0_i32_18 : BitVec 32 := 0#32
  let v54 : BitVec 1 := Scalar.cmpi .ne v53 c0_i32_18
  let v55 : BitVec 1 := Scalar.andi v52 v54
  let v41 : BitVec 32 := Scalar.divsi v20 c2_i32_13
  let c1_i32_19 : BitVec 32 := 1#32
  let v56 : BitVec 32 := Scalar.subi v41 c1_i32_19
  let v57 : BitVec 32 := Scalar.select v55 v56 v41
  let c64_i32_250 : BitVec 32 := 64#32
  let v406 : BitVec 32 := Scalar.muli v57 c64_i32_250
  let v407 : BitVec 32 := Scalar.addi v287 v406
  let c3_i32 : BitVec 32 := 3#32
  let v21 : BitVec 32 := Scalar.subi c3_i32 v3
  let v22 : BitVec 32 := Scalar.minsi v3 v21
  let c32_i32_315 : BitVec 32 := 32#32
  let v515 : BitVec 32 := Scalar.muli v22 c32_i32_315
  let v516 : BitVec 32 := Scalar.addi v407 v515
  let c32_i32_376 : BitVec 32 := 32#32
  let v613 : BitVec 32 := Scalar.muli v22 c32_i32_376
  let v614 : BitVec 32 := Scalar.subi v516 v613
  let c64_i32_436 : BitVec 32 := 64#32
  let v689 : BitVec 32 := Scalar.muli v57 c64_i32_436
  let v690 : BitVec 32 := Scalar.subi v614 v689
  let c128_i32_496 : BitVec 32 := 128#32
  let v765 : BitVec 32 := Scalar.muli v40 c128_i32_496
  let v766 : BitVec 32 := Scalar.subi v690 v765
  let c1_i32_497 : BitVec 32 := 1#32
  let v767 : BitVec 32 := Scalar.subi c1_i32_497 v40
  let c128_i32_498 : BitVec 32 := 128#32
  let v768 : BitVec 32 := Scalar.muli v767 c128_i32_498
  let v769 : BitVec 32 := Scalar.addi v766 v768
  let c0_i32_533 : BitVec 32 := 0#32
  ![v769.toNat, 0]
def k0_off67 (d0 : Dev nD) : Fin 2 → Nat :=
  let c1024_i32_123 : BitVec 32 := 1024#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32_12 : BitVec 32 := 2#32
  let v40 : BitVec 32 := Scalar.remsi v20 c2_i32_12
  let c256_i32_122 : BitVec 32 := 256#32
  let v196 : BitVec 32 := Scalar.muli v40 c256_i32_122
  let v197 : BitVec 32 := Scalar.addi c1024_i32_123 v196
  let c0_i32_14 : BitVec 32 := 0#32
  let v42 : BitVec 1 := Scalar.cmpi .sgt v20 c0_i32_14
  let v43 : BitVec 32 := Scalar.extui v42
  let c0_i32_15 : BitVec 32 := 0#32
  let v44 : BitVec 1 := Scalar.cmpi .slt v20 c0_i32_15
  let v45 : BitVec 32 := Scalar.extui v44
  let v46 : BitVec 32 := Scalar.subi v43 v45
  let c2_i32_13 : BitVec 32 := 2#32
  let c0_i32_16 : BitVec 32 := 0#32
  let v47 : BitVec 1 := Scalar.cmpi .sgt c2_i32_13 c0_i32_16
  let v48 : BitVec 32 := Scalar.extui v47
  let c0_i32_17 : BitVec 32 := 0#32
  let v49 : BitVec 1 := Scalar.cmpi .slt c2_i32_13 c0_i32_17
  let v50 : BitVec 32 := Scalar.extui v49
  let v51 : BitVec 32 := Scalar.subi v48 v50
  let v52 : BitVec 1 := Scalar.cmpi .ne v46 v51
  let v53 : BitVec 32 := Scalar.remsi v20 c2_i32_13
  let c0_i32_18 : BitVec 32 := 0#32
  let v54 : BitVec 1 := Scalar.cmpi .ne v53 c0_i32_18
  let v55 : BitVec 1 := Scalar.andi v52 v54
  let v41 : BitVec 32 := Scalar.divsi v20 c2_i32_13
  let c1_i32_19 : BitVec 32 := 1#32
  let v56 : BitVec 32 := Scalar.subi v41 c1_i32_19
  let v57 : BitVec 32 := Scalar.select v55 v56 v41
  let c128_i32_196 : BitVec 32 := 128#32
  let v316 : BitVec 32 := Scalar.muli v57 c128_i32_196
  let v317 : BitVec 32 := Scalar.addi v197 v316
  let c4_i32 : BitVec 32 := 4#32
  let v3 : BitVec 32 := Scalar.remsi v2 c4_i32
  let c3_i32 : BitVec 32 := 3#32
  let v21 : BitVec 32 := Scalar.subi c3_i32 v3
  let v22 : BitVec 32 := Scalar.minsi v3 v21
  let c64_i32_268 : BitVec 32 := 64#32
  let v436 : BitVec 32 := Scalar.muli v22 c64_i32_268
  let v437 : BitVec 32 := Scalar.addi v317 v436
  let c0_i32_6 : BitVec 32 := 0#32
  let v24 : BitVec 1 := Scalar.cmpi .sgt v3 c0_i32_6
  let v25 : BitVec 32 := Scalar.extui v24
  let c0_i32_7 : BitVec 32 := 0#32
  let v26 : BitVec 1 := Scalar.cmpi .slt v3 c0_i32_7
  let v27 : BitVec 32 := Scalar.extui v26
  let v28 : BitVec 32 := Scalar.subi v25 v27
  let c2_i32 : BitVec 32 := 2#32
  let c0_i32_8 : BitVec 32 := 0#32
  let v29 : BitVec 1 := Scalar.cmpi .sgt c2_i32 c0_i32_8
  let v30 : BitVec 32 := Scalar.extui v29
  let c0_i32_9 : BitVec 32 := 0#32
  let v31 : BitVec 1 := Scalar.cmpi .slt c2_i32 c0_i32_9
  let v32 : BitVec 32 := Scalar.extui v31
  let v33 : BitVec 32 := Scalar.subi v30 v32
  let v34 : BitVec 1 := Scalar.cmpi .ne v28 v33
  let v35 : BitVec 32 := Scalar.remsi v3 c2_i32
  let c0_i32_10 : BitVec 32 := 0#32
  let v36 : BitVec 1 := Scalar.cmpi .ne v35 c0_i32_10
  let v37 : BitVec 1 := Scalar.andi v34 v36
  let v23 : BitVec 32 := Scalar.divsi v3 c2_i32
  let c1_i32_11 : BitVec 32 := 1#32
  let v38 : BitVec 32 := Scalar.subi v23 c1_i32_11
  let v39 : BitVec 32 := Scalar.select v37 v38 v23
  let c32_i32_326 : BitVec 32 := 32#32
  let v534 : BitVec 32 := Scalar.muli v39 c32_i32_326
  let v535 : BitVec 32 := Scalar.addi v437 v534
  let c32_i32_385 : BitVec 32 := 32#32
  let v626 : BitVec 32 := Scalar.muli v39 c32_i32_385
  let v627 : BitVec 32 := Scalar.subi v535 v626
  let c64_i32_445 : BitVec 32 := 64#32
  let v702 : BitVec 32 := Scalar.muli v22 c64_i32_445
  let v703 : BitVec 32 := Scalar.subi v627 v702
  let c128_i32_505 : BitVec 32 := 128#32
  let v778 : BitVec 32 := Scalar.muli v57 c128_i32_505
  let v779 : BitVec 32 := Scalar.subi v703 v778
  let c1_i32_506 : BitVec 32 := 1#32
  let v780 : BitVec 32 := Scalar.subi c1_i32_506 v57
  let c128_i32_507 : BitVec 32 := 128#32
  let v781 : BitVec 32 := Scalar.muli v780 c128_i32_507
  let v782 : BitVec 32 := Scalar.addi v779 v781
  let c0_i32_539 : BitVec 32 := 0#32
  ![v782.toNat, 0]
def k0_off68 (d0 : Dev nD) : Fin 2 → Nat :=
  let c1536_i32_142 : BitVec 32 := 1536#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_14 : BitVec 32 := 0#32
  let v42 : BitVec 1 := Scalar.cmpi .sgt v20 c0_i32_14
  let v43 : BitVec 32 := Scalar.extui v42
  let c0_i32_15 : BitVec 32 := 0#32
  let v44 : BitVec 1 := Scalar.cmpi .slt v20 c0_i32_15
  let v45 : BitVec 32 := Scalar.extui v44
  let v46 : BitVec 32 := Scalar.subi v43 v45
  let c2_i32_13 : BitVec 32 := 2#32
  let c0_i32_16 : BitVec 32 := 0#32
  let v47 : BitVec 1 := Scalar.cmpi .sgt c2_i32_13 c0_i32_16
  let v48 : BitVec 32 := Scalar.extui v47
  let c0_i32_17 : BitVec 32 := 0#32
  let v49 : BitVec 1 := Scalar.cmpi .slt c2_i32_13 c0_i32_17
  let v50 : BitVec 32 := Scalar.extui v49
  let v51 : BitVec 32 := Scalar.subi v48 v50
  let v52 : BitVec 1 := Scalar.cmpi .ne v46 v51
  let v53 : BitVec 32 := Scalar.remsi v20 c2_i32_13
  let c0_i32_18 : BitVec 32 := 0#32
  let v54 : BitVec 1 := Scalar.cmpi .ne v53 c0_i32_18
  let v55 : BitVec 1 := Scalar.andi v52 v54
  let v41 : BitVec 32 := Scalar.divsi v20 c2_i32_13
  let c1_i32_19 : BitVec 32 := 1#32
  let v56 : BitVec 32 := Scalar.subi v41 c1_i32_19
  let v57 : BitVec 32 := Scalar.select v55 v56 v41
  let c256_i32_141 : BitVec 32 := 256#32
  let v226 : BitVec 32 := Scalar.muli v57 c256_i32_141
  let v227 : BitVec 32 := Scalar.addi c1536_i32_142 v226
  let c4_i32 : BitVec 32 := 4#32
  let v3 : BitVec 32 := Scalar.remsi v2 c4_i32
  let c3_i32 : BitVec 32 := 3#32
  let v21 : BitVec 32 := Scalar.subi c3_i32 v3
  let v22 : BitVec 32 := Scalar.minsi v3 v21
  let c128_i32_214 : BitVec 32 := 128#32
  let v346 : BitVec 32 := Scalar.muli v22 c128_i32_214
  let v347 : BitVec 32 := Scalar.addi v227 v346
  let c0_i32_6 : BitVec 32 := 0#32
  let v24 : BitVec 1 := Scalar.cmpi .sgt v3 c0_i32_6
  let v25 : BitVec 32 := Scalar.extui v24
  let c0_i32_7 : BitVec 32 := 0#32
  let v26 : BitVec 1 := Scalar.cmpi .slt v3 c0_i32_7
  let v27 : BitVec 32 := Scalar.extui v26
  let v28 : BitVec 32 := Scalar.subi v25 v27
  let c2_i32 : BitVec 32 := 2#32
  let c0_i32_8 : BitVec 32 := 0#32
  let v29 : BitVec 1 := Scalar.cmpi .sgt c2_i32 c0_i32_8
  let v30 : BitVec 32 := Scalar.extui v29
  let c0_i32_9 : BitVec 32 := 0#32
  let v31 : BitVec 1 := Scalar.cmpi .slt c2_i32 c0_i32_9
  let v32 : BitVec 32 := Scalar.extui v31
  let v33 : BitVec 32 := Scalar.subi v30 v32
  let v34 : BitVec 1 := Scalar.cmpi .ne v28 v33
  let v35 : BitVec 32 := Scalar.remsi v3 c2_i32
  let c0_i32_10 : BitVec 32 := 0#32
  let v36 : BitVec 1 := Scalar.cmpi .ne v35 c0_i32_10
  let v37 : BitVec 1 := Scalar.andi v34 v36
  let v23 : BitVec 32 := Scalar.divsi v3 c2_i32
  let c1_i32_11 : BitVec 32 := 1#32
  let v38 : BitVec 32 := Scalar.subi v23 c1_i32_11
  let v39 : BitVec 32 := Scalar.select v37 v38 v23
  let c64_i32_286 : BitVec 32 := 64#32
  let v466 : BitVec 32 := Scalar.muli v39 c64_i32_286
  let v467 : BitVec 32 := Scalar.addi v347 v466
  let c2_i32_12 : BitVec 32 := 2#32
  let v40 : BitVec 32 := Scalar.remsi v20 c2_i32_12
  let c32_i32_337 : BitVec 32 := 32#32
  let v553 : BitVec 32 := Scalar.muli v40 c32_i32_337
  let v554 : BitVec 32 := Scalar.addi v467 v553
  let c32_i32_394 : BitVec 32 := 32#32
  let v639 : BitVec 32 := Scalar.muli v40 c32_i32_394
  let v640 : BitVec 32 := Scalar.subi v554 v639
  let c64_i32_454 : BitVec 32 := 64#32
  let v715 : BitVec 32 := Scalar.muli v39 c64_i32_454
  let v716 : BitVec 32 := Scalar.subi v640 v715
  let c128_i32_514 : BitVec 32 := 128#32
  let v791 : BitVec 32 := Scalar.muli v22 c128_i32_514
  let v792 : BitVec 32 := Scalar.subi v716 v791
  let c1_i32_515 : BitVec 32 := 1#32
  let v793 : BitVec 32 := Scalar.subi c1_i32_515 v22
  let c128_i32_516 : BitVec 32 := 128#32
  let v794 : BitVec 32 := Scalar.muli v793 c128_i32_516
  let v795 : BitVec 32 := Scalar.addi v792 v794
  let c0_i32_545 : BitVec 32 := 0#32
  ![v795.toNat, 0]
def k0_off69 (d0 : Dev nD) : Fin 2 → Nat :=
  let c0_i32_83 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c3_i32 : BitVec 32 := 3#32
  let v21 : BitVec 32 := Scalar.subi c3_i32 v3
  let v22 : BitVec 32 := Scalar.minsi v3 v21
  let c256_i32_82 : BitVec 32 := 256#32
  let v136 : BitVec 32 := Scalar.muli v22 c256_i32_82
  let v137 : BitVec 32 := Scalar.addi c0_i32_83 v136
  let c0_i32_6 : BitVec 32 := 0#32
  let v24 : BitVec 1 := Scalar.cmpi .sgt v3 c0_i32_6
  let v25 : BitVec 32 := Scalar.extui v24
  let c0_i32_7 : BitVec 32 := 0#32
  let v26 : BitVec 1 := Scalar.cmpi .slt v3 c0_i32_7
  let v27 : BitVec 32 := Scalar.extui v26
  let v28 : BitVec 32 := Scalar.subi v25 v27
  let c2_i32 : BitVec 32 := 2#32
  let c0_i32_8 : BitVec 32 := 0#32
  let v29 : BitVec 1 := Scalar.cmpi .sgt c2_i32 c0_i32_8
  let v30 : BitVec 32 := Scalar.extui v29
  let c0_i32_9 : BitVec 32 := 0#32
  let v31 : BitVec 1 := Scalar.cmpi .slt c2_i32 c0_i32_9
  let v32 : BitVec 32 := Scalar.extui v31
  let v33 : BitVec 32 := Scalar.subi v30 v32
  let v34 : BitVec 1 := Scalar.cmpi .ne v28 v33
  let v35 : BitVec 32 := Scalar.remsi v3 c2_i32
  let c0_i32_10 : BitVec 32 := 0#32
  let v36 : BitVec 1 := Scalar.cmpi .ne v35 c0_i32_10
  let v37 : BitVec 1 := Scalar.andi v34 v36
  let v23 : BitVec 32 := Scalar.divsi v3 c2_i32
  let c1_i32_11 : BitVec 32 := 1#32
  let v38 : BitVec 32 := Scalar.subi v23 c1_i32_11
  let v39 : BitVec 32 := Scalar.select v37 v38 v23
  let c128_i32_160 : BitVec 32 := 128#32
  let v256 : BitVec 32 := Scalar.muli v39 c128_i32_160
  let v257 : BitVec 32 := Scalar.addi v137 v256
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32_12 : BitVec 32 := 2#32
  let v40 : BitVec 32 := Scalar.remsi v20 c2_i32_12
  let c64_i32_232 : BitVec 32 := 64#32
  let v376 : BitVec 32 := Scalar.muli v40 c64_i32_232
  let v377 : BitVec 32 := Scalar.addi v257 v376
  let c0_i32_14 : BitVec 32 := 0#32
  let v42 : BitVec 1 := Scalar.cmpi .sgt v20 c0_i32_14
  let v43 : BitVec 32 := Scalar.extui v42
  let c0_i32_15 : BitVec 32 := 0#32
  let v44 : BitVec 1 := Scalar.cmpi .slt v20 c0_i32_15
  let v45 : BitVec 32 := Scalar.extui v44
  let v46 : BitVec 32 := Scalar.subi v43 v45
  let c2_i32_13 : BitVec 32 := 2#32
  let c0_i32_16 : BitVec 32 := 0#32
  let v47 : BitVec 1 := Scalar.cmpi .sgt c2_i32_13 c0_i32_16
  let v48 : BitVec 32 := Scalar.extui v47
  let c0_i32_17 : BitVec 32 := 0#32
  let v49 : BitVec 1 := Scalar.cmpi .slt c2_i32_13 c0_i32_17
  let v50 : BitVec 32 := Scalar.extui v49
  let v51 : BitVec 32 := Scalar.subi v48 v50
  let v52 : BitVec 1 := Scalar.cmpi .ne v46 v51
  let v53 : BitVec 32 := Scalar.remsi v20 c2_i32_13
  let c0_i32_18 : BitVec 32 := 0#32
  let v54 : BitVec 1 := Scalar.cmpi .ne v53 c0_i32_18
  let v55 : BitVec 1 := Scalar.andi v52 v54
  let v41 : BitVec 32 := Scalar.divsi v20 c2_i32_13
  let c1_i32_19 : BitVec 32 := 1#32
  let v56 : BitVec 32 := Scalar.subi v41 c1_i32_19
  let v57 : BitVec 32 := Scalar.select v55 v56 v41
  let c32_i32_304 : BitVec 32 := 32#32
  let v496 : BitVec 32 := Scalar.muli v57 c32_i32_304
  let v497 : BitVec 32 := Scalar.addi v377 v496
  let c32_i32_367 : BitVec 32 := 32#32
  let v600 : BitVec 32 := Scalar.muli v57 c32_i32_367
  let v601 : BitVec 32 := Scalar.subi v497 v600
  let c64_i32_427 : BitVec 32 := 64#32
  let v676 : BitVec 32 := Scalar.muli v40 c64_i32_427
  let v677 : BitVec 32 := Scalar.subi v601 v676
  let c128_i32_487 : BitVec 32 := 128#32
  let v752 : BitVec 32 := Scalar.muli v39 c128_i32_487
  let v753 : BitVec 32 := Scalar.subi v677 v752
  let c0_i32_554 : BitVec 32 := 0#32
  ![v753.toNat, 0]
def k0_dev33 (d0 : Dev nD) : Nat :=
  let c0_i32_553 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_20 : BitVec 32 := 1#32
  let v58 : BitVec 32 := Scalar.addi v2 c1_i32_20
  let c2_i32_22 : BitVec 32 := 2#32
  let c4_i32 : BitVec 32 := 4#32
  let v3 : BitVec 32 := Scalar.remsi v2 c4_i32
  let c2_i32_21 : BitVec 32 := 2#32
  let v59 : BitVec 32 := Scalar.remsi v3 c2_i32_21
  let v60 : BitVec 32 := Scalar.muli c2_i32_22 v59
  let v61 : BitVec 32 := Scalar.subi v58 v60
  let c1_i32_552 : BitVec 32 := 1#32
  let v833 : BitVec 32 := Scalar.muli v61 c1_i32_552
  let v834 : BitVec 32 := Scalar.addi c0_i32_553 v833
  v834.toNat
def k0_off70 (d0 : Dev nD) : Fin 2 → Nat :=
  let c512_i32_104 : BitVec 32 := 512#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v24 : BitVec 1 := Scalar.cmpi .sgt v3 c0_i32_6
  let v25 : BitVec 32 := Scalar.extui v24
  let c0_i32_7 : BitVec 32 := 0#32
  let v26 : BitVec 1 := Scalar.cmpi .slt v3 c0_i32_7
  let v27 : BitVec 32 := Scalar.extui v26
  let v28 : BitVec 32 := Scalar.subi v25 v27
  let c2_i32 : BitVec 32 := 2#32
  let c0_i32_8 : BitVec 32 := 0#32
  let v29 : BitVec 1 := Scalar.cmpi .sgt c2_i32 c0_i32_8
  let v30 : BitVec 32 := Scalar.extui v29
  let c0_i32_9 : BitVec 32 := 0#32
  let v31 : BitVec 1 := Scalar.cmpi .slt c2_i32 c0_i32_9
  let v32 : BitVec 32 := Scalar.extui v31
  let v33 : BitVec 32 := Scalar.subi v30 v32
  let v34 : BitVec 1 := Scalar.cmpi .ne v28 v33
  let v35 : BitVec 32 := Scalar.remsi v3 c2_i32
  let c0_i32_10 : BitVec 32 := 0#32
  let v36 : BitVec 1 := Scalar.cmpi .ne v35 c0_i32_10
  let v37 : BitVec 1 := Scalar.andi v34 v36
  let v23 : BitVec 32 := Scalar.divsi v3 c2_i32
  let c1_i32_11 : BitVec 32 := 1#32
  let v38 : BitVec 32 := Scalar.subi v23 c1_i32_11
  let v39 : BitVec 32 := Scalar.select v37 v38 v23
  let c256_i32_103 : BitVec 32 := 256#32
  let v166 : BitVec 32 := Scalar.muli v39 c256_i32_103
  let v167 : BitVec 32 := Scalar.addi c512_i32_104 v166
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32_12 : BitVec 32 := 2#32
  let v40 : BitVec 32 := Scalar.remsi v20 c2_i32_12
  let c128_i32_178 : BitVec 32 := 128#32
  let v286 : BitVec 32 := Scalar.muli v40 c128_i32_178
  let v287 : BitVec 32 := Scalar.addi v167 v286
  let c0_i32_14 : BitVec 32 := 0#32
  let v42 : BitVec 1 := Scalar.cmpi .sgt v20 c0_i32_14
  let v43 : BitVec 32 := Scalar.extui v42
  let c0_i32_15 : BitVec 32 := 0#32
  let v44 : BitVec 1 := Scalar.cmpi .slt v20 c0_i32_15
  let v45 : BitVec 32 := Scalar.extui v44
  let v46 : BitVec 32 := Scalar.subi v43 v45
  let c2_i32_13 : BitVec 32 := 2#32
  let c0_i32_16 : BitVec 32 := 0#32
  let v47 : BitVec 1 := Scalar.cmpi .sgt c2_i32_13 c0_i32_16
  let v48 : BitVec 32 := Scalar.extui v47
  let c0_i32_17 : BitVec 32 := 0#32
  let v49 : BitVec 1 := Scalar.cmpi .slt c2_i32_13 c0_i32_17
  let v50 : BitVec 32 := Scalar.extui v49
  let v51 : BitVec 32 := Scalar.subi v48 v50
  let v52 : BitVec 1 := Scalar.cmpi .ne v46 v51
  let v53 : BitVec 32 := Scalar.remsi v20 c2_i32_13
  let c0_i32_18 : BitVec 32 := 0#32
  let v54 : BitVec 1 := Scalar.cmpi .ne v53 c0_i32_18
  let v55 : BitVec 1 := Scalar.andi v52 v54
  let v41 : BitVec 32 := Scalar.divsi v20 c2_i32_13
  let c1_i32_19 : BitVec 32 := 1#32
  let v56 : BitVec 32 := Scalar.subi v41 c1_i32_19
  let v57 : BitVec 32 := Scalar.select v55 v56 v41
  let c64_i32_250 : BitVec 32 := 64#32
  let v406 : BitVec 32 := Scalar.muli v57 c64_i32_250
  let v407 : BitVec 32 := Scalar.addi v287 v406
  let c3_i32 : BitVec 32 := 3#32
  let v21 : BitVec 32 := Scalar.subi c3_i32 v3
  let v22 : BitVec 32 := Scalar.minsi v3 v21
  let c32_i32_315 : BitVec 32 := 32#32
  let v515 : BitVec 32 := Scalar.muli v22 c32_i32_315
  let v516 : BitVec 32 := Scalar.addi v407 v515
  let c32_i32_376 : BitVec 32 := 32#32
  let v613 : BitVec 32 := Scalar.muli v22 c32_i32_376
  let v614 : BitVec 32 := Scalar.subi v516 v613
  let c64_i32_436 : BitVec 32 := 64#32
  let v689 : BitVec 32 := Scalar.muli v57 c64_i32_436
  let v690 : BitVec 32 := Scalar.subi v614 v689
  let c128_i32_496 : BitVec 32 := 128#32
  let v765 : BitVec 32 := Scalar.muli v40 c128_i32_496
  let v766 : BitVec 32 := Scalar.subi v690 v765
  let c0_i32_563 : BitVec 32 := 0#32
  ![v766.toNat, 0]
def k0_dev34 (d0 : Dev nD) : Nat :=
  let c0_i32_562 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_23 : BitVec 32 := 3#32
  let v62 : BitVec 32 := Scalar.addi v2 c3_i32_23
  let c2_i32_24 : BitVec 32 := 2#32
  let c4_i32 : BitVec 32 := 4#32
  let v3 : BitVec 32 := Scalar.remsi v2 c4_i32
  let v63 : BitVec 32 := Scalar.muli c2_i32_24 v3
  let v64 : BitVec 32 := Scalar.subi v62 v63
  let c1_i32_561 : BitVec 32 := 1#32
  let v846 : BitVec 32 := Scalar.muli v64 c1_i32_561
  let v847 : BitVec 32 := Scalar.addi c0_i32_562 v846
  v847.toNat
def k0_off71 (d0 : Dev nD) : Fin 2 → Nat :=
  let c1024_i32_123 : BitVec 32 := 1024#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32_12 : BitVec 32 := 2#32
  let v40 : BitVec 32 := Scalar.remsi v20 c2_i32_12
  let c256_i32_122 : BitVec 32 := 256#32
  let v196 : BitVec 32 := Scalar.muli v40 c256_i32_122
  let v197 : BitVec 32 := Scalar.addi c1024_i32_123 v196
  let c0_i32_14 : BitVec 32 := 0#32
  let v42 : BitVec 1 := Scalar.cmpi .sgt v20 c0_i32_14
  let v43 : BitVec 32 := Scalar.extui v42
  let c0_i32_15 : BitVec 32 := 0#32
  let v44 : BitVec 1 := Scalar.cmpi .slt v20 c0_i32_15
  let v45 : BitVec 32 := Scalar.extui v44
  let v46 : BitVec 32 := Scalar.subi v43 v45
  let c2_i32_13 : BitVec 32 := 2#32
  let c0_i32_16 : BitVec 32 := 0#32
  let v47 : BitVec 1 := Scalar.cmpi .sgt c2_i32_13 c0_i32_16
  let v48 : BitVec 32 := Scalar.extui v47
  let c0_i32_17 : BitVec 32 := 0#32
  let v49 : BitVec 1 := Scalar.cmpi .slt c2_i32_13 c0_i32_17
  let v50 : BitVec 32 := Scalar.extui v49
  let v51 : BitVec 32 := Scalar.subi v48 v50
  let v52 : BitVec 1 := Scalar.cmpi .ne v46 v51
  let v53 : BitVec 32 := Scalar.remsi v20 c2_i32_13
  let c0_i32_18 : BitVec 32 := 0#32
  let v54 : BitVec 1 := Scalar.cmpi .ne v53 c0_i32_18
  let v55 : BitVec 1 := Scalar.andi v52 v54
  let v41 : BitVec 32 := Scalar.divsi v20 c2_i32_13
  let c1_i32_19 : BitVec 32 := 1#32
  let v56 : BitVec 32 := Scalar.subi v41 c1_i32_19
  let v57 : BitVec 32 := Scalar.select v55 v56 v41
  let c128_i32_196 : BitVec 32 := 128#32
  let v316 : BitVec 32 := Scalar.muli v57 c128_i32_196
  let v317 : BitVec 32 := Scalar.addi v197 v316
  let c4_i32 : BitVec 32 := 4#32
  let v3 : BitVec 32 := Scalar.remsi v2 c4_i32
  let c3_i32 : BitVec 32 := 3#32
  let v21 : BitVec 32 := Scalar.subi c3_i32 v3
  let v22 : BitVec 32 := Scalar.minsi v3 v21
  let c64_i32_268 : BitVec 32 := 64#32
  let v436 : BitVec 32 := Scalar.muli v22 c64_i32_268
  let v437 : BitVec 32 := Scalar.addi v317 v436
  let c0_i32_6 : BitVec 32 := 0#32
  let v24 : BitVec 1 := Scalar.cmpi .sgt v3 c0_i32_6
  let v25 : BitVec 32 := Scalar.extui v24
  let c0_i32_7 : BitVec 32 := 0#32
  let v26 : BitVec 1 := Scalar.cmpi .slt v3 c0_i32_7
  let v27 : BitVec 32 := Scalar.extui v26
  let v28 : BitVec 32 := Scalar.subi v25 v27
  let c2_i32 : BitVec 32 := 2#32
  let c0_i32_8 : BitVec 32 := 0#32
  let v29 : BitVec 1 := Scalar.cmpi .sgt c2_i32 c0_i32_8
  let v30 : BitVec 32 := Scalar.extui v29
  let c0_i32_9 : BitVec 32 := 0#32
  let v31 : BitVec 1 := Scalar.cmpi .slt c2_i32 c0_i32_9
  let v32 : BitVec 32 := Scalar.extui v31
  let v33 : BitVec 32 := Scalar.subi v30 v32
  let v34 : BitVec 1 := Scalar.cmpi .ne v28 v33
  let v35 : BitVec 32 := Scalar.remsi v3 c2_i32
  let c0_i32_10 : BitVec 32 := 0#32
  let v36 : BitVec 1 := Scalar.cmpi .ne v35 c0_i32_10
  let v37 : BitVec 1 := Scalar.andi v34 v36
  let v23 : BitVec 32 := Scalar.divsi v3 c2_i32
  let c1_i32_11 : BitVec 32 := 1#32
  let v38 : BitVec 32 := Scalar.subi v23 c1_i32_11
  let v39 : BitVec 32 := Scalar.select v37 v38 v23
  let c32_i32_326 : BitVec 32 := 32#32
  let v534 : BitVec 32 := Scalar.muli v39 c32_i32_326
  let v535 : BitVec 32 := Scalar.addi v437 v534
  let c32_i32_385 : BitVec 32 := 32#32
  let v626 : BitVec 32 := Scalar.muli v39 c32_i32_385
  let v627 : BitVec 32 := Scalar.subi v535 v626
  let c64_i32_445 : BitVec 32 := 64#32
  let v702 : BitVec 32 := Scalar.muli v22 c64_i32_445
  let v703 : BitVec 32 := Scalar.subi v627 v702
  let c128_i32_505 : BitVec 32 := 128#32
  let v778 : BitVec 32 := Scalar.muli v57 c128_i32_505
  let v779 : BitVec 32 := Scalar.subi v703 v778
  let c0_i32_572 : BitVec 32 := 0#32
  ![v779.toNat, 0]
def k0_dev35 (d0 : Dev nD) : Nat :=
  let c0_i32_571 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_27 : BitVec 32 := 4#32
  let c1_i32_26 : BitVec 32 := 1#32
  let c2_i32_25 : BitVec 32 := 2#32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32_12 : BitVec 32 := 2#32
  let v40 : BitVec 32 := Scalar.remsi v20 c2_i32_12
  let v65 : BitVec 32 := Scalar.muli c2_i32_25 v40
  let v66 : BitVec 32 := Scalar.subi c1_i32_26 v65
  let v67 : BitVec 32 := Scalar.muli c4_i32_27 v66
  let v68 : BitVec 32 := Scalar.addi v2 v67
  let c1_i32_570 : BitVec 32 := 1#32
  let v859 : BitVec 32 := Scalar.muli v68 c1_i32_570
  let v860 : BitVec 32 := Scalar.addi c0_i32_571 v859
  v860.toNat
def k0_off72 (d0 : Dev nD) : Fin 2 → Nat :=
  let c1536_i32_142 : BitVec 32 := 1536#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_14 : BitVec 32 := 0#32
  let v42 : BitVec 1 := Scalar.cmpi .sgt v20 c0_i32_14
  let v43 : BitVec 32 := Scalar.extui v42
  let c0_i32_15 : BitVec 32 := 0#32
  let v44 : BitVec 1 := Scalar.cmpi .slt v20 c0_i32_15
  let v45 : BitVec 32 := Scalar.extui v44
  let v46 : BitVec 32 := Scalar.subi v43 v45
  let c2_i32_13 : BitVec 32 := 2#32
  let c0_i32_16 : BitVec 32 := 0#32
  let v47 : BitVec 1 := Scalar.cmpi .sgt c2_i32_13 c0_i32_16
  let v48 : BitVec 32 := Scalar.extui v47
  let c0_i32_17 : BitVec 32 := 0#32
  let v49 : BitVec 1 := Scalar.cmpi .slt c2_i32_13 c0_i32_17
  let v50 : BitVec 32 := Scalar.extui v49
  let v51 : BitVec 32 := Scalar.subi v48 v50
  let v52 : BitVec 1 := Scalar.cmpi .ne v46 v51
  let v53 : BitVec 32 := Scalar.remsi v20 c2_i32_13
  let c0_i32_18 : BitVec 32 := 0#32
  let v54 : BitVec 1 := Scalar.cmpi .ne v53 c0_i32_18
  let v55 : BitVec 1 := Scalar.andi v52 v54
  let v41 : BitVec 32 := Scalar.divsi v20 c2_i32_13
  let c1_i32_19 : BitVec 32 := 1#32
  let v56 : BitVec 32 := Scalar.subi v41 c1_i32_19
  let v57 : BitVec 32 := Scalar.select v55 v56 v41
  let c256_i32_141 : BitVec 32 := 256#32
  let v226 : BitVec 32 := Scalar.muli v57 c256_i32_141
  let v227 : BitVec 32 := Scalar.addi c1536_i32_142 v226
  let c4_i32 : BitVec 32 := 4#32
  let v3 : BitVec 32 := Scalar.remsi v2 c4_i32
  let c3_i32 : BitVec 32 := 3#32
  let v21 : BitVec 32 := Scalar.subi c3_i32 v3
  let v22 : BitVec 32 := Scalar.minsi v3 v21
  let c128_i32_214 : BitVec 32 := 128#32
  let v346 : BitVec 32 := Scalar.muli v22 c128_i32_214
  let v347 : BitVec 32 := Scalar.addi v227 v346
  let c0_i32_6 : BitVec 32 := 0#32
  let v24 : BitVec 1 := Scalar.cmpi .sgt v3 c0_i32_6
  let v25 : BitVec 32 := Scalar.extui v24
  let c0_i32_7 : BitVec 32 := 0#32
  let v26 : BitVec 1 := Scalar.cmpi .slt v3 c0_i32_7
  let v27 : BitVec 32 := Scalar.extui v26
  let v28 : BitVec 32 := Scalar.subi v25 v27
  let c2_i32 : BitVec 32 := 2#32
  let c0_i32_8 : BitVec 32 := 0#32
  let v29 : BitVec 1 := Scalar.cmpi .sgt c2_i32 c0_i32_8
  let v30 : BitVec 32 := Scalar.extui v29
  let c0_i32_9 : BitVec 32 := 0#32
  let v31 : BitVec 1 := Scalar.cmpi .slt c2_i32 c0_i32_9
  let v32 : BitVec 32 := Scalar.extui v31
  let v33 : BitVec 32 := Scalar.subi v30 v32
  let v34 : BitVec 1 := Scalar.cmpi .ne v28 v33
  let v35 : BitVec 32 := Scalar.remsi v3 c2_i32
  let c0_i32_10 : BitVec 32 := 0#32
  let v36 : BitVec 1 := Scalar.cmpi .ne v35 c0_i32_10
  let v37 : BitVec 1 := Scalar.andi v34 v36
  let v23 : BitVec 32 := Scalar.divsi v3 c2_i32
  let c1_i32_11 : BitVec 32 := 1#32
  let v38 : BitVec 32 := Scalar.subi v23 c1_i32_11
  let v39 : BitVec 32 := Scalar.select v37 v38 v23
  let c64_i32_286 : BitVec 32 := 64#32
  let v466 : BitVec 32 := Scalar.muli v39 c64_i32_286
  let v467 : BitVec 32 := Scalar.addi v347 v466
  let c2_i32_12 : BitVec 32 := 2#32
  let v40 : BitVec 32 := Scalar.remsi v20 c2_i32_12
  let c32_i32_337 : BitVec 32 := 32#32
  let v553 : BitVec 32 := Scalar.muli v40 c32_i32_337
  let v554 : BitVec 32 := Scalar.addi v467 v553
  let c32_i32_394 : BitVec 32 := 32#32
  let v639 : BitVec 32 := Scalar.muli v40 c32_i32_394
  let v640 : BitVec 32 := Scalar.subi v554 v639
  let c64_i32_454 : BitVec 32 := 64#32
  let v715 : BitVec 32 := Scalar.muli v39 c64_i32_454
  let v716 : BitVec 32 := Scalar.subi v640 v715
  let c128_i32_514 : BitVec 32 := 128#32
  let v791 : BitVec 32 := Scalar.muli v22 c128_i32_514
  let v792 : BitVec 32 := Scalar.subi v716 v791
  let c0_i32_581 : BitVec 32 := 0#32
  ![v792.toNat, 0]
def k0_dev36 (d0 : Dev nD) : Nat :=
  let c0_i32_580 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let c1_i32_29 : BitVec 32 := 1#32
  let c2_i32_28 : BitVec 32 := 2#32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_14 : BitVec 32 := 0#32
  let v42 : BitVec 1 := Scalar.cmpi .sgt v20 c0_i32_14
  let v43 : BitVec 32 := Scalar.extui v42
  let c0_i32_15 : BitVec 32 := 0#32
  let v44 : BitVec 1 := Scalar.cmpi .slt v20 c0_i32_15
  let v45 : BitVec 32 := Scalar.extui v44
  let v46 : BitVec 32 := Scalar.subi v43 v45
  let c2_i32_13 : BitVec 32 := 2#32
  let c0_i32_16 : BitVec 32 := 0#32
  let v47 : BitVec 1 := Scalar.cmpi .sgt c2_i32_13 c0_i32_16
  let v48 : BitVec 32 := Scalar.extui v47
  let c0_i32_17 : BitVec 32 := 0#32
  let v49 : BitVec 1 := Scalar.cmpi .slt c2_i32_13 c0_i32_17
  let v50 : BitVec 32 := Scalar.extui v49
  let v51 : BitVec 32 := Scalar.subi v48 v50
  let v52 : BitVec 1 := Scalar.cmpi .ne v46 v51
  let v53 : BitVec 32 := Scalar.remsi v20 c2_i32_13
  let c0_i32_18 : BitVec 32 := 0#32
  let v54 : BitVec 1 := Scalar.cmpi .ne v53 c0_i32_18
  let v55 : BitVec 1 := Scalar.andi v52 v54
  let v41 : BitVec 32 := Scalar.divsi v20 c2_i32_13
  let c1_i32_19 : BitVec 32 := 1#32
  let v56 : BitVec 32 := Scalar.subi v41 c1_i32_19
  let v57 : BitVec 32 := Scalar.select v55 v56 v41
  let v69 : BitVec 32 := Scalar.muli c2_i32_28 v57
  let v70 : BitVec 32 := Scalar.subi c1_i32_29 v69
  let v71 : BitVec 32 := Scalar.muli c8_i32 v70
  let v72 : BitVec 32 := Scalar.addi v2 v71
  let c1_i32_579 : BitVec 32 := 1#32
  let v872 : BitVec 32 := Scalar.muli v72 c1_i32_579
  let v873 : BitVec 32 := Scalar.addi c0_i32_580 v872
  v873.toNat
def k0_off73 (d0 : Dev nD) : Fin 2 → Nat :=
  let c0_i32_83 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c3_i32 : BitVec 32 := 3#32
  let v21 : BitVec 32 := Scalar.subi c3_i32 v3
  let v22 : BitVec 32 := Scalar.minsi v3 v21
  let c256_i32_82 : BitVec 32 := 256#32
  let v136 : BitVec 32 := Scalar.muli v22 c256_i32_82
  let v137 : BitVec 32 := Scalar.addi c0_i32_83 v136
  let c0_i32_6 : BitVec 32 := 0#32
  let v24 : BitVec 1 := Scalar.cmpi .sgt v3 c0_i32_6
  let v25 : BitVec 32 := Scalar.extui v24
  let c0_i32_7 : BitVec 32 := 0#32
  let v26 : BitVec 1 := Scalar.cmpi .slt v3 c0_i32_7
  let v27 : BitVec 32 := Scalar.extui v26
  let v28 : BitVec 32 := Scalar.subi v25 v27
  let c2_i32 : BitVec 32 := 2#32
  let c0_i32_8 : BitVec 32 := 0#32
  let v29 : BitVec 1 := Scalar.cmpi .sgt c2_i32 c0_i32_8
  let v30 : BitVec 32 := Scalar.extui v29
  let c0_i32_9 : BitVec 32 := 0#32
  let v31 : BitVec 1 := Scalar.cmpi .slt c2_i32 c0_i32_9
  let v32 : BitVec 32 := Scalar.extui v31
  let v33 : BitVec 32 := Scalar.subi v30 v32
  let v34 : BitVec 1 := Scalar.cmpi .ne v28 v33
  let v35 : BitVec 32 := Scalar.remsi v3 c2_i32
  let c0_i32_10 : BitVec 32 := 0#32
  let v36 : BitVec 1 := Scalar.cmpi .ne v35 c0_i32_10
  let v37 : BitVec 1 := Scalar.andi v34 v36
  let v23 : BitVec 32 := Scalar.divsi v3 c2_i32
  let c1_i32_11 : BitVec 32 := 1#32
  let v38 : BitVec 32 := Scalar.subi v23 c1_i32_11
  let v39 : BitVec 32 := Scalar.select v37 v38 v23
  let c128_i32_160 : BitVec 32 := 128#32
  let v256 : BitVec 32 := Scalar.muli v39 c128_i32_160
  let v257 : BitVec 32 := Scalar.addi v137 v256
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32_12 : BitVec 32 := 2#32
  let v40 : BitVec 32 := Scalar.remsi v20 c2_i32_12
  let c64_i32_232 : BitVec 32 := 64#32
  let v376 : BitVec 32 := Scalar.muli v40 c64_i32_232
  let v377 : BitVec 32 := Scalar.addi v257 v376
  let c0_i32_14 : BitVec 32 := 0#32
  let v42 : BitVec 1 := Scalar.cmpi .sgt v20 c0_i32_14
  let v43 : BitVec 32 := Scalar.extui v42
  let c0_i32_15 : BitVec 32 := 0#32
  let v44 : BitVec 1 := Scalar.cmpi .slt v20 c0_i32_15
  let v45 : BitVec 32 := Scalar.extui v44
  let v46 : BitVec 32 := Scalar.subi v43 v45
  let c2_i32_13 : BitVec 32 := 2#32
  let c0_i32_16 : BitVec 32 := 0#32
  let v47 : BitVec 1 := Scalar.cmpi .sgt c2_i32_13 c0_i32_16
  let v48 : BitVec 32 := Scalar.extui v47
  let c0_i32_17 : BitVec 32 := 0#32
  let v49 : BitVec 1 := Scalar.cmpi .slt c2_i32_13 c0_i32_17
  let v50 : BitVec 32 := Scalar.extui v49
  let v51 : BitVec 32 := Scalar.subi v48 v50
  let v52 : BitVec 1 := Scalar.cmpi .ne v46 v51
  let v53 : BitVec 32 := Scalar.remsi v20 c2_i32_13
  let c0_i32_18 : BitVec 32 := 0#32
  let v54 : BitVec 1 := Scalar.cmpi .ne v53 c0_i32_18
  let v55 : BitVec 1 := Scalar.andi v52 v54
  let v41 : BitVec 32 := Scalar.divsi v20 c2_i32_13
  let c1_i32_19 : BitVec 32 := 1#32
  let v56 : BitVec 32 := Scalar.subi v41 c1_i32_19
  let v57 : BitVec 32 := Scalar.select v55 v56 v41
  let c32_i32_304 : BitVec 32 := 32#32
  let v496 : BitVec 32 := Scalar.muli v57 c32_i32_304
  let v497 : BitVec 32 := Scalar.addi v377 v496
  let c32_i32_367 : BitVec 32 := 32#32
  let v600 : BitVec 32 := Scalar.muli v57 c32_i32_367
  let v601 : BitVec 32 := Scalar.subi v497 v600
  let c64_i32_427 : BitVec 32 := 64#32
  let v676 : BitVec 32 := Scalar.muli v40 c64_i32_427
  let v677 : BitVec 32 := Scalar.subi v601 v676
  let c128_i32_487 : BitVec 32 := 128#32
  let v752 : BitVec 32 := Scalar.muli v39 c128_i32_487
  let v753 : BitVec 32 := Scalar.subi v677 v752
  let c256_i32_547 : BitVec 32 := 256#32
  let v828 : BitVec 32 := Scalar.muli v22 c256_i32_547
  let v829 : BitVec 32 := Scalar.subi v753 v828
  let c1_i32_548 : BitVec 32 := 1#32
  let v830 : BitVec 32 := Scalar.subi c1_i32_548 v22
  let c256_i32_549 : BitVec 32 := 256#32
  let v831 : BitVec 32 := Scalar.muli v830 c256_i32_549
  let v832 : BitVec 32 := Scalar.addi v829 v831
  let c0_i32_587 : BitVec 32 := 0#32
  ![v832.toNat, 0]
def k0_off74 (d0 : Dev nD) : Fin 2 → Nat :=
  let c512_i32_104 : BitVec 32 := 512#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v24 : BitVec 1 := Scalar.cmpi .sgt v3 c0_i32_6
  let v25 : BitVec 32 := Scalar.extui v24
  let c0_i32_7 : BitVec 32 := 0#32
  let v26 : BitVec 1 := Scalar.cmpi .slt v3 c0_i32_7
  let v27 : BitVec 32 := Scalar.extui v26
  let v28 : BitVec 32 := Scalar.subi v25 v27
  let c2_i32 : BitVec 32 := 2#32
  let c0_i32_8 : BitVec 32 := 0#32
  let v29 : BitVec 1 := Scalar.cmpi .sgt c2_i32 c0_i32_8
  let v30 : BitVec 32 := Scalar.extui v29
  let c0_i32_9 : BitVec 32 := 0#32
  let v31 : BitVec 1 := Scalar.cmpi .slt c2_i32 c0_i32_9
  let v32 : BitVec 32 := Scalar.extui v31
  let v33 : BitVec 32 := Scalar.subi v30 v32
  let v34 : BitVec 1 := Scalar.cmpi .ne v28 v33
  let v35 : BitVec 32 := Scalar.remsi v3 c2_i32
  let c0_i32_10 : BitVec 32 := 0#32
  let v36 : BitVec 1 := Scalar.cmpi .ne v35 c0_i32_10
  let v37 : BitVec 1 := Scalar.andi v34 v36
  let v23 : BitVec 32 := Scalar.divsi v3 c2_i32
  let c1_i32_11 : BitVec 32 := 1#32
  let v38 : BitVec 32 := Scalar.subi v23 c1_i32_11
  let v39 : BitVec 32 := Scalar.select v37 v38 v23
  let c256_i32_103 : BitVec 32 := 256#32
  let v166 : BitVec 32 := Scalar.muli v39 c256_i32_103
  let v167 : BitVec 32 := Scalar.addi c512_i32_104 v166
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32_12 : BitVec 32 := 2#32
  let v40 : BitVec 32 := Scalar.remsi v20 c2_i32_12
  let c128_i32_178 : BitVec 32 := 128#32
  let v286 : BitVec 32 := Scalar.muli v40 c128_i32_178
  let v287 : BitVec 32 := Scalar.addi v167 v286
  let c0_i32_14 : BitVec 32 := 0#32
  let v42 : BitVec 1 := Scalar.cmpi .sgt v20 c0_i32_14
  let v43 : BitVec 32 := Scalar.extui v42
  let c0_i32_15 : BitVec 32 := 0#32
  let v44 : BitVec 1 := Scalar.cmpi .slt v20 c0_i32_15
  let v45 : BitVec 32 := Scalar.extui v44
  let v46 : BitVec 32 := Scalar.subi v43 v45
  let c2_i32_13 : BitVec 32 := 2#32
  let c0_i32_16 : BitVec 32 := 0#32
  let v47 : BitVec 1 := Scalar.cmpi .sgt c2_i32_13 c0_i32_16
  let v48 : BitVec 32 := Scalar.extui v47
  let c0_i32_17 : BitVec 32 := 0#32
  let v49 : BitVec 1 := Scalar.cmpi .slt c2_i32_13 c0_i32_17
  let v50 : BitVec 32 := Scalar.extui v49
  let v51 : BitVec 32 := Scalar.subi v48 v50
  let v52 : BitVec 1 := Scalar.cmpi .ne v46 v51
  let v53 : BitVec 32 := Scalar.remsi v20 c2_i32_13
  let c0_i32_18 : BitVec 32 := 0#32
  let v54 : BitVec 1 := Scalar.cmpi .ne v53 c0_i32_18
  let v55 : BitVec 1 := Scalar.andi v52 v54
  let v41 : BitVec 32 := Scalar.divsi v20 c2_i32_13
  let c1_i32_19 : BitVec 32 := 1#32
  let v56 : BitVec 32 := Scalar.subi v41 c1_i32_19
  let v57 : BitVec 32 := Scalar.select v55 v56 v41
  let c64_i32_250 : BitVec 32 := 64#32
  let v406 : BitVec 32 := Scalar.muli v57 c64_i32_250
  let v407 : BitVec 32 := Scalar.addi v287 v406
  let c3_i32 : BitVec 32 := 3#32
  let v21 : BitVec 32 := Scalar.subi c3_i32 v3
  let v22 : BitVec 32 := Scalar.minsi v3 v21
  let c32_i32_315 : BitVec 32 := 32#32
  let v515 : BitVec 32 := Scalar.muli v22 c32_i32_315
  let v516 : BitVec 32 := Scalar.addi v407 v515
  let c32_i32_376 : BitVec 32 := 32#32
  let v613 : BitVec 32 := Scalar.muli v22 c32_i32_376
  let v614 : BitVec 32 := Scalar.subi v516 v613
  let c64_i32_436 : BitVec 32 := 64#32
  let v689 : BitVec 32 := Scalar.muli v57 c64_i32_436
  let v690 : BitVec 32 := Scalar.subi v614 v689
  let c128_i32_496 : BitVec 32 := 128#32
  let v765 : BitVec 32 := Scalar.muli v40 c128_i32_496
  let v766 : BitVec 32 := Scalar.subi v690 v765
  let c256_i32_556 : BitVec 32 := 256#32
  let v841 : BitVec 32 := Scalar.muli v39 c256_i32_556
  let v842 : BitVec 32 := Scalar.subi v766 v841
  let c1_i32_557 : BitVec 32 := 1#32
  let v843 : BitVec 32 := Scalar.subi c1_i32_557 v39
  let c256_i32_558 : BitVec 32 := 256#32
  let v844 : BitVec 32 := Scalar.muli v843 c256_i32_558
  let v845 : BitVec 32 := Scalar.addi v842 v844
  let c0_i32_593 : BitVec 32 := 0#32
  ![v845.toNat, 0]
def k0_off75 (d0 : Dev nD) : Fin 2 → Nat :=
  let c1024_i32_123 : BitVec 32 := 1024#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32_12 : BitVec 32 := 2#32
  let v40 : BitVec 32 := Scalar.remsi v20 c2_i32_12
  let c256_i32_122 : BitVec 32 := 256#32
  let v196 : BitVec 32 := Scalar.muli v40 c256_i32_122
  let v197 : BitVec 32 := Scalar.addi c1024_i32_123 v196
  let c0_i32_14 : BitVec 32 := 0#32
  let v42 : BitVec 1 := Scalar.cmpi .sgt v20 c0_i32_14
  let v43 : BitVec 32 := Scalar.extui v42
  let c0_i32_15 : BitVec 32 := 0#32
  let v44 : BitVec 1 := Scalar.cmpi .slt v20 c0_i32_15
  let v45 : BitVec 32 := Scalar.extui v44
  let v46 : BitVec 32 := Scalar.subi v43 v45
  let c2_i32_13 : BitVec 32 := 2#32
  let c0_i32_16 : BitVec 32 := 0#32
  let v47 : BitVec 1 := Scalar.cmpi .sgt c2_i32_13 c0_i32_16
  let v48 : BitVec 32 := Scalar.extui v47
  let c0_i32_17 : BitVec 32 := 0#32
  let v49 : BitVec 1 := Scalar.cmpi .slt c2_i32_13 c0_i32_17
  let v50 : BitVec 32 := Scalar.extui v49
  let v51 : BitVec 32 := Scalar.subi v48 v50
  let v52 : BitVec 1 := Scalar.cmpi .ne v46 v51
  let v53 : BitVec 32 := Scalar.remsi v20 c2_i32_13
  let c0_i32_18 : BitVec 32 := 0#32
  let v54 : BitVec 1 := Scalar.cmpi .ne v53 c0_i32_18
  let v55 : BitVec 1 := Scalar.andi v52 v54
  let v41 : BitVec 32 := Scalar.divsi v20 c2_i32_13
  let c1_i32_19 : BitVec 32 := 1#32
  let v56 : BitVec 32 := Scalar.subi v41 c1_i32_19
  let v57 : BitVec 32 := Scalar.select v55 v56 v41
  let c128_i32_196 : BitVec 32 := 128#32
  let v316 : BitVec 32 := Scalar.muli v57 c128_i32_196
  let v317 : BitVec 32 := Scalar.addi v197 v316
  let c4_i32 : BitVec 32 := 4#32
  let v3 : BitVec 32 := Scalar.remsi v2 c4_i32
  let c3_i32 : BitVec 32 := 3#32
  let v21 : BitVec 32 := Scalar.subi c3_i32 v3
  let v22 : BitVec 32 := Scalar.minsi v3 v21
  let c64_i32_268 : BitVec 32 := 64#32
  let v436 : BitVec 32 := Scalar.muli v22 c64_i32_268
  let v437 : BitVec 32 := Scalar.addi v317 v436
  let c0_i32_6 : BitVec 32 := 0#32
  let v24 : BitVec 1 := Scalar.cmpi .sgt v3 c0_i32_6
  let v25 : BitVec 32 := Scalar.extui v24
  let c0_i32_7 : BitVec 32 := 0#32
  let v26 : BitVec 1 := Scalar.cmpi .slt v3 c0_i32_7
  let v27 : BitVec 32 := Scalar.extui v26
  let v28 : BitVec 32 := Scalar.subi v25 v27
  let c2_i32 : BitVec 32 := 2#32
  let c0_i32_8 : BitVec 32 := 0#32
  let v29 : BitVec 1 := Scalar.cmpi .sgt c2_i32 c0_i32_8
  let v30 : BitVec 32 := Scalar.extui v29
  let c0_i32_9 : BitVec 32 := 0#32
  let v31 : BitVec 1 := Scalar.cmpi .slt c2_i32 c0_i32_9
  let v32 : BitVec 32 := Scalar.extui v31
  let v33 : BitVec 32 := Scalar.subi v30 v32
  let v34 : BitVec 1 := Scalar.cmpi .ne v28 v33
  let v35 : BitVec 32 := Scalar.remsi v3 c2_i32
  let c0_i32_10 : BitVec 32 := 0#32
  let v36 : BitVec 1 := Scalar.cmpi .ne v35 c0_i32_10
  let v37 : BitVec 1 := Scalar.andi v34 v36
  let v23 : BitVec 32 := Scalar.divsi v3 c2_i32
  let c1_i32_11 : BitVec 32 := 1#32
  let v38 : BitVec 32 := Scalar.subi v23 c1_i32_11
  let v39 : BitVec 32 := Scalar.select v37 v38 v23
  let c32_i32_326 : BitVec 32 := 32#32
  let v534 : BitVec 32 := Scalar.muli v39 c32_i32_326
  let v535 : BitVec 32 := Scalar.addi v437 v534
  let c32_i32_385 : BitVec 32 := 32#32
  let v626 : BitVec 32 := Scalar.muli v39 c32_i32_385
  let v627 : BitVec 32 := Scalar.subi v535 v626
  let c64_i32_445 : BitVec 32 := 64#32
  let v702 : BitVec 32 := Scalar.muli v22 c64_i32_445
  let v703 : BitVec 32 := Scalar.subi v627 v702
  let c128_i32_505 : BitVec 32 := 128#32
  let v778 : BitVec 32 := Scalar.muli v57 c128_i32_505
  let v779 : BitVec 32 := Scalar.subi v703 v778
  let c256_i32_565 : BitVec 32 := 256#32
  let v854 : BitVec 32 := Scalar.muli v40 c256_i32_565
  let v855 : BitVec 32 := Scalar.subi v779 v854
  let c1_i32_566 : BitVec 32 := 1#32
  let v856 : BitVec 32 := Scalar.subi c1_i32_566 v40
  let c256_i32_567 : BitVec 32 := 256#32
  let v857 : BitVec 32 := Scalar.muli v856 c256_i32_567
  let v858 : BitVec 32 := Scalar.addi v855 v857
  let c0_i32_599 : BitVec 32 := 0#32
  ![v858.toNat, 0]
def k0_off76 (d0 : Dev nD) : Fin 2 → Nat :=
  let c1536_i32_142 : BitVec 32 := 1536#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_14 : BitVec 32 := 0#32
  let v42 : BitVec 1 := Scalar.cmpi .sgt v20 c0_i32_14
  let v43 : BitVec 32 := Scalar.extui v42
  let c0_i32_15 : BitVec 32 := 0#32
  let v44 : BitVec 1 := Scalar.cmpi .slt v20 c0_i32_15
  let v45 : BitVec 32 := Scalar.extui v44
  let v46 : BitVec 32 := Scalar.subi v43 v45
  let c2_i32_13 : BitVec 32 := 2#32
  let c0_i32_16 : BitVec 32 := 0#32
  let v47 : BitVec 1 := Scalar.cmpi .sgt c2_i32_13 c0_i32_16
  let v48 : BitVec 32 := Scalar.extui v47
  let c0_i32_17 : BitVec 32 := 0#32
  let v49 : BitVec 1 := Scalar.cmpi .slt c2_i32_13 c0_i32_17
  let v50 : BitVec 32 := Scalar.extui v49
  let v51 : BitVec 32 := Scalar.subi v48 v50
  let v52 : BitVec 1 := Scalar.cmpi .ne v46 v51
  let v53 : BitVec 32 := Scalar.remsi v20 c2_i32_13
  let c0_i32_18 : BitVec 32 := 0#32
  let v54 : BitVec 1 := Scalar.cmpi .ne v53 c0_i32_18
  let v55 : BitVec 1 := Scalar.andi v52 v54
  let v41 : BitVec 32 := Scalar.divsi v20 c2_i32_13
  let c1_i32_19 : BitVec 32 := 1#32
  let v56 : BitVec 32 := Scalar.subi v41 c1_i32_19
  let v57 : BitVec 32 := Scalar.select v55 v56 v41
  let c256_i32_141 : BitVec 32 := 256#32
  let v226 : BitVec 32 := Scalar.muli v57 c256_i32_141
  let v227 : BitVec 32 := Scalar.addi c1536_i32_142 v226
  let c4_i32 : BitVec 32 := 4#32
  let v3 : BitVec 32 := Scalar.remsi v2 c4_i32
  let c3_i32 : BitVec 32 := 3#32
  let v21 : BitVec 32 := Scalar.subi c3_i32 v3
  let v22 : BitVec 32 := Scalar.minsi v3 v21
  let c128_i32_214 : BitVec 32 := 128#32
  let v346 : BitVec 32 := Scalar.muli v22 c128_i32_214
  let v347 : BitVec 32 := Scalar.addi v227 v346
  let c0_i32_6 : BitVec 32 := 0#32
  let v24 : BitVec 1 := Scalar.cmpi .sgt v3 c0_i32_6
  let v25 : BitVec 32 := Scalar.extui v24
  let c0_i32_7 : BitVec 32 := 0#32
  let v26 : BitVec 1 := Scalar.cmpi .slt v3 c0_i32_7
  let v27 : BitVec 32 := Scalar.extui v26
  let v28 : BitVec 32 := Scalar.subi v25 v27
  let c2_i32 : BitVec 32 := 2#32
  let c0_i32_8 : BitVec 32 := 0#32
  let v29 : BitVec 1 := Scalar.cmpi .sgt c2_i32 c0_i32_8
  let v30 : BitVec 32 := Scalar.extui v29
  let c0_i32_9 : BitVec 32 := 0#32
  let v31 : BitVec 1 := Scalar.cmpi .slt c2_i32 c0_i32_9
  let v32 : BitVec 32 := Scalar.extui v31
  let v33 : BitVec 32 := Scalar.subi v30 v32
  let v34 : BitVec 1 := Scalar.cmpi .ne v28 v33
  let v35 : BitVec 32 := Scalar.remsi v3 c2_i32
  let c0_i32_10 : BitVec 32 := 0#32
  let v36 : BitVec 1 := Scalar.cmpi .ne v35 c0_i32_10
  let v37 : BitVec 1 := Scalar.andi v34 v36
  let v23 : BitVec 32 := Scalar.divsi v3 c2_i32
  let c1_i32_11 : BitVec 32 := 1#32
  let v38 : BitVec 32 := Scalar.subi v23 c1_i32_11
  let v39 : BitVec 32 := Scalar.select v37 v38 v23
  let c64_i32_286 : BitVec 32 := 64#32
  let v466 : BitVec 32 := Scalar.muli v39 c64_i32_286
  let v467 : BitVec 32 := Scalar.addi v347 v466
  let c2_i32_12 : BitVec 32 := 2#32
  let v40 : BitVec 32 := Scalar.remsi v20 c2_i32_12
  let c32_i32_337 : BitVec 32 := 32#32
  let v553 : BitVec 32 := Scalar.muli v40 c32_i32_337
  let v554 : BitVec 32 := Scalar.addi v467 v553
  let c32_i32_394 : BitVec 32 := 32#32
  let v639 : BitVec 32 := Scalar.muli v40 c32_i32_394
  let v640 : BitVec 32 := Scalar.subi v554 v639
  let c64_i32_454 : BitVec 32 := 64#32
  let v715 : BitVec 32 := Scalar.muli v39 c64_i32_454
  let v716 : BitVec 32 := Scalar.subi v640 v715
  let c128_i32_514 : BitVec 32 := 128#32
  let v791 : BitVec 32 := Scalar.muli v22 c128_i32_514
  let v792 : BitVec 32 := Scalar.subi v716 v791
  let c256_i32_574 : BitVec 32 := 256#32
  let v867 : BitVec 32 := Scalar.muli v57 c256_i32_574
  let v868 : BitVec 32 := Scalar.subi v792 v867
  let c1_i32_575 : BitVec 32 := 1#32
  let v869 : BitVec 32 := Scalar.subi c1_i32_575 v57
  let c256_i32_576 : BitVec 32 := 256#32
  let v870 : BitVec 32 := Scalar.muli v869 c256_i32_576
  let v871 : BitVec 32 := Scalar.addi v868 v870
  let c0_i32_605 : BitVec 32 := 0#32
  ![v871.toNat, 0]
abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S32768x1024 : Shape := ⟨2, ![32768, 1024]⟩
abbrev S1024x1024 : Shape := ⟨2, ![1024, 1024]⟩
abbrev S16x2048x1024 : Shape := ⟨3, ![16, 2048, 1024]⟩
abbrev S_ : Shape := ⟨0, ![]⟩
abbrev S2048x1024 : Shape := ⟨2, ![2048, 1024]⟩

abbrev nBuf : Space → Nat
  | .hbm => 9
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S1024x1024, .bf16⟩
  | .hbm, ⟨2, _⟩ => ⟨S16x2048x1024, .bf16⟩
  | .hbm, ⟨3, _⟩ => ⟨S16x2048x1024, .f32⟩
  | .hbm, ⟨4, _⟩ => ⟨S_, .f32⟩
  | .hbm, ⟨5, _⟩ => ⟨S2048x1024, .f32⟩
  | .hbm, ⟨6, _⟩ => ⟨S2048x1024, .bf16⟩
  | .hbm, ⟨7, _⟩ => ⟨S2048x1024, .f32⟩
  | .hbm, ⟨8, _⟩ => ⟨S2048x1024, .bf16⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Proof.Same.lean ====
/-
# One text, two readings

The kernel over machine floats and the kernel over the extended reals are printed from the same text. As programs over
any float values they are equal, so what is proved of runs of the one over any float values holds of the other.
-/
module

public import proofs.«01_k».proof.Proof.Gen.Kernel
public import proofs.«01_k».proof.Proof.Gen.KernelIdeal

@[expose] public section

noncomputable section

namespace Cert.Proof

open Idealize.ShloMosaic

variable {F : FTy → Type} [FloatOps F]

/-- Both have the same kernel body. -/
theorem bodies_same : Cert.Kernel.defs₀ (F := F) = Cert.KernelIdeal.defs₀ (F := F) := by
  unfold Cert.Kernel.defs₀ Cert.KernelIdeal.defs₀
  congr 1
  funext ℓ x
  match ℓ with
  | 0 => rfl

/-- So they have the same table of bodies and pipelines. -/
theorem defs_same : Cert.Kernel.defs (F := F) = Cert.KernelIdeal.defs (F := F) :=
  congrArg (Pipeline.defs Cert.Kernel.pcfgs) bodies_same

/-- They have the same entry. -/
theorem main_same : Cert.Kernel.main (F := F) = Cert.KernelIdeal.main (F := F) := rfl

end Cert.Proof

end
-- ==== Proof.Cube.lean ====
/-
# The sixteen devices as a cube, and who holds which rows when

Pure arithmetic, no program: the sixteen devices are the corners of a cube with four axes; `pt a c` is
the neighbour of `c` along axis `a`, `side a c` which of the two sides of that axis `c` is on. Schedule
`s` (of four) visits the axes in the order `s, s+1, s+2, s+3` modulo four. After `k` halvings along these
axes, device `c` is responsible for the `512 / 2^k` rows from `lo s k c` on.

The thirty-two transfers each device makes are numbered in the order it starts them: numbers below
sixteen are the halvings (step `e / 4` of schedule `e % 4`), the others the doublings.
-/
module

public import Idealize.ShloMosaic.Lib.Pipeline.Launch
public import Idealize.ShloMosaic.Lib.ValueIdxCore

@[expose] public section

namespace Cert.Cube

open Idealize.ShloMosaic

/-! ## Axes, neighbours, sides -/

/-- Which side of axis `a` device `c` is on. -/
def side (a : Nat) (c : Fin 16) : Nat :=
  if a = 0 then min (c.val % 4) (3 - c.val % 4) else if a = 1 then c.val % 4 / 2 else if a = 2 then c.val / 4 % 2 else c.val / 8

/-- The number of the neighbour of `c` along axis `a`. -/
def ptVal (a : Nat) (c : Fin 16) : Nat :=
  if a = 0 then c.val + 1 - 2 * (c.val % 2) else if a = 1 then c.val + 3 - 2 * (c.val % 4)
  else if a = 2 then c.val + 4 - 8 * (c.val / 4 % 2) else c.val + 8 - 16 * (c.val / 8)

/-- The neighbour of `c` along axis `a`. -/
def pt (a : Nat) (c : Fin 16) : Fin 16 := ⟨ptVal a c % 16, Nat.mod_lt _ (by decide)⟩

theorem pt_pt_fin : ∀ (a : Fin 4) (c : Fin 16), pt a (pt a c) = c := by decide +kernel

/-- Two steps along one axis lead back. -/
theorem pt_pt {a : Nat} (ha : a < 4) (c : Fin 16) : pt a (pt a c) = c := pt_pt_fin ⟨a, ha⟩ c

/-- The neighbour along an axis, as a permutation of the devices. -/
def ptEquiv (a : Fin 4) : Fin 16 ≃ Fin 16 := ⟨pt a, pt a, pt_pt_fin a, pt_pt_fin a⟩

/-! ## Rows held -/

/-- The axis schedule `s` halves along at its step `k`. -/
def ax (s k : Nat) : Nat := (s + k) % 4

theorem ax_lt (s k : Nat) : ax s k < 4 := Nat.mod_lt _ (by decide)

/-- The first of the rows device `c` is responsible for in schedule `s` after `k` halvings. -/
def lo (s : Nat) : Nat → Fin 16 → Nat
  | 0, _ => 512 * s
  | k + 1, c => lo s k c + side (ax s k) c * (256 / 2 ^ k)

/-- How many rows those are. -/
def cnt (k : Nat) : Nat := 512 / 2 ^ k

/-- Where, within a schedule's 480 rows of the landing buffer, step `k`'s rows start. -/
def stOff (k : Nat) : Nat := 512 - 512 / 2 ^ k

theorem halves_fin : ∀ (s k : Fin 4) (c : Fin 16),
    (lo s (k + 1) c = lo s k c ∧ lo s (k + 1) (pt (ax s k) c) = lo s k c + cnt (k + 1))
      ∨ (lo s (k + 1) (pt (ax s k) c) = lo s k c ∧ lo s (k + 1) c = lo s k c + cnt (k + 1)) := by decide +kernel

theorem cnt_half : ∀ k : Fin 4, cnt k = cnt (k + 1) + cnt (k + 1) := by decide +kernel

theorem lo_pt_fin : ∀ (s k : Fin 4) (c : Fin 16), lo s k (pt (ax s k) c) = lo s k c := by decide +kernel

theorem lo_bound_fin : ∀ (s : Fin 4) (k : Fin 5) (c : Fin 16), 512 * s.val ≤ lo s k c ∧ lo s k c + cnt k ≤ 512 * s.val + 512 := by
  decide +kernel

/-- The rows of the slab a device multiplies lie on a multiple of thirty-two. -/
theorem lo_slab_fin : ∀ (s : Fin 4) (c : Fin 16), lo s 4 c = 32 * (lo s 4 c / 32) := by decide +kernel

/-- The device that multiplies the thirty-two rows of block `b` (of sixty-four). -/
def owner (b : Nat) : Fin 16 := ((List.finRange 16).find? fun c => lo (b / 16) 4 c == 32 * b).getD 0

theorem owner_lo_fin : ∀ (s : Fin 4) (c : Fin 16), owner (lo s 4 c / 32) = c ∧ lo s 4 c / 32 / 16 = s.val := by decide +kernel

theorem lo_owner_fin : ∀ b : Fin 64, lo (b.val / 16) 4 (owner b) = 32 * b.val := by decide +kernel

/-! ## The thirty-two transfers -/

/-- The schedule transfer `e` belongs to. -/
def evS (e : Nat) : Nat := e % 4
/-- Its step within the halvings, or within the doublings. -/
def evK (e : Nat) : Nat := e / 4 % 4
/-- The axis it runs along: the halvings go forward through the schedule's axes, the doublings backward. -/
def evAx (e : Nat) : Nat := if e < 16 then ax (evS e) (evK e) else ax (evS e) (3 - evK e)
/-- The device `c` exchanges with in transfer `e`. -/
def peer (e : Nat) (c : Fin 16) : Fin 16 := pt (evAx e) c
/-- The number of rows it moves. -/
def len (e : Nat) : Nat := if e < 16 then 256 / 2 ^ evK e else 32 * 2 ^ evK e
/-- The first row device `c` reads for it. -/
def srcLo (e : Nat) (c : Fin 16) : Nat := if e < 16 then lo (evS e) (evK e + 1) (peer e c) else lo (evS e) (4 - evK e) c
/-- The first row in which it lands at device `c`. -/
def dstLo (e : Nat) (c : Fin 16) : Nat := if e < 16 then 480 * evS e + stOff (evK e) else lo (evS e) (4 - evK e) (peer e c)

theorem evAx_lt (e : Nat) : evAx e < 4 := by unfold evAx; split <;> exact ax_lt _ _

theorem peer_peer (e : Nat) (c : Fin 16) : peer e (peer e c) = c := pt_pt (evAx_lt e) c

/-- The device `c` exchanges with in transfer `e`, as a permutation of the devices. -/
def peerEquiv (e : Nat) : Fin 16 ≃ Fin 16 := ⟨peer e, peer e, peer_peer e, peer_peer e⟩

theorem srcLo_bound : ∀ (e : Fin 32) (c : Fin 16), srcLo e c + len e ≤ 2048 := by decide +kernel
theorem dstLo_bound_rs : ∀ (e : Fin 32) (c : Fin 16), e.val < 16 → dstLo e c + len e ≤ 1920 := by decide +kernel
theorem dstLo_bound_ag : ∀ (e : Fin 32) (c : Fin 16), ¬ e.val < 16 → dstLo e c + len e ≤ 2048 := by decide +kernel
theorem len_pos : ∀ e : Fin 32, 0 < len e := by decide +kernel

/-- A doubling lands at the partner in the very rows it is read from. -/
theorem dst_src_ag {e : Nat} (he : ¬ e < 16) (c : Fin 16) : dstLo e (peer e c) = srcLo e c := by
  unfold dstLo srcLo; rw [if_neg he, if_neg he, peer_peer]

/-- What a halving sends is the half its receiver keeps. -/
theorem src_rs {e : Nat} (he : e < 16) (c : Fin 16) : srcLo e (peer e c) = lo (evS e) (evK e + 1) c := by
  unfold srcLo; rw [if_pos he, peer_peer]

/-! ## Rows of a buffer -/

/-- The positions of a buffer of `N` rows that lie in the `n` rows from `l` on. -/
def rows (N l n : Nat) : Finset (⟨2, ![N, 1024]⟩ : Shape).Idx := Finset.univ.filter fun i => l ≤ (i 0).val ∧ (i 0).val < l + n

theorem mem_rows {N l n : Nat} {i : (⟨2, ![N, 1024]⟩ : Shape).Idx} : i ∈ rows N l n ↔ l ≤ (i 0).val ∧ (i 0).val < l + n := by
  unfold rows; rw [Finset.mem_filter]; exact and_iff_right (Finset.mem_univ _)

theorem rows_add (N l n m : Nat) : rows N l (n + m) = rows N l n ∪ rows N (l + n) m := by
  ext i; rw [Finset.mem_union, mem_rows, mem_rows, mem_rows]; omega

theorem rows_disjoint {N l n l' n' : Nat} (h : l + n ≤ l' ∨ l' + n' ≤ l) : Disjoint (rows N l n) (rows N l' n') := by
  rw [Finset.disjoint_left]; intro i; rw [mem_rows, mem_rows]; omega

theorem rows_univ (N : Nat) : rows N 0 N = Finset.univ := by
  ext i; rw [mem_rows]
  have h : (i 0).val < N := (i 0).isLt
  simp only [Finset.mem_univ, iff_true]; omega

/-- The `n` rows a rectangle of full width cuts out. -/
theorem unit_set {N l n : Nat} (off : Fin 2 → Nat) (hoff : off = ![l, 0]) (inb) :
    (Rect.unit (s := (⟨2, ![N, 1024]⟩ : Shape)) off (⟨2, ![n, 1024]⟩ : Shape).size inb).set = rows N l n := by
  subst hoff
  ext i
  rw [Rect.mem_set_unit, mem_rows]
  have h1 : (i 1).val < 1024 := (i 1).isLt
  constructor
  · intro h; exact h 0
  · intro h a
    match a with
    | ⟨0, _⟩ => exact h
    | ⟨1, _⟩ => exact ⟨Nat.zero_le _, by show (i 1).val < 0 + 1024; omega⟩

/-- A device's rows of a schedule after `k` halvings are those it keeps at step `k` and those it sends. -/
theorem rows_halves (s k : Nat) (hs : s < 4) (hk : k < 4) (c : Fin 16) :
    rows 2048 (lo s k c) (cnt k) = rows 2048 (lo s (k + 1) c) (cnt (k + 1)) ∪ rows 2048 (lo s (k + 1) (pt (ax s k) c)) (cnt (k + 1))
      ∧ Disjoint (rows 2048 (lo s (k + 1) c) (cnt (k + 1))) (rows 2048 (lo s (k + 1) (pt (ax s k) c)) (cnt (k + 1))) := by
  have hc : cnt k = cnt (k + 1) + cnt (k + 1) := cnt_half ⟨k, hk⟩
  have h := halves_fin ⟨s, hs⟩ ⟨k, hk⟩ c
  simp only at h
  rcases h with ⟨h1, h2⟩ | ⟨h1, h2⟩
  · rw [hc, rows_add, h1, h2]; exact ⟨rfl, rows_disjoint (Or.inl le_rfl)⟩
  · rw [hc, rows_add, h1, h2]; exact ⟨Finset.union_comm _ _, rows_disjoint (Or.inr le_rfl)⟩

end Cert.Cube
-- ==== Proof.Contents.lean ====
/-
# What each buffer holds

From the sixteen devices' blocks `t` and matrices `W`, the values every transfer carries and every buffer
ends at, as plain functions of positions: `acc t s k c` is what device `c` has summed in schedule `s`
after `k` halvings, `land t e c` what transfer `e` leaves in its landing buffer, `slab t s c` the
thirty-two rows it multiplies in schedule `s`, and `outAll` the result all of them end with.
The product of a slab and a matrix is the parameter `dotf`.
-/
module

public import proofs.«01_k».proof.Proof.Cube
public import Idealize.ShloMosaic.PureOps

@[expose] public section

noncomputable section

namespace Cert.Cube

open Idealize.ShloMosaic
open Idealize.ShloMosaic.ValueIdx (ix2 eq_ix2)

variable {F : FTy → Type} [FloatOps F]

/-- The position in row `r` (of 2048) and the column of `i`. -/
def rowOf {N : Nat} (i : (⟨2, ![N, 1024]⟩ : Shape).Idx) (r : Nat) : (⟨2, ![2048, 1024]⟩ : Shape).Idx :=
  ix2 ⟨r % 2048, Nat.mod_lt _ (by decide)⟩ (i 1)

/-- The `n` rows of `f` from row `l` on, as a block. -/
def blkOf (n l : Nat) (f : Vec F ⟨2, ![2048, 1024]⟩ .bf16) : Vec F ⟨2, ![n, 1024]⟩ .bf16 := fun y => f (rowOf y (l + (y 0).val))

/-- One addition of the kernel: two bf16 values added in f32, the sum rounded to bf16. -/
def add1 (a b : F .bf16) : F .bf16 :=
  FloatOps.truncf .bf16 (by decide) (FloatOps.addf (FloatOps.extf .f32 (by decide) a) (FloatOps.extf .f32 (by decide) b))

/-- What device `c` has summed in schedule `s` after `k` halvings: at each, its own value and its neighbour's. -/
def acc (t : Fin 16 → Vec F ⟨2, ![2048, 1024]⟩ .bf16) (s : Nat) : Nat → Fin 16 → Vec F ⟨2, ![2048, 1024]⟩ .bf16
  | 0, c => t c
  | k + 1, c => fun i => add1 (acc t s k c i) (acc t s k (pt (ax s k) c) i)

/-- What halving `e` leaves in device `c`'s landing buffer: its partner's values of the rows `c` keeps. -/
def land (t : Fin 16 → Vec F ⟨2, ![2048, 1024]⟩ .bf16) (e : Nat) (c : Fin 16) : Vec F ⟨2, ![1920, 1024]⟩ .bf16 := fun i =>
  acc t (evS e) (evK e) (peer e c) (rowOf i ((i 0).val - dstLo e c + lo (evS e) (evK e + 1) c))

/-- The rows device `c` multiplies in schedule `s`. -/
def slab (t : Fin 16 → Vec F ⟨2, ![2048, 1024]⟩ .bf16) (s : Nat) (c : Fin 16) : Vec F ⟨2, ![32, 1024]⟩ .bf16 :=
  blkOf 32 (lo s 4 c) (acc t s 4 c)

/-- The result: each block of thirty-two rows its owner's slab times its owner's matrix. -/
def outAll (dotf : Vec F ⟨2, ![32, 1024]⟩ .bf16 → Vec F ⟨2, ![1024, 1024]⟩ .bf16 → Vec F ⟨2, ![32, 1024]⟩ .bf16)
    (t : Fin 16 → Vec F ⟨2, ![2048, 1024]⟩ .bf16) (W : Fin 16 → Vec F ⟨2, ![1024, 1024]⟩ .bf16) : Vec F ⟨2, ![2048, 1024]⟩ .bf16 := fun i =>
  dotf (slab t ((i 0).val / 32 / 16) (owner ((i 0).val / 32))) (W (owner ((i 0).val / 32)))
    (ix2 ⟨(i 0).val % 32, Nat.mod_lt _ (by decide)⟩ (i 1))

/-- On a device's own slab the result is its product. -/
theorem blkOf_outAll (dotf : Vec F ⟨2, ![32, 1024]⟩ .bf16 → Vec F ⟨2, ![1024, 1024]⟩ .bf16 → Vec F ⟨2, ![32, 1024]⟩ .bf16)
    (t : Fin 16 → Vec F ⟨2, ![2048, 1024]⟩ .bf16) (W : Fin 16 → Vec F ⟨2, ![1024, 1024]⟩ .bf16) {s : Nat} (hs : s < 4) (c : Fin 16) :
    blkOf 32 (lo s 4 c) (outAll dotf t W) = dotf (slab t s c) (W c) := by
  funext y
  have h32 : lo s 4 c = 32 * (lo s 4 c / 32) := lo_slab_fin ⟨s, hs⟩ c
  have hb : lo s 4 c + 32 ≤ 512 * s + 512 := (lo_bound_fin ⟨s, hs⟩ 4 c).2
  obtain ⟨ho, hq⟩ := owner_lo_fin ⟨s, hs⟩ c
  have hy : (y 0).val < 32 := (y 0).isLt
  have h1 : (lo s 4 c + (y 0).val) % 2048 / 32 = lo s 4 c / 32 := by omega
  have h2 : (lo s 4 c + (y 0).val) % 2048 % 32 = (y 0).val := by omega
  show dotf (slab t ((lo s 4 c + (y 0).val) % 2048 / 32 / 16) (owner ((lo s 4 c + (y 0).val) % 2048 / 32))) (W (owner ((lo s 4 c + (y 0).val) % 2048 / 32)))
    (ix2 ⟨(lo s 4 c + (y 0).val) % 2048 % 32, _⟩ (y 1)) = _
  rw [h1, show owner (lo s 4 c / 32) = c from ho, show lo s 4 c / 32 / 16 = s from hq]
  congr 1
  rw [eq_ix2 y]
  congr 1
  exact Fin.ext h2

end Cert.Cube

end
-- ==== Proof.KernelIdeal.Sched.lean ====
/-
# The transfers' protocol

Which semaphores the thirty-two transfers of a device count on, what each hands over when it is waited
for, and what a device owes the others at each point of its program.

A device's barrier semaphore is raised once by each of its four neighbours; the neighbour along axis `a`
thereby hands over the places in its own buffers in which the transfers along that axis are to land. The
receive semaphore of transfer `e` is raised by the partner's transfer landing, and hands over the rows
landed in, with their contents; the send semaphore by the device's own transfer leaving, and hands back
the rows it was read from.
-/
module

public import proofs.«01_k».proof.Proof.Contents
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.KernelIdealProof

open Cert.KernelIdeal Cert.KernelIdeal.Gen Cert.Cube

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy, and the transfers' with four duty names -/

abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-- The devices' blocks and matrices, as functions of the device. -/
abbrev Blocks (F : FTy → Type) : Type := Fin 16 → Vec F S2048x1024 .bf16
abbrev Mats (F : FTy → Type) : Type := Fin 16 → Vec F S1024x1024 .bf16

variable (t : Blocks F) (W : Mats F)

/-- The result every device ends with. -/
def OUT : Vec F S2048x1024 .bf16 := outAll k0_pay24 t W

/-! ## Semaphores and cells -/

/-- The runtime's barrier semaphore of collective id 0. -/
abbrev barS : Sem sig := (SemArray.scalar (sig.barrier 0 rfl) : Sems sig S_).sem

/-- The place of transfer `e`'s semaphore in its array. -/
def semIx (e : Fin 32) : Nat := 4 * (e.val % 4) + e.val / 4 % 4 + 32 * (e.val / 16)

theorem semIx_lt (e : Fin 32) : semIx e < 48 := by unfold semIx; omega

/-- Transfer `e`'s send semaphore and its receive semaphore. -/
def sendS (e : Fin 32) : DmaSem sig := ⟨3 + semIx e, Nat.lt_of_lt_of_le (Nat.add_lt_add_left (semIx_lt e) 3) (by decide)⟩
def recvS (e : Fin 32) : DmaSem sig := ⟨19 + semIx e, Nat.lt_of_lt_of_le (Nat.add_lt_add_left (semIx_lt e) 19) (by decide)⟩

/-- The transfer a DMA semaphore belongs to. -/
def evOf (q : DmaSem sig) : Fin 32 :=
  ⟨(16 * ((q.val - 3) / 32) + 4 * ((q.val - 3) % 4) + (q.val - 3) % 16 / 4) % 32, Nat.mod_lt _ (by decide)⟩
/-- Whether it is a receive semaphore. -/
def isRecv (q : DmaSem sig) : Bool := (q.val - 3) / 16 % 2 == 1

theorem evOf_sendS : ∀ e : Fin 32, evOf (sendS e) = e := by decide +kernel
theorem evOf_recvS : ∀ e : Fin 32, evOf (recvS e) = e := by decide +kernel
theorem isRecv_sendS : ∀ e : Fin 32, isRecv (sendS e) = false := by decide +kernel
theorem isRecv_recvS : ∀ e : Fin 32, isRecv (recvS e) = true := by decide +kernel

abbrev barCell (c : Dev nD) : GSem nD τ sig := ((c : Thread nD τ), .reg barS)
abbrev sendCell (e : Fin 32) (c : Dev nD) : GSem nD τ sig := ((c : Thread nD τ), .dma (sendS e))
abbrev recvCell (e : Fin 32) (c : Dev nD) : GSem nD τ sig := ((c : Thread nD τ), .dma (recvS e))

/-- What transfer `e` adds to each of its two semaphores. -/
def amt (e : Fin 32) : ℕ := sig.dmaCredit .tc (Kind.tc.table .vmem) (cc0_scratch1 : Ref sig .tc).idx ⟨2, ![len e, 1024]⟩ .bf16

theorem amt_pos (e : Fin 32) : 0 < amt e :=
  sig.dmaCredit_pos _ _ _ _ _ (Shape.numel_pos fun a => by
    match a with
    | ⟨0, _⟩ => exact len_pos e
    | ⟨1, _⟩ => exact (by decide : 0 < 1024))

/-! ## Rows of the buffers -/

/-- Rows of a device's summing buffer, landing buffer, result buffer: `n` of them from row `l` on. -/
def redPts (c : Dev nD) (l n : Nat) (q : PosShare TreeShare) (f : Vec F S2048x1024 .bf16) : sProp 𝕄 :=
  ((c : Thread nD τ).loc cc0_scratch0) ↦[rows 2048 l n]{q} f
def stPts (c : Dev nD) (l n : Nat) (q : PosShare TreeShare) (f : Vec F S1920x1024 .bf16) : sProp 𝕄 :=
  ((c : Thread nD τ).loc cc0_scratch1) ↦[rows 1920 l n]{q} f
def outPts (c : Dev nD) (l n : Nat) (q : PosShare TreeShare) (f : Vec F S2048x1024 .bf16) : sProp 𝕄 :=
  ((c : Thread nD τ).loc cc0_stg2_0) ↦[rows 2048 l n]{q} f

omit [FloatOps F] in
instance redPts_storable (c : Dev nD) (l n q) (f) : BI.Storable (upEmb : UEmb _ 𝕄) (redPts (F := F) c l n q f) := by unfold redPts; infer_instance
omit [FloatOps F] in
instance stPts_storable (c : Dev nD) (l n q) (f) : BI.Storable (upEmb : UEmb _ 𝕄) (stPts (F := F) c l n q f) := by unfold stPts; infer_instance
omit [FloatOps F] in
instance outPts_storable (c : Dev nD) (l n q) (f) : BI.Storable (upEmb : UEmb _ 𝕄) (outPts (F := F) c l n q f) := by unfold outPts; infer_instance

/-- The share of its result rows a device has left after `k` doublings: each transfer lends half of what is left. -/
def shr : Nat → PosShare TreeShare
  | 0 => fullShare
  | k + 1 => (shr k).right

/-- The place at device `d` in which transfer `e` lands, whatever it holds. -/
def place (e : Fin 32) (d : Dev nD) : sProp 𝕄 :=
  if e.val < 16 then iprop(∃ f, stPts d (dstLo e d) (len e) fullShare f) else iprop(∃ f, outPts d (dstLo e d) (len e) fullShare f)

/-- What waiting for transfer `e` to land hands device `d`. -/
def recvPay (e : Fin 32) (d : Dev nD) : sProp 𝕄 :=
  if e.val < 16 then stPts d (dstLo e d) (len e) fullShare (land t e d) else outPts d (dstLo e d) (len e) fullShare (OUT t W)

/-- What waiting for its own transfer `e` to leave hands device `c` back. -/
def sendPay (e : Fin 32) (c : Dev nD) : sProp 𝕄 :=
  if e.val < 16 then redPts c (srcLo e c) (len e) fullShare (acc t (evS e) (evK e) c)
  else outPts c (srcLo e c) (len e) (shr (evK e)).left (OUT t W)

/-- What the neighbour along axis `a` hands device `c` at the barrier: the places in which `c`'s transfers along
    that axis land. -/
def barPay (a : Fin 4) (c : Dev nD) : sProp 𝕄 :=
  bigSep (Finset.univ.filter fun e : Fin 32 => evAx e = a) fun e => place e (peer e c)

omit [FloatOps F] in
instance place_storable (e : Fin 32) (d : Dev nD) : BI.Storable (upEmb : UEmb _ 𝕄) (place (F := F) e d) := by
  unfold place; split <;> infer_instance
instance recvPay_storable (e : Fin 32) (d : Dev nD) : BI.Storable (upEmb : UEmb _ 𝕄) (recvPay t W e d) := by
  unfold recvPay; split <;> infer_instance
instance sendPay_storable (e : Fin 32) (d : Dev nD) : BI.Storable (upEmb : UEmb _ 𝕄) (sendPay t W e d) := by
  unfold sendPay; split <;> infer_instance
omit [FloatOps F] in
instance barPay_storable (a : Fin 4) (d : Dev nD) : BI.Storable (upEmb : UEmb _ 𝕄) (barPay (F := F) a d) := by
  unfold barPay; infer_instance

/-! ## The schedule -/

/-- One round: a barrier cell has the four duties of one unit, the cell of a transfer one duty of its amount. -/
def Rd : Rounds.Schedule (GSem nD τ sig) (Fin 4) 𝕄 where
  duties g r := if r = 0 then (match g.2 with | .reg _ => Finset.univ | .dma _ => {0}) else ∅
  unitless _ := False
  amount g _ _ := match g.2 with | .reg _ => 1 | .dma q => amt (evOf q)
  payload g _ d := match g.2 with
    | .reg _ => barPay d g.1.1
    | .dma q => if isRecv q then recvPay t W (evOf q) g.1.1 else sendPay t W (evOf q) g.1.1
  amount_pos g _ _ _ := by
    match g.2 with
    | .reg _ => exact Nat.one_pos
    | .dma q => exact amt_pos _

instance Rd_payload_storable (g : GSem nD τ sig) (r : ℕ) (d : Fin 4) :
    BI.Storable (upEmb : UEmb _ 𝕄) ((Rd t W).payload g r d) := by
  obtain ⟨g1, g2⟩ := g
  cases g2 with
  | reg _ => show BI.Storable upEmb (barPay d g1.1); infer_instance
  | dma q =>
    show BI.Storable upEmb (if isRecv q then recvPay t W (evOf q) g1.1 else sendPay t W (evOf q) g1.1)
    split <;> infer_instance

theorem duties_bar (c : Dev nD) : (Rd t W).duties (barCell c) 0 = Finset.univ := rfl
theorem duties_send (e : Fin 32) (c : Dev nD) : (Rd t W).duties (sendCell e c) 0 = {0} := rfl
theorem duties_recv (e : Fin 32) (c : Dev nD) : (Rd t W).duties (recvCell e c) 0 = {0} := rfl
theorem duties_later (g : GSem nD τ sig) : ∀ r, 1 ≤ r → (Rd t W).duties g r = ∅ :=
  fun r hr => by dsimp only [Rd]; rw [if_neg fun h => by omega]

theorem amount_bar (c : Dev nD) (d : Fin 4) : (Rd t W).amount (barCell c) 0 d = 1 := rfl
theorem amount_send (e : Fin 32) (c : Dev nD) (d : Fin 4) : (Rd t W).amount (sendCell e c) 0 d = amt e := by
  show amt (evOf (sendS e)) = _; rw [evOf_sendS]
theorem amount_recv (e : Fin 32) (c : Dev nD) (d : Fin 4) : (Rd t W).amount (recvCell e c) 0 d = amt e := by
  show amt (evOf (recvS e)) = _; rw [evOf_recvS]

theorem expect_bar (c : Dev nD) : (Rd t W).expect (barCell c) 0 = 4 := by
  unfold Schedule.expect Schedule.amountOf
  rw [duties_bar, Finset.sum_congr rfl fun d _ => amount_bar t W c d]; rfl
theorem expect_send (e : Fin 32) (c : Dev nD) : (Rd t W).expect (sendCell e c) 0 = amt e := by
  unfold Schedule.expect Schedule.amountOf; rw [duties_send, Finset.sum_singleton, amount_send]
theorem expect_recv (e : Fin 32) (c : Dev nD) : (Rd t W).expect (recvCell e c) 0 = amt e := by
  unfold Schedule.expect Schedule.amountOf; rw [duties_recv, Finset.sum_singleton, amount_recv]

theorem payload_bar (c : Dev nD) (a : Fin 4) : (Rd t W).payload (barCell c) 0 a = barPay a c := rfl
theorem payload_send (e : Fin 32) (c : Dev nD) (d : Fin 4) : (Rd t W).payload (sendCell e c) 0 d = sendPay t W e c := by
  show (if isRecv (sendS e) then recvPay t W (evOf (sendS e)) c else sendPay t W (evOf (sendS e)) c) = _
  rw [isRecv_sendS, evOf_sendS]; rfl
theorem payload_recv (e : Fin 32) (c : Dev nD) (d : Fin 4) : (Rd t W).payload (recvCell e c) 0 d = recvPay t W e c := by
  show (if isRecv (recvS e) then recvPay t W (evOf (recvS e)) c else sendPay t W (evOf (recvS e)) c) = _
  rw [isRecv_recvS, evOf_recvS]; rfl

theorem rest_send (e : Fin 32) (c : Dev nD) :
    bigSep ((Rd t W).duties (sendCell e c) 0 \ ∅) (fun d => (Rd t W).payload (sendCell e c) 0 d) = sendPay t W e c := by
  rw [Finset.sdiff_empty, duties_send, bigSep_singleton, payload_send]
theorem rest_recv (e : Fin 32) (c : Dev nD) :
    bigSep ((Rd t W).duties (recvCell e c) 0 \ ∅) (fun d => (Rd t W).payload (recvCell e c) 0 d) = recvPay t W e c := by
  rw [Finset.sdiff_empty, duties_recv, bigSep_singleton, payload_recv]

/-- The whole of a barrier cell's round: every place the device's transfers land in. -/
theorem rest_bar (c : Dev nD) :
    bigSep ((Rd t W).duties (barCell c) 0 \ ∅) (fun d => (Rd t W).payload (barCell c) 0 d)
      = (bigSep Finset.univ fun e : Fin 32 => place e (peer e c) : sProp 𝕄) := by
  rw [Finset.sdiff_empty, duties_bar,
    bigSep_fiberwise Finset.univ (fun e : Fin 32 => (⟨evAx e, evAx_lt e⟩ : Fin 4)) (fun e : Fin 32 => place e (peer e c)),
    show Finset.univ.image (fun e : Fin 32 => (⟨evAx e, evAx_lt e⟩ : Fin 4)) = Finset.univ from by decide +kernel]
  refine bigSep_congr fun a _ => ?_
  rw [payload_bar]; unfold barPay
  congr 1
  ext e; simp only [Finset.mem_filter, Finset.mem_univ, true_and, Fin.ext_iff]

/-! ## What a device owes, and the levels -/

/-- What the transfers numbered `n` and later will add at the partners' receive semaphores. -/
def oweFrom (n : Nat) (c : Dev nD) : CellTallies nD τ sig Unit :=
  ∑ e : Fin 32, if n ≤ e.val then tallyAt (recvCell e (peer e c)) () (amt e) else 0
/-- The barrier signals to the neighbours along the axes from `n` on. -/
def oweBar (n : Nat) (c : Dev nD) : CellTallies nD τ sig Unit :=
  ∑ a : Fin 4, if n ≤ a.val then tallyAt (barCell (pt a c)) () 1 else 0

theorem sum_step {M : Type} [AddCommMonoid M] {n : Nat} (f : Fin n → M) (i : Fin n) :
    (∑ e : Fin n, if i.val ≤ e.val then f e else 0) = (∑ e : Fin n, if i.val + 1 ≤ e.val then f e else 0) + f i := by
  rw [← Finset.sum_filter, ← Finset.sum_filter, add_comm,
    show (Finset.univ.filter fun e : Fin n => i.val ≤ e.val) = insert i (Finset.univ.filter fun e : Fin n => i.val + 1 ≤ e.val) from by
      ext e; simp only [Finset.mem_filter, Finset.mem_univ, true_and, Finset.mem_insert, Fin.ext_iff]; omega,
    Finset.sum_insert (by simp)]

theorem oweFrom_step (e : Fin 32) (c : Dev nD) : oweFrom e c = oweFrom (e + 1) c + tallyAt (recvCell e (peer e c)) () (amt e) :=
  sum_step (fun e : Fin 32 => (tallyAt (recvCell e (peer e c)) () (amt e) : CellTallies nD τ sig Unit)) e
theorem oweBar_step (a : Fin 4) (c : Dev nD) : oweBar a c = oweBar (a + 1) c + tallyAt (barCell (pt a c)) () 1 :=
  sum_step (fun a : Fin 4 => (tallyAt (barCell (pt a c)) () 1 : CellTallies nD τ sig Unit)) a
theorem oweFrom_end (c : Dev nD) : oweFrom 32 c = 0 :=
  Finset.sum_eq_zero fun e _ => if_neg (by omega)
theorem oweBar_end (c : Dev nD) : oweBar 4 c = 0 :=
  Finset.sum_eq_zero fun e _ => if_neg (by omega)

/-- All a device owes at the start. -/
def O₀ (c : Dev nD) : CellTallies nD τ sig Unit := oweFrom 0 c + oweBar 0 c

def L (g : GSem nD τ sig) : Finset Unit := if g.1.2 = .tc then {()} else ∅
/-- The order of waiting: staging and send semaphores lowest, then the barrier, then the receive semaphores in the
    order of their transfers. -/
def lv (g : GSem nD τ sig) (_ : Unit) : ℕ := match g.2 with
  | .reg _ => 1
  | .dma q => if 3 ≤ q.val ∧ isRecv q then 2 + (evOf q).val else 0

theorem L_of_ne (g : GSem nD τ sig) (h : g.1.2 ≠ .tc) : L g = ∅ := if_neg h
theorem L_tc (c : Dev nD) (sm : SemLoc sig) : L ((c : Thread nD τ), sm) = {()} := if_pos rfl

theorem lv_recv (e : Fin 32) (c : Dev nD) : lv (recvCell e c) () = 2 + e.val := by
  show (if 3 ≤ (recvS e).val ∧ isRecv (recvS e) then 2 + (evOf (recvS e)).val else 0) = _
  rw [if_pos ⟨by show 3 ≤ 19 + semIx e; omega, isRecv_recvS e⟩, evOf_recvS]

theorem sum_apply_pos {n : Nat} (f : Fin n → CellTallies nD τ sig Unit) {g : GSem nD τ sig} {u : Unit}
    (h : 0 < (∑ e : Fin n, f e) g u) : ∃ e, 0 < f e g u := by
  by_contra hn
  rw [not_exists] at hn
  rw [Finset.sum_apply, Finsupp.finsetSum_apply, Finset.sum_eq_zero fun e _ => Nat.eq_zero_of_not_pos (hn e)] at h
  exact Nat.lt_irrefl 0 h

theorem tallyAt_pos {g g' : GSem nD τ sig} {u : Unit} {n : ℕ} (h : 0 < (tallyAt g' () n : CellTallies nD τ sig Unit) g u) : g = g' := by
  rw [tallyAt_apply] at h
  by_contra hn
  rw [if_neg fun h' => hn h'.1] at h
  exact Nat.lt_irrefl 0 h

theorem oweFrom_pos {n : Nat} {c : Dev nD} {g : GSem nD τ sig} {u : Unit} (h : 0 < oweFrom n c g u) :
    ∃ e : Fin 32, n ≤ e.val ∧ g = recvCell e (peer e c) := by
  obtain ⟨e, he⟩ := sum_apply_pos _ h
  by_cases hn : n ≤ e.val
  · rw [if_pos hn] at he; exact ⟨e, hn, tallyAt_pos he⟩
  · rw [if_neg hn] at he; exact absurd he (Nat.lt_irrefl 0)

theorem oweBar_pos {n : Nat} {c : Dev nD} {g : GSem nD τ sig} {u : Unit} (h : 0 < oweBar n c g u) :
    ∃ a : Fin 4, g = barCell (pt a c) := by
  obtain ⟨e, he⟩ := sum_apply_pos _ h
  by_cases hn : n ≤ e.val
  · rw [if_pos hn] at he; exact ⟨e, tallyAt_pos he⟩
  · rw [if_neg hn] at he; exact absurd he (Nat.lt_irrefl 0)

theorem O₀_pos {c : Dev nD} {g : GSem nD τ sig} {u : Unit} (h : 0 < O₀ c g u) :
    (∃ e : Fin 32, g = recvCell e (peer e c)) ∨ ∃ a : Fin 4, g = barCell (pt a c) := by
  unfold O₀ at h
  rw [Pi.add_apply, Finsupp.add_apply] at h
  rcases Nat.add_pos_iff_pos_or_pos.mp h with h | h
  · obtain ⟨e, _, he⟩ := oweFrom_pos h; exact .inl ⟨e, he⟩
  · exact .inr (oweBar_pos h)

omit [FloatOps F] in
/-- A device may wait for transfer `e` while it owes only later ones. -/
theorem mayWait_recv (c : Dev nD) (e : Fin 32) (n : Nat) (h : e.val < n) :
    (levAts L lv : sProp 𝕄) ⊢ MayWait (c : Thread nD τ) (.dma (recvS e)) () (oweFrom n c) :=
  MayOwe.of_cut (L := L) (lev := lv) (2 + e.val) (fun p hp => by rw [Finset.mem_singleton.mp hp, L_tc]; exact Finset.mem_singleton_self _)
    (fun g u hg => by obtain ⟨e', _, rfl⟩ := oweFrom_pos hg; rw [L_tc]; exact Finset.mem_singleton_self _)
    (fun p hp => by rw [Finset.mem_singleton.mp hp]; exact (lv_recv e c).le)
    (fun g u hg => by obtain ⟨e', he', rfl⟩ := oweFrom_pos hg; rw [lv_recv]; omega)

omit [FloatOps F] in
/-- At its barrier a device owes transfers only. -/
theorem mayWait_bar (c : Dev nD) : (levAts L lv : sProp 𝕄) ⊢ MayWait (c : Thread nD τ) (.reg barS) () (oweFrom 0 c) :=
  MayOwe.of_cut (L := L) (lev := lv) 1 (fun p hp => by rw [Finset.mem_singleton.mp hp, L_tc]; exact Finset.mem_singleton_self _)
    (fun g u hg => by obtain ⟨e', _, rfl⟩ := oweFrom_pos hg; rw [L_tc]; exact Finset.mem_singleton_self _)
    (fun p hp => by rw [Finset.mem_singleton.mp hp]; exact le_rfl)
    (fun g u hg => by obtain ⟨e', he', rfl⟩ := oweFrom_pos hg; rw [lv_recv]; omega)

omit [FloatOps F] in
/-- The staging copies may be waited for at the start and at the end. -/
theorem mayWait_stage (c : Dev nD) (q : DmaSem sig) (hq : q.val < 3) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨e, rfl⟩ | ⟨a, rfl⟩ <;> (rw [L_tc]; exact Finset.mem_singleton_self _))
      (fun p hp => by
        rw [Finset.mem_singleton.mp hp]
        show (if 3 ≤ q.val ∧ isRecv q then 2 + (evOf q).val else 0) ≤ 0
        rw [if_neg fun h => absurd h.1 (by omega)])
      (fun g u hg => by
        rcases O₀_pos hg with ⟨e, rfl⟩ | ⟨a, rfl⟩
        · rw [lv_recv]; omega
        · exact Nat.one_pos)
  · rw [MayWait_zero]; iintro -; iempintro

abbrev 𝒱₀ : Variants := Variants.none

end Cert.KernelIdealProof

end
-- ==== Proof.KernelIdeal.State.lean ====
/-
# A device's state between two of its operations

Everything a device holds at a point of its program, in three parts: what concerns its semaphores
(`Ctl`), what it holds of each of its four schedules (`Sch`, by the phase the schedule is in), and the
buffers no transfer touches (`Rest`).
-/
module

public import proofs.«01_k».proof.Proof.KernelIdeal.Sched

@[expose] public section

noncomputable section

namespace Cert.KernelIdealProof

open Cert.KernelIdeal Cert.KernelIdeal.Gen Cert.Cube

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (t : Blocks F) (W : Mats F)

/-! ## The phases of a schedule -/

/-- Where a schedule stands: `A k` — `k` halvings done; `B k` — its half of halving `k` sent; `C k` — the partner's
    half landed, not yet added; `G k` — the product stored and `k` doublings done; `H k` — its rows of doubling `k` sent. -/
inductive Phase where
  | A (k : Nat) | B (k : Nat) | C (k : Nat) | G (k : Nat) | H (k : Nat)
deriving DecidableEq

/-- The landing rows of the halvings below `k`, done with. -/
def stDone (s k : Nat) (c : Dev nD) : sProp 𝕄 :=
  bigSep Finset.univ fun j : Fin 4 => if j.val < k then iprop(∃ f, stPts c (480 * s + stOff j) (cnt (j + 1)) fullShare f) else iprop(emp)

/-- The result rows the device itself will store. -/
def outOwn (s : Nat) (c : Dev nD) : sProp 𝕄 := iprop(∃ f, outPts c (lo s 4 c) (cnt 4) fullShare f)

/-- The rows that doubling `j` brings, at what share. -/
def sibPts (s j : Nat) (c : Dev nD) (q : PosShare TreeShare) : sProp 𝕄 :=
  outPts c (lo s (4 - j) (pt (ax s (3 - j)) c)) (cnt (4 - j)) q (OUT t W)

/-- The parts of the rows brought by the doublings below `k` that were set aside when they came. -/
def asides (s k : Nat) (c : Dev nD) : sProp 𝕄 :=
  bigSep Finset.univ fun j : Fin 4 => if j.val < k then iprop(sibPts t W s j c (shr (j + 1)) -∗ sibPts t W s j c fullShare) else iprop(emp)

/-- What a schedule is done with once its product is stored. -/
def fin (s : Nat) (c : Dev nD) : sProp 𝕄 := iprop((∃ f, redPts c (lo s 4 c) (cnt 4) fullShare f) ∗ stDone s 4 c)

/-- What the device holds of schedule `s` in each phase. -/
def Sch (s : Nat) (p : Phase) (c : Dev nD) : sProp 𝕄 := match p with
  | .A k => iprop(redPts c (lo s k c) (cnt k) fullShare (acc t s k c) ∗ stDone s k c ∗ outOwn s c)
  | .B k => iprop(redPts c (lo s (k + 1) c) (cnt (k + 1)) fullShare (acc t s k c) ∗ stDone s k c ∗ outOwn s c)
  | .C k => iprop(redPts c (lo s (k + 1) c) (cnt (k + 1)) fullShare (acc t s k c)
      ∗ stPts c (480 * s + stOff k) (cnt (k + 1)) fullShare (land t (4 * k + s) c) ∗ stDone s k c ∗ outOwn s c)
  | .G k => iprop(outPts c (lo s (4 - k) c) (cnt (4 - k)) (shr k) (OUT t W) ∗ asides t W s k c ∗ fin s c)
  | .H k => iprop(outPts c (lo s (4 - k) c) (cnt (4 - k)) (shr (k + 1)) (OUT t W) ∗ asides t W s k c ∗ fin s c)

/-! ## The semaphores -/

/-- A device's semaphores: the barrier, and a send (`false`) and a receive (`true`) semaphore per transfer. -/
def osem : Bool × Fin 32 → SemLoc sig
  | (false, e) => .dma (sendS e)
  | (true, e) => .dma (recvS e)
def csem : Unit ⊕ (Bool × Fin 32) → SemLoc sig
  | .inl _ => .reg barS
  | .inr x => osem x
abbrev kcell (ck : Dev nD × (Unit ⊕ (Bool × Fin 32))) : GSem nD τ sig := ((ck.1 : Thread nD τ), csem ck.2)

/-- What everyone knows: every cell keeps to the schedule, and is at its round. -/
def know : sProp 𝕄 :=
  bigSep Finset.univ fun ck : Dev nD × (Unit ⊕ (Bool × Fin 32)) =>
    iprop((∃ κ : ℕ, cellInv ER (Rd t W) κ (kcell ck)) ∗ reached ER (kcell ck) 0)

instance know_persistent : BI.Persistent (know t W) := by unfold know; infer_instance

theorem know_bar (c : Dev nD) : know t W ⊢ iprop((∃ κ : ℕ, cellInv ER (Rd t W) κ (barCell c)) ∗ reached ER (barCell c) 0) :=
  bigSep_elim (i := (c, Sum.inl ())) (Finset.mem_univ _)
theorem know_send (e : Fin 32) (c : Dev nD) : know t W ⊢ iprop((∃ κ : ℕ, cellInv ER (Rd t W) κ (sendCell e c)) ∗ reached ER (sendCell e c) 0) :=
  bigSep_elim (i := (c, Sum.inr (false, e))) (Finset.mem_univ _)
theorem know_recv (e : Fin 32) (c : Dev nD) : know t W ⊢ iprop((∃ κ : ℕ, cellInv ER (Rd t W) κ (recvCell e c)) ∗ reached ER (recvCell e c) 0) :=
  bigSep_elim (i := (c, Sum.inr (true, e))) (Finset.mem_univ _)

/-- The two tokens transfer `e` is paid with. -/
def toks (e : Fin 32) (c : Dev nD) : sProp 𝕄 := iprop(dutyTok ER (sendCell e c) 0 0 ∗ dutyTok ER (recvCell e (peer e c)) 0 0)

/-- What a transfer not yet started needs. -/
def pend (e : Fin 32) (c : Dev nD) : sProp 𝕄 := iprop(toks e c ∗ place e (peer e c))

/-- The receive side of transfer `e`, before and after the wait. -/
def rcvSt (e : Fin 32) (c : Dev nD) (done : Prop) [Decidable done] : sProp 𝕄 :=
  if done then semVal (recvCell e c) 0 else iprop(cred (tallyAt (recvCell e c) () (amt e)) ∗ atPos ER (recvCell e c) 0 ∅ 0)

/-- The send side of transfer `e`: not started, started, waited for. -/
def sndSt (e : Fin 32) (c : Dev nD) (started done : Prop) [Decidable started] [Decidable done] : sProp 𝕄 :=
  if done then iprop(semVal (sendCell e c) 0 ∗ sendPay t W e c)
  else if started then iprop(cred (tallyAt (sendCell e c) () (amt e)) ∗ atPos ER (sendCell e c) 0 ∅ 0)
  else atPos ER (sendCell e c) 0 ∅ 0

section
variable (e : Fin 32) (c : Dev nD) {p q : Prop} [Decidable p] [Decidable q]
omit [FloatOps F] in
theorem rcvSt_done (hp : p) : (rcvSt e c p : sProp 𝕄) = semVal (recvCell e c) 0 := if_pos hp
omit [FloatOps F] in
theorem rcvSt_wait (hp : ¬ p) : (rcvSt e c p : sProp 𝕄) = iprop(cred (tallyAt (recvCell e c) () (amt e)) ∗ atPos ER (recvCell e c) 0 ∅ 0) := if_neg hp
theorem sndSt_done (hq : q) : sndSt t W e c p q = iprop(semVal (sendCell e c) 0 ∗ sendPay t W e c) := if_pos hq
theorem sndSt_run (hp : p) (hq : ¬ q) : sndSt t W e c p q = iprop(cred (tallyAt (sendCell e c) () (amt e)) ∗ atPos ER (sendCell e c) 0 ∅ 0) :=
  (if_neg hq).trans (if_pos hp)
theorem sndSt_idle (hp : ¬ p) (hq : ¬ q) : sndSt t W e c p q = atPos ER (sendCell e c) 0 ∅ 0 := (if_neg hq).trans (if_neg hp)
end

/-- The semaphore side with `ns` transfers started, `nr` landed and `nw` of its own waited for. -/
def Ctl (ns nr nw : Nat) (c : Dev nD) : sProp 𝕄 :=
  iprop(know t W ∗ levAts L lv ∗ semVal (barCell c) 0
    ∗ (∃ V, owes (c : Thread nD τ) (oweFrom ns c) V)
    ∗ (bigSep Finset.univ fun e : Fin 32 => if ns ≤ e.val then pend e c else iprop(emp))
    ∗ (bigSep Finset.univ fun e : Fin 32 => rcvSt e c (e.val < nr))
    ∗ (bigSep Finset.univ fun e : Fin 32 => sndSt t W e c (e.val < ns) (e.val < nw)))

/-! ## The other buffers, and the state -/

def tPts (c : Dev nD) : sProp 𝕄 := ((c : Thread nD τ).loc cc0_stg0_0) ↦{fullShare} (t c)
def wPts (c : Dev nD) : sProp 𝕄 := ((c : Thread nD τ).loc cc0_stg1_0) ↦{fullShare} (W c)
def bufPts (c : Dev nD) (f : Vec F S1024x1024 .bf16) : sProp 𝕄 := ((c : Thread nD τ).loc cc0_scratch2) ↦{fullShare} f

/-- The staged arguments, and the matrix buffer: filled (`true`) or not. -/
def Rest : Bool → Dev nD → sProp 𝕄
  | true, c => iprop(tPts t c ∗ wPts W c ∗ bufPts c (W c))
  | false, c => iprop(tPts t c ∗ wPts W c ∗ ∃ f, bufPts c f)

/-- The state of device `c`. -/
def St (ns nr nw : Nat) (ph : Fin 4 → Phase) (wb : Bool) (c : Dev nD) : sProp 𝕄 :=
  iprop(Ctl t W ns nr nw c ∗ (bigSep Finset.univ fun s : Fin 4 => Sch t W s (ph s) c) ∗ Rest t W wb c)

/-! ## Taking one member out of a family, and putting another in its place -/

omit [FloatOps F] in
theorem bigSep_at {I : Type} [Fintype I] [DecidableEq I] (e : I) {Φ Ψ : I → sProp 𝕄} (h : ∀ i, i ≠ e → Φ i = Ψ i) :
    bigSep Finset.univ Φ ⊢ iprop(Φ e ∗ (Ψ e -∗ bigSep Finset.univ Ψ)) := by
  have h₁ : bigSep Finset.univ Φ = iprop(Φ e ∗ bigSep (Finset.univ.erase e) Φ) := bigSep_univ_split e
  have h₂ : bigSep Finset.univ Ψ = iprop(Ψ e ∗ bigSep (Finset.univ.erase e) Φ) := by
    rw [bigSep_univ_split e, bigSep_congr fun i hi => h i (Finset.ne_of_mem_erase hi)]; rfl
  rw [h₁, h₂]
  iintro ⟨H1, H2⟩
  isplitl [H1]; · iexact H1
  iintro H
  isplitl [H]; · iexact H
  iexact H2

/-- One schedule's holding taken out, to be put back in another phase. -/
theorem sch_at (ph : Fin 4 → Phase) (s : Fin 4) (p : Phase) (c : Dev nD) :
    (bigSep Finset.univ fun s' : Fin 4 => Sch t W s' (ph s') c)
      ⊢ iprop(Sch t W s (ph s) c ∗ (Sch t W s p c -∗ bigSep Finset.univ fun s' : Fin 4 => Sch t W s' (Function.update ph s p s') c)) := by
  refine (bigSep_at s (Φ := fun s' : Fin 4 => Sch t W s' (ph s') c) (Ψ := fun s' : Fin 4 => Sch t W s' (Function.update ph s p s') c)
    fun i hi => by rw [Function.update_of_ne hi]).trans ?_
  simp only [Function.update_self]
  exact BI.Entails.refl _

/-- One schedule's holding taken out, to be put back as it was. -/
theorem sch_same (ph : Fin 4 → Phase) (s : Fin 4) (c : Dev nD) :
    (bigSep Finset.univ fun s' : Fin 4 => Sch t W s' (ph s') c)
      ⊢ iprop(Sch t W s (ph s) c ∗ (Sch t W s (ph s) c -∗ bigSep Finset.univ fun s' : Fin 4 => Sch t W s' (ph s') c)) :=
  bigSep_at s (Φ := fun s' : Fin 4 => Sch t W s' (ph s') c) (Ψ := fun s' : Fin 4 => Sch t W s' (ph s') c) fun _ _ => rfl

/-! ## The semaphore side of each operation -/

/-- Starting transfer `e`. -/
theorem ctl_send (e : Fin 32) (nr nw : Nat) (hw : nw ≤ e.val) (c : Dev nD) :
    Ctl t W e nr nw c ⊢ iprop(know t W ∗ pend e c ∗ (∃ V, owes (c : Thread nD τ) (oweFrom e c) V)
      ∗ (((∃ V, owes (c : Thread nD τ) (oweFrom (e + 1) c) V) ∗ cred (tallyAt (sendCell e c) () (amt e))) -∗ Ctl t W (e + 1) nr nw c)) := by
  unfold Ctl
  iintro ⟨#HK, #HL, Hb, HO, Hp, Hr, Hs⟩
  ihave Hp := (bigSep_at e (Φ := fun i : Fin 32 => if e.val ≤ i.val then pend i c else iprop(emp))
    (Ψ := fun i : Fin 32 => if e.val + 1 ≤ i.val then pend i c else iprop(emp)) (fun i hi => by
      have h : i.val ≠ e.val := fun h => hi (Fin.ext h)
      by_cases hle : e.val + 1 ≤ i.val
      · rw [if_pos (show e.val ≤ i.val by omega), if_pos hle]
      · rw [if_neg (show ¬ e.val ≤ i.val by omega), if_neg hle])) $$ Hp
  ihave Hs := (bigSep_at e (Φ := fun i : Fin 32 => sndSt t W i c (i.val < e.val) (i.val < nw))
    (Ψ := fun i : Fin 32 => sndSt t W i c (i.val < e.val + 1) (i.val < nw)) (fun i hi => by
      have h : i.val ≠ e.val := fun h => hi (Fin.ext h)
      unfold sndSt
      by_cases hw : i.val < nw
      · rw [if_pos hw, if_pos hw]
      rw [if_neg hw, if_neg hw]
      by_cases hle : i.val < e.val
      · rw [if_pos hle, if_pos (show i.val < e.val + 1 by omega)]
      · rw [if_neg hle, if_neg (show ¬ i.val < e.val + 1 by omega)])) $$ Hs
  icases Hp with ⟨Hp, Hpw⟩
  icases Hs with ⟨Hs, Hsw⟩
  ihave Hp := (Entails.of_eq (if_pos (le_refl e.val))) $$ Hp
  ihave Hs := (Entails.of_eq (sndSt_idle t W e c (Nat.lt_irrefl e.val) (show ¬ e.val < nw by omega))) $$ Hs
  isplitr; · iexact HK
  isplitl [Hp]; · iexact Hp
  isplitl [HO]; · iexact HO
  iintro ⟨HO, Hc⟩
  isplitr; · iexact HK
  isplitr; · iexact HL
  isplitl [Hb]; · iexact Hb
  isplitl [HO]; · iexact HO
  isplitl [Hpw]
  · iapply Hpw
    iapply (Entails.of_eq (if_neg (show ¬ e.val + 1 ≤ e.val by omega)).symm)
    iempintro
  isplitl [Hr]; · iexact Hr
  iapply Hsw
  iapply (Entails.of_eq (sndSt_run t W e c (Nat.lt_succ_self e.val) (show ¬ e.val < nw by omega)).symm)
  isplitl [Hc]; · iexact Hc
  iexact Hs

/-- Waiting for transfer `e` to land. -/
theorem ctl_recv (e : Fin 32) (ns nw : Nat) (c : Dev nD) :
    Ctl t W ns e nw c ⊢ iprop(know t W ∗ levAts L lv ∗ cred (tallyAt (recvCell e c) () (amt e)) ∗ atPos ER (recvCell e c) 0 ∅ 0
      ∗ (∃ V, owes (c : Thread nD τ) (oweFrom ns c) V)
      ∗ (((∃ V, owes (c : Thread nD τ) (oweFrom ns c) V) ∗ semVal (recvCell e c) 0) -∗ Ctl t W ns (e + 1) nw c)) := by
  unfold Ctl
  iintro ⟨#HK, #HL, Hb, HO, Hp, Hr, Hs⟩
  ihave Hr := (bigSep_at e (Φ := fun i : Fin 32 => rcvSt (F := F) i c (i.val < e.val))
    (Ψ := fun i : Fin 32 => rcvSt i c (i.val < e.val + 1)) (fun i hi => by
      have h : i.val ≠ e.val := fun h => hi (Fin.ext h)
      unfold rcvSt
      by_cases hle : i.val < e.val
      · rw [if_pos hle, if_pos (show i.val < e.val + 1 by omega)]
      · rw [if_neg hle, if_neg (show ¬ i.val < e.val + 1 by omega)])) $$ Hr
  icases Hr with ⟨Hr, Hrw⟩
  ihave Hr := (Entails.of_eq (rcvSt_wait e c (Nat.lt_irrefl e.val))) $$ Hr
  icases Hr with ⟨Hc, Ha⟩
  isplitr; · iexact HK
  isplitr; · iexact HL
  isplitl [Hc]; · iexact Hc
  isplitl [Ha]; · iexact Ha
  isplitl [HO]; · iexact HO
  iintro ⟨HO, Hz⟩
  isplitr; · iexact HK
  isplitr; · iexact HL
  isplitl [Hb]; · iexact Hb
  isplitl [HO]; · iexact HO
  isplitl [Hp]; · iexact Hp
  isplitl [Hrw Hz]
  · iapply Hrw
    iapply (Entails.of_eq (rcvSt_done e c (Nat.lt_succ_self e.val)).symm)
    iexact Hz
  iexact Hs

/-- Waiting for its own transfer `e` to leave. -/
theorem ctl_wait (e : Fin 32) (ns nr : Nat) (hs : e.val < ns) (c : Dev nD) :
    Ctl t W ns nr e c ⊢ iprop(know t W ∗ cred (tallyAt (sendCell e c) () (amt e)) ∗ atPos ER (sendCell e c) 0 ∅ 0
      ∗ (∃ V, owes (c : Thread nD τ) (oweFrom ns c) V)
      ∗ (((∃ V, owes (c : Thread nD τ) (oweFrom ns c) V) ∗ semVal (sendCell e c) 0 ∗ sendPay t W e c) -∗ Ctl t W ns nr (e + 1) c)) := by
  unfold Ctl
  iintro ⟨#HK, #HL, Hb, HO, Hp, Hr, Hs⟩
  ihave Hs := (bigSep_at e (Φ := fun i : Fin 32 => sndSt t W i c (i.val < ns) (i.val < e.val))
    (Ψ := fun i : Fin 32 => sndSt t W i c (i.val < ns) (i.val < e.val + 1)) (fun i hi => by
      have h : i.val ≠ e.val := fun h => hi (Fin.ext h)
      unfold sndSt
      by_cases hle : i.val < e.val
      · rw [if_pos hle, if_pos (show i.val < e.val + 1 by omega)]
      · rw [if_neg hle, if_neg (show ¬ i.val < e.val + 1 by omega)])) $$ Hs
  icases Hs with ⟨Hs, Hsw⟩
  ihave Hs := (Entails.of_eq (sndSt_run t W e c hs (Nat.lt_irrefl e.val))) $$ Hs
  icases Hs with ⟨Hc, Ha⟩
  isplitr; · iexact HK
  isplitl [Hc]; · iexact Hc
  isplitl [Ha]; · iexact Ha
  isplitl [HO]; · iexact HO
  iintro ⟨HO, Hz⟩
  isplitr; · iexact HK
  isplitr; · iexact HL
  isplitl [Hb]; · iexact Hb
  isplitl [HO]; · iexact HO
  isplitl [Hp]; · iexact Hp
  isplitl [Hr]; · iexact Hr
  iapply Hsw
  iapply (Entails.of_eq (sndSt_done t W e c (Nat.lt_succ_self e.val)).symm)
  iexact Hz

/-! ## Rows split and joined -/

omit [FloatOps F] in
theorem biEq {P Q : sProp 𝕄} (h : P ⊣⊢ Q) : P = Q := BI.Entails.antisymm h.1 h.2

theorem redPts_halves {s k : Nat} (hs : s < 4) (hk : k < 4) (c : Dev nD) (q : PosShare TreeShare) (f : Vec F S2048x1024 .bf16) :
    (redPts c (lo s k c) (cnt k) q f : sProp 𝕄)
      = iprop(redPts c (lo s (k + 1) c) (cnt (k + 1)) q f ∗ redPts c (lo s (k + 1) (pt (ax s k) c)) (cnt (k + 1)) q f) := by
  unfold redPts
  obtain ⟨h, hd⟩ := rows_halves s k hs hk c
  rw [h]
  exact biEq (pointsTo_union hd)

theorem outPts_halves {s k : Nat} (hs : s < 4) (hk : k < 4) (c : Dev nD) (q : PosShare TreeShare) (f : Vec F S2048x1024 .bf16) :
    (outPts c (lo s k c) (cnt k) q f : sProp 𝕄)
      = iprop(outPts c (lo s (k + 1) c) (cnt (k + 1)) q f ∗ outPts c (lo s (k + 1) (pt (ax s k) c)) (cnt (k + 1)) q f) := by
  unfold outPts
  obtain ⟨h, hd⟩ := rows_halves s k hs hk c
  rw [h]
  exact biEq (pointsTo_union hd)

theorem outPts_share (c : Dev nD) (l n : Nat) (q : PosShare TreeShare) (f : Vec F S2048x1024 .bf16) :
    (outPts c l n q f : sProp 𝕄) = iprop(outPts c l n q.left f ∗ outPts c l n q.right f) := by
  unfold outPts
  exact biEq (pointsTo_share (PosShare.mem_left_op_right q))

/-- Of rows held whole, the share left after `k` doublings can be taken, against giving it back. -/
theorem outPts_lend (c : Dev nD) (l n : Nat) (f : Vec F S2048x1024 .bf16) (k : Nat) :
    (outPts c l n fullShare f : sProp 𝕄) ⊢ iprop(outPts c l n (shr k) f ∗ (outPts c l n (shr k) f -∗ outPts c l n fullShare f)) := by
  induction k with
  | zero =>
    iintro H
    isplitl [H]; · iexact H
    iintro H; iexact H
  | succ k ih =>
    iintro H
    ihave H := ih $$ H
    icases H with ⟨H, Hw⟩
    ihave H := (Entails.of_eq (outPts_share c l n (shr k) f)) $$ H
    icases H with ⟨Hl, Hr⟩
    isplitl [Hr]; · iexact Hr
    iintro Hr
    iapply Hw
    iapply (Entails.of_eq (outPts_share c l n (shr k) f).symm)
    isplitl [Hl]; · iexact Hl
    iexact Hr

/-! ## The numbers of a transfer -/

theorem evS_lt (e : Nat) : evS e < 4 := Nat.mod_lt _ (by decide)
theorem evK_lt (e : Nat) : evK e < 4 := Nat.mod_lt _ (by decide)
/-- A transfer's schedule. -/
def evSF (e : Nat) : Fin 4 := ⟨evS e, evS_lt e⟩

theorem ev_rs : ∀ e : Fin 32, e.val < 16 → e.val = 4 * evK e + evS e ∧ evAx e = ax (evS e) (evK e) ∧ len e = cnt (evK e + 1) := by decide +kernel
theorem ev_ag : ∀ e : Fin 32, ¬ e.val < 16 → evAx e = ax (evS e) (3 - evK e) ∧ len e = cnt (4 - evK e) ∧ 4 - evK e = 3 - evK e + 1
    ∧ 4 - (evK e + 1) = 3 - evK e := by decide +kernel

end Cert.KernelIdealProof

end
-- ==== Proof.KernelIdeal.Steps.lean ====
/-
# One rule per operation

What each kind of operation of the kernel does to a device's state: a rule reads backwards, from the
state after the operation and the rest of the program to the state before it and the whole.
-/
module

public import proofs.«01_k».proof.Proof.KernelIdeal.State

@[expose] public section

noncomputable section

namespace Cert.KernelIdealProof

open Cert.KernelIdeal Cert.KernelIdeal.Gen Cert.Cube

open Idealize.ShloMosaic
open Idealize.ShloMosaic.TcCoe
open Idealize.ShloMosaic.ValueIdx (ix2 eq_ix2)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (t : Blocks F) (W : Mats F)

/-- Assertions. -/
abbrev SP (F : FTy → Type) : Type := sProp (MT nD τ sig Unit (Elt F) ℕ UU ℕ)

/-- The weakest precondition of a program on device `c`. -/
abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-! ## The slices the operations go through -/

abbrev blkS (n : Nat) : Shape := ⟨2, ![n, 1024]⟩
abbrev redR (off : Fin 2 → Nat) (n : Nat) (inb : ∀ a, off a + (blkS n).size a ≤ S2048x1024.size a) : Rect S2048x1024 :=
  Rect.unit (s := S2048x1024) off (blkS n).size inb
abbrev stR (off : Fin 2 → Nat) (n : Nat) (inb : ∀ a, off a + (blkS n).size a ≤ S1920x1024.size a) : Rect S1920x1024 :=
  Rect.unit (s := S1920x1024) off (blkS n).size inb

abbrev redM : Memref sig .tc .vmem S2048x1024 .bf16 := Memref.whole cc0_scratch0
abbrev stM : Memref sig .tc .vmem S1920x1024 .bf16 := Memref.whole cc0_scratch1
abbrev outM : Memref sig .tc .vmem S2048x1024 .bf16 := Memref.whole cc0_stg2_0

section slices
variable {off : Fin 2 → Nat} {l n : Nat} (hoff : off = ![l, 0])
include hoff

theorem red_set {inb} : (redM.access (redR off n inb)).set = rows 2048 l n := (View.set_slice_whole _ _).trans (unit_set off hoff inb)
theorem st_set {inb} : (stM.access (stR off n inb)).set = rows 1920 l n := (View.set_slice_whole _ _).trans (unit_set off hoff inb)
theorem out_set {inb} : (outM.access (redR off n inb)).set = rows 2048 l n := (View.set_slice_whole _ _).trans (unit_set off hoff inb)

/-- The position a slice's position lies at in a buffer of 2048 rows. -/
theorem unit_emb {inb} (hb : l + n ≤ 2048) (y : (blkS n).Idx) : (redR off n inb).emb y = rowOf y (l + (y 0).val) := by
  have hy : (y 0).val < n := (y 0).isLt
  subst hoff
  rw [eq_ix2 ((redR _ n inb).emb y)]
  unfold rowOf
  congr 1
  · apply Fin.ext
    show l + 1 * (y 0).val = (l + (y 0).val) % 2048
    omega
  · apply Fin.ext
    show 0 + 1 * (y 1).val = (y 1).val
    omega

theorem red_read {inb} (hb : l + n ≤ 2048) (f : Vec F S2048x1024 .bf16) : (redM.access (redR off n inb)).read (Elt F) f = blkOf n l f :=
  funext fun y => congrArg f (unit_emb hoff hb y)
theorem out_read {inb} (hb : l + n ≤ 2048) (f : Vec F S2048x1024 .bf16) : (outM.access (redR off n inb)).read (Elt F) f = blkOf n l f :=
  funext fun y => congrArg f (unit_emb hoff hb y)

/-- Storing a block of `g` over the rows leaves them as in `g`. -/
theorem red_write {inb} (hb : l + n ≤ 2048) (f g : Vec F S2048x1024 .bf16) :
    ∀ i ∈ rows 2048 l n, (redM.access (redR off n inb)).write (Elt F) f (blkOf n l g) Finset.univ i = g i := by
  intro i hi
  rw [← red_set hoff (inb := inb)] at hi
  obtain ⟨y, -, rfl⟩ := Finset.mem_map.mp hi
  exact (View.write_emb_of_mem _ _ (Finset.mem_univ y)).trans (congrArg g (unit_emb hoff hb y).symm)
theorem out_write {inb} (hb : l + n ≤ 2048) (f g : Vec F S2048x1024 .bf16) :
    ∀ i ∈ rows 2048 l n, (outM.access (redR off n inb)).write (Elt F) f (blkOf n l g) Finset.univ i = g i := by
  intro i hi
  rw [← out_set hoff (inb := inb)] at hi
  obtain ⟨y, -, rfl⟩ := Finset.mem_map.mp hi
  exact (View.write_emb_of_mem _ _ (Finset.mem_univ y)).trans (congrArg g (unit_emb hoff hb y).symm)

/-- The landing buffer's rows, read as a block: the partner's rows that the device keeps. -/
theorem st_val {inb} {e : Nat} {c : Dev nD} (hl : dstLo e c = l) (y : (blkS n).Idx) :
    land t e c ((stR off n inb).emb y) = acc t (evS e) (evK e) (peer e c) (rowOf y (lo (evS e) (evK e + 1) c + (y 0).val)) := by
  subst hoff
  unfold land
  refine congrArg (acc t (evS e) (evK e) (peer e c)) ?_
  unfold rowOf
  have h0 : (((stR ![l, 0] n inb).emb y) 0).val = l + (y 0).val := by show l + 1 * (y 0).val = _; omega
  congr 1
  · apply Fin.ext
    show ((((stR ![l, 0] n inb).emb y) 0).val - dstLo e c + lo (evS e) (evK e + 1) c) % 2048 = (lo (evS e) (evK e + 1) c + (y 0).val) % 2048
    rw [h0, hl]; congr 1; omega
  · apply Fin.ext
    show 0 + 1 * (y 1).val = (y 1).val
    omega

theorem st_read {inb} {e : Nat} {c : Dev nD} (hl : dstLo e c = l) :
    (stM.access (stR off n inb)).read (Elt F) (land t e c) = blkOf n (lo (evS e) (evK e + 1) c) (acc t (evS e) (evK e) (peer e c)) :=
  funext fun y => st_val t hoff hl y

theorem st_write {inb} {e : Nat} {c : Dev nD} (hl : dstLo e c = l) (f : Vec F S1920x1024 .bf16) :
    ∀ i ∈ rows 1920 l n, (stM.access (stR off n inb)).write (Elt F) f (blkOf n (lo (evS e) (evK e + 1) c) (acc t (evS e) (evK e) (peer e c))) Finset.univ i
      = land t e c i := by
  intro i hi
  rw [← st_set hoff (inb := inb)] at hi
  obtain ⟨y, -, rfl⟩ := Finset.mem_map.mp hi
  exact (View.write_emb_of_mem _ _ (Finset.mem_univ y)).trans (st_val t hoff hl y).symm
end slices

/-! ## Loads and stores, the rows taken out of what is held -/

section access
variable {c : Dev nD} {α : Type} {P P' : SP F} {Q : α → SP F} {off : Fin 2 → Nat} {l n : Nat} {q : PosShare TreeShare}

theorem load_red {f : Vec F S2048x1024 .bf16} (hoff : off = ![l, 0]) (hb : l + n ≤ 2048)
    (hP : P ⊢ iprop(redPts c l n q f ∗ (redPts c l n q f -∗ P)))
    {inb} {hl : redM.view.LoadsAt (redR off n inb)} {k : Vec F (blkS n) .bf16 → Prog (TpuEff nD τ sig (Elt F) Λ₀ .tc) α}
    (h : P ⊢ WP c (k (blkOf n l f)) Q) :
    P ⊢ WP c (.op (.load redM (redR off n inb).toLoadRect hl) k) Q := by
  refine hP.trans ?_
  have H₀ : (redPts c l n q f : sProp 𝕄) ⊢ iprop((redPts c l n q f -∗ WP c (k ((redM.access (redR off n inb)).read (Elt F) f)) Q)
      -∗ WP c (.op (.load redM (redR off n inb).toLoadRect hl) k) Q) :=
    wp_load_rect (defs := defs₀ (F := F)) 𝒱₀ (c : Thread nD τ) none Set.univ (Q := Q) (k := k) (m := redM) (r := redR off n inb) (hl := hl) (S := rows 2048 l n) (q := q) (f := f) (red_set hoff).subset
  rw [red_read hoff hb f] at H₀
  iintro ⟨H, Hw⟩
  iapply H₀ $$ H
  iintro H
  iapply h
  iapply Hw
  iexact H

theorem load_out (hoff : off = ![l, 0])
    (hP : P ⊢ iprop((∃ f, outPts c l n q f) ∗ ((∃ f, outPts c l n q f) -∗ P)))
    {inb} {hl : outM.view.LoadsAt (redR off n inb)} {k : Vec F (blkS n) .bf16 → Prog (TpuEff nD τ sig (Elt F) Λ₀ .tc) α}
    (h : ∀ v, P ⊢ WP c (k v) Q) :
    P ⊢ WP c (.op (.load outM (redR off n inb).toLoadRect hl) k) Q := by
  refine hP.trans ?_
  have H₀ : ∀ f, (outPts c l n q f : sProp 𝕄) ⊢ iprop((outPts c l n q f -∗ WP c (k ((outM.access (redR off n inb)).read (Elt F) f)) Q)
      -∗ WP c (.op (.load outM (redR off n inb).toLoadRect hl) k) Q) := fun f =>
    wp_load_rect (defs := defs₀ (F := F)) 𝒱₀ (c : Thread nD τ) none Set.univ (Q := Q) (k := k) (m := outM) (r := redR off n inb) (hl := hl) (S := rows 2048 l n) (q := q) (f := f) (out_set hoff).subset
  iintro ⟨⟨%f, H⟩, Hw⟩
  iapply (H₀ f) $$ H
  iintro H
  iapply (h _)
  iapply Hw
  iexists f
  iexact H

include t in
theorem load_st {e : Nat} (hoff : off = ![l, 0]) (hl' : dstLo e c = l)
    (hP : P ⊢ iprop(stPts c l n q (land t e c) ∗ (stPts c l n q (land t e c) -∗ P)))
    {inb} {hl : stM.view.LoadsAt (stR off n inb)} {k : Vec F (blkS n) .bf16 → Prog (TpuEff nD τ sig (Elt F) Λ₀ .tc) α}
    (h : P ⊢ WP c (k (blkOf n (lo (evS e) (evK e + 1) c) (acc t (evS e) (evK e) (peer e c)))) Q) :
    P ⊢ WP c (.op (.load stM (stR off n inb).toLoadRect hl) k) Q := by
  refine hP.trans ?_
  have H₀ : (stPts c l n q (land t e c) : sProp 𝕄) ⊢ iprop((stPts c l n q (land t e c) -∗ WP c (k ((stM.access (stR off n inb)).read (Elt F) (land t e c))) Q)
      -∗ WP c (.op (.load stM (stR off n inb).toLoadRect hl) k) Q) :=
    wp_load_rect (defs := defs₀ (F := F)) 𝒱₀ (c : Thread nD τ) none Set.univ (Q := Q) (k := k) (m := stM) (r := stR off n inb) (hl := hl) (S := rows 1920 l n) (q := q) (f := (land t e c)) (st_set hoff).subset
  rw [st_read t hoff hl'] at H₀
  iintro ⟨H, Hw⟩
  iapply H₀ $$ H
  iintro H
  iapply h
  iapply Hw
  iexact H

theorem store_red {f g : Vec F S2048x1024 .bf16} {w : Vec F (blkS n) .bf16} (hoff : off = ![l, 0]) (hb : l + n ≤ 2048)
    (hP : P ⊢ iprop(redPts c l n fullShare f ∗ (redPts c l n fullShare g -∗ P'))) (hw : w = blkOf n l g)
    {inb} {hx : (redM.access (redR off n inb)).Stores Finset.univ} {hm} {k : PUnit.{1} → Prog (TpuEff nD τ sig (Elt F) Λ₀ .tc) α}
    (h : P' ⊢ WP c (k ⟨⟩) Q) :
    P ⊢ WP c (.op (.store redM (redR off n inb) w Finset.univ hx hm) k) Q := by
  subst hw
  refine hP.trans ?_
  have H₀ : (redPts c l n fullShare f : sProp 𝕄) ⊢ iprop((redPts c l n fullShare ((redM.access (redR off n inb)).write (Elt F) f (blkOf n l g) Finset.univ)
      -∗ WP c (k ⟨⟩) Q) -∗ WP c (.op (.store redM (redR off n inb) (blkOf n l g) Finset.univ hx hm) k) Q) :=
    wp_store (defs := defs₀ (F := F)) 𝒱₀ (c : Thread nD τ) none Set.univ (Q := Q) (k := k) (m := redM) (r := redR off n inb) (w := blkOf n l g) (Mk := Finset.univ) (hx := hx) (hm := hm) (S := rows 2048 l n) (f := f) (red_set hoff).subset
  rw [show (redPts c l n fullShare ((redM.access (redR off n inb)).write (Elt F) f (blkOf n l g) Finset.univ) : sProp 𝕄) = redPts c l n fullShare g
    from pointsTo_congr (red_write hoff hb f g)] at H₀
  iintro ⟨H, Hw⟩
  iapply H₀ $$ H
  iintro H
  iapply h
  iapply Hw
  iexact H

theorem store_out {g : Vec F S2048x1024 .bf16} {w : Vec F (blkS n) .bf16} (hoff : off = ![l, 0]) (hb : l + n ≤ 2048)
    (hP : P ⊢ iprop((∃ f, outPts c l n fullShare f) ∗ (outPts c l n fullShare g -∗ P'))) (hw : w = blkOf n l g)
    {inb} {hx : (outM.access (redR off n inb)).Stores Finset.univ} {hm} {k : PUnit.{1} → Prog (TpuEff nD τ sig (Elt F) Λ₀ .tc) α}
    (h : P' ⊢ WP c (k ⟨⟩) Q) :
    P ⊢ WP c (.op (.store outM (redR off n inb) w Finset.univ hx hm) k) Q := by
  subst hw
  refine hP.trans ?_
  have H₀ : ∀ f, (outPts c l n fullShare f : sProp 𝕄) ⊢ iprop((outPts c l n fullShare ((outM.access (redR off n inb)).write (Elt F) f (blkOf n l g) Finset.univ)
      -∗ WP c (k ⟨⟩) Q) -∗ WP c (.op (.store outM (redR off n inb) (blkOf n l g) Finset.univ hx hm) k) Q) := fun f =>
    wp_store (defs := defs₀ (F := F)) 𝒱₀ (c : Thread nD τ) none Set.univ (Q := Q) (k := k) (m := outM) (r := redR off n inb) (w := blkOf n l g) (Mk := Finset.univ) (hx := hx) (hm := hm) (S := rows 2048 l n) (f := f) (out_set hoff).subset
  iintro ⟨⟨%f, H⟩, Hw⟩
  iapply (H₀ f) $$ H
  iintro H
  iapply h
  iapply Hw
  iapply (Entails.of_eq (show (outPts c l n fullShare ((outM.access (redR off n inb)).write (Elt F) f (blkOf n l g) Finset.univ) : sProp 𝕄)
    = outPts c l n fullShare g from pointsTo_congr (out_write hoff hb f g)))
  iexact H
end access

/-! ## Transfers and waits -/

section transfers
variable {c : Dev nD} {α : Type} {R : SP F} {Q : α → SP F}

/-- Starting transfer `e`: the rows read go into it, the partner's place too. -/
theorem send_core (e : Fin 32) {nr nw : Nat} (hw : nw ≤ e.val) {sh : Shape} {src dst : Memref sig .tc .vmem sh .bf16}
    {hsc : (dst : Memref sig (Dev.tc (peer e c) : Thread nD τ).2.kind .vmem sh .bf16).view.ref.isScScratch = false}
    {hsrc : src.view.WordExact} {hdst : dst.view.WordExact}
    {hsem : DmaTarget.Typed .vmem (.dma (recvS e)) (.remote (Dev.tc (peer e c) : Thread nD τ) dst (.dma (sendS e)) hsc)}
    {q : PosShare TreeShare} (fs : Buf (Elt F) (src.view.loc (c : Thread nD τ)))
    (hN : dst.view.amount (.dma (recvS e)) = amt e)
    (hplace : (place e (peer e c) : sProp 𝕄)
      ⊢ iprop(∃ fd : Buf (Elt F) (dst.view.loc (peer e c : Thread nD τ)), dst.view.loc (peer e c : Thread nD τ) ↦[dst.view.set]{fullShare} fd))
    (hpay₁ : (src.view.loc (c : Thread nD τ) ↦[src.view.set]{q} fs) ⊢ sendPay t W e c)
    (hpay₂ : ∀ fd : Buf (Elt F) (dst.view.loc (peer e c : Thread nD τ)),
      (dst.view.loc (peer e c : Thread nD τ) ↦[dst.view.set]{fullShare} (dst.view.write (Elt F) fd (src.view.read (Elt F) fs) Finset.univ))
        ⊢ recvPay t W e (peer e c))
    {k : PUnit.{1} → Prog (TpuEff nD τ sig (Elt F) Λ₀ .tc) α}
    (h : iprop(Ctl t W (e + 1) nr nw c ∗ R) ⊢ WP c (k ⟨⟩) Q) :
    iprop(Ctl t W e nr nw c ∗ (src.view.loc (c : Thread nD τ) ↦[src.view.set]{q} fs) ∗ R)
      ⊢ WP c (.op (.enqueueDma src (.remote (Dev.tc (peer e c) : Thread nD τ) dst (.dma (sendS e)) hsc) (.dma (recvS e)) hsrc hdst hsem) k) Q := by
  iintro ⟨HC, Hsrc, HR⟩
  ihave HC := (ctl_send t W e nr nw hw c) $$ HC
  unfold pend toks
  icases HC with ⟨#HK, ⟨⟨Ht₁, Ht₂⟩, Hpl⟩, ⟨%V, HO⟩, HC⟩
  ihave Hs := (know_send t W e c) $$ HK
  ihave Hr := (know_recv t W e (peer e c)) $$ HK
  icases Hs with ⟨⟨%κ₁, #HI₁⟩, #Hr₁⟩
  icases Hr with ⟨⟨%κ₂, #HI₂⟩, #Hr₂⟩
  ihave Hpl := hplace $$ Hpl
  icases Hpl with ⟨%fd, Hpl⟩
  iapply (Rounds.wp_send_pointsTo 𝒱₀ ER (Rd t W) (c : Thread nD τ) none (κ₁ := κ₁) (κ₂ := κ₂)
    (r₁ := 0) (r₂ := 0) (d₁ := 0) (d₂ := 0) (fs := fs) (fd := fd)
    (by rw [duties_send]; exact Finset.mem_singleton_self _) (by rw [duties_recv]; exact Finset.mem_singleton_self _)
    () () (amt e) hN (amount_send t W e c 0) (amount_recv t W e (peer e c) 0) (oweFrom (e + 1) c) (oweFrom_step e c) (W := V)
    (by rw [payload_send]; exact hpay₁) (by rw [payload_recv]; exact hpay₂ fd)) $$ [Hsrc Hpl HO Ht₁ Ht₂]
  · isplitr; · iexact HI₁
    isplitr; · iexact HI₂
    isplitl [Hsrc]; · iexact Hsrc
    isplitl [Hpl]; · iexact Hpl
    isplitl [HO]; · iexact HO
    isplitl [Ht₁]; · iexact Ht₁
    isplitr; · iexact Hr₁
    isplitl [Ht₂]; · iexact Ht₂
    iexact Hr₂
  iintro ⟨Hc, HO⟩
  iapply h
  isplitr [HR]
  · iapply HC
    isplitl [HO]
    · iexists V; iexact HO
    iexact Hc
  iexact HR

/-- Waiting for transfer `e` to land: the rows landed in, holding what was sent. -/
theorem recv_core (e : Fin 32) {ns nw : Nat} (hs : e.val < ns) {sp sp' : Space} {sh : Shape} {el : EltTy} {src : Memref sig .tc sp sh el}
    {dst : Memref sig .tc sp' sh el} (hN : dst.view.dmaCredit = amt e) {hsrc : src.view.WordExact} {hdst : dst.view.WordExact}
    {k : PUnit.{1} → Prog (TpuEff nD τ sig (Elt F) Λ₀ .tc) α}
    (h : iprop(Ctl t W ns (e + 1) nw c ∗ recvPay t W e c ∗ R) ⊢ WP c (k ⟨⟩) Q) :
    iprop(Ctl t W ns e nw c ∗ R) ⊢ WP c (.op (.waitDma2 (recvS e) src dst hsrc hdst) k) Q := by
  iintro ⟨HC, HR⟩
  ihave HC := (ctl_recv t W e ns nw c) $$ HC
  icases HC with ⟨#HK, #HL, Hc, Ha, ⟨%V, HO⟩, HC⟩
  ihave Hr := (know_recv t W e c) $$ HK
  icases Hr with ⟨⟨%κ, #HI⟩, -⟩
  iapply (Rounds.wp_wait_rest_token 𝒱₀ ER (Rd t W) (c : Thread nD τ) none (κ := κ)
      (wpE_waitDma2_eq 𝒱₀ (c : Thread nD τ) none Set.univ) (Set.mem_univ _) () (O := oweFrom ns c) (W := V) (R := 0) (m := 0) (T := ∅)
      (by rw [Nat.zero_add, expect_recv, hN])) $$ [Hc HO Ha]
  · isplitr; · iexact HI
    isplitl [Hc]; · rw [hN]; iexact Hc
    isplitl [HO]; · iexact HO
    isplitr; · iapply (mayWait_recv c e ns hs); iexact HL
    iexact Ha
  iintro ⟨HO, Ha, -, Hpay⟩
  ihave Hpay := (Entails.of_eq (rest_recv t W e c)) $$ Hpay
  imod (Rounds.cell_close ER (Rd t W) (Set.mem_univ κ) (fun h => h) (R := 0 + 1) (duties_later t W (recvCell e c))) $$ [Ha] with Hz
  · isplitr; · iexact HI
    iexact Ha
  iapply h
  isplitr [Hpay HR]
  · iapply HC
    isplitl [HO]
    · iexists (insert (SemLoc.dma (recvS e), ()) V); iexact HO
    iexact Hz
  isplitl [Hpay]; · iexact Hpay
  iexact HR

/-- Waiting for its own transfer `e` to leave. -/
theorem wait_core (e : Fin 32) {sp sp' : Space} {sh : Shape} {el : EltTy} {src : Memref sig .tc sp sh el}
    {dst : Memref sig .tc sp' sh el} (hN : dst.view.dmaCredit = amt e) {hsrc : src.view.WordExact} {hdst : dst.view.WordExact}
    {k : PUnit.{1} → Prog (TpuEff nD τ sig (Elt F) Λ₀ .tc) α} {nr : Nat}
    (h : iprop(Ctl t W 32 nr (e + 1) c ∗ R) ⊢ WP c (k ⟨⟩) Q) :
    iprop(Ctl t W 32 nr e c ∗ R) ⊢ WP c (.op (.waitDma2 (sendS e) src dst hsrc hdst) k) Q := by
  iintro ⟨HC, HR⟩
  ihave HC := (ctl_wait t W e 32 nr e.isLt c) $$ HC
  icases HC with ⟨#HK, Hc, Ha, ⟨%V, HO⟩, HC⟩
  ihave Hr := (know_send t W e c) $$ HK
  icases Hr with ⟨⟨%κ, #HI⟩, -⟩
  iapply (Rounds.wp_wait_rest_token 𝒱₀ ER (Rd t W) (c : Thread nD τ) none (κ := κ)
      (wpE_waitDma2_eq 𝒱₀ (c : Thread nD τ) none Set.univ) (Set.mem_univ _) () (O := oweFrom 32 c) (W := V) (R := 0) (m := 0) (T := ∅)
      (by rw [Nat.zero_add, expect_send, hN])) $$ [Hc HO Ha]
  · isplitr; · iexact HI
    isplitl [Hc]; · rw [hN]; iexact Hc
    isplitl [HO]; · iexact HO
    isplitr; · rw [oweFrom_end, MayWait_zero]; iempintro
    iexact Ha
  iintro ⟨HO, Ha, -, Hpay⟩
  ihave Hpay := (Entails.of_eq (rest_send t W e c)) $$ Hpay
  imod (Rounds.cell_close ER (Rd t W) (Set.mem_univ κ) (fun h => h) (R := 0 + 1) (duties_later t W (sendCell e c))) $$ [Ha] with Hz
  · isplitr; · iexact HI
    iexact Ha
  iapply h
  isplitr [HR]
  · iapply HC
    isplitl [HO]
    · iexists (insert (SemLoc.dma (sendS e), ()) V); iexact HO
    isplitl [Hz]; · iexact Hz
    iexact Hpay
  iexact HR
end transfers

end Cert.KernelIdealProof

end
-- ==== Proof.KernelIdeal.Rules.lean ====
/-
# The rules on the whole state

Each operation of the body as a step from one state `St` to the next.
-/
module

public import proofs.«01_k».proof.Proof.KernelIdeal.Steps

@[expose] public section

noncomputable section

namespace Cert.KernelIdealProof

open Cert.KernelIdeal Cert.KernelIdeal.Gen Cert.Cube

open Idealize.ShloMosaic
open Idealize.ShloMosaic.TcCoe
open Idealize.ShloMosaic.ValueIdx (ix2 eq_ix2)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (t : Blocks F) (W : Mats F)

/-! ## What a schedule's holding is made of -/

omit [FloatOps F] in
/-- One more member of a family indexed by the steps below `k`. -/
theorem family_push {Φ : Nat → SP F} {k : Nat} (hk : k < 4) :
    iprop((bigSep Finset.univ fun j : Fin 4 => if j.val < k then Φ j else iprop(emp)) ∗ Φ k)
      ⊢ bigSep Finset.univ fun j : Fin 4 => if j.val < k + 1 then Φ j else iprop(emp) := by
  iintro ⟨H, Hk⟩
  ihave H := (bigSep_at (⟨k, hk⟩ : Fin 4) (Φ := fun j : Fin 4 => if j.val < k then Φ j else iprop(emp))
    (Ψ := fun j : Fin 4 => if j.val < k + 1 then Φ j else iprop(emp)) (fun i hi => by
      have h : i.val ≠ k := fun h => hi (Fin.ext h)
      by_cases hle : i.val < k
      · rw [if_pos hle, if_pos (show i.val < k + 1 by omega)]
      · rw [if_neg hle, if_neg (show ¬ i.val < k + 1 by omega)])) $$ H
  icases H with ⟨-, H⟩
  iapply H
  iapply (Entails.of_eq (if_pos (Nat.lt_succ_self k)).symm)
  iexact Hk

omit [FloatOps F] in
theorem family_zero {Φ : Nat → SP F} : (bigSep Finset.univ fun j : Fin 4 => if j.val < 0 then Φ j else iprop(emp)) = iprop(emp) := by
  rw [bigSep_congr (Ψ := fun _ => iprop(emp)) fun i _ => if_neg (Nat.not_lt_zero _)]
  exact bigSep_emp_const _

section parts
variable {s k : Nat} {c : Dev nD}

theorem sch_send_rs (e : Fin 32) (he : e.val < 16) :
    Sch t W (evSF e) (.A (evK e)) c
      ⊢ iprop(redPts c (srcLo e c) (len e) fullShare (acc t (evS e) (evK e) c) ∗ Sch t W (evSF e) (.B (evK e)) c) := by
  obtain ⟨-, hax, hlen⟩ := ev_rs e he
  have hsrc : srcLo e c = lo (evS e) (evK e + 1) (pt (ax (evS e) (evK e)) c) := by unfold srcLo peer; rw [if_pos he, hax]
  show iprop(redPts c (lo (evS e) (evK e) c) (cnt (evK e)) fullShare (acc t (evS e) (evK e) c) ∗ stDone (evS e) (evK e) c ∗ outOwn (evS e) c)
    ⊢ iprop(_ ∗ redPts c (lo (evS e) (evK e + 1) c) (cnt (evK e + 1)) fullShare (acc t (evS e) (evK e) c) ∗ stDone (evS e) (evK e) c ∗ outOwn (evS e) c)
  rw [redPts_halves (evS_lt e) (evK_lt e), hsrc, hlen]
  iintro ⟨⟨H₁, H₂⟩, H⟩
  isplitl [H₂]; · iexact H₂
  isplitl [H₁]; · iexact H₁
  iexact H

theorem sch_recv_rs (e : Fin 32) (he : e.val < 16) :
    iprop(recvPay t W e c ∗ Sch t W (evSF e) (.B (evK e)) c) ⊢ Sch t W (evSF e) (.C (evK e)) c := by
  obtain ⟨hev, hax, hlen⟩ := ev_rs e he
  unfold recvPay
  rw [if_pos he]
  show iprop(stPts c (dstLo e c) (len e) fullShare (land t e c) ∗ redPts c (lo (evS e) (evK e + 1) c) (cnt (evK e + 1)) fullShare (acc t (evS e) (evK e) c) ∗ stDone (evS e) (evK e) c ∗ outOwn (evS e) c)
    ⊢ iprop(redPts c (lo (evS e) (evK e + 1) c) (cnt (evK e + 1)) fullShare (acc t (evS e) (evK e) c)
      ∗ stPts c (480 * evS e + stOff (evK e)) (cnt (evK e + 1)) fullShare (land t (4 * evK e + evS e) c) ∗ stDone (evS e) (evK e) c ∗ outOwn (evS e) c)
  rw [← hev, hlen, show dstLo e c = 480 * evS e + stOff (evK e) by unfold dstLo; rw [if_pos he]]
  iintro ⟨H₁, H₂, H⟩
  isplitl [H₂]; · iexact H₂
  isplitl [H₁]; · iexact H₁
  iexact H

theorem sch_add (hk : k < 4) :
    Sch t W s (.C k) c ⊢ iprop(redPts c (lo s (k + 1) c) (cnt (k + 1)) fullShare (acc t s k c)
      ∗ (redPts c (lo s (k + 1) c) (cnt (k + 1)) fullShare (acc t s (k + 1) c) -∗ Sch t W s (.A (k + 1)) c)) := by
  unfold Sch stDone
  iintro ⟨H, Hst, Hd, Ho⟩
  isplitl [H]; · iexact H
  iintro H
  isplitl [H]; · iexact H
  isplitr [Ho]
  · iapply (family_push (Φ := fun j => iprop(∃ f, stPts c (480 * s + stOff j) (cnt (j + 1)) fullShare f)) hk)
    isplitl [Hd]; · iexact Hd
    iexists (land t (4 * k + s) c); iexact Hst
  iexact Ho

theorem sch_store_out :
    Sch t W s (.A 4) c ⊢ iprop((∃ f, outPts c (lo s 4 c) 32 fullShare f)
      ∗ (outPts c (lo s 4 c) 32 fullShare (OUT t W) -∗ Sch t W s (.G 0) c)) := by
  have h0 : asides t W s 0 c = iprop(emp) := family_zero (Φ := fun j => iprop(sibPts t W s j c (shr (j + 1)) -∗ sibPts t W s j c fullShare))
  show iprop(redPts c (lo s 4 c) (cnt 4) fullShare (acc t s 4 c) ∗ stDone s 4 c ∗ ∃ f, outPts c (lo s 4 c) (cnt 4) fullShare f)
    ⊢ iprop((∃ f, outPts c (lo s 4 c) 32 fullShare f) ∗ (outPts c (lo s 4 c) 32 fullShare (OUT t W)
      -∗ iprop(outPts c (lo s 4 c) (cnt 4) fullShare (OUT t W) ∗ asides t W s 0 c ∗ (∃ f, redPts c (lo s 4 c) (cnt 4) fullShare f) ∗ stDone s 4 c)))
  rw [h0]
  iintro ⟨H, Hd, Ho⟩
  isplitl [Ho]; · iexact Ho
  iintro Ho
  isplitl [Ho]; · iexact Ho
  isplitr; · iempintro
  isplitl [H]
  · iexists (acc t s 4 c); iexact H
  iexact Hd

theorem sch_dummy_out :
    Sch t W s (.A 4) c ⊢ iprop((∃ f, outPts c (lo s 4 c) 32 fullShare f)
      ∗ ((∃ f, outPts c (lo s 4 c) 32 fullShare f) -∗ Sch t W s (.A 4) c)) := by
  unfold Sch outOwn
  iintro ⟨H, Hd, Ho⟩
  isplitl [Ho]; · iexact Ho
  iintro Ho
  isplitl [H]; · iexact H
  isplitl [Hd]; · iexact Hd
  iexact Ho

theorem sch_send_ag (e : Fin 32) (he : ¬ e.val < 16) :
    Sch t W (evSF e) (.G (evK e)) c
      ⊢ iprop(outPts c (srcLo e c) (len e) (shr (evK e)).left (OUT t W) ∗ Sch t W (evSF e) (.H (evK e)) c) := by
  obtain ⟨hax, hlen, -, -⟩ := ev_ag e he
  have hsrc : srcLo e c = lo (evS e) (4 - evK e) c := by unfold srcLo; rw [if_neg he]
  show iprop(outPts c (lo (evS e) (4 - evK e) c) (cnt (4 - evK e)) (shr (evK e)) (OUT t W) ∗ asides t W (evS e) (evK e) c ∗ fin (evS e) c)
    ⊢ iprop(_ ∗ outPts c (lo (evS e) (4 - evK e) c) (cnt (4 - evK e)) (shr (evK e)).right (OUT t W) ∗ asides t W (evS e) (evK e) c ∗ fin (evS e) c)
  rw [outPts_share, hsrc, hlen]
  iintro ⟨⟨H₁, H₂⟩, H⟩
  isplitl [H₁]; · iexact H₁
  isplitl [H₂]; · iexact H₂
  iexact H

theorem sch_recv_ag (e : Fin 32) (he : ¬ e.val < 16) :
    iprop(recvPay t W e c ∗ Sch t W (evSF e) (.H (evK e)) c) ⊢ Sch t W (evSF e) (.G (evK e + 1)) c := by
  obtain ⟨hax, hlen, h1, h2⟩ := ev_ag e he
  have hk := evK_lt e
  have hdst : dstLo e c = lo (evS e) (4 - evK e) (pt (ax (evS e) (3 - evK e)) c) := by unfold dstLo peer; rw [if_neg he, hax]
  unfold recvPay
  rw [if_neg he, hdst, hlen]
  show iprop(sibPts t W (evS e) (evK e) c fullShare ∗ outPts c (lo (evS e) (4 - evK e) c) (cnt (4 - evK e)) (shr (evK e + 1)) (OUT t W) ∗ asides t W (evS e) (evK e) c ∗ fin (evS e) c)
    ⊢ iprop(outPts c (lo (evS e) (4 - (evK e + 1)) c) (cnt (4 - (evK e + 1))) (shr (evK e + 1)) (OUT t W) ∗ asides t W (evS e) (evK e + 1) c ∗ fin (evS e) c)
  rw [h2, outPts_halves (evS_lt e) (show 3 - evK e < 4 by omega), ← h1]
  iintro ⟨Hs, Ho, Ha, Hf⟩
  unfold sibPts
  ihave Hs := (outPts_lend c _ _ (OUT t W) (evK e + 1)) $$ Hs
  icases Hs with ⟨Hs, Hw⟩
  isplitl [Hs Ho]
  · isplitl [Ho]; · iexact Ho
    iexact Hs
  isplitr [Hf]
  · unfold asides
    iapply (family_push (Φ := fun j => iprop(sibPts t W (evS e) j c (shr (j + 1)) -∗ sibPts t W (evS e) j c fullShare)) hk)
    isplitl [Ha]; · iexact Ha
    unfold sibPts
    iexact Hw
  iexact Hf
end parts

/-! ## The steps -/

section steps
variable {ns nr nw : Nat} {ph : Fin 4 → Phase} {wb : Bool} {c : Dev nD} {α : Type} {Q : α → SP F}

/-- One schedule's part of the state taken out, another phase put back. -/
theorem st_borrow {s : Fin 4} {p p' : Phase} (hph : ph s = p) {R R' : SP F} (h : Sch t W s p c ⊢ iprop(R ∗ (R' -∗ Sch t W s p' c))) :
    St t W ns nr nw ph wb c ⊢ iprop(R ∗ (R' -∗ St t W ns nr nw (Function.update ph s p') wb c)) := by
  subst hph
  unfold St
  iintro ⟨HC, HS, HR⟩
  ihave HS := (sch_at t W ph s p' c) $$ HS
  icases HS with ⟨HS, Hw⟩
  ihave HS := h $$ HS
  icases HS with ⟨HS, Hw'⟩
  isplitl [HS]; · iexact HS
  iintro HS
  isplitl [HC]; · iexact HC
  isplitr [HR]
  · iapply Hw; iapply Hw'; iexact HS
  iexact HR

/-- The same with the phase kept. -/
theorem st_keep {s : Fin 4} {p : Phase} (hph : ph s = p) {R R' : SP F} (h : Sch t W s p c ⊢ iprop(R ∗ (R' -∗ Sch t W s p c))) :
    St t W ns nr nw ph wb c ⊢ iprop(R ∗ (R' -∗ St t W ns nr nw ph wb c)) := by
  have hb := st_borrow t W (ns := ns) (nr := nr) (nw := nw) (wb := wb) hph h
  rwa [← hph, Function.update_eq_self] at hb

theorem st_rest {wb' : Bool} {R R' : SP F} (h : Rest t W wb c ⊢ iprop(R ∗ (R' -∗ Rest t W wb' c))) :
    St t W ns nr nw ph wb c ⊢ iprop(R ∗ (R' -∗ St t W ns nr nw ph wb' c)) := by
  unfold St
  iintro ⟨HC, HS, HR⟩
  ihave HR := h $$ HR
  icases HR with ⟨HR, Hw⟩
  isplitl [HR]; · iexact HR
  iintro HR
  isplitl [HC]; · iexact HC
  isplitl [HS]; · iexact HS
  iapply Hw; iexact HR

theorem loBound (s : Fin 4) (k : Fin 4) (c : Dev nD) : lo s (k.val + 1) c + cnt (k.val + 1) ≤ 2048 := by
  have h := (lo_bound_fin s ⟨k.val + 1, by omega⟩ c).2
  have := s.isLt
  simp only at h
  omega

/-- Sending a half. -/
theorem st_send_rs (e : Fin 32) (he : e.val < 16) (hw : nw ≤ e.val) (hph : ph (evSF e) = .A (evK e))
    {dv : Dev nD} (hdv : dv = peer e c) {n : Nat} (hn : n = len e) {off off' : Fin 2 → Nat} (hoff : off = ![srcLo e c, 0])
    (hoff' : off' = ![480 * evS e + stOff (evK e), 0]) {sS sR : DmaSem sig} (hsS : sS = sendS e) (hsR : sR = recvS e)
    {inb inb'}
    {hsc : ((stM.slice (stR off' n inb') (fun _ => rfl) : Memref sig .tc .vmem (blkS n) .bf16) : Memref sig (Dev.tc dv : Thread nD τ).2.kind .vmem (blkS n) .bf16).view.ref.isScScratch = false}
    {hsrc : (redM.slice (redR off n inb) (fun _ => rfl)).view.WordExact} {hdst : (stM.slice (stR off' n inb') (fun _ => rfl)).view.WordExact}
    {hsem : DmaTarget.Typed .vmem (.dma sR) (.remote (Dev.tc dv : Thread nD τ) (stM.slice (stR off' n inb') (fun _ => rfl) : Memref sig .tc .vmem (blkS n) .bf16) (.dma sS) hsc)}
    {k : PUnit.{1} → Prog (TpuEff nD τ sig (Elt F) Λ₀ .tc) α}
    (h : St t W (e + 1) nr nw (Function.update ph (evSF e) (.B (evK e))) wb c ⊢ WP c (k ⟨⟩) Q) :
    St t W e nr nw ph wb c ⊢ WP c (.op (.enqueueDma (redM.slice (redR off n inb) (fun _ => rfl))
      (.remote (Dev.tc dv : Thread nD τ) (stM.slice (stR off' n inb') (fun _ => rfl) : Memref sig .tc .vmem (blkS n) .bf16) (.dma sS) hsc) (.dma sR) hsrc hdst hsem) k) Q := by
  subst hdv hsS hsR
  subst hn
  have hdl : dstLo e (peer e c) = 480 * evS e + stOff (evK e) := by unfold dstLo; rw [if_pos he]
  refine BI.Entails.trans ?_ (send_core t W e hw (q := fullShare)
    (R := iprop((bigSep Finset.univ fun s' : Fin 4 => Sch t W s' (Function.update ph (evSF e) (.B (evK e)) s') c) ∗ Rest t W wb c))
    (acc t (evS e) (evK e) c) rfl ?_ ?_ ?_ h)
  · unfold St
    refine sep_mono_right (PROP := SP F) ?_
    iintro ⟨HS, HR⟩
    ihave HS := (sch_at t W ph (evSF e) (.B (evK e)) c) $$ HS
    icases HS with ⟨HS, Hw⟩
    ihave HS := ((Entails.of_eq (congrArg (fun p => Sch t W (evSF e) p c) hph)).trans (sch_send_rs t W e he)) $$ HS
    icases HS with ⟨Hr, HS⟩
    isplitl [Hr]
    · iapply (Entails.of_eq (show (redPts c (srcLo e c) (len e) fullShare (acc t (evS e) (evK e) c) : sProp 𝕄) = _ by
        unfold redPts; rw [← red_set hoff (inb := inb)]))
      iexact Hr
    isplitr [HR]
    · iapply Hw; iexact HS
    iexact HR
  · unfold place
    rw [if_pos he, hdl]
    refine Entails.of_eq ?_
    unfold stPts
    rw [← st_set hoff' (inb := inb')]; rfl
  · unfold sendPay redPts
    rw [if_pos he, ← red_set hoff (inb := inb)]
  · intro fd
    unfold recvPay
    rw [if_pos he, hdl]
    refine Entails.of_eq ?_
    have hrd := red_read hoff (inb := inb) (srcLo_bound e c) (acc t (evS e) (evK e) c)
    have hwr := st_write t hoff' (n := len e) (inb := inb') hdl fd
    rw [peer_peer, ← src_rs he (peer e c), peer_peer] at hwr
    rw [← hrd] at hwr
    unfold stPts
    rw [← st_set hoff' (inb := inb')] at hwr ⊢
    exact pointsTo_congr hwr

/-- Waiting for a half to land. -/
theorem st_recv_rs (e : Fin 32) (he : e.val < 16) (hs : e.val < ns) (hph : ph (evSF e) = .B (evK e)) {sR : DmaSem sig} (hsR : sR = recvS e)
    {sp sp' : Space} {sh : Shape} {el : EltTy} {src : Memref sig .tc sp sh el}
    {dst : Memref sig .tc sp' sh el} (hN : dst.view.dmaCredit = amt e) {hsrc : src.view.WordExact} {hdst : dst.view.WordExact}
    {k : PUnit.{1} → Prog (TpuEff nD τ sig (Elt F) Λ₀ .tc) α}
    (h : St t W ns (e + 1) nw (Function.update ph (evSF e) (.C (evK e))) wb c ⊢ WP c (k ⟨⟩) Q) :
    St t W ns e nw ph wb c ⊢ WP c (.op (.waitDma2 sR src dst hsrc hdst) k) Q := by
  subst hsR
  refine recv_core t W e hs hN (R := iprop((bigSep Finset.univ fun s : Fin 4 => Sch t W s (ph s) c) ∗ Rest t W wb c)) (BI.Entails.trans ?_ h)
  unfold St
  refine sep_mono_right (PROP := SP F) ?_
  iintro ⟨Hp, HS, HR⟩
  ihave HS := (sch_at t W ph (evSF e) (.C (evK e)) c) $$ HS
  icases HS with ⟨HS, Hw⟩
  ihave HS := (Entails.of_eq (congrArg (fun p => Sch t W (evSF e) p c) hph)) $$ HS
  isplitr [HR]
  · iapply Hw
    iapply (sch_recv_rs t W e he)
    isplitl [Hp]; · iexact Hp
    iexact HS
  iexact HR

/-- Sending rows of the result. -/
theorem st_send_ag (e : Fin 32) (he : ¬ e.val < 16) (hw : nw ≤ e.val) (hph : ph (evSF e) = .G (evK e))
    {dv : Dev nD} (hdv : dv = peer e c) {n : Nat} (hn : n = len e) {off off' : Fin 2 → Nat} (hoff : off = ![srcLo e c, 0])
    (hoff' : off' = ![srcLo e c, 0]) {sS sR : DmaSem sig} (hsS : sS = sendS e) (hsR : sR = recvS e)
    {inb inb'}
    {hsc : ((outM.slice (redR off' n inb') (fun _ => rfl) : Memref sig .tc .vmem (blkS n) .bf16) : Memref sig (Dev.tc dv : Thread nD τ).2.kind .vmem (blkS n) .bf16).view.ref.isScScratch = false}
    {hsrc : (outM.slice (redR off n inb) (fun _ => rfl)).view.WordExact} {hdst : (outM.slice (redR off' n inb') (fun _ => rfl)).view.WordExact}
    {hsem : DmaTarget.Typed .vmem (.dma sR) (.remote (Dev.tc dv : Thread nD τ) (outM.slice (redR off' n inb') (fun _ => rfl) : Memref sig .tc .vmem (blkS n) .bf16) (.dma sS) hsc)}
    {k : PUnit.{1} → Prog (TpuEff nD τ sig (Elt F) Λ₀ .tc) α}
    (h : St t W (e + 1) nr nw (Function.update ph (evSF e) (.H (evK e))) wb c ⊢ WP c (k ⟨⟩) Q) :
    St t W e nr nw ph wb c ⊢ WP c (.op (.enqueueDma (outM.slice (redR off n inb) (fun _ => rfl))
      (.remote (Dev.tc dv : Thread nD τ) (outM.slice (redR off' n inb') (fun _ => rfl) : Memref sig .tc .vmem (blkS n) .bf16) (.dma sS) hsc) (.dma sR) hsrc hdst hsem) k) Q := by
  subst hdv hsS hsR
  subst hn
  have hdl : dstLo e (peer e c) = srcLo e c := dst_src_ag he c
  refine BI.Entails.trans ?_ (send_core t W e hw (q := (shr (evK e)).left)
    (R := iprop((bigSep Finset.univ fun s' : Fin 4 => Sch t W s' (Function.update ph (evSF e) (.H (evK e)) s') c) ∗ Rest t W wb c))
    (OUT t W) rfl ?_ ?_ ?_ h)
  · unfold St
    refine sep_mono_right (PROP := SP F) ?_
    iintro ⟨HS, HR⟩
    ihave HS := (sch_at t W ph (evSF e) (.H (evK e)) c) $$ HS
    icases HS with ⟨HS, Hw⟩
    ihave HS := ((Entails.of_eq (congrArg (fun p => Sch t W (evSF e) p c) hph)).trans (sch_send_ag t W e he)) $$ HS
    icases HS with ⟨Hr, HS⟩
    isplitl [Hr]
    · iapply (Entails.of_eq (show (outPts c (srcLo e c) (len e) (shr (evK e)).left (OUT t W) : sProp 𝕄) = _ by
        unfold outPts; rw [← out_set hoff (inb := inb)]))
      iexact Hr
    isplitr [HR]
    · iapply Hw; iexact HS
    iexact HR
  · unfold place
    rw [if_neg he, hdl]
    refine Entails.of_eq ?_
    unfold outPts
    rw [← out_set hoff' (inb := inb')]; rfl
  · unfold sendPay outPts
    rw [if_neg he, ← out_set hoff (inb := inb)]
  · intro fd
    unfold recvPay
    rw [if_neg he, hdl]
    refine Entails.of_eq ?_
    have hrd := out_read hoff (inb := inb) (srcLo_bound e c) (OUT t W)
    have hwr := out_write hoff' (inb := inb') (srcLo_bound e c) fd (OUT t W)
    rw [← hrd] at hwr
    unfold outPts
    rw [← out_set hoff' (inb := inb')] at hwr ⊢
    exact pointsTo_congr hwr

/-- Waiting for rows of the result. -/
theorem st_recv_ag (e : Fin 32) (he : ¬ e.val < 16) (hs : e.val < ns) (hph : ph (evSF e) = .H (evK e)) {sR : DmaSem sig} (hsR : sR = recvS e)
    {sp sp' : Space} {sh : Shape} {el : EltTy} {src : Memref sig .tc sp sh el}
    {dst : Memref sig .tc sp' sh el} (hN : dst.view.dmaCredit = amt e) {hsrc : src.view.WordExact} {hdst : dst.view.WordExact}
    {k : PUnit.{1} → Prog (TpuEff nD τ sig (Elt F) Λ₀ .tc) α}
    (h : St t W ns (e + 1) nw (Function.update ph (evSF e) (.G (evK e + 1))) wb c ⊢ WP c (k ⟨⟩) Q) :
    St t W ns e nw ph wb c ⊢ WP c (.op (.waitDma2 sR src dst hsrc hdst) k) Q := by
  subst hsR
  refine recv_core t W e hs hN (R := iprop((bigSep Finset.univ fun s : Fin 4 => Sch t W s (ph s) c) ∗ Rest t W wb c)) (BI.Entails.trans ?_ h)
  unfold St
  refine sep_mono_right (PROP := SP F) ?_
  iintro ⟨Hp, HS, HR⟩
  ihave HS := (sch_at t W ph (evSF e) (.G (evK e + 1)) c) $$ HS
  icases HS with ⟨HS, Hw⟩
  ihave HS := (Entails.of_eq (congrArg (fun p => Sch t W (evSF e) p c) hph)) $$ HS
  isplitr [HR]
  · iapply Hw
    iapply (sch_recv_ag t W e he)
    isplitl [Hp]; · iexact Hp
    iexact HS
  iexact HR

/-- Waiting for its own transfer to leave. -/
theorem st_wait (e : Fin 32) {sS : DmaSem sig} (hsS : sS = sendS e) {sp sp' : Space} {sh : Shape} {el : EltTy} {src : Memref sig .tc sp sh el}
    {dst : Memref sig .tc sp' sh el} (hN : dst.view.dmaCredit = amt e) {hsrc : src.view.WordExact} {hdst : dst.view.WordExact}
    {k : PUnit.{1} → Prog (TpuEff nD τ sig (Elt F) Λ₀ .tc) α}
    (h : St t W 32 nr (e + 1) ph wb c ⊢ WP c (k ⟨⟩) Q) :
    St t W 32 nr e ph wb c ⊢ WP c (.op (.waitDma2 sS src dst hsrc hdst) k) Q := by
  subst hsS
  exact wait_core t W e hN (R := iprop((bigSep Finset.univ fun s : Fin 4 => Sch t W s (ph s) c) ∗ Rest t W wb c)) h

/-- Loading the rows a schedule keeps, its partner's half landed. -/
theorem st_load_own (s k : Fin 4) (hph : ph s = .C k) {n : Nat} (hn : n = cnt (k + 1)) {off : Fin 2 → Nat} (hoff : off = ![lo s (k + 1) c, 0])
    {inb} {hl : redM.view.LoadsAt (redR off n inb)} {kk : Vec F (blkS n) .bf16 → Prog (TpuEff nD τ sig (Elt F) Λ₀ .tc) α}
    (h : St t W ns nr nw ph wb c ⊢ WP c (kk (blkOf n (lo s (k + 1) c) (acc t s k c))) Q) :
    St t W ns nr nw ph wb c ⊢ WP c (.op (.load redM (redR off n inb).toLoadRect hl) kk) Q := by
  subst hn
  refine load_red hoff (loBound s k c) (st_keep t W hph (R := redPts c (lo s (k + 1) c) (cnt (k + 1)) fullShare (acc t s k c))
    (R' := redPts c (lo s (k + 1) c) (cnt (k + 1)) fullShare (acc t s k c)) ?_) h
  unfold Sch
  iintro ⟨H, H'⟩
  isplitl [H]; · iexact H
  iintro H
  isplitl [H]; · iexact H
  iexact H'

/-- Loading what landed. -/
theorem st_load_landed (s k : Fin 4) (hph : ph s = .C k) {n : Nat} (hn : n = cnt (k + 1)) {off : Fin 2 → Nat} (hoff : off = ![480 * s + stOff k, 0])
    {inb} {hl : stM.view.LoadsAt (stR off n inb)} {kk : Vec F (blkS n) .bf16 → Prog (TpuEff nD τ sig (Elt F) Λ₀ .tc) α}
    (h : St t W ns nr nw ph wb c ⊢ WP c (kk (blkOf n (lo s (k + 1) c) (acc t s k (pt (ax s k) c)))) Q) :
    St t W ns nr nw ph wb c ⊢ WP c (.op (.load stM (stR off n inb).toLoadRect hl) kk) Q := by
  subst hn
  obtain ⟨h1, h2, h3⟩ : evS (4 * k.val + s.val) = s.val ∧ evK (4 * k.val + s.val) = k.val ∧ 4 * k.val + s.val < 16 := by
    have hs := s.isLt
    have hk := k.isLt
    refine ⟨?_, ?_, by omega⟩
    · show (4 * k.val + s.val) % 4 = _; omega
    · show (4 * k.val + s.val) / 4 % 4 = _; omega
  have hp : peer (4 * k.val + s.val) c = pt (ax s k) c := by unfold peer evAx; rw [if_pos h3, h1, h2]
  refine load_st t (e := 4 * k.val + s.val) hoff (by unfold dstLo; rw [if_pos h3, h1, h2])
    (st_keep t W hph (R := stPts c (480 * s + stOff k) (cnt (k + 1)) fullShare (land t (4 * k + s) c))
    (R' := stPts c (480 * s + stOff k) (cnt (k + 1)) fullShare (land t (4 * k + s) c)) ?_) (by rw [h1, h2, hp]; exact h)
  unfold Sch
  iintro ⟨H', H, H''⟩
  isplitl [H]; · iexact H
  iintro H
  isplitl [H']; · iexact H'
  isplitl [H]; · iexact H
  iexact H''

/-- Storing the sum. -/
theorem st_store_add (s k : Fin 4) (hph : ph s = .C k) {n : Nat} (hn : n = cnt (k + 1)) {off : Fin 2 → Nat} (hoff : off = ![lo s (k + 1) c, 0])
    {w : Vec F (blkS n) .bf16} (hw : w = blkOf n (lo s (k + 1) c) (acc t s (k + 1) c))
    {inb} {hx : (redM.access (redR off n inb)).Stores Finset.univ} {hm} {kk : PUnit.{1} → Prog (TpuEff nD τ sig (Elt F) Λ₀ .tc) α}
    (h : St t W ns nr nw (Function.update ph s (.A (k + 1))) wb c ⊢ WP c (kk ⟨⟩) Q) :
    St t W ns nr nw ph wb c ⊢ WP c (.op (.store redM (redR off n inb) w Finset.univ hx hm) kk) Q := by
  subst hn
  exact store_red hoff (loBound s k c) (st_borrow t W hph (sch_add t W k.isLt)) hw h

/-- Loading the slab to multiply. -/
theorem st_load_slab (s : Fin 4) (hph : ph s = .A 4) {off : Fin 2 → Nat} (hoff : off = ![lo s 4 c, 0])
    {inb} {hl : redM.view.LoadsAt (redR off 32 inb)} {kk : Vec F (blkS 32) .bf16 → Prog (TpuEff nD τ sig (Elt F) Λ₀ .tc) α}
    (h : St t W ns nr nw ph wb c ⊢ WP c (kk (slab t s c)) Q) :
    St t W ns nr nw ph wb c ⊢ WP c (.op (.load redM (redR off 32 inb).toLoadRect hl) kk) Q := by
  refine load_red hoff (loBound s 3 c) (st_keep t W hph (R := redPts c (lo s 4 c) 32 fullShare (acc t s 4 c))
    (R' := redPts c (lo s 4 c) 32 fullShare (acc t s 4 c)) ?_) h
  unfold Sch
  iintro ⟨H, H'⟩
  isplitl [H]; · iexact H
  iintro H
  isplitl [H]; · iexact H
  iexact H'

/-- Loading the result's rows before they are stored. -/
theorem st_load_out (s : Fin 4) (hph : ph s = .A 4) {off : Fin 2 → Nat} (hoff : off = ![lo s 4 c, 0])
    {inb} {hl : outM.view.LoadsAt (redR off 32 inb)} {kk : Vec F (blkS 32) .bf16 → Prog (TpuEff nD τ sig (Elt F) Λ₀ .tc) α}
    (h : ∀ v, St t W ns nr nw ph wb c ⊢ WP c (kk v) Q) :
    St t W ns nr nw ph wb c ⊢ WP c (.op (.load outM (redR off 32 inb).toLoadRect hl) kk) Q :=
  load_out hoff (st_keep t W hph (sch_dummy_out t W)) h

/-- Storing the product. -/
theorem st_store_out (s : Fin 4) (hph : ph s = .A 4) {off : Fin 2 → Nat} (hoff : off = ![lo s 4 c, 0])
    {w : Vec F (blkS 32) .bf16} (hw : w = k0_pay24 (slab t s c) (W c))
    {inb} {hx : (outM.access (redR off 32 inb)).Stores Finset.univ} {hm} {kk : PUnit.{1} → Prog (TpuEff nD τ sig (Elt F) Λ₀ .tc) α}
    (h : St t W ns nr nw (Function.update ph s (.G 0)) wb c ⊢ WP c (kk ⟨⟩) Q) :
    St t W ns nr nw ph wb c ⊢ WP c (.op (.store outM (redR off 32 inb) w Finset.univ hx hm) kk) Q :=
  store_out hoff (loBound s 3 c) (st_borrow t W hph (sch_store_out t W)) (hw.trans (blkOf_outAll k0_pay24 t W s.isLt c).symm) h

theorem hz2 : (![0, 0] : Fin 2 → Nat) = fun _ => 0 := by funext a; fin_cases a <;> rfl

/-- Loading the matrix. -/
theorem st_load_w {inb : ∀ a, (![0, 0] : Fin 2 → Nat) a + S1024x1024.size a ≤ S1024x1024.size a}
    {hl : (Memref.whole cc0_stg1_0 : Memref sig .tc .vmem S1024x1024 .bf16).view.LoadsAt (Rect.unit (s := S1024x1024) ![0, 0] S1024x1024.size inb)}
    {kk : Vec F S1024x1024 .bf16 → Prog (TpuEff nD τ sig (Elt F) Λ₀ .tc) α}
    (h : St t W ns nr nw ph wb c ⊢ WP c (kk (W c)) Q) :
    St t W ns nr nw ph wb c ⊢ WP c (.op (.load (Memref.whole cc0_stg1_0 : Memref sig .tc .vmem S1024x1024 .bf16) (Rect.unit (s := S1024x1024) ![0, 0] S1024x1024.size inb).toLoadRect hl) kk) Q := by
  refine (st_rest t W (wb' := wb) (R := wPts W c) (R' := wPts W c) ?_).trans ?_
  · cases wb <;>
    · unfold Rest
      iintro ⟨H', H, H''⟩
      isplitl [H]; · iexact H
      iintro H
      isplitl [H']; · iexact H'
      isplitl [H]; · iexact H
      iexact H''
  have H₀ : (wPts W c : sProp 𝕄) ⊢ iprop((wPts W c -∗ WP c (kk ((Memref.whole cc0_stg1_0 : Memref sig .tc .vmem S1024x1024 .bf16).view.readAt (Elt F) (Rect.unit (s := S1024x1024) ![0, 0] S1024x1024.size inb).toLoadRect (W c))) Q)
      -∗ WP c (.op (.load (Memref.whole cc0_stg1_0 : Memref sig .tc .vmem S1024x1024 .bf16) (Rect.unit (s := S1024x1024) ![0, 0] S1024x1024.size inb).toLoadRect hl) kk) Q) :=
    wp_load (defs := defs₀ (F := F)) 𝒱₀ (c : Thread nD τ) none Set.univ (Q := Q) (k := kk) (m := (Memref.whole cc0_stg1_0 : Memref sig .tc .vmem S1024x1024 .bf16)) (hl := hl) (S := Finset.univ) (q := fullShare) (f := W c) (Finset.subset_univ _)
  have hr : (Memref.whole cc0_stg1_0 : Memref sig .tc .vmem S1024x1024 .bf16).view.readAt (Elt F) (Rect.unit (s := S1024x1024) ![0, 0] S1024x1024.size inb).toLoadRect (W c) = W c :=
    Memref.readAt_unit_zero (Elt F) cc0_stg1_0 hz2 inb (W c)
  rw [hr] at H₀
  iintro ⟨H, Hw⟩
  iapply H₀ $$ H
  iintro H
  iapply h
  iapply Hw
  iexact H

/-- Loading the matrix buffer before it is filled. -/
theorem st_load_buf {inb : ∀ a, (![0, 0] : Fin 2 → Nat) a + S1024x1024.size a ≤ S1024x1024.size a}
    {hl : (Memref.whole cc0_scratch2 : Memref sig .tc .vmem S1024x1024 .bf16).view.LoadsAt (Rect.unit (s := S1024x1024) ![0, 0] S1024x1024.size inb)}
    {kk : Vec F S1024x1024 .bf16 → Prog (TpuEff nD τ sig (Elt F) Λ₀ .tc) α}
    (h : ∀ v, St t W ns nr nw ph false c ⊢ WP c (kk v) Q) :
    St t W ns nr nw ph false c ⊢ WP c (.op (.load (Memref.whole cc0_scratch2 : Memref sig .tc .vmem S1024x1024 .bf16) (Rect.unit (s := S1024x1024) ![0, 0] S1024x1024.size inb).toLoadRect hl) kk) Q := by
  refine (st_rest t W (wb' := false) (R := iprop(∃ f, bufPts c f)) (R' := iprop(∃ f, bufPts c f)) ?_).trans ?_
  · unfold Rest
    iintro ⟨H', H'', H⟩
    isplitl [H]; · iexact H
    iintro H
    isplitl [H']; · iexact H'
    isplitl [H'']; · iexact H''
    iexact H
  have H₀ : ∀ f : Vec F S1024x1024 .bf16, (bufPts c f : sProp 𝕄) ⊢ iprop((bufPts c f -∗ WP c (kk ((Memref.whole cc0_scratch2 : Memref sig .tc .vmem S1024x1024 .bf16).view.readAt (Elt F) (Rect.unit (s := S1024x1024) ![0, 0] S1024x1024.size inb).toLoadRect f)) Q)
      -∗ WP c (.op (.load (Memref.whole cc0_scratch2 : Memref sig .tc .vmem S1024x1024 .bf16) (Rect.unit (s := S1024x1024) ![0, 0] S1024x1024.size inb).toLoadRect hl) kk) Q) := fun f =>
    wp_load (defs := defs₀ (F := F)) 𝒱₀ (c : Thread nD τ) none Set.univ (Q := Q) (k := kk) (m := (Memref.whole cc0_scratch2 : Memref sig .tc .vmem S1024x1024 .bf16)) (hl := hl) (S := Finset.univ) (q := fullShare) (f := f) (Finset.subset_univ _)
  iintro ⟨⟨%f, H⟩, Hw⟩
  iapply (H₀ f) $$ H
  iintro H
  iapply (h _)
  iapply Hw
  iexists f
  iexact H

/-- Loading the matrix buffer once filled. -/
theorem st_load_buf' {inb : ∀ a, (![0, 0] : Fin 2 → Nat) a + S1024x1024.size a ≤ S1024x1024.size a}
    {hl : (Memref.whole cc0_scratch2 : Memref sig .tc .vmem S1024x1024 .bf16).view.LoadsAt (Rect.unit (s := S1024x1024) ![0, 0] S1024x1024.size inb)}
    {kk : Vec F S1024x1024 .bf16 → Prog (TpuEff nD τ sig (Elt F) Λ₀ .tc) α}
    (h : St t W ns nr nw ph true c ⊢ WP c (kk (W c)) Q) :
    St t W ns nr nw ph true c ⊢ WP c (.op (.load (Memref.whole cc0_scratch2 : Memref sig .tc .vmem S1024x1024 .bf16) (Rect.unit (s := S1024x1024) ![0, 0] S1024x1024.size inb).toLoadRect hl) kk) Q := by
  refine (st_rest t W (wb' := true) (R := bufPts c (W c)) (R' := bufPts c (W c)) ?_).trans ?_
  · unfold Rest
    iintro ⟨H', H'', H⟩
    isplitl [H]; · iexact H
    iintro H
    isplitl [H']; · iexact H'
    isplitl [H'']; · iexact H''
    iexact H
  have H₀ : (bufPts c (W c) : sProp 𝕄) ⊢ iprop((bufPts c (W c) -∗ WP c (kk ((Memref.whole cc0_scratch2 : Memref sig .tc .vmem S1024x1024 .bf16).view.readAt (Elt F) (Rect.unit (s := S1024x1024) ![0, 0] S1024x1024.size inb).toLoadRect (W c))) Q)
      -∗ WP c (.op (.load (Memref.whole cc0_scratch2 : Memref sig .tc .vmem S1024x1024 .bf16) (Rect.unit (s := S1024x1024) ![0, 0] S1024x1024.size inb).toLoadRect hl) kk) Q) :=
    wp_load (defs := defs₀ (F := F)) 𝒱₀ (c : Thread nD τ) none Set.univ (Q := Q) (k := kk) (m := (Memref.whole cc0_scratch2 : Memref sig .tc .vmem S1024x1024 .bf16)) (hl := hl) (S := Finset.univ) (q := fullShare) (f := W c) (Finset.subset_univ _)
  have hr : (Memref.whole cc0_scratch2 : Memref sig .tc .vmem S1024x1024 .bf16).view.readAt (Elt F) (Rect.unit (s := S1024x1024) ![0, 0] S1024x1024.size inb).toLoadRect (W c) = W c :=
    Memref.readAt_unit_zero (Elt F) cc0_scratch2 hz2 inb (W c)
  rw [hr] at H₀
  iintro ⟨H, Hw⟩
  iapply H₀ $$ H
  iintro H
  iapply h
  iapply Hw
  iexact H

/-- Filling the matrix buffer. -/
theorem st_store_buf {inb : ∀ a, (![0, 0] : Fin 2 → Nat) a + S1024x1024.size a ≤ S1024x1024.size a} {w : Vec F S1024x1024 .bf16} (hw : w = W c)
    {hx : ((Memref.whole cc0_scratch2 : Memref sig .tc .vmem S1024x1024 .bf16).access (Rect.unit (s := S1024x1024) ![0, 0] S1024x1024.size inb)).Stores Finset.univ} {hm}
    {kk : PUnit.{1} → Prog (TpuEff nD τ sig (Elt F) Λ₀ .tc) α}
    (h : St t W ns nr nw ph true c ⊢ WP c (kk ⟨⟩) Q) :
    St t W ns nr nw ph false c ⊢ WP c (.op (.store (Memref.whole cc0_scratch2 : Memref sig .tc .vmem S1024x1024 .bf16) (Rect.unit (s := S1024x1024) ![0, 0] S1024x1024.size inb) w Finset.univ hx hm) kk) Q := by
  subst hw
  refine (st_rest t W (wb' := true) (R := iprop(∃ f, bufPts c f)) (R' := bufPts c (W c)) ?_).trans ?_
  · unfold Rest
    iintro ⟨H', H'', H⟩
    isplitl [H]; · iexact H
    iintro H
    isplitl [H']; · iexact H'
    isplitl [H'']; · iexact H''
    iexact H
  have H₀ : ∀ f : Vec F S1024x1024 .bf16, (bufPts c f : sProp 𝕄) ⊢ iprop((bufPts c (((Memref.whole cc0_scratch2 : Memref sig .tc .vmem S1024x1024 .bf16).access (Rect.unit (s := S1024x1024) ![0, 0] S1024x1024.size inb)).write (Elt F) f (W c) Finset.univ) -∗ WP c (kk ⟨⟩) Q)
      -∗ WP c (.op (.store (Memref.whole cc0_scratch2 : Memref sig .tc .vmem S1024x1024 .bf16) (Rect.unit (s := S1024x1024) ![0, 0] S1024x1024.size inb) (W c) Finset.univ hx hm) kk) Q) := fun f =>
    wp_store (defs := defs₀ (F := F)) 𝒱₀ (c : Thread nD τ) none Set.univ (Q := Q) (k := kk) (m := (Memref.whole cc0_scratch2 : Memref sig .tc .vmem S1024x1024 .bf16)) (r := Rect.unit (s := S1024x1024) ![0, 0] S1024x1024.size inb) (w := W c) (Mk := Finset.univ) (hx := hx) (hm := hm) (S := Finset.univ) (f := f) (Finset.subset_univ _)
  iintro ⟨⟨%f, H⟩, Hw⟩
  iapply (H₀ f) $$ H
  iintro H
  iapply h
  iapply Hw
  iapply (Entails.of_eq (congrArg (bufPts c) (Memref.write_access_unit_zero_univ (Elt F) cc0_scratch2 hz2 inb f (W c))))
  iexact H
end steps

end Cert.KernelIdealProof

end
-- ==== Proof.KernelIdeal.Start.lean ====
/-
# The opening of the body

The four barrier signals, the barrier wait, and the block put into the summing buffer: from what a
device starts with to its first state.
-/
module

public import proofs.«01_k».proof.Proof.KernelIdeal.Rules

@[expose] public section

noncomputable section

namespace Cert.KernelIdealProof

open Cert.KernelIdeal Cert.KernelIdeal.Gen Cert.Cube

open Idealize.ShloMosaic
open Idealize.ShloMosaic.TcCoe
open Idealize.ShloMosaic.ValueIdx (ix2 eq_ix2)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (t : Blocks F) (W : Mats F)

omit [FloatOps F] in
/-- Two families joined member by member. -/
theorem bigSep_zip {I : Type} [Fintype I] {Φ Ψ Θ : I → SP F} (h : ∀ i, iprop(Φ i ∗ Ψ i) = Θ i) :
    iprop((bigSep Finset.univ Φ) ∗ bigSep Finset.univ Ψ) = bigSep Finset.univ Θ :=
  (bigSep_sep Finset.univ Φ Ψ).symm.trans (bigSep_congr fun i _ => h i)

/-- What stays aside during the barrier. -/
def Aside (c : Dev nD) : sProp 𝕄 :=
  iprop((bigSep Finset.univ fun e : Fin 32 => toks e c)
    ∗ (bigSep Finset.univ fun e : Fin 32 => rcvSt e c (e.val < 0))
    ∗ (bigSep Finset.univ fun e : Fin 32 => sndSt t W e c (e.val < 0) (e.val < 0))
    ∗ (∃ f, redPts c 0 2048 fullShare f) ∗ (bigSep Finset.univ fun s : Fin 4 => outOwn s c) ∗ Rest t W false c)

/-- What a barrier signal along axis `a` needs. -/
def sig1 (a : Fin 4) (c : Dev nD) : sProp 𝕄 := iprop(dutyTok ER (barCell (pt a c)) 0 a ∗ barPay a (pt a c))

/-- The device with the barrier signals below `n` made. -/
def Bar (n : Nat) (c : Dev nD) : sProp 𝕄 :=
  iprop(know t W ∗ levAts L lv ∗ (∃ V, owes (c : Thread nD τ) (oweFrom 0 c + oweBar n c) V)
    ∗ (bigSep Finset.univ fun a : Fin 4 => if n ≤ a.val then sig1 a c else iprop(emp))
    ∗ cred (tallyAt (barCell c) () 4) ∗ atPos ER (barCell c) 0 ∅ 0 ∗ Aside t W c)

/-- The device after the barrier, its block not yet copied. -/
def St0 (c : Dev nD) : sProp 𝕄 :=
  iprop(Ctl t W 0 0 0 c ∗ (∃ f, redPts c 0 2048 fullShare f) ∗ (bigSep Finset.univ fun s : Fin 4 => outOwn s c) ∗ Rest t W false c)

section
variable {c : Dev nD} {α : Type} {Q : α → SP F}

/-- A barrier signal. -/
theorem bar_signal (a : Fin 4) {dv : Dev nD} (hdv : dv = pt a c) {s : Sem sig} (hs : s = barS) {m : Nat} (hm : m = 1) {k : PUnit.{1} → Prog (TpuEff nD τ sig (Elt F) Λ₀ .tc) α}
    (h : Bar t W (a + 1) c ⊢ WP c (k ⟨⟩) Q) :
    Bar t W a c ⊢ WP c (.op (.semSignal (Dev.tc dv : Thread nD τ) s m) k) Q := by
  subst hdv hs hm
  have hP : Bar t W a c ⊢ iprop(know t W ∗ (∃ V, owes (c : Thread nD τ) (oweFrom 0 c + oweBar a c) V) ∗ sig1 a c
    ∗ ((∃ V, owes (c : Thread nD τ) (oweFrom 0 c + oweBar (a + 1) c) V) -∗ Bar t W (a + 1) c)) := by
    unfold Bar
    iintro ⟨#HK, #HL, HO, Hs, H⟩
    ihave Hs := (bigSep_at a (Φ := fun i : Fin 4 => if a.val ≤ i.val then sig1 (F := F) i c else iprop(emp))
      (Ψ := fun i : Fin 4 => if a.val + 1 ≤ i.val then sig1 i c else iprop(emp)) (fun i hi => by
        have h : i.val ≠ a.val := fun h => hi (Fin.ext h)
        by_cases hle : a.val + 1 ≤ i.val
        · rw [if_pos (show a.val ≤ i.val by omega), if_pos hle]
        · rw [if_neg (show ¬ a.val ≤ i.val by omega), if_neg hle])) $$ Hs
    icases Hs with ⟨Hs, Hw⟩
    ihave Hs := (Entails.of_eq (if_pos (le_refl a.val))) $$ Hs
    isplitr; · iexact HK
    isplitl [HO]; · iexact HO
    isplitl [Hs]; · iexact Hs
    iintro HO
    isplitr; · iexact HK
    isplitr; · iexact HL
    isplitl [HO]; · iexact HO
    isplitl [Hw]
    · iapply Hw
      iapply (Entails.of_eq (if_neg (show ¬ a.val + 1 ≤ a.val by omega)).symm)
      iempintro
    iexact H
  refine hP.trans ?_
  unfold sig1
  iintro ⟨#HK, ⟨%V, HO⟩, ⟨Ht, Hp⟩, Hw⟩
  ihave Hk := (know_bar t W (pt a c)) $$ HK
  icases Hk with ⟨⟨%κ, #HI⟩, #Hr⟩
  iapply (Rounds.wp_signal 𝒱₀ ER (Rd t W) (c : Thread nD τ) none (dst := (pt a c : Thread nD τ)) (κ := κ) (d := a)
    (by rw [duties_bar]; exact Finset.mem_univ _) (amount_bar t W (pt a c) a) () (oweFrom 0 c + oweBar (a + 1) c)
    (show oweFrom 0 c + oweBar a c = _ by rw [oweBar_step, add_assoc])) $$ [HO Ht Hp]
  · isplitr; · iexact HI
    isplitl [HO]; · iexact HO
    isplitl [Ht]; · iexact Ht
    isplitl [Hp]
    · rw [payload_bar]; iexact Hp
    iexact Hr
  iintro HO
  iapply h
  iapply Hw
  iexists V; iexact HO

/-- The barrier wait: every place the device's transfers land in is handed over. -/
theorem bar_wait {s : Sem sig} (hs : s = barS) {m : Nat} (hm : m = 4) {k : PUnit.{1} → Prog (TpuEff nD τ sig (Elt F) Λ₀ .tc) α}
    (h : St0 t W c ⊢ WP c (k ⟨⟩) Q) :
    Bar t W 4 c ⊢ WP c (.op (.semWait s m) k) Q := by
  subst hs hm
  unfold Bar Aside
  iintro ⟨#HK, #HL, ⟨%V, HO⟩, -, Hc, Ha, Ht, Hr, Hs, H⟩
  ihave Hk := (know_bar t W c) $$ HK
  icases Hk with ⟨⟨%κ, #HI⟩, -⟩
  iapply (Rounds.wp_wait_rest_token 𝒱₀ ER (Rd t W) (c : Thread nD τ) none (κ := κ)
      (wpE_semWait_eq 𝒱₀ (c : Thread nD τ) none Set.univ) (Set.mem_univ _) () (O := oweFrom 0 c + oweBar 4 c) (W := V) (R := 0) (m := 0) (T := ∅)
      (by rw [Nat.zero_add, expect_bar])) $$ [Hc HO Ha]
  · isplitr; · iexact HI
    isplitl [Hc]; · iexact Hc
    isplitl [HO]; · iexact HO
    isplitr
    · rw [oweBar_end, add_zero]; iapply (mayWait_bar c); iexact HL
    iexact Ha
  iintro ⟨HO, Ha, -, Hpay⟩
  ihave Hpay := (Entails.of_eq (rest_bar t W c)) $$ Hpay
  imod (Rounds.cell_close ER (Rd t W) (Set.mem_univ κ) (fun h => h) (R := 0 + 1) (duties_later t W (barCell c))) $$ [Ha] with Hz
  · isplitr; · iexact HI
    iexact Ha
  iapply h
  unfold St0 Ctl
  isplitr [H]
  · isplitr; · iexact HK
    isplitr; · iexact HL
    isplitl [Hz]; · iexact Hz
    isplitl [HO]
    · iexists (insert (SemLoc.reg barS, ()) V)
      iapply (Entails.of_eq (show (owes (c : Thread nD τ) (oweFrom 0 c + oweBar 4 c) (insert (SemLoc.reg barS, ()) V) : sProp 𝕄) = owes (c : Thread nD τ) (oweFrom 0 c) (insert (SemLoc.reg barS, ()) V) by
        rw [oweBar_end, add_zero]))
      iexact HO
    isplitl [Ht Hpay]
    · iapply (Entails.of_eq (bigSep_zip (Φ := fun e : Fin 32 => toks (F := F) e c) (Ψ := fun e : Fin 32 => place e (peer e c))
        (Θ := fun e : Fin 32 => if 0 ≤ e.val then pend e c else iprop(emp)) (fun e => by rw [if_pos (Nat.zero_le _)]; rfl)))
      isplitl [Ht]; · iexact Ht
      iexact Hpay
    isplitl [Hr]; · iexact Hr
    iexact Hs
  iexact H

/-- Loading the device's block. -/
theorem st0_load_t {inb : ∀ a, (![0, 0] : Fin 2 → Nat) a + S2048x1024.size a ≤ S2048x1024.size a}
    {hl : (Memref.whole cc0_stg0_0 : Memref sig .tc .vmem S2048x1024 .bf16).view.LoadsAt (Rect.unit (s := S2048x1024) ![0, 0] S2048x1024.size inb)}
    {kk : Vec F S2048x1024 .bf16 → Prog (TpuEff nD τ sig (Elt F) Λ₀ .tc) α}
    (h : St0 t W c ⊢ WP c (kk (t c)) Q) :
    St0 t W c ⊢ WP c (.op (.load (Memref.whole cc0_stg0_0 : Memref sig .tc .vmem S2048x1024 .bf16) (Rect.unit (s := S2048x1024) ![0, 0] S2048x1024.size inb).toLoadRect hl) kk) Q := by
  have hP : St0 t W c ⊢ iprop(tPts t c ∗ (tPts t c -∗ St0 t W c)) := by
    unfold St0 Rest
    iintro ⟨H1, H2, H3, H, H4⟩
    isplitl [H]; · iexact H
    iintro H
    isplitl [H1]; · iexact H1
    isplitl [H2]; · iexact H2
    isplitl [H3]; · iexact H3
    isplitl [H]; · iexact H
    iexact H4
  refine hP.trans ?_
  have H₀ : (tPts t c : sProp 𝕄) ⊢ iprop((tPts t c -∗ WP c (kk ((Memref.whole cc0_stg0_0 : Memref sig .tc .vmem S2048x1024 .bf16).view.readAt (Elt F) (Rect.unit (s := S2048x1024) ![0, 0] S2048x1024.size inb).toLoadRect (t c))) Q)
      -∗ WP c (.op (.load (Memref.whole cc0_stg0_0 : Memref sig .tc .vmem S2048x1024 .bf16) (Rect.unit (s := S2048x1024) ![0, 0] S2048x1024.size inb).toLoadRect hl) kk) Q) :=
    wp_load (defs := defs₀ (F := F)) 𝒱₀ (c : Thread nD τ) none Set.univ (Q := Q) (k := kk) (m := (Memref.whole cc0_stg0_0 : Memref sig .tc .vmem S2048x1024 .bf16)) (hl := hl) (S := Finset.univ) (q := fullShare) (f := t c) (Finset.subset_univ _)
  have hr : (Memref.whole cc0_stg0_0 : Memref sig .tc .vmem S2048x1024 .bf16).view.readAt (Elt F) (Rect.unit (s := S2048x1024) ![0, 0] S2048x1024.size inb).toLoadRect (t c) = t c :=
    Memref.readAt_unit_zero (Elt F) cc0_stg0_0 hz2 inb (t c)
  rw [hr] at H₀
  iintro ⟨H, Hw⟩
  iapply H₀ $$ H
  iintro H
  iapply h
  iapply Hw
  iexact H

theorem st0_red : St0 t W c ⊢ iprop((∃ f, redPts c 0 2048 fullShare f) ∗ ((∃ f, redPts c 0 2048 fullShare f) -∗ St0 t W c)) := by
  unfold St0
  iintro ⟨H1, H, H2⟩
  isplitl [H]; · iexact H
  iintro H
  isplitl [H1]; · iexact H1
  isplitl [H]; · iexact H
  iexact H2

/-- Loading the summing buffer before it is filled. -/
theorem st0_load_red {inb : ∀ a, (![0, 0] : Fin 2 → Nat) a + S2048x1024.size a ≤ S2048x1024.size a}
    {hl : redM.view.LoadsAt (redR ![0, 0] 2048 inb)} {kk : Vec F S2048x1024 .bf16 → Prog (TpuEff nD τ sig (Elt F) Λ₀ .tc) α}
    (h : ∀ v, St0 t W c ⊢ WP c (kk v) Q) :
    St0 t W c ⊢ WP c (.op (.load redM (redR ![0, 0] 2048 inb).toLoadRect hl) kk) Q := by
  refine (st0_red t W).trans ?_
  have H₀ : ∀ f : Vec F S2048x1024 .bf16, (redPts c 0 2048 fullShare f : sProp 𝕄) ⊢ iprop((redPts c 0 2048 fullShare f -∗ WP c (kk ((redM.access (redR ![0, 0] 2048 inb)).read (Elt F) f)) Q)
      -∗ WP c (.op (.load redM (redR ![0, 0] 2048 inb).toLoadRect hl) kk) Q) := fun f =>
    wp_load_rect (defs := defs₀ (F := F)) 𝒱₀ (c : Thread nD τ) none Set.univ (Q := Q) (k := kk) (m := redM) (r := redR ![0, 0] 2048 inb) (hl := hl) (S := rows 2048 0 2048) (q := fullShare) (f := f) (red_set (l := 0) rfl).subset
  iintro ⟨⟨%f, H⟩, Hw⟩
  iapply (H₀ f) $$ H
  iintro H
  iapply (h _)
  iapply Hw
  iexists f
  iexact H

theorem red_quarters (f : Vec F S2048x1024 .bf16) :
    (redPts c 0 2048 fullShare f : sProp 𝕄) = bigSep Finset.univ fun s : Fin 4 => redPts c (512 * s) 512 fullShare f := by
  have h : ∀ l n m, (redPts c l (n + m) fullShare f : sProp 𝕄) = iprop(redPts c l n fullShare f ∗ redPts c (l + n) m fullShare f) := fun l n m => by
    unfold redPts
    rw [rows_add]
    exact biEq (pointsTo_union (rows_disjoint (Or.inl le_rfl)))
  rw [bigSep_univ_eq_bigSepL [0, 1, 2, 3] (by decide) (by decide)]
  rw [show (2048 : Nat) = 512 + (512 + (512 + 512)) from rfl, h, h, h]
  rfl

/-- The block copied in: the first state of the schedules. -/
theorem st0_store_red {inb : ∀ a, (![0, 0] : Fin 2 → Nat) a + S2048x1024.size a ≤ S2048x1024.size a} {w : Vec F S2048x1024 .bf16} (hw : w = t c)
    {hx : (redM.access (redR ![0, 0] 2048 inb)).Stores Finset.univ} {hm} {kk : PUnit.{1} → Prog (TpuEff nD τ sig (Elt F) Λ₀ .tc) α}
    (h : St t W 0 0 0 (fun _ => .A 0) false c ⊢ WP c (kk ⟨⟩) Q) :
    St0 t W c ⊢ WP c (.op (.store redM (redR ![0, 0] 2048 inb) w Finset.univ hx hm) kk) Q := by
  have hP : St0 t W c ⊢ iprop((∃ f, redPts c 0 2048 fullShare f) ∗ (redPts c 0 2048 fullShare (t c) -∗ St t W 0 0 0 (fun _ => .A 0) false c)) := by
    unfold St0 St
    iintro ⟨H1, H, H2, H3⟩
    isplitl [H]; · iexact H
    iintro H
    isplitl [H1]; · iexact H1
    isplitr [H3]
    · have h0 : ∀ s : Fin 4, iprop(redPts c (512 * s) 512 fullShare (t c) ∗ outOwn s c) = Sch t W s (.A 0) c := fun s => by
        have hz : stDone s 0 c = (iprop(emp) : SP F) := family_zero (Φ := fun j => iprop(∃ f, stPts c (480 * s + stOff j) (cnt (j + 1)) fullShare f))
        show _ = iprop(redPts c (512 * s) 512 fullShare (t c) ∗ stDone s 0 c ∗ outOwn s c)
        rw [hz]
        exact congrArg (fun P : SP F => iprop(redPts c (512 * s) 512 fullShare (t c) ∗ P)) (biEq emp_sep).symm
      iapply (Entails.of_eq (bigSep_zip (Φ := fun s : Fin 4 => redPts c (512 * s) 512 fullShare (t c)) (Ψ := fun s : Fin 4 => outOwn s c)
        (Θ := fun s : Fin 4 => Sch t W s (.A 0) c) h0))
      isplitl [H]
      · iapply (Entails.of_eq (red_quarters (t c)))
        iexact H
      iexact H2
    iexact H3
  refine hP.trans ?_
  have hg : ∀ y, t c y = blkOf 2048 0 (t c) y := fun y => by
    show t c y = t c (rowOf y (0 + (y 0).val))
    have hy : (y 0).val < 2048 := (y 0).isLt
    refine congrArg (t c) ?_
    conv_lhs => rw [eq_ix2 y]
    unfold rowOf
    congr 1
    apply Fin.ext
    show (y 0).val = (0 + (y 0).val) % 2048
    omega
  iintro ⟨⟨%f, H⟩, Hw⟩
  iapply (store_red (c := c) (P := iprop(redPts c 0 2048 fullShare f ∗ (redPts c 0 2048 fullShare (t c) -∗ St t W 0 0 0 (fun _ => .A 0) false c)))
    (P' := St t W 0 0 0 (fun _ => .A 0) false c) (f := f) (g := t c) (l := 0) (n := 2048) rfl le_rfl (BI.Entails.refl _) (hw.trans (funext hg)) h)
  isplitl [H]; · iexact H
  iexact Hw
end

end Cert.KernelIdealProof

end
-- ==== Proof.KernelIdeal.Whole.lean ====
/-
# The buffers, whole and in the parts the transfers use

The buffers a device works in are cut into the rows each transfer reads or lands in. Here they are cut, and put
together again.
-/
module

public import proofs.«01_k».proof.Proof.KernelIdeal.Start

@[expose] public section

noncomputable section

namespace Cert.KernelIdealProof

open Cert.KernelIdeal Cert.KernelIdeal.Gen Cert.Cube

open Idealize.ShloMosaic
open Idealize.ShloMosaic.TcCoe
open Idealize.ShloMosaic.ValueIdx (ix2 eq_ix2)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (t : Blocks F) (W : Mats F)

/-! ## The transfers by schedule and step -/

/-- Halving `k` of schedule `s`, and doubling `k` of schedule `s`. -/
def rsE (s k : Fin 4) : Fin 32 := ⟨4 * k + s, by omega⟩
def agE (s k : Fin 4) : Fin 32 := ⟨16 + 4 * k + s, by omega⟩

theorem rs_facts : ∀ s k : Fin 4, (rsE s k).val < 16 ∧ evS (rsE s k) = s ∧ evK (rsE s k) = k ∧ len (rsE s k) = cnt (k + 1) ∧ evAx (rsE s k) = ax s k := by
  decide +kernel
theorem ag_facts : ∀ s k : Fin 4, ¬ (agE s k).val < 16 ∧ evS (agE s k) = s ∧ evK (agE s k) = k ∧ len (agE s k) = cnt (4 - k) ∧ evAx (agE s k) = ax s (3 - k) := by
  decide +kernel

/-- The transfer at a schedule and a step. -/
def evAt : Fin 4 × (Fin 4 ⊕ Fin 4) → Fin 32
  | (s, .inl k) => rsE s k
  | (s, .inr k) => agE s k

theorem evAt_bijective : Function.Bijective evAt := by decide +kernel

omit [FloatOps F] in
/-- A family over the transfers, schedule by schedule: its halvings, its doublings. -/
theorem by_schedule (Φ : Fin 32 → SP F) :
    bigSep Finset.univ Φ
      = bigSep Finset.univ fun s : Fin 4 => iprop((bigSep Finset.univ fun k : Fin 4 => Φ (rsE s k)) ∗ bigSep Finset.univ fun k : Fin 4 => Φ (agE s k)) := by
  rw [bigSep_univ_equiv (Equiv.ofBijective evAt evAt_bijective), bigSep_univ_prod]
  exact bigSep_congr fun s _ => bigSep_univ_sum _

/-! ## Rows in parts -/

section parts
variable {R : Nat → Nat → SP F} (hadd : ∀ l n m, R l (n + m) = iprop(R l n ∗ R (l + n) m))
include hadd

omit [FloatOps F] in
theorem part_quarters (n : Nat) : R 0 (n + (n + (n + n))) = bigSep Finset.univ fun s : Fin 4 => R (n * s) n := by
  rw [bigSep_univ_eq_bigSepL [0, 1, 2, 3] (by decide) (by decide), hadd, hadd, hadd]
  show iprop(R 0 n ∗ R (0 + n) n ∗ R (0 + n + n) n ∗ R (0 + n + n + n) n) = iprop(R (n * 0) n ∗ R (n * 1) n ∗ R (n * 2) n ∗ R (n * 3) n)
  rw [show n * 0 = 0 from rfl, show 0 + n + n + n = n * 3 by omega, show 0 + n + n = n * 2 by omega, show 0 + n = n * 1 by omega]

omit [FloatOps F] in
theorem part_halves (c : Dev nD) (s k : Fin 4) :
    R (lo s k c) (cnt k) = iprop(R (lo s (k + 1) c) (cnt (k + 1)) ∗ R (lo s (k + 1) (pt (ax s k) c)) (cnt (k + 1))) := by
  rw [cnt_half k, hadd]
  rcases halves_fin s k c with ⟨h, h'⟩ | ⟨h, h'⟩
  · rw [h', h]
  · rw [h', h]
    exact biEq sep_comm

omit [FloatOps F] in
theorem part_chain (c : Dev nD) (s : Fin 4) :
    R (512 * s) 512 = iprop((((R (lo s 4 c) (cnt 4) ∗ R (lo s 4 (pt (ax s 3) c)) (cnt 4)) ∗ R (lo s 3 (pt (ax s 2) c)) (cnt 3))
      ∗ R (lo s 2 (pt (ax s 1) c)) (cnt 2)) ∗ R (lo s 1 (pt (ax s 0) c)) (cnt 1)) := by
  have h := part_halves hadd c s
  exact (h 0).trans (congrArg (fun P : SP F => iprop(P ∗ R (lo s 1 (pt (ax s 0) c)) (cnt 1)))
    ((h 1).trans (congrArg (fun P : SP F => iprop(P ∗ R (lo s 2 (pt (ax s 1) c)) (cnt 2)))
      ((h 2).trans (congrArg (fun P : SP F => iprop(P ∗ R (lo s 3 (pt (ax s 2) c)) (cnt 3))) (h 3))))))

omit [FloatOps F] in
/-- A schedule's rows: those a device ends with, and those its halvings send away. -/
theorem part_down (c : Dev nD) (s : Fin 4) :
    R (512 * s) 512 = iprop(R (lo s 4 c) (cnt 4) ∗ bigSep Finset.univ fun k : Fin 4 => R (lo s (k + 1) (pt (ax s k) c)) (cnt (k + 1))) := by
  rw [part_chain hadd c s, bigSep_univ_eq_bigSepL [3, 2, 1, 0] (by decide) (by decide), biEq sep_assoc, biEq sep_assoc, biEq sep_assoc]
  rfl

omit [FloatOps F] in
/-- The same rows: those a device starts the doublings with, and those the doublings bring. -/
theorem part_up (c : Dev nD) (s : Fin 4) :
    R (512 * s) 512 = iprop(R (lo s 4 c) (cnt 4) ∗ bigSep Finset.univ fun k : Fin 4 => R (lo s (4 - k) (pt (ax s (3 - k)) c)) (cnt (4 - k))) := by
  rw [part_chain hadd c s, bigSep_univ_eq_bigSepL [0, 1, 2, 3] (by decide) (by decide), biEq sep_assoc, biEq sep_assoc, biEq sep_assoc]
  rfl

omit [FloatOps F] in
/-- A schedule's part of the landing buffer: the places of its four halvings. -/
theorem part_stage (s : Fin 4) : R (480 * s) 480 = bigSep Finset.univ fun k : Fin 4 => R (480 * s + stOff k) (cnt (k + 1)) := by
  rw [bigSep_univ_eq_bigSepL [0, 1, 2, 3] (by decide) (by decide), show (480 : Nat) = 256 + (128 + (64 + 32)) from rfl, hadd, hadd, hadd]
  rfl
end parts

/-! ## Rows at whatever contents -/

omit [FloatOps F] in
/-- Elements held at some contents, in two disjoint parts. -/
theorem any_union {ℓ : Loc nD τ sig} {I J : Finset (Idx ℓ)} (h : Disjoint I J) :
    (iprop(∃ f, ℓ ↦[I ∪ J]{fullShare} f) : sProp 𝕄) = iprop((∃ f, ℓ ↦[I]{fullShare} f) ∗ ∃ f, ℓ ↦[J]{fullShare} f) := by
  refine biEq ⟨?_, ?_⟩
  · iintro ⟨%f, H⟩
    ihave H := (pointsTo_union h).1 $$ H
    icases H with ⟨H, H'⟩
    isplitl [H]
    · iexists f; iexact H
    iexists f; iexact H'
  · iintro ⟨⟨%f, H⟩, %g, H'⟩
    iexists (J.piecewise g f)
    iapply (pointsTo_join h)
    isplitl [H]; · iexact H
    iexact H'

/-- Rows of the three buffers, at whatever contents. -/
def anyRed (c : Dev nD) (l n : Nat) : sProp 𝕄 := iprop(∃ f, redPts c l n fullShare f)
def anySt (c : Dev nD) (l n : Nat) : sProp 𝕄 := iprop(∃ f, stPts c l n fullShare f)
def anyOut (c : Dev nD) (l n : Nat) : sProp 𝕄 := iprop(∃ f, outPts c l n fullShare f)

section
variable (c : Dev nD)

omit [FloatOps F] in
theorem anyRed_add (l n m : Nat) : (anyRed c l (n + m) : sProp 𝕄) = iprop(anyRed c l n ∗ anyRed c (l + n) m) := by
  unfold anyRed redPts; rw [rows_add]; exact any_union (ℓ := (c : Thread nD τ).loc cc0_scratch0) (rows_disjoint (Or.inl le_rfl))
omit [FloatOps F] in
theorem anySt_add (l n m : Nat) : (anySt c l (n + m) : sProp 𝕄) = iprop(anySt c l n ∗ anySt c (l + n) m) := by
  unfold anySt stPts; rw [rows_add]; exact any_union (ℓ := (c : Thread nD τ).loc cc0_scratch1) (rows_disjoint (Or.inl le_rfl))
omit [FloatOps F] in
theorem anyOut_add (l n m : Nat) : (anyOut c l (n + m) : sProp 𝕄) = iprop(anyOut c l n ∗ anyOut c (l + n) m) := by
  unfold anyOut outPts; rw [rows_add]; exact any_union (ℓ := (c : Thread nD τ).loc cc0_stg2_0) (rows_disjoint (Or.inl le_rfl))
omit [FloatOps F] in
theorem outPts_add (q : PosShare TreeShare) (f : Vec F S2048x1024 .bf16) (l n m : Nat) :
    (outPts c l (n + m) q f : sProp 𝕄) = iprop(outPts c l n q f ∗ outPts c (l + n) m q f) := by
  unfold outPts; rw [rows_add]; exact biEq (pointsTo_union (rows_disjoint (Or.inl le_rfl)))

omit [FloatOps F] in
/-- The places a device's transfers of schedule `s` land in. -/
theorem place_rs (s k : Fin 4) : (place (rsE s k) c : sProp 𝕄) = anySt c (480 * s + stOff k) (cnt (k + 1)) := by
  obtain ⟨h, hs, hk, hl, -⟩ := rs_facts s k
  unfold place anySt dstLo
  rw [if_pos h, if_pos h, hs, hk, hl]
omit [FloatOps F] in
theorem place_ag (s k : Fin 4) : (place (agE s k) c : sProp 𝕄) = anyOut c (lo s (4 - k) (pt (ax s (3 - k)) c)) (cnt (4 - k)) := by
  obtain ⟨h, hs, hk, hl, ha⟩ := ag_facts s k
  unfold place anyOut dstLo peer
  rw [if_neg h, if_neg h, hs, hk, hl, ha]

/-- What comes back when the transfers of schedule `s` have left. -/
theorem sendPay_rs (s k : Fin 4) : sendPay t W (rsE s k) c = redPts c (lo s (k + 1) (pt (ax s k) c)) (cnt (k + 1)) fullShare (acc t s k c) := by
  obtain ⟨h, hs, hk, hl, ha⟩ := rs_facts s k
  unfold sendPay srcLo peer
  rw [if_pos h, if_pos h, hs, hk, hl, ha]
theorem sendPay_ag (s k : Fin 4) : sendPay t W (agE s k) c = outPts c (lo s (4 - k) c) (cnt (4 - k)) (shr k).left (OUT t W) := by
  obtain ⟨h, hs, hk, hl, -⟩ := ag_facts s k
  unfold sendPay srcLo
  rw [if_neg h, if_neg h, hs, hk, hl]

omit [FloatOps F] in
/-- The landing buffer and the result buffer are the places of all transfers and the rows the device stores itself. -/
theorem open_places :
    iprop(anySt c 0 1920 ∗ anyOut c 0 2048)
      = (iprop((bigSep Finset.univ fun e : Fin 32 => place e c) ∗ bigSep Finset.univ fun s : Fin 4 => outOwn s c) : sProp 𝕄) := by
  have hS : (anySt c 0 1920 : sProp 𝕄) = bigSep Finset.univ fun s : Fin 4 => bigSep Finset.univ fun k : Fin 4 => place (rsE s k) c :=
    (part_quarters (anySt_add c) 480).trans (bigSep_congr fun s _ => (part_stage (anySt_add c) s).trans (bigSep_congr fun k _ => (place_rs c s k).symm))
  have hO : (anyOut c 0 2048 : sProp 𝕄) = iprop((bigSep Finset.univ fun s : Fin 4 => outOwn s c) ∗ bigSep Finset.univ fun s : Fin 4 => bigSep Finset.univ fun k : Fin 4 => place (agE s k) c) :=
    (part_quarters (anyOut_add c) 512).trans ((bigSep_congr fun s _ => (part_up (anyOut_add c) c s).trans
      (congrArg (fun P : SP F => iprop(outOwn s c ∗ P)) (bigSep_congr fun k _ => (place_ag c s k).symm))).trans (bigSep_sep' _ _ _))
  rw [hS, hO, by_schedule, bigSep_sep']
  refine biEq ⟨?_, ?_⟩
  · iintro ⟨H1, H2, H3⟩
    isplitl [H1 H3]
    · isplitl [H1]; · iexact H1
      iexact H3
    iexact H2
  · iintro ⟨⟨H1, H3⟩, H2⟩
    isplitl [H1]; · iexact H1
    isplitl [H2]; · iexact H2
    iexact H3

/-! ## The result put together -/

omit [FloatOps F] in
/-- The last member of a family counted so far taken out. -/
theorem family_pop {Φ : Nat → SP F} {k : Nat} (hk : k < 4) :
    (bigSep Finset.univ fun j : Fin 4 => if j.val < k + 1 then Φ j else iprop(emp))
      ⊢ iprop((bigSep Finset.univ fun j : Fin 4 => if j.val < k then Φ j else iprop(emp)) ∗ Φ k) := by
  iintro H
  ihave H := (bigSep_at (⟨k, hk⟩ : Fin 4) (Φ := fun j : Fin 4 => if j.val < k + 1 then Φ j else iprop(emp))
    (Ψ := fun j : Fin 4 => if j.val < k then Φ j else iprop(emp)) (fun i hi => by
      have h : i.val ≠ k := fun h => hi (Fin.ext h)
      by_cases hle : i.val < k
      · rw [if_pos hle, if_pos (show i.val < k + 1 by omega)]
      · rw [if_neg hle, if_neg (show ¬ i.val < k + 1 by omega)])) $$ H
  icases H with ⟨Hk, H⟩
  ihave Hk := (Entails.of_eq (if_pos (Nat.lt_succ_self k))) $$ Hk
  isplitl [H]
  · iapply H
    iapply (Entails.of_eq (if_neg (Nat.lt_irrefl k)).symm)
    iempintro
  iexact Hk

/-- What doubling `k` leaves to be joined to the rows: the part set aside, and the share lent. -/
def joinK (s : Nat) (c : Dev nD) (k : Nat) : sProp 𝕄 :=
  iprop((sibPts t W s k c (shr (k + 1)) -∗ sibPts t W s k c fullShare) ∗ outPts c (lo s (4 - k) c) (cnt (4 - k)) (shr k).left (OUT t W))

/-- With all that was lent and set aside, the rows after `k` doublings are held whole. -/
theorem out_join {s : Nat} (hs : s < 4) : ∀ k : Nat, k ≤ 4 →
    iprop(outPts c (lo s (4 - k) c) (cnt (4 - k)) (shr k) (OUT t W) ∗ bigSep Finset.univ fun j : Fin 4 => if j.val < k then joinK t W s c j else iprop(emp))
      ⊢ outPts c (lo s (4 - k) c) (cnt (4 - k)) fullShare (OUT t W)
  | 0, _ => by
    iintro ⟨H, -⟩
    iexact H
  | k + 1, hk => by
    have ih := out_join hs k (by omega)
    have hm : 4 - k = 4 - (k + 1) + 1 := by omega
    have hm' : 3 - k = 4 - (k + 1) := by omega
    have hh := fun q => outPts_halves (k := 4 - (k + 1)) hs (by omega) c q (OUT t W)
    rw [← hm] at hh
    rw [hh, hh]
    iintro ⟨⟨H1, H2⟩, HF⟩
    ihave HF := (family_pop (Φ := joinK t W s c) (show k < 4 by omega)) $$ HF
    icases HF with ⟨HF, HJ⟩
    unfold joinK sibPts
    rw [hm']
    icases HJ with ⟨Hw, Hl⟩
    isplitl [H1 HF Hl]
    · iapply ih
      isplitl [H1 Hl]
      · iapply (Entails.of_eq (outPts_share c (lo s (4 - k) c) (cnt (4 - k)) (shr k) (OUT t W)).symm)
        isplitl [Hl]; · iexact Hl
        iexact H1
      unfold joinK sibPts
      iexact HF
    iapply Hw
    iexact H2

/-- What schedule `s` leaves: its result rows, held whole, its summing rows and its landing rows. -/
theorem sch_close (s : Fin 4) :
    iprop(Sch t W s (.G 4) c ∗ (bigSep Finset.univ fun k : Fin 4 => redPts c (lo s (k + 1) (pt (ax s k) c)) (cnt (k + 1)) fullShare (acc t s k c))
        ∗ bigSep Finset.univ fun k : Fin 4 => outPts c (lo s (4 - k) c) (cnt (4 - k)) (shr k).left (OUT t W))
      ⊢ iprop(outPts c (512 * s) 512 fullShare (OUT t W) ∗ anyRed c (512 * s) 512 ∗ anySt c (480 * s) 480) := by
  have hJ : iprop(asides t W s 4 c ∗ bigSep Finset.univ fun k : Fin 4 => outPts c (lo s (4 - k) c) (cnt (4 - k)) (shr k).left (OUT t W))
      = (bigSep Finset.univ fun j : Fin 4 => if j.val < 4 then joinK t W s c j else iprop(emp) : SP F) := by
    unfold asides
    refine bigSep_zip fun k => ?_
    rw [if_pos k.isLt, if_pos k.isLt]
    rfl
  have hR : iprop((∃ f, redPts c (lo s 4 c) (cnt 4) fullShare f) ∗ bigSep Finset.univ fun k : Fin 4 => redPts c (lo s (k + 1) (pt (ax s k) c)) (cnt (k + 1)) fullShare (acc t s k c))
      ⊢ (anyRed c (512 * s) 512 : SP F) := by
    rw [part_down (anyRed_add c) c s]
    have hk : ∀ k : Fin 4, redPts c (lo s (k + 1) (pt (ax s k) c)) (cnt (k + 1)) fullShare (acc t s k c)
        ⊢ (anyRed c (lo s (k + 1) (pt (ax s k) c)) (cnt (k + 1)) : SP F) := fun k => by
      unfold anyRed
      iintro H
      iexists _
      iexact H
    exact sep_mono_right (bigSep_mono fun k _ => hk k)
  have hS : stDone s 4 c ⊢ (anySt c (480 * s) 480 : SP F) := by
    rw [part_stage (anySt_add c) s]
    unfold stDone anySt
    exact Entails.of_eq (bigSep_congr fun k _ => if_pos k.isLt)
  have hO := out_join t W c s.isLt 4 le_rfl
  have h0 : lo s (4 - 4) c = 512 * s.val := rfl
  have h1 : cnt (4 - 4) = 512 := rfl
  rw [h0, h1, ← hJ] at hO
  show iprop((outPts c (lo s (4 - 4) c) (cnt (4 - 4)) (shr 4) (OUT t W) ∗ asides t W s 4 c ∗ (∃ f, redPts c (lo s 4 c) (cnt 4) fullShare f) ∗ stDone s 4 c) ∗ _ ∗ _) ⊢ _
  rw [h0, h1]
  iintro ⟨⟨HO, HA, HR, HS⟩, HR', HA'⟩
  isplitl [HO HA HA']
  · iapply hO
    isplitl [HO]; · iexact HO
    isplitl [HA]; · iexact HA
    iexact HA'
  isplitl [HR HR']
  · iapply hR
    isplitl [HR]; · iexact HR
    iexact HR'
  iapply hS
  iexact HS

/-- What the device holds when its body is through. -/
def Done : sProp 𝕄 :=
  iprop((∃ V, owes (c : Thread nD τ) 0 V) ∗ semVal (barCell c) 0
    ∗ (bigSep Finset.univ fun e : Fin 32 => semVal (sendCell e c) 0) ∗ (bigSep Finset.univ fun e : Fin 32 => semVal (recvCell e c) 0)
    ∗ tPts t c ∗ wPts W c ∗ outPts c 0 2048 fullShare (OUT t W) ∗ anyRed c 0 2048 ∗ anySt c 0 1920 ∗ ∃ f, bufPts c f)

/-- The last state of the body holds all of it. -/
theorem done_of_last : St t W 32 32 32 (fun _ => .G 4) true c ⊢ Done t W c := by
  have hr : (bigSep Finset.univ fun e : Fin 32 => rcvSt e c (e.val < 32)) = (bigSep Finset.univ fun e : Fin 32 => semVal (recvCell e c) 0 : SP F) :=
    bigSep_congr fun e _ => rcvSt_done e c e.isLt
  have hs : (bigSep Finset.univ fun e : Fin 32 => sndSt t W e c (e.val < 32) (e.val < 32))
      = (iprop((bigSep Finset.univ fun e : Fin 32 => semVal (sendCell e c) 0) ∗ bigSep Finset.univ fun e : Fin 32 => sendPay t W e c) : SP F) :=
    (bigSep_congr fun e _ => sndSt_done t W e c e.isLt).trans (bigSep_sep' _ _ _)
  have hp : (bigSep Finset.univ fun e : Fin 32 => sendPay t W e c)
      = (bigSep Finset.univ fun s : Fin 4 => iprop((bigSep Finset.univ fun k : Fin 4 => redPts c (lo s (k + 1) (pt (ax s k) c)) (cnt (k + 1)) fullShare (acc t s k c))
        ∗ bigSep Finset.univ fun k : Fin 4 => outPts c (lo s (4 - k) c) (cnt (4 - k)) (shr k).left (OUT t W)) : SP F) := by
    rw [by_schedule]
    simp only [sendPay_rs, sendPay_ag]
  have hq : iprop((bigSep Finset.univ fun s : Fin 4 => Sch t W s (.G 4) c) ∗ bigSep Finset.univ fun e : Fin 32 => sendPay t W e c)
      ⊢ (iprop(outPts c 0 2048 fullShare (OUT t W) ∗ anyRed c 0 2048 ∗ anySt c 0 1920) : SP F) := by
    rw [hp, ← bigSep_sep']
    refine (bigSep_mono fun s _ => sch_close t W c s).trans ?_
    rw [bigSep_sep', bigSep_sep', ← part_quarters (R := fun l n => outPts c l n fullShare (OUT t W)) (outPts_add c fullShare (OUT t W)) 512,
      ← part_quarters (anyRed_add c) 512, ← part_quarters (anySt_add c) 480]
    exact BI.Entails.refl _
  unfold St Ctl Done Rest
  rw [hr, hs, oweFrom_end]
  iintro ⟨⟨-, -, Hb, HO, -, Hr, Hs, Hp⟩, HS, Ht, Hw, Hbuf⟩
  ihave Hq := hq $$ [HS Hp]
  · isplitl [HS]; · iexact HS
    iexact Hp
  icases Hq with ⟨H1, H2, H3⟩
  isplitl [HO]; · iexact HO
  isplitl [Hb]; · iexact Hb
  isplitl [Hs]; · iexact Hs
  isplitl [Hr]; · iexact Hr
  isplitl [Ht]; · iexact Ht
  isplitl [Hw]; · iexact Hw
  isplitl [H1]; · iexact H1
  isplitl [H2]; · iexact H2
  isplitl [H3]; · iexact H3
  iexists _
  iexact Hbuf

/-! ## The start put together -/

omit [FloatOps F] in
/-- What a device hands its four neighbours at the barrier: the places of all its transfers. -/
theorem hand_over : (bigSep Finset.univ fun a : Fin 4 => barPay a (pt a c)) = (bigSep Finset.univ fun e : Fin 32 => place e c : SP F) := by
  rw [bigSep_fiberwise Finset.univ (fun e : Fin 32 => (⟨evAx e, evAx_lt e⟩ : Fin 4)) (fun e : Fin 32 => place e c),
    show Finset.univ.image (fun e : Fin 32 => (⟨evAx e, evAx_lt e⟩ : Fin 4)) = Finset.univ from by decide +kernel]
  refine bigSep_congr fun a _ => ?_
  unfold barPay
  rw [show (Finset.univ.filter fun e : Fin 32 => (⟨evAx e, evAx_lt e⟩ : Fin 4) = a) = Finset.univ.filter fun e : Fin 32 => evAx e = a from by
    ext e; simp only [Finset.mem_filter, Finset.mem_univ, true_and, Fin.ext_iff]]
  refine bigSep_congr fun e he => ?_
  have he : evAx e = a.val := (Finset.mem_filter.mp he).2
  unfold peer
  rw [he, pt_pt a.isLt]

/-- What a device is dealt of the protocol: what everyone knows, the tokens it pays with, its positions. -/
def Ghost : sProp 𝕄 :=
  iprop(know t W ∗ ((bigSep Finset.univ fun a : Fin 4 => dutyTok ER (barCell (pt a c)) 0 a) ∗ bigSep Finset.univ fun e : Fin 32 => toks e c)
    ∗ atPos ER (barCell c) 0 ∅ 0 ∗ (bigSep Finset.univ fun e : Fin 32 => atPos ER (sendCell e c) 0 ∅ 0) ∗ bigSep Finset.univ fun e : Fin 32 => atPos ER (recvCell e c) 0 ∅ 0)

/-- What the launch deals a device: that, the levels and its credits. -/
def Dealt : sProp 𝕄 :=
  iprop(Ghost t W c ∗ levAts L lv ∗ cred (tallyAt (barCell c) () 4) ∗ bigSep Finset.univ fun e : Fin 32 => cred (tallyAt (recvCell e c) () (amt e)))

/-- With its buffers, that is the start of the body. -/
theorem first_of_dealt :
    iprop(Dealt t W c ∗ (∃ V, owes (c : Thread nD τ) (O₀ c) V) ∗ tPts t c ∗ wPts W c ∗ anyOut c 0 2048 ∗ anyRed c 0 2048 ∗ anySt c 0 1920 ∗ ∃ f, bufPts c f) ⊢ Bar t W 0 c := by
  have hb : iprop((bigSep Finset.univ fun a : Fin 4 => dutyTok ER (barCell (pt a c)) 0 a) ∗ bigSep Finset.univ fun e : Fin 32 => place e c)
      = (bigSep Finset.univ fun a : Fin 4 => if 0 ≤ a.val then sig1 a c else iprop(emp) : SP F) := by
    rw [← hand_over]
    refine bigSep_zip fun a => ?_
    rw [if_pos (Nat.zero_le _)]
    rfl
  have hr : iprop((bigSep Finset.univ fun e : Fin 32 => cred (tallyAt (recvCell e c) () (amt e))) ∗ bigSep Finset.univ fun e : Fin 32 => atPos ER (recvCell e c) 0 ∅ 0)
      = (bigSep Finset.univ fun e : Fin 32 => rcvSt e c (e.val < 0) : SP F) :=
    bigSep_zip fun e => (rcvSt_wait e c (Nat.not_lt_zero _)).symm
  have hs : (bigSep Finset.univ fun e : Fin 32 => atPos ER (sendCell e c) 0 ∅ 0) = (bigSep Finset.univ fun e : Fin 32 => sndSt t W e c (e.val < 0) (e.val < 0) : SP F) :=
    bigSep_congr fun e _ => (sndSt_idle t W e c (Nat.not_lt_zero _) (Nat.not_lt_zero _)).symm
  unfold Dealt Ghost Bar Aside Rest
  iintro ⟨⟨⟨#HK, ⟨Ht4, Htk⟩, Hab, Has, Har⟩, #HL, Hcb, Hcr⟩, HO, Ht, Hw, Hout, Hred, Hst, Hbuf⟩
  ihave Hpl := (Entails.of_eq (open_places c)) $$ [Hst Hout]
  · isplitl [Hst]; · iexact Hst
    iexact Hout
  icases Hpl with ⟨Hpl, Hown⟩
  isplitr; · iexact HK
  isplitr; · iexact HL
  isplitl [HO]; · iexact HO
  isplitl [Ht4 Hpl]
  · iapply (Entails.of_eq hb)
    isplitl [Ht4]; · iexact Ht4
    iexact Hpl
  isplitl [Hcb]; · iexact Hcb
  isplitl [Hab]; · iexact Hab
  isplitl [Htk]; · iexact Htk
  isplitl [Hcr Har]
  · iapply (Entails.of_eq hr)
    isplitl [Hcr]; · iexact Hcr
    iexact Har
  isplitl [Has]
  · iapply (Entails.of_eq hs)
    iexact Has
  isplitl [Hred]
  · unfold anyRed
    iexact Hred
  isplitl [Hown]; · iexact Hown
  isplitl [Ht]; · iexact Ht
  isplitl [Hw]; · iexact Hw
  iexact Hbuf

end

end Cert.KernelIdealProof

end
-- ==== Proof.KernelIdeal.Offs.lean ====
/-
# Where the program's transfers read and land

The printed offsets and partners of the thirty-two transfers, as functions of the device, against the
rows and partners of the schedules.
-/
module

public import proofs.«01_k».proof.Proof.Cube
public import proofs.«01_k».proof.Proof.Gen.KernelIdeal.Skeleton

@[expose] public section

namespace Cert.KernelIdealProof

open Cert.KernelIdeal Cert.Cube Idealize.ShloMosaic

/-- The printed offset of what transfer `e` sends. -/
def sendOff (d : Dev nD) : Fin 32 → (Fin 2 → Nat) :=
  ![k0_off1 d, k0_off2 d, k0_off3 d, k0_off4 d, k0_off7 d, k0_off10 d, k0_off13 d, k0_off16 d,
    k0_off19 d, k0_off22 d, k0_off25 d, k0_off28 d, k0_off31 d, k0_off34 d, k0_off37 d, k0_off40 d,
    k0_off41 d, k0_off43 d, k0_off45 d, k0_off47 d, k0_off53 d, k0_off54 d, k0_off55 d, k0_off56 d,
    k0_off61 d, k0_off62 d, k0_off63 d, k0_off64 d, k0_off69 d, k0_off70 d, k0_off71 d, k0_off72 d]

/-- The printed offset of the half kept in halving `e`. -/
def ownOff (d : Dev nD) : Fin 16 → (Fin 2 → Nat) :=
  ![k0_off6 d, k0_off9 d, k0_off12 d, k0_off15 d, k0_off18 d, k0_off21 d, k0_off24 d, k0_off27 d,
    k0_off30 d, k0_off33 d, k0_off36 d, k0_off39 d, k0_off42 d, k0_off44 d, k0_off46 d, k0_off48 d]

/-- The printed partner of transfer `e`. -/
def sendDev (d : Dev nD) : Fin 32 → Nat :=
  ![k0_dev5 d, k0_dev6 d, k0_dev7 d, k0_dev8 d, k0_dev9 d, k0_dev10 d, k0_dev11 d, k0_dev12 d,
    k0_dev13 d, k0_dev14 d, k0_dev15 d, k0_dev16 d, k0_dev17 d, k0_dev18 d, k0_dev19 d, k0_dev20 d,
    k0_dev21 d, k0_dev22 d, k0_dev23 d, k0_dev24 d, k0_dev25 d, k0_dev26 d, k0_dev27 d, k0_dev28 d,
    k0_dev29 d, k0_dev30 d, k0_dev31 d, k0_dev32 d, k0_dev33 d, k0_dev34 d, k0_dev35 d, k0_dev36 d]

/-- The printed neighbour of barrier signal `a`. -/
def barDev (d : Dev nD) : Fin 4 → Nat := ![k0_dev1 d, k0_dev2 d, k0_dev3 d, k0_dev4 d]

theorem sendOff_eq : ∀ (e : Fin 32) (d : Dev nD), sendOff d e = ![srcLo e d, 0] := by decide +kernel
theorem ownOff_eq : ∀ (e : Fin 16) (d : Dev nD), ownOff d e = ![lo (evS e) (evK e + 1) d, 0] := by decide +kernel
theorem sendDev_eq : ∀ (e : Fin 32) (d : Dev nD), sendDev d e = (peer e d).val := by decide +kernel
theorem barDev_eq : ∀ (a : Fin 4) (d : Dev nD), barDev d a = (pt a d).val := by decide +kernel

/-- The last halving's transfer of schedule `s`. -/
def slabIx (s : Fin 4) : Fin 16 := ⟨12 + s.val, by omega⟩

/-- What is kept in the last halving is the slab. -/
theorem own_slab : ∀ (s : Fin 4) (d : Dev nD), ownOff d (slabIx s) = ![lo s 4 d, 0] := by decide +kernel

end Cert.KernelIdealProof
-- ==== Proof.KernelIdeal.Ops.lean ====
/-
# The steps of the body at the printed offsets and partners

Each rule for an operation on a device's state, at the operands that the program has: the offsets and
partners are the printed ones, and what remains to be seen of each is decided by computation.
-/
module

public import proofs.«01_k».proof.Proof.KernelIdeal.Start
public import proofs.«01_k».proof.Proof.KernelIdeal.Offs
public import Idealize.ShloMosaic.Lib.Pipeline.Value

@[expose] public section

noncomputable section

namespace Cert.KernelIdealProof

open Cert.KernelIdeal Cert.KernelIdeal.Gen Cert.Cube

open Idealize.ShloMosaic
open Idealize.ShloMosaic.TcCoe
open Idealize.ShloMosaic.ValueIdx (ix2 eq_ix2)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (t : Blocks F) (W : Mats F)

/-! ## The values stored -/

/-- The block as stored is the block. -/
theorem pay1_eq (v : Vec F S2048x1024 .bf16) : k0_pay1 v = v := by
  unfold k0_pay1
  exact (shapeCast_self _ _).trans (shapeCast_self _ _)

/-- The matrix as stored is the matrix. -/
theorem pay2_eq (v : Vec F S1024x1024 .bf16) : k0_pay2 v = v := by
  unfold k0_pay2
  exact (shapeCast_self _ _).trans (shapeCast_self _ _)

/-- One addition of the program: both halves widened, added and rounded. -/
theorem sum_val (s k l n : Nat) (c : Dev nD) {hb} {h : (blkS n).ShapeCasts (blkS n)} :
    shapeCast (blkS n) (truncf .bf16 (addf (extf .f32 (blkOf n l (acc t s k c)) hb) (extf .f32 (blkOf n l (acc t s k (pt (ax s k) c))) hb)) hb) h
      = blkOf n l (acc t s (k + 1) c) :=
  (shapeCast_self _ _).trans (funext fun _ => rfl)

section
variable {c : Dev nD} {α : Type} {Q : α → SP F} {ns nr nw : Nat} {ph : Fin 4 → Phase} {wb : Bool}

/-- Barrier signal `a`, to the printed neighbour. -/
theorem op_signal (a : Fin 4) {hlt : barDev c a < nD} {s : Sem sig} {m : Nat} {k : PUnit.{1} → Prog (TpuEff nD τ sig (Elt F) Λ₀ .tc) α}
    (h : Bar t W (a + 1) c ⊢ WP c (k ⟨⟩) Q) (hs : s = barS := by rfl) (hm : m = 1 := by rfl) :
    Bar t W a c ⊢ WP c (.op (.semSignal (Dev.tc (⟨barDev c a, hlt⟩ : Dev nD) : Thread nD τ) s m) k) Q :=
  bar_signal t W a (Fin.ext (barDev_eq a c)) hs hm h

/-- Transfer `e` of a halving, at the printed offset and to the printed partner. -/
theorem op_send_rs (e : Fin 32) {hlt : sendDev c e < nD} {n : Nat} {off' : Fin 2 → Nat} {sS sR : DmaSem sig} {inb inb'}
    {hsc : ((stM.slice (stR off' n inb') (fun _ => rfl) : Memref sig .tc .vmem (blkS n) .bf16) : Memref sig (Dev.tc (⟨sendDev c e, hlt⟩ : Dev nD) : Thread nD τ).2.kind .vmem (blkS n) .bf16).view.ref.isScScratch = false}
    {hsrc : (redM.slice (redR (sendOff c e) n inb) (fun _ => rfl)).view.WordExact} {hdst : (stM.slice (stR off' n inb') (fun _ => rfl)).view.WordExact}
    {hsem : DmaTarget.Typed .vmem (.dma sR) (.remote (Dev.tc (⟨sendDev c e, hlt⟩ : Dev nD) : Thread nD τ) (stM.slice (stR off' n inb') (fun _ => rfl) : Memref sig .tc .vmem (blkS n) .bf16) (.dma sS) hsc)}
    {k : PUnit.{1} → Prog (TpuEff nD τ sig (Elt F) Λ₀ .tc) α}
    (h : St t W (e + 1) nr nw (Function.update ph (evSF e) (.B (evK e))) wb c ⊢ WP c (k ⟨⟩) Q)
    (he : e.val < 16 := by decide) (hw : nw ≤ e.val := by decide) (hph : ph (evSF e) = .A (evK e) := by rfl) (hn : n = len e := by rfl)
    (hoff' : off' = ![480 * evS e + stOff (evK e), 0] := by rfl) (hsS : sS = sendS e := by rfl) (hsR : sR = recvS e := by rfl) :
    St t W e nr nw ph wb c ⊢ WP c (.op (.enqueueDma (redM.slice (redR (sendOff c e) n inb) (fun _ => rfl))
      (.remote (Dev.tc (⟨sendDev c e, hlt⟩ : Dev nD) : Thread nD τ) (stM.slice (stR off' n inb') (fun _ => rfl) : Memref sig .tc .vmem (blkS n) .bf16) (.dma sS) hsc) (.dma sR) hsrc hdst hsem) k) Q :=
  st_send_rs t W e he hw hph (Fin.ext (sendDev_eq e c)) hn (sendOff_eq e c) hoff' hsS hsR h

/-- Transfer `e` of a doubling, at the printed offset and to the printed partner. -/
theorem op_send_ag (e : Fin 32) {hlt : sendDev c e < nD} {n : Nat} {sS sR : DmaSem sig} {inb inb'}
    {hsc : ((outM.slice (redR (sendOff c e) n inb') (fun _ => rfl) : Memref sig .tc .vmem (blkS n) .bf16) : Memref sig (Dev.tc (⟨sendDev c e, hlt⟩ : Dev nD) : Thread nD τ).2.kind .vmem (blkS n) .bf16).view.ref.isScScratch = false}
    {hsrc : (outM.slice (redR (sendOff c e) n inb) (fun _ => rfl)).view.WordExact} {hdst : (outM.slice (redR (sendOff c e) n inb') (fun _ => rfl)).view.WordExact}
    {hsem : DmaTarget.Typed .vmem (.dma sR) (.remote (Dev.tc (⟨sendDev c e, hlt⟩ : Dev nD) : Thread nD τ) (outM.slice (redR (sendOff c e) n inb') (fun _ => rfl) : Memref sig .tc .vmem (blkS n) .bf16) (.dma sS) hsc)}
    {k : PUnit.{1} → Prog (TpuEff nD τ sig (Elt F) Λ₀ .tc) α}
    (h : St t W (e + 1) nr nw (Function.update ph (evSF e) (.H (evK e))) wb c ⊢ WP c (k ⟨⟩) Q)
    (he : ¬ e.val < 16 := by decide) (hw : nw ≤ e.val := by decide) (hph : ph (evSF e) = .G (evK e) := by rfl) (hn : n = len e := by rfl)
    (hsS : sS = sendS e := by rfl) (hsR : sR = recvS e := by rfl) :
    St t W e nr nw ph wb c ⊢ WP c (.op (.enqueueDma (outM.slice (redR (sendOff c e) n inb) (fun _ => rfl))
      (.remote (Dev.tc (⟨sendDev c e, hlt⟩ : Dev nD) : Thread nD τ) (outM.slice (redR (sendOff c e) n inb') (fun _ => rfl) : Memref sig .tc .vmem (blkS n) .bf16) (.dma sS) hsc) (.dma sR) hsrc hdst hsem) k) Q :=
  st_send_ag t W e he hw hph (Fin.ext (sendDev_eq e c)) hn (sendOff_eq e c) (sendOff_eq e c) hsS hsR h

/-- Waiting for halving transfer `e` to land. -/
theorem op_recv_rs (e : Fin 32) {sR : DmaSem sig} {sp sp' : Space} {sh : Shape} {el : EltTy} {src : Memref sig .tc sp sh el}
    {dst : Memref sig .tc sp' sh el} {hsrc : src.view.WordExact} {hdst : dst.view.WordExact}
    {k : PUnit.{1} → Prog (TpuEff nD τ sig (Elt F) Λ₀ .tc) α}
    (h : St t W ns (e + 1) nw (Function.update ph (evSF e) (.C (evK e))) wb c ⊢ WP c (k ⟨⟩) Q)
    (he : e.val < 16 := by decide) (hs : e.val < ns := by decide) (hph : ph (evSF e) = .B (evK e) := by rfl) (hsR : sR = recvS e := by rfl)
    (hN : dst.view.dmaCredit = amt e := by rfl) :
    St t W ns e nw ph wb c ⊢ WP c (.op (.waitDma2 sR src dst hsrc hdst) k) Q :=
  st_recv_rs t W e he hs hph hsR hN h

/-- Waiting for doubling transfer `e` to land. -/
theorem op_recv_ag (e : Fin 32) {sR : DmaSem sig} {sp sp' : Space} {sh : Shape} {el : EltTy} {src : Memref sig .tc sp sh el}
    {dst : Memref sig .tc sp' sh el} {hsrc : src.view.WordExact} {hdst : dst.view.WordExact}
    {k : PUnit.{1} → Prog (TpuEff nD τ sig (Elt F) Λ₀ .tc) α}
    (h : St t W ns (e + 1) nw (Function.update ph (evSF e) (.G (evK e + 1))) wb c ⊢ WP c (k ⟨⟩) Q)
    (he : ¬ e.val < 16 := by decide) (hs : e.val < ns := by decide) (hph : ph (evSF e) = .H (evK e) := by rfl) (hsR : sR = recvS e := by rfl)
    (hN : dst.view.dmaCredit = amt e := by rfl) :
    St t W ns e nw ph wb c ⊢ WP c (.op (.waitDma2 sR src dst hsrc hdst) k) Q :=
  st_recv_ag t W e he hs hph hsR hN h

/-- Waiting for the device's own transfer `e` to leave. -/
theorem op_wait (e : Fin 32) {sS : DmaSem sig} {sp sp' : Space} {sh : Shape} {el : EltTy} {src : Memref sig .tc sp sh el}
    {dst : Memref sig .tc sp' sh el} {hsrc : src.view.WordExact} {hdst : dst.view.WordExact}
    {k : PUnit.{1} → Prog (TpuEff nD τ sig (Elt F) Λ₀ .tc) α}
    (h : St t W 32 nr (e + 1) ph wb c ⊢ WP c (k ⟨⟩) Q) (hsS : sS = sendS e := by rfl) (hN : dst.view.dmaCredit = amt e := by rfl) :
    St t W 32 nr e ph wb c ⊢ WP c (.op (.waitDma2 sS src dst hsrc hdst) k) Q :=
  st_wait t W e hsS hN h

/-- The rows kept in halving `e`: loaded, -/
theorem op_load_own (e : Fin 16) {n : Nat} {inb} {hl : redM.view.LoadsAt (redR (ownOff c e) n inb)} {kk : Vec F (blkS n) .bf16 → Prog (TpuEff nD τ sig (Elt F) Λ₀ .tc) α}
    (h : St t W ns nr nw ph wb c ⊢ WP c (kk (blkOf n (lo (evS e) (evK e + 1) c) (acc t (evS e) (evK e) c))) Q)
    (hph : ph (evSF e) = .C (evK e) := by rfl) (hn : n = cnt (evK e + 1) := by rfl) :
    St t W ns nr nw ph wb c ⊢ WP c (.op (.load redM (redR (ownOff c e) n inb).toLoadRect hl) kk) Q :=
  st_load_own t W (evSF e) ⟨evK e, evK_lt e⟩ hph hn (ownOff_eq e c) h

/-- the partner's half of them loaded, -/
theorem op_load_landed (e : Fin 16) {n : Nat} {off : Fin 2 → Nat} {inb} {hl : stM.view.LoadsAt (stR off n inb)} {kk : Vec F (blkS n) .bf16 → Prog (TpuEff nD τ sig (Elt F) Λ₀ .tc) α}
    (h : St t W ns nr nw ph wb c ⊢ WP c (kk (blkOf n (lo (evS e) (evK e + 1) c) (acc t (evS e) (evK e) (pt (ax (evS e) (evK e)) c)))) Q)
    (hph : ph (evSF e) = .C (evK e) := by rfl) (hn : n = cnt (evK e + 1) := by rfl) (hoff : off = ![480 * evS e + stOff (evK e), 0] := by rfl) :
    St t W ns nr nw ph wb c ⊢ WP c (.op (.load stM (stR off n inb).toLoadRect hl) kk) Q :=
  st_load_landed t W (evSF e) ⟨evK e, evK_lt e⟩ hph hn hoff h

/-- and their sum stored. -/
theorem op_store_add (e : Fin 16) {n : Nat} {w : Vec F (blkS n) .bf16} {inb} {hx : (redM.access (redR (ownOff c e) n inb)).Stores Finset.univ} {hm}
    {kk : PUnit.{1} → Prog (TpuEff nD τ sig (Elt F) Λ₀ .tc) α}
    (hw : w = blkOf n (lo (evS e) (evK e + 1) c) (acc t (evS e) (evK e + 1) c))
    (h : St t W ns nr nw (Function.update ph (evSF e) (.A (evK e + 1))) wb c ⊢ WP c (kk ⟨⟩) Q)
    (hph : ph (evSF e) = .C (evK e) := by rfl) (hn : n = cnt (evK e + 1) := by rfl) :
    St t W ns nr nw ph wb c ⊢ WP c (.op (.store redM (redR (ownOff c e) n inb) w Finset.univ hx hm) kk) Q :=
  st_store_add t W (evSF e) ⟨evK e, evK_lt e⟩ hph hn (ownOff_eq e c) hw h

/-- The slab of schedule `s` loaded, -/
theorem op_load_slab (s : Fin 4) {inb} {hl : redM.view.LoadsAt (redR (ownOff c (slabIx s)) 32 inb)} {kk : Vec F (blkS 32) .bf16 → Prog (TpuEff nD τ sig (Elt F) Λ₀ .tc) α}
    (h : St t W ns nr nw ph wb c ⊢ WP c (kk (slab t s c)) Q) (hph : ph s = .A 4 := by rfl) :
    St t W ns nr nw ph wb c ⊢ WP c (.op (.load redM (redR (ownOff c (slabIx s)) 32 inb).toLoadRect hl) kk) Q :=
  st_load_slab t W s hph (own_slab s c) h

/-- the result's rows loaded, -/
theorem op_load_out (s : Fin 4) {inb} {hl : outM.view.LoadsAt (redR (ownOff c (slabIx s)) 32 inb)} {kk : Vec F (blkS 32) .bf16 → Prog (TpuEff nD τ sig (Elt F) Λ₀ .tc) α}
    (h : ∀ v, St t W ns nr nw ph wb c ⊢ WP c (kk v) Q) (hph : ph s = .A 4 := by rfl) :
    St t W ns nr nw ph wb c ⊢ WP c (.op (.load outM (redR (ownOff c (slabIx s)) 32 inb).toLoadRect hl) kk) Q :=
  st_load_out t W s hph (own_slab s c) h

/-- and the product stored. -/
theorem op_store_out (s : Fin 4) {w : Vec F (blkS 32) .bf16} {inb} {hx : (outM.access (redR (ownOff c (slabIx s)) 32 inb)).Stores Finset.univ} {hm}
    {kk : PUnit.{1} → Prog (TpuEff nD τ sig (Elt F) Λ₀ .tc) α} (hw : w = k0_pay24 (slab t s c) (W c))
    (h : St t W ns nr nw (Function.update ph s (.G 0)) wb c ⊢ WP c (kk ⟨⟩) Q) (hph : ph s = .A 4 := by rfl) :
    St t W ns nr nw ph wb c ⊢ WP c (.op (.store outM (redR (ownOff c (slabIx s)) 32 inb) w Finset.univ hx hm) kk) Q :=
  st_store_out t W s hph (own_slab s c) hw h
end

/-! ## Programs in sequence -/

/-- The staged arguments and the matrix buffer, as the body sees them. -/
abbrev tM : Memref sig .tc .vmem S2048x1024 .bf16 := Memref.whole cc0_stg0_0
abbrev wM : Memref sig .tc .vmem S1024x1024 .bf16 := Memref.whole cc0_stg1_0
abbrev bufM : Memref sig .tc .vmem S1024x1024 .bf16 := Memref.whole cc0_scratch2

section
variable {c : Dev nD}

/-- A program after which `P'` holds and `φ` of what it returns, followed by one that starts there. -/
theorem seqP {α β : Type} {p : Prog (TpuEff nD τ sig (Elt F) Λ₀ .tc) α} {k : α → Prog (TpuEff nD τ sig (Elt F) Λ₀ .tc) β} {φ : α → Prop} {P P' : SP F} {Q : β → SP F}
    (hp : P ⊢ WP c p (fun r => iprop(⌜φ r⌝ ∗ P'))) (h : ∀ r, φ r → P' ⊢ WP c (k r) Q) : P ⊢ WP c (p.bind k) Q := by
  have hk : ∀ r, iprop(⌜φ r⌝ ∗ P') ⊢ WP c (k r) Q := fun r => by
    iintro ⟨%hr, H⟩
    iapply (h r hr)
    iexact H
  exact hp.trans ((wp_mono _ _ _ hk).trans (Entails.of_eq (wp_bind _ _ _ p k Q).symm))

/-- The end of a part. -/
theorem endP {α : Type} {r : α} {φ : α → Prop} (hφ : φ r) {P P' : SP F} (hP : P = P') : P ⊢ WP c (.ret r) (fun r => iprop(⌜φ r⌝ ∗ P')) := by
  subst hP
  show P ⊢ wp frame (wpE (defs₀ (F := F)) 𝒱₀ (c : Thread nD τ) none) Set.univ (.ret r) (fun r => iprop(⌜φ r⌝ ∗ P))
  rw [wp_ret]
  iintro H
  imodintro
  isplitr
  · ipureintro; exact hφ
  iexact H

/-- The same phases, the state written otherwise. -/
theorem st_ph {ns nr nw : Nat} {ph ph' : Fin 4 → Phase} {wb : Bool} (h : ∀ s, ph s = ph' s) : St t W ns nr nw ph wb c = St t W ns nr nw ph' wb c := by
  rw [funext h]
end

end Cert.KernelIdealProof

end
-- ==== Proof.KernelIdeal.Body1.lean ====
/-
# The body's parts 1–5: the barrier and the first halving's transfers
-/
module

public import proofs.«01_k».proof.Proof.KernelIdeal.Ops

@[expose] public section

noncomputable section

namespace Cert.KernelIdealProof

open Cert.KernelIdeal Cert.KernelIdeal.Gen Cert.Cube

open Idealize.ShloMosaic
open Idealize.ShloMosaic.TcCoe
open Idealize.ShloMosaic.ValueIdx (ix2 eq_ix2)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (t : Blocks F) (W : Mats F)

variable (c : Dev nD) (h0 : tM.IsWhole) (h1 : wM.IsWhole) (h2 : outM.IsWhole) (h3 : redM.IsWhole) (h4 : stM.IsWhole) (h5 : bufM.IsWhole)

/-- A device learns its own number. -/
theorem part1 {P : SP F} : P ⊢ WP c (k0_part1 (F := F) tM h0 wM h1 outM h2 redM h3 stM h4 bufM h5 cc0_scratch3 cc0_scratch4 cc0_scratch5 cc0_scratch6)
    (fun r => iprop(⌜r.1 = c⌝ ∗ P)) := by
  rw [k0_part1_eq_skeleton]
  unfold k0_part1_skel
  simp only [Prog.lift, Prog.bind_op, Prog.bind_ret, Prog.pure_eq_ret, wp_deviceId]
  exact endP (c := c) rfl rfl

/-- The first partner is signalled. -/
theorem part2 (x y z w : BitVec 32) : Bar t W 0 c ⊢ WP c (k0_part2 (F := F) tM h0 wM h1 outM h2 redM h3 stM h4 bufM h5 cc0_scratch3 cc0_scratch4 cc0_scratch5 cc0_scratch6 c x y z w)
    (fun r => iprop(⌜r.2.2.2.2.2.2.1 = SemArray.scalar (sig.barrier 0 rfl)⌝ ∗ Bar t W 1 c)) := by
  rw [k0_part2_eq_skeleton]
  unfold k0_part2_skel
  simp only [semSignalWord, Prog.lift, Prog.bind_op, Prog.bind_ret, Prog.pure_eq_ret]
  refine op_signal t W 0 ?_
  exact endP (c := c) rfl rfl

/-- The other partners are signalled, the barrier is passed, the block is copied to the buffer that is
reduced, and the first half leaves. -/
theorem part3 (x y z w u v b : BitVec 32) : Bar t W 1 c ⊢ WP c (k0_part3 (F := F) tM h0 wM h1 outM h2 redM h3 stM h4 bufM h5 cc0_scratch3 cc0_scratch4 cc0_scratch5 cc0_scratch6 c x y z w u v (SemArray.scalar (sig.barrier 0 rfl)) b)
    (fun r => iprop(⌜True⌝ ∗ St t W 1 0 0 ![.B 0, .A 0, .A 0, .A 0] false c)) := by
  rw [k0_part3_eq_skeleton]
  unfold k0_part3_skel
  simp only [semSignalWord, semWaitWord, Prog.lift, Prog.bind_op, Prog.bind_ret, Prog.pure_eq_ret]
  refine op_signal t W 1 ?_
  refine op_signal t W 2 ?_
  refine op_signal t W 3 ?_
  refine bar_wait t W (by rfl) (by rfl) ?_
  refine st0_load_t t W ?_
  refine st0_load_red t W fun _ => ?_
  refine st0_store_red t W (pay1_eq _) ?_
  refine op_send_rs t W 0 ?_
  exact endP (c := c) trivial (st_ph t W (by decide))

/-- The other three first halves leave, and the matrix is loaded. -/
theorem part4 (x y z w u v : BitVec 32) : St t W 1 0 0 ![.B 0, .A 0, .A 0, .A 0] false c ⊢ WP c (k0_part4 (F := F) tM h0 wM h1 outM h2 redM h3 stM h4 bufM h5 cc0_scratch3 cc0_scratch4 cc0_scratch5 cc0_scratch6 c x y z w u v)
    (fun r => iprop(⌜r = W c⌝ ∗ St t W 4 0 0 (fun _ => .B 0) false c)) := by
  rw [k0_part4_eq_skeleton]
  unfold k0_part4_skel
  simp only [Prog.lift, Prog.bind_op, Prog.bind_ret, Prog.pure_eq_ret]
  refine op_send_rs t W 1 ?_
  refine op_send_rs t W 2 ?_
  refine op_send_rs t W 3 ?_
  refine st_load_w t W ?_
  exact endP (c := c) rfl (st_ph t W (by decide))

/-- The matrix is kept, and the first half from schedule 0's partner is added. -/
theorem part5 (x y z w : BitVec 32) : St t W 4 0 0 (fun _ => .B 0) false c ⊢ WP c (k0_part5 (F := F) tM h0 wM h1 outM h2 redM h3 stM h4 bufM h5 cc0_scratch3 cc0_scratch4 cc0_scratch5 cc0_scratch6 c x y z w (W c))
    (fun r => iprop(⌜True⌝ ∗ St t W 4 1 0 ![.A 1, .B 0, .B 0, .B 0] true c)) := by
  rw [k0_part5_eq_skeleton]
  unfold k0_part5_skel
  simp only [Prog.lift, Prog.bind_op, Prog.bind_ret, Prog.pure_eq_ret]
  refine st_load_buf t W fun _ => ?_
  refine st_store_buf t W (pay2_eq _) ?_
  refine op_recv_rs t W 0 ?_
  refine op_load_own t W 0 ?_
  refine op_load_landed t W 0 ?_
  refine op_load_own t W 0 ?_
  refine op_store_add t W 0 (sum_val _ _ _ _ _ _) ?_
  exact endP (c := c) trivial (st_ph t W (by decide))

/-- Schedule 1's first addition, and the second halves of schedules 0 and 1 leave. -/
theorem part6 (x y z w : BitVec 32) : St t W 4 1 0 ![.A 1, .B 0, .B 0, .B 0] true c ⊢ WP c (k0_part6 (F := F) tM h0 wM h1 outM h2 redM h3 stM h4 bufM h5 cc0_scratch3 cc0_scratch4 cc0_scratch5 cc0_scratch6 c x y z w)
    (fun r => iprop(⌜True⌝ ∗ St t W 6 2 0 ![.B 1, .B 1, .B 0, .B 0] true c)) := by
  rw [k0_part6_eq_skeleton]
  unfold k0_part6_skel
  simp only [Prog.lift, Prog.bind_op, Prog.bind_ret, Prog.pure_eq_ret]
  refine op_send_rs t W 4 ?_
  refine op_recv_rs t W 1 ?_
  refine op_load_own t W 1 ?_
  refine op_load_landed t W 1 ?_
  refine op_load_own t W 1 ?_
  refine op_store_add t W 1 (sum_val _ _ _ _ _ _) ?_
  refine op_send_rs t W 5 ?_
  exact endP (c := c) trivial (st_ph t W (by decide))

/-- Schedule 2's first addition, and its second half leaves. -/
theorem part7 (x y z w u : BitVec 32) : St t W 6 2 0 ![.B 1, .B 1, .B 0, .B 0] true c ⊢ WP c (k0_part7 (F := F) tM h0 wM h1 outM h2 redM h3 stM h4 bufM h5 cc0_scratch3 cc0_scratch4 cc0_scratch5 cc0_scratch6 c x y z w u)
    (fun r => iprop(⌜True⌝ ∗ St t W 7 3 0 ![.B 1, .B 1, .B 1, .B 0] true c)) := by
  rw [k0_part7_eq_skeleton]
  unfold k0_part7_skel
  simp only [Prog.lift, Prog.bind_op, Prog.bind_ret, Prog.pure_eq_ret]
  refine op_recv_rs t W 2 ?_
  refine op_load_own t W 2 ?_
  refine op_load_landed t W 2 ?_
  refine op_load_own t W 2 ?_
  refine op_store_add t W 2 (sum_val _ _ _ _ _ _) ?_
  refine op_send_rs t W 6 ?_
  exact endP (c := c) trivial (st_ph t W (by decide))

/-- Schedule 3's first addition, and its second half leaves. -/
theorem part8 (x y z w u v p : BitVec 32) : St t W 7 3 0 ![.B 1, .B 1, .B 1, .B 0] true c ⊢ WP c (k0_part8 (F := F) tM h0 wM h1 outM h2 redM h3 stM h4 bufM h5 cc0_scratch3 cc0_scratch4 cc0_scratch5 cc0_scratch6 c x y z w u v p)
    (fun r => iprop(⌜True⌝ ∗ St t W 8 4 0 (fun _ => .B 1) true c)) := by
  rw [k0_part8_eq_skeleton]
  unfold k0_part8_skel
  simp only [Prog.lift, Prog.bind_op, Prog.bind_ret, Prog.pure_eq_ret]
  refine op_recv_rs t W 3 ?_
  refine op_load_own t W 3 ?_
  refine op_load_landed t W 3 ?_
  refine op_load_own t W 3 ?_
  refine op_store_add t W 3 (sum_val _ _ _ _ _ _) ?_
  refine op_send_rs t W 7 ?_
  exact endP (c := c) trivial (st_ph t W (by decide))

/-- Schedule 0's second addition, and its third half leaves; schedule 1's second half has come. -/
theorem part9 (x y z w : BitVec 32) : St t W 8 4 0 (fun _ => .B 1) true c ⊢ WP c (k0_part9 (F := F) tM h0 wM h1 outM h2 redM h3 stM h4 bufM h5 cc0_scratch3 cc0_scratch4 cc0_scratch5 cc0_scratch6 c x y z w)
    (fun r => iprop(⌜True⌝ ∗ St t W 9 6 0 ![.B 2, .C 1, .B 1, .B 1] true c)) := by
  rw [k0_part9_eq_skeleton]
  unfold k0_part9_skel
  simp only [Prog.lift, Prog.bind_op, Prog.bind_ret, Prog.pure_eq_ret]
  refine op_recv_rs t W 4 ?_
  refine op_load_own t W 4 ?_
  refine op_load_landed t W 4 ?_
  refine op_load_own t W 4 ?_
  refine op_store_add t W 4 (sum_val _ _ _ _ _ _) ?_
  refine op_send_rs t W 8 ?_
  refine op_recv_rs t W 5 ?_
  exact endP (c := c) trivial (st_ph t W (by decide))

end Cert.KernelIdealProof

end
-- ==== Proof.KernelIdeal.Body2.lean ====
/-
# The body's parts 10–18: the later halvings and the products
-/
module

public import proofs.«01_k».proof.Proof.KernelIdeal.Ops

@[expose] public section

noncomputable section

namespace Cert.KernelIdealProof

open Cert.KernelIdeal Cert.KernelIdeal.Gen Cert.Cube

open Idealize.ShloMosaic
open Idealize.ShloMosaic.TcCoe
open Idealize.ShloMosaic.ValueIdx (ix2 eq_ix2)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (t : Blocks F) (W : Mats F)

variable (c : Dev nD) (h0 : tM.IsWhole) (h1 : wM.IsWhole) (h2 : outM.IsWhole) (h3 : redM.IsWhole) (h4 : stM.IsWhole) (h5 : bufM.IsWhole)

/-- Schedule 1's second addition, and its third half leaves; both terms of schedule 2's second addition are loaded. -/
theorem part10 (x y z w : BitVec 32) : St t W 9 6 0 ![.B 2, .C 1, .B 1, .B 1] true c ⊢ WP c (k0_part10 (F := F) tM h0 wM h1 outM h2 redM h3 stM h4 bufM h5 cc0_scratch3 cc0_scratch4 cc0_scratch5 cc0_scratch6 c x y z w)
    (fun r => iprop(⌜r.2.1 = k0_pay9 (blkOf 128 (lo 2 2 c) (acc t 2 1 c)) ∧ r.2.2 = k0_pay10 (blkOf 128 (lo 2 2 c) (acc t 2 1 (pt (ax 2 1) c)))⌝ ∗ St t W 10 7 0 ![.B 2, .B 2, .C 1, .B 1] true c)) := by
  rw [k0_part10_eq_skeleton]
  unfold k0_part10_skel
  simp only [Prog.lift, Prog.bind_op, Prog.bind_ret, Prog.pure_eq_ret]
  refine op_load_own t W 5 ?_
  refine op_load_landed t W 5 ?_
  refine op_load_own t W 5 ?_
  refine op_store_add t W 5 (sum_val _ _ _ _ _ _) ?_
  refine op_send_rs t W 9 ?_
  refine op_recv_rs t W 6 ?_
  refine op_load_own t W 6 ?_
  refine op_load_landed t W 6 ?_
  exact endP (c := c) ⟨rfl, rfl⟩ (st_ph t W (by decide))

/-- Schedule 2's second addition, and its third half leaves; schedule 3's second sum is formed. -/
theorem part11 (x y z w : BitVec 32) : St t W 10 7 0 ![.B 2, .B 2, .C 1, .B 1] true c ⊢ WP c (k0_part11 (F := F) tM h0 wM h1 outM h2 redM h3 stM h4 bufM h5 cc0_scratch3 cc0_scratch4 cc0_scratch5 cc0_scratch6 c x y z w (k0_pay9 (blkOf 128 (lo 2 2 c) (acc t 2 1 c))) (k0_pay10 (blkOf 128 (lo 2 2 c) (acc t 2 1 (pt (ax 2 1) c)))))
    (fun r => iprop(⌜r.2 = k0_pay12 (blkOf 128 (lo 3 2 c) (acc t 3 1 c)) (blkOf 128 (lo 3 2 c) (acc t 3 1 (pt (ax 3 1) c)))⌝ ∗ St t W 11 8 0 ![.B 2, .B 2, .B 2, .C 1] true c)) := by
  rw [k0_part11_eq_skeleton]
  unfold k0_part11_skel
  simp only [Prog.lift, Prog.bind_op, Prog.bind_ret, Prog.pure_eq_ret]
  refine op_load_own t W 6 ?_
  refine op_store_add t W 6 (sum_val _ _ _ _ _ _) ?_
  refine op_send_rs t W 10 ?_
  refine op_recv_rs t W 7 ?_
  refine op_load_own t W 7 ?_
  refine op_load_landed t W 7 ?_
  refine op_load_own t W 7 ?_
  exact endP (c := c) rfl (st_ph t W (by decide))

/-- Schedule 3's second sum is stored, and its third half leaves; schedule 0's third addition. -/
theorem part12 (x y z w u v p : BitVec 32) : St t W 11 8 0 ![.B 2, .B 2, .B 2, .C 1] true c ⊢ WP c (k0_part12 (F := F) tM h0 wM h1 outM h2 redM h3 stM h4 bufM h5 cc0_scratch3 cc0_scratch4 cc0_scratch5 cc0_scratch6 c x y z w u v p (k0_pay12 (blkOf 128 (lo 3 2 c) (acc t 3 1 c)) (blkOf 128 (lo 3 2 c) (acc t 3 1 (pt (ax 3 1) c)))))
    (fun r => iprop(⌜True⌝ ∗ St t W 12 9 0 ![.A 3, .B 2, .B 2, .B 2] true c)) := by
  rw [k0_part12_eq_skeleton]
  unfold k0_part12_skel
  simp only [Prog.lift, Prog.bind_op, Prog.bind_ret, Prog.pure_eq_ret]
  refine op_store_add t W 7 (sum_val _ _ _ _ _ _) ?_
  refine op_send_rs t W 11 ?_
  refine op_recv_rs t W 8 ?_
  refine op_load_own t W 8 ?_
  refine op_load_landed t W 8 ?_
  refine op_load_own t W 8 ?_
  refine op_store_add t W 8 (sum_val _ _ _ _ _ _) ?_
  exact endP (c := c) trivial (st_ph t W (by decide))

/-- Schedule 0's last half leaves; schedule 1's third addition. -/
theorem part13 (x y z w u v p : BitVec 32) : St t W 12 9 0 ![.A 3, .B 2, .B 2, .B 2] true c ⊢ WP c (k0_part13 (F := F) tM h0 wM h1 outM h2 redM h3 stM h4 bufM h5 cc0_scratch3 cc0_scratch4 cc0_scratch5 cc0_scratch6 c x y z w u v p)
    (fun r => iprop(⌜True⌝ ∗ St t W 13 10 0 ![.B 3, .A 3, .B 2, .B 2] true c)) := by
  rw [k0_part13_eq_skeleton]
  unfold k0_part13_skel
  simp only [Prog.lift, Prog.bind_op, Prog.bind_ret, Prog.pure_eq_ret]
  refine op_send_rs t W 12 ?_
  refine op_recv_rs t W 9 ?_
  refine op_load_own t W 9 ?_
  refine op_load_landed t W 9 ?_
  refine op_load_own t W 9 ?_
  refine op_store_add t W 9 (sum_val _ _ _ _ _ _) ?_
  exact endP (c := c) trivial (st_ph t W (by decide))

/-- Schedule 1's last half leaves; schedule 2's third addition. -/
theorem part14 (x y z w u v p : BitVec 32) : St t W 13 10 0 ![.B 3, .A 3, .B 2, .B 2] true c ⊢ WP c (k0_part14 (F := F) tM h0 wM h1 outM h2 redM h3 stM h4 bufM h5 cc0_scratch3 cc0_scratch4 cc0_scratch5 cc0_scratch6 c x y z w u v p)
    (fun r => iprop(⌜True⌝ ∗ St t W 14 11 0 ![.B 3, .B 3, .A 3, .B 2] true c)) := by
  rw [k0_part14_eq_skeleton]
  unfold k0_part14_skel
  simp only [Prog.lift, Prog.bind_op, Prog.bind_ret, Prog.pure_eq_ret]
  refine op_send_rs t W 13 ?_
  refine op_recv_rs t W 10 ?_
  refine op_load_own t W 10 ?_
  refine op_load_landed t W 10 ?_
  refine op_load_own t W 10 ?_
  refine op_store_add t W 10 (sum_val _ _ _ _ _ _) ?_
  exact endP (c := c) trivial (st_ph t W (by decide))

/-- The last halves of schedules 2 and 3 leave; schedule 3's third addition. -/
theorem part15 (x y z w u : BitVec 32) : St t W 14 11 0 ![.B 3, .B 3, .A 3, .B 2] true c ⊢ WP c (k0_part15 (F := F) tM h0 wM h1 outM h2 redM h3 stM h4 bufM h5 cc0_scratch3 cc0_scratch4 cc0_scratch5 cc0_scratch6 c x y z w u)
    (fun r => iprop(⌜True⌝ ∗ St t W 16 12 0 (fun _ => .B 3) true c)) := by
  rw [k0_part15_eq_skeleton]
  unfold k0_part15_skel
  simp only [Prog.lift, Prog.bind_op, Prog.bind_ret, Prog.pure_eq_ret]
  refine op_send_rs t W 14 ?_
  refine op_recv_rs t W 11 ?_
  refine op_load_own t W 11 ?_
  refine op_load_landed t W 11 ?_
  refine op_load_own t W 11 ?_
  refine op_store_add t W 11 (sum_val _ _ _ _ _ _) ?_
  refine op_send_rs t W 15 ?_
  exact endP (c := c) trivial (st_ph t W (by decide))

/-- Schedule 0's last addition; schedule 1's last sum is formed. -/
theorem part16 (x y z w u v p : BitVec 32) : St t W 16 12 0 (fun _ => .B 3) true c ⊢ WP c (k0_part16 (F := F) tM h0 wM h1 outM h2 redM h3 stM h4 bufM h5 cc0_scratch3 cc0_scratch4 cc0_scratch5 cc0_scratch6 c x y z w u v p)
    (fun r => iprop(⌜r.2.2 = k0_pay19 (blkOf 32 (lo 1 4 c) (acc t 1 3 c)) (blkOf 32 (lo 1 4 c) (acc t 1 3 (pt (ax 1 3) c)))⌝ ∗ St t W 16 14 0 ![.A 4, .C 3, .B 3, .B 3] true c)) := by
  rw [k0_part16_eq_skeleton]
  unfold k0_part16_skel
  simp only [Prog.lift, Prog.bind_op, Prog.bind_ret, Prog.pure_eq_ret]
  refine op_recv_rs t W 12 ?_
  refine op_load_own t W 12 ?_
  refine op_load_landed t W 12 ?_
  refine op_load_own t W 12 ?_
  refine op_store_add t W 12 (sum_val _ _ _ _ _ _) ?_
  refine op_recv_rs t W 13 ?_
  refine op_load_own t W 13 ?_
  refine op_load_landed t W 13 ?_
  exact endP (c := c) rfl (st_ph t W (by decide))

/-- Schedule 1's last sum is stored; schedule 2's last addition; the first term of schedule 3's. -/
theorem part17 (x y z w u v : BitVec 32) : St t W 16 14 0 ![.A 4, .C 3, .B 3, .B 3] true c ⊢ WP c (k0_part17 (F := F) tM h0 wM h1 outM h2 redM h3 stM h4 bufM h5 cc0_scratch3 cc0_scratch4 cc0_scratch5 cc0_scratch6 c x y z w u v (k0_pay19 (blkOf 32 (lo 1 4 c) (acc t 1 3 c)) (blkOf 32 (lo 1 4 c) (acc t 1 3 (pt (ax 1 3) c)))))
    (fun r => iprop(⌜r.2.2 = k0_pay22 (blkOf 32 (lo 3 4 c) (acc t 3 3 c))⌝ ∗ St t W 16 16 0 ![.A 4, .A 4, .A 4, .C 3] true c)) := by
  rw [k0_part17_eq_skeleton]
  unfold k0_part17_skel
  simp only [Prog.lift, Prog.bind_op, Prog.bind_ret, Prog.pure_eq_ret]
  refine op_load_own t W 13 ?_
  refine op_store_add t W 13 (sum_val _ _ _ _ _ _) ?_
  refine op_recv_rs t W 14 ?_
  refine op_load_own t W 14 ?_
  refine op_load_landed t W 14 ?_
  refine op_load_own t W 14 ?_
  refine op_store_add t W 14 (sum_val _ _ _ _ _ _) ?_
  refine op_recv_rs t W 15 ?_
  refine op_load_own t W 15 ?_
  exact endP (c := c) rfl (st_ph t W (by decide))

/-- Schedule 3's last addition, and the products of the four slabs, of which the fourth is not yet stored. -/
theorem part18 (x y z w : BitVec 32) : St t W 16 16 0 ![.A 4, .A 4, .A 4, .C 3] true c ⊢ WP c (k0_part18 (F := F) tM h0 wM h1 outM h2 redM h3 stM h4 bufM h5 cc0_scratch3 cc0_scratch4 cc0_scratch5 cc0_scratch6 c x y z w (k0_pay22 (blkOf 32 (lo 3 4 c) (acc t 3 3 c))))
    (fun r => iprop(⌜r = k0_pay27 (slab t 3 c) (W c)⌝ ∗ St t W 16 16 0 ![.G 0, .G 0, .G 0, .A 4] true c)) := by
  rw [k0_part18_eq_skeleton]
  unfold k0_part18_skel
  simp only [Prog.lift, Prog.bind_op, Prog.bind_ret, Prog.pure_eq_ret]
  refine op_load_landed t W 15 ?_
  refine op_load_own t W 15 ?_
  refine op_store_add t W 15 (sum_val _ _ _ _ _ _) ?_
  refine op_load_slab t W 0 ?_
  refine st_load_buf' t W ?_
  refine op_load_out t W 0 fun _ => ?_
  refine op_store_out t W 0 rfl ?_
  refine op_load_slab t W 1 ?_
  refine st_load_buf' t W ?_
  refine op_load_out t W 1 fun _ => ?_
  refine op_store_out t W 1 rfl ?_
  refine op_load_slab t W 2 ?_
  refine st_load_buf' t W ?_
  refine op_load_out t W 2 fun _ => ?_
  refine op_store_out t W 2 rfl ?_
  refine op_load_slab t W 3 ?_
  refine st_load_buf' t W ?_
  exact endP (c := c) rfl (st_ph t W (by decide))

end Cert.KernelIdealProof

end
-- ==== Proof.KernelIdeal.Body3.lean ====
/-
# The body's parts 19–33: the doublings, and the waits for the device's own transfers
-/
module

public import proofs.«01_k».proof.Proof.KernelIdeal.Ops

@[expose] public section

noncomputable section

namespace Cert.KernelIdealProof

open Cert.KernelIdeal Cert.KernelIdeal.Gen Cert.Cube

open Idealize.ShloMosaic
open Idealize.ShloMosaic.TcCoe
open Idealize.ShloMosaic.ValueIdx (ix2 eq_ix2)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (t : Blocks F) (W : Mats F)

variable (c : Dev nD) (h0 : tM.IsWhole) (h1 : wM.IsWhole) (h2 : outM.IsWhole) (h3 : redM.IsWhole) (h4 : stM.IsWhole) (h5 : bufM.IsWhole)

/-- The fourth product is stored, and the slabs of schedules 0 and 1 leave. -/
theorem part19 (x y z w u v p q : BitVec 32) : St t W 16 16 0 ![.G 0, .G 0, .G 0, .A 4] true c ⊢ WP c (k0_part19 (F := F) tM h0 wM h1 outM h2 redM h3 stM h4 bufM h5 cc0_scratch3 cc0_scratch4 cc0_scratch5 cc0_scratch6 c x y z w u v p q (k0_pay27 (slab t 3 c) (W c)))
    (fun r => iprop(⌜True⌝ ∗ St t W 18 16 0 ![.H 0, .H 0, .G 0, .G 0] true c)) := by
  rw [k0_part19_eq_skeleton]
  unfold k0_part19_skel
  simp only [Prog.lift, Prog.bind_op, Prog.bind_ret, Prog.pure_eq_ret]
  refine op_load_out t W 3 fun _ => ?_
  refine op_store_out t W 3 rfl ?_
  refine op_send_ag t W 16 ?_
  refine op_send_ag t W 17 ?_
  exact endP (c := c) trivial (st_ph t W (by decide))

/-- The slabs of schedules 2 and 3 leave; schedule 0's slab comes. -/
theorem part20 (x y z w u v p : BitVec 32) : St t W 18 16 0 ![.H 0, .H 0, .G 0, .G 0] true c ⊢ WP c (k0_part20 (F := F) tM h0 wM h1 outM h2 redM h3 stM h4 bufM h5 cc0_scratch3 cc0_scratch4 cc0_scratch5 cc0_scratch6 c x y z w u v p)
    (fun r => iprop(⌜True⌝ ∗ St t W 20 17 0 ![.G 1, .H 0, .H 0, .H 0] true c)) := by
  rw [k0_part20_eq_skeleton]
  unfold k0_part20_skel
  simp only [Prog.lift, Prog.bind_op, Prog.bind_ret, Prog.pure_eq_ret]
  refine op_send_ag t W 18 ?_
  refine op_send_ag t W 19 ?_
  refine op_recv_ag t W 16 ?_
  exact endP (c := c) trivial (st_ph t W (by decide))

/-- The other slabs come; schedule 0 sends two slabs. -/
theorem part21 (x y z w u v : BitVec 32) : St t W 20 17 0 ![.G 1, .H 0, .H 0, .H 0] true c ⊢ WP c (k0_part21 (F := F) tM h0 wM h1 outM h2 redM h3 stM h4 bufM h5 cc0_scratch3 cc0_scratch4 cc0_scratch5 cc0_scratch6 c x y z w u v)
    (fun r => iprop(⌜True⌝ ∗ St t W 21 20 0 ![.H 1, .G 1, .G 1, .G 1] true c)) := by
  rw [k0_part21_eq_skeleton]
  unfold k0_part21_skel
  simp only [Prog.lift, Prog.bind_op, Prog.bind_ret, Prog.pure_eq_ret]
  refine op_recv_ag t W 17 ?_
  refine op_recv_ag t W 18 ?_
  refine op_recv_ag t W 19 ?_
  refine op_send_ag t W 20 ?_
  exact endP (c := c) trivial (st_ph t W (by decide))

/-- Each other schedule sends two slabs. -/
theorem part22 (x y z w u v p : BitVec 32) : St t W 21 20 0 ![.H 1, .G 1, .G 1, .G 1] true c ⊢ WP c (k0_part22 (F := F) tM h0 wM h1 outM h2 redM h3 stM h4 bufM h5 cc0_scratch3 cc0_scratch4 cc0_scratch5 cc0_scratch6 c x y z w u v p)
    (fun r => iprop(⌜True⌝ ∗ St t W 24 20 0 (fun _ => .H 1) true c)) := by
  rw [k0_part22_eq_skeleton]
  unfold k0_part22_skel
  simp only [Prog.lift, Prog.bind_op, Prog.bind_ret, Prog.pure_eq_ret]
  refine op_send_ag t W 21 ?_
  refine op_send_ag t W 22 ?_
  refine op_send_ag t W 23 ?_
  exact endP (c := c) trivial (st_ph t W (by decide))

/-- The pairs of slabs come. -/
theorem part23 (x y z w u v : BitVec 32) : St t W 24 20 0 (fun _ => .H 1) true c ⊢ WP c (k0_part23 (F := F) tM h0 wM h1 outM h2 redM h3 stM h4 bufM h5 cc0_scratch3 cc0_scratch4 cc0_scratch5 cc0_scratch6 c x y z w u v)
    (fun r => iprop(⌜True⌝ ∗ St t W 24 24 0 (fun _ => .G 2) true c)) := by
  rw [k0_part23_eq_skeleton]
  unfold k0_part23_skel
  simp only [Prog.lift, Prog.bind_op, Prog.bind_ret, Prog.pure_eq_ret]
  refine op_recv_ag t W 20 ?_
  refine op_recv_ag t W 21 ?_
  refine op_recv_ag t W 22 ?_
  refine op_recv_ag t W 23 ?_
  exact endP (c := c) trivial (st_ph t W (by decide))

/-- Schedules 0–2 send four slabs each. -/
theorem part24 (x y z w u v p : BitVec 32) : St t W 24 24 0 (fun _ => .G 2) true c ⊢ WP c (k0_part24 (F := F) tM h0 wM h1 outM h2 redM h3 stM h4 bufM h5 cc0_scratch3 cc0_scratch4 cc0_scratch5 cc0_scratch6 c x y z w u v p)
    (fun r => iprop(⌜True⌝ ∗ St t W 27 24 0 ![.H 2, .H 2, .H 2, .G 2] true c)) := by
  rw [k0_part24_eq_skeleton]
  unfold k0_part24_skel
  simp only [Prog.lift, Prog.bind_op, Prog.bind_ret, Prog.pure_eq_ret]
  refine op_send_ag t W 24 ?_
  refine op_send_ag t W 25 ?_
  refine op_send_ag t W 26 ?_
  exact endP (c := c) trivial (st_ph t W (by decide))

/-- Schedule 3 sends four slabs; those of schedules 0 and 1 come. -/
theorem part25 (x y z w u v : BitVec 32) : St t W 27 24 0 ![.H 2, .H 2, .H 2, .G 2] true c ⊢ WP c (k0_part25 (F := F) tM h0 wM h1 outM h2 redM h3 stM h4 bufM h5 cc0_scratch3 cc0_scratch4 cc0_scratch5 cc0_scratch6 c x y z w u v)
    (fun r => iprop(⌜True⌝ ∗ St t W 28 26 0 ![.G 3, .G 3, .H 2, .H 2] true c)) := by
  rw [k0_part25_eq_skeleton]
  unfold k0_part25_skel
  simp only [Prog.lift, Prog.bind_op, Prog.bind_ret, Prog.pure_eq_ret]
  refine op_send_ag t W 27 ?_
  refine op_recv_ag t W 24 ?_
  refine op_recv_ag t W 25 ?_
  exact endP (c := c) trivial (st_ph t W (by decide))

/-- The fours of schedules 2 and 3 come; schedule 0 sends eight slabs. -/
theorem part26 (x y z w u v : BitVec 32) : St t W 28 26 0 ![.G 3, .G 3, .H 2, .H 2] true c ⊢ WP c (k0_part26 (F := F) tM h0 wM h1 outM h2 redM h3 stM h4 bufM h5 cc0_scratch3 cc0_scratch4 cc0_scratch5 cc0_scratch6 c x y z w u v)
    (fun r => iprop(⌜True⌝ ∗ St t W 29 28 0 ![.H 3, .G 3, .G 3, .G 3] true c)) := by
  rw [k0_part26_eq_skeleton]
  unfold k0_part26_skel
  simp only [Prog.lift, Prog.bind_op, Prog.bind_ret, Prog.pure_eq_ret]
  refine op_recv_ag t W 26 ?_
  refine op_recv_ag t W 27 ?_
  refine op_send_ag t W 28 ?_
  exact endP (c := c) trivial (st_ph t W (by decide))

/-- The other schedules send eight slabs; schedule 0's come. -/
theorem part27 (x y z w u v p : BitVec 32) : St t W 29 28 0 ![.H 3, .G 3, .G 3, .G 3] true c ⊢ WP c (k0_part27 (F := F) tM h0 wM h1 outM h2 redM h3 stM h4 bufM h5 cc0_scratch3 cc0_scratch4 cc0_scratch5 cc0_scratch6 c x y z w u v p)
    (fun r => iprop(⌜True⌝ ∗ St t W 32 29 0 ![.G 4, .H 3, .H 3, .H 3] true c)) := by
  rw [k0_part27_eq_skeleton]
  unfold k0_part27_skel
  simp only [Prog.lift, Prog.bind_op, Prog.bind_ret, Prog.pure_eq_ret]
  refine op_send_ag t W 29 ?_
  refine op_send_ag t W 30 ?_
  refine op_send_ag t W 31 ?_
  refine op_recv_ag t W 28 ?_
  exact endP (c := c) trivial (st_ph t W (by decide))

/-- The last slabs come, and the first transfer has left. -/
theorem part28 (x y z : BitVec 32) : St t W 32 29 0 ![.G 4, .H 3, .H 3, .H 3] true c ⊢ WP c (k0_part28 (F := F) tM h0 wM h1 outM h2 redM h3 stM h4 bufM h5 cc0_scratch3 cc0_scratch4 cc0_scratch5 cc0_scratch6 c x y z)
    (fun r => iprop(⌜True⌝ ∗ St t W 32 32 1 (fun _ => .G 4) true c)) := by
  rw [k0_part28_eq_skeleton]
  unfold k0_part28_skel
  simp only [Prog.lift, Prog.bind_op, Prog.bind_ret, Prog.pure_eq_ret]
  refine op_recv_ag t W 29 ?_
  refine op_recv_ag t W 30 ?_
  refine op_recv_ag t W 31 ?_
  refine op_wait t W 0 ?_
  exact endP (c := c) trivial (st_ph t W (by decide))

/-- Transfers 1–6 have left. -/
theorem part29 : St t W 32 32 1 (fun _ => .G 4) true c ⊢ WP c (k0_part29 (F := F) tM h0 wM h1 outM h2 redM h3 stM h4 bufM h5 cc0_scratch3 cc0_scratch4 cc0_scratch5 cc0_scratch6 c)
    (fun r => iprop(⌜True⌝ ∗ St t W 32 32 7 (fun _ => .G 4) true c)) := by
  rw [k0_part29_eq_skeleton]
  unfold k0_part29_skel
  simp only [Prog.lift, Prog.bind_op, Prog.bind_ret, Prog.pure_eq_ret]
  refine op_wait t W 1 ?_
  refine op_wait t W 2 ?_
  refine op_wait t W 3 ?_
  refine op_wait t W 4 ?_
  refine op_wait t W 5 ?_
  refine op_wait t W 6 ?_
  exact endP (c := c) trivial rfl

/-- Transfers 7–11 have left. -/
theorem part30 : St t W 32 32 7 (fun _ => .G 4) true c ⊢ WP c (k0_part30 (F := F) tM h0 wM h1 outM h2 redM h3 stM h4 bufM h5 cc0_scratch3 cc0_scratch4 cc0_scratch5 cc0_scratch6 c)
    (fun r => iprop(⌜True⌝ ∗ St t W 32 32 12 (fun _ => .G 4) true c)) := by
  rw [k0_part30_eq_skeleton]
  unfold k0_part30_skel
  simp only [Prog.lift, Prog.bind_op, Prog.bind_ret, Prog.pure_eq_ret]
  refine op_wait t W 7 ?_
  refine op_wait t W 8 ?_
  refine op_wait t W 9 ?_
  refine op_wait t W 10 ?_
  refine op_wait t W 11 ?_
  exact endP (c := c) trivial rfl

/-- Transfers 12–17 have left. -/
theorem part31 : St t W 32 32 12 (fun _ => .G 4) true c ⊢ WP c (k0_part31 (F := F) tM h0 wM h1 outM h2 redM h3 stM h4 bufM h5 cc0_scratch3 cc0_scratch4 cc0_scratch5 cc0_scratch6 c)
    (fun r => iprop(⌜True⌝ ∗ St t W 32 32 18 (fun _ => .G 4) true c)) := by
  rw [k0_part31_eq_skeleton]
  unfold k0_part31_skel
  simp only [Prog.lift, Prog.bind_op, Prog.bind_ret, Prog.pure_eq_ret]
  refine op_wait t W 12 ?_
  refine op_wait t W 13 ?_
  refine op_wait t W 14 ?_
  refine op_wait t W 15 ?_
  refine op_wait t W 16 ?_
  refine op_wait t W 17 ?_
  exact endP (c := c) trivial rfl

/-- Transfers 18–23 have left. -/
theorem part32 : St t W 32 32 18 (fun _ => .G 4) true c ⊢ WP c (k0_part32 (F := F) tM h0 wM h1 outM h2 redM h3 stM h4 bufM h5 cc0_scratch3 cc0_scratch4 cc0_scratch5 cc0_scratch6 c)
    (fun r => iprop(⌜True⌝ ∗ St t W 32 32 24 (fun _ => .G 4) true c)) := by
  rw [k0_part32_eq_skeleton]
  unfold k0_part32_skel
  simp only [Prog.lift, Prog.bind_op, Prog.bind_ret, Prog.pure_eq_ret]
  refine op_wait t W 18 ?_
  refine op_wait t W 19 ?_
  refine op_wait t W 20 ?_
  refine op_wait t W 21 ?_
  refine op_wait t W 22 ?_
  refine op_wait t W 23 ?_
  exact endP (c := c) trivial rfl

/-- Transfers 24–29 have left. -/
theorem part33 : St t W 32 32 24 (fun _ => .G 4) true c ⊢ WP c (k0_part33 (F := F) tM h0 wM h1 outM h2 redM h3 stM h4 bufM h5 cc0_scratch3 cc0_scratch4 cc0_scratch5 cc0_scratch6 c)
    (fun r => iprop(⌜True⌝ ∗ St t W 32 32 30 (fun _ => .G 4) true c)) := by
  rw [k0_part33_eq_skeleton]
  unfold k0_part33_skel
  simp only [Prog.lift, Prog.bind_op, Prog.bind_ret, Prog.pure_eq_ret]
  refine op_wait t W 24 ?_
  refine op_wait t W 25 ?_
  refine op_wait t W 26 ?_
  refine op_wait t W 27 ?_
  refine op_wait t W 28 ?_
  refine op_wait t W 29 ?_
  exact endP (c := c) trivial rfl

end Cert.KernelIdealProof

end
-- ==== Proof.KernelIdeal.Body.lean ====
/-
# The body: its parts in sequence
-/
module

public import proofs.«01_k».proof.Proof.KernelIdeal.Body1
public import proofs.«01_k».proof.Proof.KernelIdeal.Body2
public import proofs.«01_k».proof.Proof.KernelIdeal.Body3

@[expose] public section

noncomputable section

namespace Cert.KernelIdealProof

open Cert.KernelIdeal Cert.KernelIdeal.Gen Cert.Cube

open Idealize.ShloMosaic
open Idealize.ShloMosaic.TcCoe
open Idealize.ShloMosaic.ValueIdx (ix2 eq_ix2)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (t : Blocks F) (W : Mats F)

variable (c : Dev nD) (h0 : tM.IsWhole) (h1 : wM.IsWhole) (h2 : outM.IsWhole) (h3 : redM.IsWhole) (h4 : stM.IsWhole) (h5 : bufM.IsWhole)

/-- From the barrier's start, with a block and the matrix staged, the body runs to the end and leaves the
whole result. -/
theorem body : Bar t W 0 c ⊢ WP c (cc0_body (F := F) tM h0 wM h1 outM h2 redM h3 stM h4 bufM h5 cc0_scratch3 cc0_scratch4 cc0_scratch5 cc0_scratch6)
    (fun _ => St t W 32 32 32 (fun _ => .G 4) true c) := by
  rw [cc0_body_eq_skeleton]
  unfold cc0_body_skel
  refine seqP (part1 c h0 h1 h2 h3 h4 h5) ?_
  rintro ⟨d0, v2, v3, v20, v22, v39, x⟩ rfl
  refine seqP (part2 t W d0 h0 h1 h2 h3 h4 h5 _ _ _ _) ?_
  rintro ⟨v40, v57, v61, v64, v68, v72, v73, x⟩ rfl
  refine seqP (part3 t W d0 h0 h1 h2 h3 h4 h5 _ _ _ _ _ _ _) fun x _ => ?_
  refine seqP (part4 t W d0 h0 h1 h2 h3 h4 h5 _ _ _ _ _ _) ?_
  rintro x rfl
  refine seqP (part5 t W d0 h0 h1 h2 h3 h4 h5 _ _ _ _) fun _ _ => ?_
  refine seqP (part6 t W d0 h0 h1 h2 h3 h4 h5 _ _ _ _) ?_
  rintro ⟨v167, v196, x⟩ _
  refine seqP (part7 t W d0 h0 h1 h2 h3 h4 h5 _ _ _ _ _) ?_
  rintro ⟨v197, v227, v228⟩ _
  refine seqP (part8 t W d0 h0 h1 h2 h3 h4 h5 _ _ _ _ _ _ _) fun _ _ => ?_
  refine seqP (part9 t W d0 h0 h1 h2 h3 h4 h5 _ _ _ _) fun _ _ => ?_
  refine seqP (part10 t W d0 h0 h1 h2 h3 h4 h5 _ _ _ _) ?_
  rintro ⟨v317, v326, v328⟩ ⟨rfl, rfl⟩
  refine seqP (part11 t W d0 h0 h1 h2 h3 h4 h5 _ _ _ _) ?_
  rintro ⟨v347, v360⟩ rfl
  refine seqP (part12 t W d0 h0 h1 h2 h3 h4 h5 _ _ _ _ _ _ _) ?_
  rintro ⟨v377, v396⟩ _
  refine seqP (part13 t W d0 h0 h1 h2 h3 h4 h5 _ _ _ _ _ _ _) ?_
  rintro ⟨v407, v428, x⟩ _
  refine seqP (part14 t W d0 h0 h1 h2 h3 h4 h5 _ _ _ _ _ _ _) fun _ _ => ?_
  refine seqP (part15 t W d0 h0 h1 h2 h3 h4 h5 _ _ _ _ _) ?_
  rintro ⟨v467, x⟩ _
  refine seqP (part16 t W d0 h0 h1 h2 h3 h4 h5 _ _ _ _ _ _ _) ?_
  rintro ⟨v497, v516, v529⟩ rfl
  refine seqP (part17 t W d0 h0 h1 h2 h3 h4 h5 _ _ _ _ _ _) ?_
  rintro ⟨v535, v554, v563⟩ rfl
  refine seqP (part18 t W d0 h0 h1 h2 h3 h4 h5 _ _ _ _) ?_
  rintro x rfl
  refine seqP (part19 t W d0 h0 h1 h2 h3 h4 h5 _ _ _ _ _ _ _ _) ?_
  rintro ⟨v601, v614, v627, x⟩ _
  refine seqP (part20 t W d0 h0 h1 h2 h3 h4 h5 _ _ _ _ _ _ _) fun _ _ => ?_
  refine seqP (part21 t W d0 h0 h1 h2 h3 h4 h5 _ _ _ _ _ _) ?_
  rintro ⟨v677, v690⟩ _
  refine seqP (part22 t W d0 h0 h1 h2 h3 h4 h5 _ _ _ _ _ _ _) ?_
  rintro ⟨v703, v716⟩ _
  refine seqP (part23 t W d0 h0 h1 h2 h3 h4 h5 _ _ _ _ _ _) fun _ _ => ?_
  refine seqP (part24 t W d0 h0 h1 h2 h3 h4 h5 _ _ _ _ _ _ _) ?_
  rintro ⟨v766, v779⟩ _
  refine seqP (part25 t W d0 h0 h1 h2 h3 h4 h5 _ _ _ _ _ _) fun _ _ => ?_
  refine seqP (part26 t W d0 h0 h1 h2 h3 h4 h5 _ _ _ _ _ _) fun _ _ => ?_
  refine seqP (part27 t W d0 h0 h1 h2 h3 h4 h5 _ _ _ _ _ _ _) fun _ _ => ?_
  refine seqP (part28 t W d0 h0 h1 h2 h3 h4 h5 _ _ _) fun _ _ => ?_
  refine seqP (part29 t W d0 h0 h1 h2 h3 h4 h5) fun _ _ => ?_
  refine seqP (part30 t W d0 h0 h1 h2 h3 h4 h5) fun _ _ => ?_
  refine seqP (part31 t W d0 h0 h1 h2 h3 h4 h5) fun _ _ => ?_
  refine seqP (part32 t W d0 h0 h1 h2 h3 h4 h5) fun _ _ => ?_
  refine seqP (part33 t W d0 h0 h1 h2 h3 h4 h5) fun _ _ => ?_
  simp only [Prog.lift, Prog.bind_op, Prog.bind_ret, Prog.pure_eq_ret]
  refine op_wait t W 30 ?_
  refine op_wait t W 31 ?_
  show _ ⊢ wp frame (wpE (defs₀ (F := F)) 𝒱₀ (d0 : Thread nD τ) none) Set.univ (.ret _) _
  rw [wp_ret]
  exact fupd_intro

end Cert.KernelIdealProof

end
-- ==== Proof.KernelIdeal.Launch.lean ====
/-
# The launch

The sixteen devices started together: the protocol's tokens dealt to those who pay with them, the body run
between the staging copies, and the buffers read afterwards.
-/
module

public import proofs.«01_k».proof.Proof.KernelIdeal.Whole
public import proofs.«01_k».proof.Proof.KernelIdeal.Body

@[expose] public section

noncomputable section

namespace Cert.KernelIdealProof

open Cert.KernelIdeal Cert.KernelIdeal.Gen Cert.Cube

open Idealize.ShloMosaic
open Idealize.ShloMosaic.TcCoe
open Idealize.ShloMosaic.ValueIdx (ix2 eq_ix2)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev s₀ : MemSt nD τ sig (Elt F) := ⟨m, fun _ => 0, ρ⟩

/-- Every device's block and its matrix, as launched. -/
def tt : Blocks F := fun c => m ((Dev.tc c : Thread nD τ).loc main_arg0)
def ww : Mats F := fun c => m ((Dev.tc c : Thread nD τ).loc main_arg1)

/-! ## The windows are the whole arrays -/

omit [FloatOps F] in
theorem read_arg0 (f : Vec F S2048x1024 .bf16) : (win0_0.blk t0_0).view.read (Elt F) f = f :=
  Memref.read_access_unit_zero (Elt F) main_arg0 (show (fun a => (win0_0.index t0_0) a * main_arg0.ty.shape.size a) = fun _ => 0 from
    funext fun a => by fin_cases a <;> decide) (fun a => by fin_cases a <;> decide) f
omit [FloatOps F] in
theorem read_arg1 (f : Vec F S1024x1024 .bf16) : (win0_1.blk t0_0).view.read (Elt F) f = f :=
  Memref.read_access_unit_zero (Elt F) main_arg1 (show (fun a => (win0_1.index t0_0) a * main_arg1.ty.shape.size a) = fun _ => 0 from
    funext fun a => by fin_cases a <;> decide) (fun a => by fin_cases a <;> decide) f
omit [FloatOps F] in
theorem write_res (f g : Vec F S2048x1024 .bf16) : (win0_2.blk t0_0).view.write (Elt F) f g Finset.univ = g :=
  Memref.write_access_unit_zero_univ (Elt F) main_v1 (show (fun a => (win0_2.index t0_0) a * main_v1.ty.shape.size a) = fun _ => 0 from
    funext fun a => by fin_cases a <;> decide) (fun a => by fin_cases a <;> decide) f g

/-! ## The body between the staging copies -/

/-- The scratch buffers, whole, at whatever contents. -/
def Scratch (c : Dev nD) : sProp 𝕄 := iprop(anyRed c 0 2048 ∗ anySt c 0 1920 ∗ ∃ f, bufPts c f)

/-- A device's semaphores at zero. -/
def Zeros (c : Dev nD) : sProp 𝕄 :=
  iprop(semVal (barCell c) 0 ∗ (bigSep Finset.univ fun e : Fin 32 => semVal (sendCell e c) 0) ∗ bigSep Finset.univ fun e : Fin 32 => semVal (recvCell e c) 0)

def Φ₀ (c : Dev nD) : sProp 𝕄 := iprop(Dealt (tt m) (ww m) c ∗ Scratch c)
def Φ₁ (c : Dev nD) : sProp 𝕄 := iprop(Zeros c ∗ Scratch c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => tt m c
    | ⟨1, _⟩ => ww m c
    | ⟨2, _⟩ => OUT (tt m) (ww m)
  Φ i := match i with
    | ⟨0, _⟩ => Φ₀ m c
    | ⟨_ + 1, _⟩ => Φ₁ c
  q _ := fullShare
  owed i := match i with
    | ⟨0, _⟩ => O₀ c
    | ⟨_ + 1, _⟩ => 0

theorem before_0 (c : Dev nD) (d) : (dats m ρ 0 c).before (0 : Fin 3) t0_0 d = tt m c := by
  unfold Dat.before
  rw [if_pos (fetch0_0 t0_0)]
  exact Eq.trans rfl (read_arg0 (tt m c))
theorem before_1 (c : Dev nD) (d) : (dats m ρ 0 c).before (1 : Fin 3) t0_0 d = ww m c := by
  unfold Dat.before
  rw [if_pos (fetch0_1 t0_0)]
  exact Eq.trans rfl (read_arg1 (ww m c))

omit [FloatOps F] in
/-- A whole buffer read back is its contents. -/
theorem owns_buf (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- A staging buffer of device `c` at contents `X`. -/
abbrev staged (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

def atStart (c : Dev nD) : sProp 𝕄 :=
  iprop(Φ₀ m c ∗ (dats m ρ 0 c).owesAt () t0_0.castSucc
    ∗ (∃ d, staged c cc0_stg0_0 ((dats m ρ 0 c).before (0 : Fin 3) t0_0 d))
    ∗ (∃ d, staged c cc0_stg1_0 ((dats m ρ 0 c).before (1 : Fin 3) t0_0 d))
    ∗ ∃ d, staged c cc0_stg2_0 ((dats m ρ 0 c).before (2 : Fin 3) t0_0 d))
def atEnd (c : Dev nD) : sProp 𝕄 :=
  iprop(Φ₁ c ∗ (dats m ρ 0 c).owesAt () t0_0.succ ∗ staged c cc0_stg0_0 (tt m c) ∗ staged c cc0_stg1_0 (ww m c) ∗ staged c cc0_stg2_0 (OUT (tt m) (ww m)))

theorem atStart_bar (c : Dev nD) : atStart m ρ c ⊢ Bar (tt m) (ww m) 0 c := by
  have h := first_of_dealt (tt m) (ww m) c
  unfold atStart Φ₀ Scratch Dat.owesAt Pipeline.owesWithin
  rw [show (dats m ρ 0 c).owed t0_0.castSucc = O₀ c from rfl]
  simp only [before_0, before_1]
  iintro ⟨⟨HD, HR, HS, HB⟩, ⟨%V, %hV, HO⟩, ⟨%d0, %f0, %h0, H0⟩, ⟨%d1, %f1, %h1, H1⟩, %d2, %f2, %h2, H2⟩
  subst h0 h1
  iapply h
  isplitl [HD]; · iexact HD
  isplitl [HO]
  · iexists V
    iexact HO
  isplitl [H0]
  · unfold tPts
    iexact H0
  isplitl [H1]
  · unfold wPts
    iexact H1
  isplitl [H2]
  · unfold anyOut outPts
    rw [rows_univ]
    iexists f2
    iexact H2
  isplitl [HR]; · iexact HR
  isplitl [HS]; · iexact HS
  iexact HB

theorem done_atEnd (c : Dev nD) : Done (tt m) (ww m) c ⊢ atEnd m ρ c := by
  unfold Done atEnd Φ₁ Zeros Scratch Dat.owesAt Pipeline.owesWithin tPts wPts outPts
  rw [show (dats m ρ 0 c).owed t0_0.succ = 0 from rfl, rows_univ]
  iintro ⟨⟨%V, HO⟩, Hb, Hs, Hr, H0, H1, H2, HR, HS, HB⟩
  isplitl [Hb Hs Hr HR HS HB]
  · isplitl [Hb Hs Hr]
    · isplitl [Hb]; · iexact Hb
      isplitl [Hs]; · iexact Hs
      iexact Hr
    isplitl [HR]; · iexact HR
    isplitl [HS]; · iexact HS
    iexact HB
  isplitl [HO]
  · iexists V
    isplitr
    · ipureintro
      exact fun _ _ => Or.inl trivial
    iexact HO
  isplitl [H0]
  · iexists _
    isplitr
    · ipureintro; rfl
    iexact H0
  isplitl [H1]
  · iexists _
    isplitr
    · ipureintro; rfl
    iexact H1
  iexists _
  isplitr
  · ipureintro; rfl
  iexact H2

omit [FloatOps F] in
theorem bigSep_windows (Φ : Fin cfg0.W → sProp 𝕄) : bigSep Finset.univ Φ = iprop(Φ (0 : Fin 3) ∗ Φ (1 : Fin 3) ∗ Φ (2 : Fin 3)) := bigSep_W0 Φ

set_option maxRecDepth 65536 in
/-- The body, from the staged arguments to the staged result. -/
theorem body_obligation (c : Dev nD) : BodyObligation (dats (F := F) m ρ 0 c) (defs₀ (F := F)) 𝒱₀ () Set.univ := fun i => by
  rw [fin_N0 i]
  rw [bigSep_windows, bigSep_windows]
  simp only [owns_buf]
  show atStart m ρ c ⊢ WP c (cc0_body (F := F) tM (Memref.isWhole_whole _) wM (Memref.isWhole_whole _) outM (Memref.isWhole_whole _) redM (Memref.isWhole_whole _)
    stM (Memref.isWhole_whole _) bufM (Memref.isWhole_whole _) cc0_scratch3 cc0_scratch4 cc0_scratch5 cc0_scratch6) (fun _ => atEnd m ρ c)
  exact ((atStart_bar m ρ c).trans (body (tt m) (ww m) c _ _ _ _ _ _)).trans
    (wp_mono _ _ _ fun _ => (done_of_last (tt m) (ww m) c).trans (done_atEnd m ρ c))

end Cert.KernelIdealProof

end
-- ==== Proof.KernelIdeal.Run.lean ====
/-
# The protocol dealt out

At the launch the tokens of every semaphore are made; each goes to the device that will pay with it, and what a device
is owed is counted.
-/
module

public import proofs.«01_k».proof.Proof.KernelIdeal.Launch
public import Idealize.ShloMosaic.Lib.Pipeline.CollectiveSegs

@[expose] public section

noncomputable section

namespace Cert.KernelIdealProof

open Cert.KernelIdeal Cert.KernelIdeal.Gen Cert.Cube

open Idealize.ShloMosaic
open Idealize.ShloMosaic.TcCoe
open Idealize.ShloMosaic.ValueIdx (ix2 eq_ix2)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells -/

/-- A device's semaphores, named. -/
abbrev KK : Type := Unit ⊕ (Bool × Fin 32)

/-- The name of a semaphore. -/
def nameOf : SemLoc sig → KK
  | .reg _ => .inl ()
  | .dma q => .inr (isRecv q, evOf q)

theorem nameOf_csem (k : KK) : nameOf (csem k) = k := by
  rcases k with ⟨⟩ | ⟨b, e⟩
  · rfl
  cases b
  · show Sum.inr (isRecv (sendS e), evOf (sendS e)) = _
    rw [isRecv_sendS, evOf_sendS]
  · show Sum.inr (isRecv (recvS e), evOf (recvS e)) = _
    rw [isRecv_recvS, evOf_recvS]

theorem csem_injective : Function.Injective csem := Function.LeftInverse.injective nameOf_csem

theorem kcell_injective : Function.Injective (kcell : Dev nD × KK → GSem nD τ sig) := by
  rintro ⟨c, k⟩ ⟨c', k'⟩ h
  have h1 : c = c' := congrArg (fun g : GSem nD τ sig => g.1.1) h
  have h2 : k = k' := csem_injective (congrArg Prod.snd h)
  rw [h1, h2]

/-- The semaphores of the transfers are the kernel's own. -/
theorem ownSemFacts : Pipeline.OwnSemFacts cfg0.spec osem where
  isScoped := by decide +kernel
  inj := fun x y h => Sum.inr.inj (csem_injective (a₁ := .inr x) (a₂ := .inr y) h)
  disj := by decide +kernel

omit [FloatOps F] in
/-- A family over a device's semaphores: the barrier, the send semaphores, the receive semaphores. -/
theorem by_cell (Φ : GSem nD τ sig → SP F) (c : Dev nD) :
    (bigSep Finset.univ fun k : KK => Φ (kcell (c, k)))
      = iprop(Φ (barCell c) ∗ (bigSep Finset.univ fun e : Fin 32 => Φ (sendCell e c)) ∗ bigSep Finset.univ fun e : Fin 32 => Φ (recvCell e c)) := by
  rw [bigSep_univ_sum, bigSep_univ_prod, bigSep_univ_eq_bigSepL [false, true] (by decide) (by decide), bigSep_univ_eq_bigSepL [()] (by decide) (by decide)]
  rfl

def cells : Finset (GSem nD τ sig) := Finset.univ.map ⟨kcell, kcell_injective⟩

/-- The tokens of a device's own cells: four of its barrier, one of each transfer semaphore. -/
def tokOf (cj : Dev nD × (Fin 4 ⊕ (Bool × Fin 32))) : GSem nD τ sig × ℕ × Fin 4 := match cj.2 with
  | .inl a => (barCell cj.1, 0, a)
  | .inr x => (((cj.1 : Thread nD τ), osem x), 0, 0)

theorem tokOf_injective : Function.Injective tokOf := by
  rintro ⟨c, j⟩ ⟨c', j'⟩ h
  have h1 : c = c' := by
    have := congrArg (fun x : GSem nD τ sig × ℕ × Fin 4 => x.1.1.1) h
    rcases j with j | j <;> rcases j' with j' | j' <;> exact this
  have h2 := congrArg (fun x : GSem nD τ sig × ℕ × Fin 4 => nameOf x.1.2) h
  have h3 := congrArg (fun x : GSem nD τ sig × ℕ × Fin 4 => x.2.2) h
  rcases j with j | j <;> rcases j' with j' | j'
  · rw [h1, show j = j' from h3]
  · exact absurd (h2.trans (nameOf_csem (.inr j'))) (fun hh => by cases hh)
  · exact absurd (h2.symm.trans (nameOf_csem (.inr j))) (fun hh => by cases hh)
  · have : (Sum.inr j : KK) = Sum.inr j' := (nameOf_csem (.inr j)).symm.trans (h2.trans (nameOf_csem (.inr j')))
    rw [h1, Sum.inr.inj this]

def tokens : Finset (GSem nD τ sig × ℕ × Fin 4) := Finset.univ.map ⟨tokOf, tokOf_injective⟩

def u₀ : UU := (initOf (Pipeline.cells cfgs cellOf_inj) (Pipeline.launchToks cfgs cellOf_inj), initOf cells tokens)

/-- The tokens of device `c`'s own cells. -/
def own (c : Dev nD) : sProp 𝕄 :=
  iprop((bigSep Finset.univ fun a : Fin 4 => dutyTok ER (barCell c) 0 a) ∗ (bigSep Finset.univ fun e : Fin 32 => dutyTok ER (sendCell e c) 0 0)
    ∗ bigSep Finset.univ fun e : Fin 32 => dutyTok ER (recvCell e c) 0 0)

/-- What is made for device `c`. -/
def G (c : Dev nD) : sProp 𝕄 :=
  iprop((bigSep Finset.univ fun k : KK => roundState ER (Rd (tt m) (ww m)) (kcell (c, k)) 0)
    ∗ (bigSep Finset.univ fun k : KK => iprop(atPos ER (kcell (c, k)) 0 ∅ 0 ∗ reached ER (kcell (c, k)) 0)) ∗ own c)

/-- All of it made. -/
theorem fund : BI.own (ER (initOf cells tokens)) ⊢ (|==> bigSep Finset.univ (G m) : sProp 𝕄) := by
  have hX (Φ : GSem nD τ sig → sProp 𝕄) : bigSep cells Φ = bigSep Finset.univ fun c : Dev nD => bigSep Finset.univ fun k : KK => Φ (kcell (c, k)) := by
    unfold cells; rw [bigSep_map, bigSep_univ_prod]; rfl
  have hT : bigSep tokens (fun x => (dutyTok ER x.1 x.2.1 x.2.2 : sProp 𝕄)) = bigSep Finset.univ fun c : Dev nD => own c := by
    unfold tokens; rw [bigSep_map, bigSep_univ_prod]
    refine bigSep_congr fun c _ => ?_
    unfold own
    rw [bigSep_univ_sum, bigSep_univ_prod, bigSep_univ_eq_bigSepL [false, true] (by decide) (by decide)]
    rfl
  iintro HX
  imod (Rounds.fund ER (Rd (tt m) (ww m)) cells tokens) $$ HX with ⟨Hst, Hr, Hat, Htok⟩
  imodintro
  ihave Hst := (Entails.of_eq (hX fun g => roundState ER (Rd (tt m) (ww m)) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat]; · iexact Hat
    iexact Hr
  iexact Htok

/-! ## The cells put under their schedules -/

omit [FloatOps F] in
theorem zeros_eq (c : Dev nD) : (Zeros c : sProp 𝕄) = bigSep Finset.univ fun k : KK => semVal (kcell (c, k)) 0 :=
  (by_cell (fun g => semVal g 0) c).symm

omit [FloatOps F] in
/-- A device's semaphores at zero: its own, and the runtime's barrier. -/
theorem sems_eq (c : Dev nD) :
    iprop(unscopedSems0 c ∗ Pipeline.ownSems0 (Ix := Unit) (Name := ℕ) (U := UU) (Lvl := ℕ) (Val := Elt F) (τ := τ) osem c) = (Zeros c : sProp 𝕄) := by
  unfold unscopedSems0 Pipeline.ownSems0 Zeros
  rw [bigSep_eq_bigSepL_of_eq [SemLoc.reg barS] (by decide +kernel) (by decide), bigSep_univ_prod, bigSep_univ_eq_bigSepL [false, true] (by decide) (by decide)]
  rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : KK => iprop(∃ κ : ℕ, cellInv ER (Rd (tt m) (ww m)) κ (kcell (c, k))))
          ∗ (bigSep Finset.univ fun k : KK => iprop(atPos ER (kcell (c, k)) 0 ∅ 0 ∗ reached ER (kcell (c, k)) 0)) ∗ own c) := by
  have hA : iprop((bigSep Finset.univ fun k : KK => semVal (kcell (c, k)) 0) ∗ bigSep Finset.univ fun k : KK => roundState ER (Rd (tt m) (ww m)) (kcell (c, k)) 0)
      ⊢ (|={Set.univ}=> bigSep Finset.univ fun k : KK => iprop(∃ κ : ℕ, cellInv ER (Rd (tt m) (ww m)) κ (kcell (c, k))) : sProp 𝕄) := by
    rw [← bigSep_sep']
    exact (bigSep_mono fun k _ => (Rounds.body_intro ER (Rd (tt m) (ww m)) (kcell (c, k))).trans inv_alloc).trans (bigSep_fupd _ _)
  unfold G
  iintro ⟨Hos, Hus, Hst, Hat, Htok⟩
  imod hA $$ [Hos Hus Hst] with Hinv
  · isplitl [Hos Hus]
    · iapply (Entails.of_eq ((sems_eq (F := F) c).trans (zeros_eq c)))
      isplitl [Hus]; · iexact Hus
      iexact Hos
    iexact Hst
  imodintro
  isplitl [Hinv]; · iexact Hinv
  isplitl [Hat]; · iexact Hat
  iexact Htok

/-! ## The tokens dealt to those who pay with them -/

omit [FloatOps F] in
/-- A family over the devices and some index may be read at devices permuted index by index. -/
theorem permuted {I : Type} [Fintype I] (q : I → Fin 16 ≃ Fin 16) (f : I → Dev nD → SP F) :
    (bigSep Finset.univ fun c : Dev nD => bigSep Finset.univ fun i : I => f i c)
      = bigSep Finset.univ fun c : Dev nD => bigSep Finset.univ fun i : I => f i (q i c) := by
  rw [← bigSep_univ_prod (fun ci : Dev nD × I => f ci.2 ci.1), ← bigSep_univ_prod (fun ci : Dev nD × I => f ci.2 (q ci.2 ci.1))]
  exact bigSep_univ_equiv (⟨fun ci => (q ci.2 ci.1, ci.2), fun ci => ((q ci.2).symm ci.1, ci.2),
    fun ci => by simp, fun ci => by simp⟩ : Dev nD × I ≃ Dev nD × I) _

/-- The tokens device `c` pays with. -/
def pays (c : Dev nD) : sProp 𝕄 :=
  iprop((bigSep Finset.univ fun a : Fin 4 => dutyTok ER (barCell (pt a c)) 0 a) ∗ bigSep Finset.univ fun e : Fin 32 => toks e c)

omit [FloatOps F] in
theorem dealt_around : (bigSep Finset.univ fun c : Dev nD => (own c : sProp 𝕄)) = bigSep Finset.univ fun c : Dev nD => pays c := by
  have hs : ∀ c : Dev nD, (bigSep Finset.univ fun e : Fin 32 => (toks e c : sProp 𝕄))
      = iprop((bigSep Finset.univ fun e : Fin 32 => dutyTok ER (sendCell e c) 0 0) ∗ bigSep Finset.univ fun e : Fin 32 => dutyTok ER (recvCell e (peer e c)) 0 0) :=
    fun c => bigSep_sep' _ _ _
  unfold own pays
  simp only [hs]
  rw [bigSep_sep', bigSep_sep', bigSep_sep', bigSep_sep',
    permuted ptEquiv (fun a c => dutyTok ER (barCell c) 0 a), permuted (fun e : Fin 32 => peerEquiv e) (fun e c => dutyTok ER (recvCell e c) 0 0)]
  rfl

omit [FloatOps F] in
/-- Knowledge handed to every member of a family. -/
theorem bigSep_know {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : KK => iprop(∃ κ : ℕ, cellInv ER (Rd (tt m) (ww m)) κ (kcell (c, k))))
          ∗ (bigSep Finset.univ fun k : KK => iprop(atPos ER (kcell (c, k)) 0 ∅ 0 ∗ reached ER (kcell (c, k)) 0)) ∗ own c) : sProp 𝕄)
      ⊢ bigSep Finset.univ (Ghost (tt m) (ww m)) := by
  have hk : know (tt m) (ww m) = iprop((bigSep Finset.univ fun c : Dev nD => bigSep Finset.univ fun k : KK => iprop(∃ κ : ℕ, cellInv ER (Rd (tt m) (ww m)) κ (kcell (c, k))))
      ∗ bigSep Finset.univ fun c : Dev nD => bigSep Finset.univ fun k : KK => reached ER (kcell (c, k)) 0) := by
    unfold know
    rw [bigSep_sep', bigSep_univ_prod, bigSep_univ_prod]
  have hp : ∀ c : Dev nD, (bigSep Finset.univ fun k : KK => iprop(atPos ER (kcell (c, k)) 0 ∅ 0 ∗ reached ER (kcell (c, k)) 0) : sProp 𝕄)
      = iprop((bigSep Finset.univ fun k : KK => atPos ER (kcell (c, k)) 0 ∅ 0) ∗ bigSep Finset.univ fun k : KK => reached ER (kcell (c, k)) 0) :=
    fun c => bigSep_sep' _ _ _
  have hg : ∀ c : Dev nD, iprop(know (tt m) (ww m) ∗ pays c ∗ bigSep Finset.univ fun k : KK => atPos ER (kcell (c, k)) 0 ∅ 0) = Ghost (tt m) (ww m) c := fun c => by
    rw [by_cell (fun g => atPos ER g 0 ∅ 0)]; rfl
  simp only [hp]
  rw [bigSep_sep', bigSep_sep', bigSep_sep', dealt_around]
  iintro ⟨HI, ⟨Hat, HR⟩, Htok⟩
  iapply (bigSep_know (R := know (tt m) (ww m)) fun c _ => Entails.of_eq (hg c))
  isplitl [HI HR]
  · rw [hk]
    isplitl [HI]; · iexact HI
    iexact HR
  rw [bigSep_sep']
  isplitl [Htok]; · iexact Htok
  iexact Hat

/-- All devices' semaphores at once put under their schedules, and everything dealt. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (Ghost (tt m) (ww m)) :=
  ((bigSep_mono fun c _ => core_alloc m c).trans (bigSep_fupd _ _)).trans (BI.fupd_mono (regroup m))

/-! ## What a device is owed -/

omit [FloatOps F] in
/-- The devices owe a barrier four units. -/
theorem owed_bar (c : Dev nD) : ∑ d : Dev nD, O₀ d (barCell c) () = 4 := by
  have h : ∀ d : Dev nD, O₀ d (barCell c) () = ∑ a : Fin 4, if d = ptEquiv a c then 1 else 0 := fun d => by
    unfold O₀ oweFrom oweBar
    rw [Pi.add_apply, Finsupp.add_apply, Finset.sum_apply, Finsupp.finsetSum_apply, Finset.sum_apply, Finsupp.finsetSum_apply,
      Finset.sum_eq_zero fun e _ => by
        rw [if_pos (Nat.zero_le _), tallyAt_ne_cell (fun h => by have := congrArg Prod.snd h; cases this)]; rfl, Nat.zero_add]
    refine Finset.sum_congr rfl fun a _ => ?_
    rw [if_pos (Nat.zero_le _), tallyAt_apply]
    by_cases hd : d = ptEquiv a c
    · rw [if_pos hd, if_pos ⟨by rw [hd]; exact congrArg (fun x : Dev nD => barCell x) (pt_pt_fin a c).symm, rfl⟩]
    · rw [if_neg hd, if_neg fun hh => hd ?_]
      have hh : c = pt a d := congrArg (fun g : GSem nD τ sig => g.1.1) hh.1
      rw [hh]
      exact (pt_pt_fin a d).symm
  rw [Finset.sum_congr rfl fun d _ => h d, Finset.sum_comm]
  simp

omit [FloatOps F] in
/-- They owe the receive semaphore of a transfer its amount. -/
theorem owed_recv (e : Fin 32) (c : Dev nD) : ∑ d : Dev nD, O₀ d (recvCell e c) () = amt e := by
  have h : ∀ d : Dev nD, O₀ d (recvCell e c) () = if d = peerEquiv e c then amt e else 0 := fun d => by
    unfold O₀ oweFrom oweBar
    rw [Pi.add_apply, Finsupp.add_apply, Finset.sum_apply, Finsupp.finsetSum_apply, Finset.sum_apply, Finsupp.finsetSum_apply]
    have h0 : (∑ a : Fin 4, (if 0 ≤ a.val then tallyAt (barCell (pt a d)) () 1 else 0 : CellTallies nD τ sig Unit) (recvCell e c) ()) = 0 :=
      Finset.sum_eq_zero fun a _ => by
        rw [if_pos (Nat.zero_le _), tallyAt_ne_cell (fun h => by have := congrArg Prod.snd h; cases this)]; rfl
    rw [h0, Nat.add_zero, Finset.sum_eq_single e, if_pos (Nat.zero_le _), tallyAt_apply]
    · by_cases hd : d = peerEquiv e c
      · rw [if_pos hd, if_pos ⟨by rw [hd]; exact congrArg (fun x : Dev nD => recvCell e x) (peer_peer e c).symm, rfl⟩]
      · rw [if_neg hd, if_neg fun hh => hd ?_]
        have hh : c = peer e d := congrArg (fun g : GSem nD τ sig => g.1.1) hh.1
        rw [hh]
        exact (peer_peer e d).symm
    · intro e' _ hne
      rw [if_pos (Nat.zero_le _), tallyAt_ne_cell (fun h => hne ?_)]
      · rfl
      have h1 := congrArg (fun g : GSem nD τ sig => nameOf g.2) h
      have h2 : (Sum.inr (true, e) : KK) = Sum.inr (true, e') := (nameOf_csem (.inr (true, e))).symm.trans (h1.trans (nameOf_csem (.inr (true, e'))))
      exact (congrArg Prod.snd (Sum.inr.inj h2)).symm
    · exact fun h => absurd (Finset.mem_univ e) h
  rw [Finset.sum_congr rfl fun d _ => h d]
  simp

omit [FloatOps F] in
theorem launch_bar (c : Dev nD) : tallyOn (barCell c) (launchCredit (Pipeline.owing O₀) 0 (barCell c)) = (tallyAt (barCell c) () 4 : CellTallies nD τ sig Unit) := by
  unfold tallyAt; refine congrArg _ (Finsupp.ext fun u => ?_); cases u
  rw [Pipeline.launchCredit_owing, Finsupp.single_eq_same, owed_bar]
omit [FloatOps F] in
theorem launch_recv (e : Fin 32) (c : Dev nD) : tallyOn (recvCell e c) (launchCredit (Pipeline.owing O₀) 0 (recvCell e c)) = (tallyAt (recvCell e c) () (amt e) : CellTallies nD τ sig Unit) := by
  unfold tallyAt; refine congrArg _ (Finsupp.ext fun u => ?_); cases u
  rw [Pipeline.launchCredit_owing, Finsupp.single_eq_same, owed_recv]

omit [FloatOps F] in
/-- The credits a device's body waits with. -/
theorem creds (c : Dev nD) :
    (Pipeline.launchCred O₀ c : sProp 𝕄) ⊢ iprop(cred (tallyAt (barCell c) () 4) ∗ bigSep Finset.univ fun e : Fin 32 => cred (tallyAt (recvCell e c) () (amt e))) := by
  unfold Pipeline.launchCred
  refine (bigSep_subset (Finset.subset_univ (Finset.univ.map ⟨csem, csem_injective⟩))).trans ?_
  rw [bigSep_map]
  refine (Entails.of_eq (by_cell (fun g => cred (tallyOn g (launchCredit (Pipeline.owing O₀) 0 g))) c)).trans ?_
  simp only [launch_bar, launch_recv]
  iintro ⟨H1, -, H2⟩
  isplitl [H1]; · iexact H1
  iexact H2

/-! ## The run -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ Ghost (tt m) (ww m) c)
      ⊢ |={Set.univ}=> iprop(Dealt (tt m) (ww m) c ∗ emp) := by
  iintro ⟨-, Hlev, Hcr, -, HG⟩
  ihave Hc := (creds (F := F) c) $$ Hcr
  imodintro
  unfold Dealt
  isplitl
  · isplitl [HG]; · iexact HG
    isplitl [Hlev]; · iexact Hlev
    iexact Hc
  · iempintro

omit [FloatOps F] in
theorem scratch_eq (c : Dev nD) : (Pipeline.scopedRest (Ix := Unit) (Name := ℕ) (U := UU) (Lvl := ℕ) (Val := Elt F) cfg0.spec c : sProp 𝕄) = Scratch c := by
  refine (scopedRest0_eq c).trans ?_
  unfold Scratch anyRed anySt redPts stPts bufPts
  rw [rows_univ, rows_univ]
  rfl

theorem enter (c : Dev nD) :
    iprop(Dealt (tt m) (ww m) c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scratch_eq]
  unfold Φ₀
  iintro ⟨Hs, -, Hr⟩
  isplitl [Hs]; · iexact Hs
  iexact Hr

theorem leave (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scratch_eq]
  unfold Φ₁
  rw [← sems_eq]
  iintro ⟨⟨Hu, Ho⟩, Hr⟩
  isplitl [Hu]; · iexact Hu
  isplitl [Ho]; · iexact Ho
  iexact Hr

theorem waits (c : Dev nD) : (levAts L lv : sProp 𝕄) ⊢ Pipeline.cellsWaits cfgs (dats m ρ) () 0 c :=
  Pipeline.cellsWaits_intro cfgs (dats m ρ) () 0 c fun w s i =>
    mayWait_stage c _ (by fin_cases w <;> fin_cases s <;> decide) _ (by
      rcases i with ⟨_ | _, hi⟩
      · exact Or.inl rfl
      · exact Or.inr rfl)

theorem share_eq (c : Dev nD) (w : Fin cfg0.W) : (dats m ρ 0 c).share w = fullShare := by unfold Dat.share; split <;> rfl

/-- A window's array after the run. -/
def finalA (c : Dev nD) (w : Fin cfg0.W) : Buf (Elt F) ((cfg0.win w).arr.view.loc (c : Thread nD τ)) := (dats m ρ 0 c).arrAt w cfg0.N

set_option maxRecDepth 65536 in
/-- From any memory with its counters at zero, every weakly fair execution ends, with each window's array as computed and
every counter at zero again. -/
theorem run_main : θ_run defs (onTc (τ := τ) (main (F := F))) (s₀ m ρ)
    (fun r => (∀ c : Dev nD, ∀ w : Fin cfg0.W, r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := Ghost (tt m) (ww m)) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := Dealt (tt m) (ww m)) (Y := fun c => unscopedSems0 c) (Z := fun _ => iprop(emp))
    (hX := start_intro m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The block and the matrix end as launched, and the result array ends at the computed rows. -/
theorem final_arg0 (c : Dev nD) : finalA m ρ c (0 : Fin 3) = m ((c : Thread nD τ).loc main_arg0) := (dats (F := F) m ρ 0 c).arrAt_in (0 : Fin 3) rfl _
theorem final_arg1 (c : Dev nD) : finalA m ρ c (1 : Fin 3) = m ((c : Thread nD τ).loc main_arg1) := (dats (F := F) m ρ 0 c).arrAt_in (1 : Fin 3) rfl _
theorem final_res (c : Dev nD) : finalA m ρ c (2 : Fin 3) = OUT (tt m) (ww m) := by
  have h := (dats m ρ 0 c).arrAt_succ (2 : Fin 3) t0_0
  rw [if_pos (flush0_2 t0_0)] at h
  exact h.trans (write_res _ _)

/-- The run, read at the arguments and the result. -/
theorem run_values : θ_run defs (onTc (τ := τ) (main (F := F))) ⟨m, fun _ => 0, ρ⟩
    (fun r => (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_v1) = OUT (tt m) (ww m)) ∧ r.2.sem = fun _ => 0) :=
  (θ_run defs _ _).mono (fun _ h => ⟨fun c => ⟨(h.1 c (0 : Fin 3)).trans (final_arg0 m ρ c), (h.1 c (1 : Fin 3)).trans (final_arg1 m ρ c),
    (h.1 c (2 : Fin 3)).trans (final_res m ρ c)⟩, h.2⟩) (run_main m ρ)

end Cert.KernelIdealProof

end
-- ==== Proof.Sum.lean ====
/-
# The sixteen blocks summed, over the extended reals

Over the extended reals a rounding changes nothing and addition commutes and associates. So what a device has
after the four halvings of a schedule, at any position, is the sum over all sixteen devices of their values there.
-/
module

public import proofs.«01_k».proof.Proof.Contents
public import Idealize.ShloMosaic.Lib.Pointwise

@[expose] public section

noncomputable section

namespace Cert.Cube

open Idealize.ShloMosaic

/-- The devices whose values device `c` has summed in schedule `s` after `k` halvings, in the order added. -/
def heard (s : Nat) : Nat → Fin 16 → List (Fin 16)
  | 0, c => [c]
  | k + 1, c => heard s k c ++ heard s k (pt (ax s k) c)

/-- After four halvings every device has been added, once. -/
theorem heard_all : ∀ (s : Fin 4) (c : Fin 16), (heard s 4 c).Perm (List.finRange 16) := by decide +kernel

/-- One addition of the kernel is addition. -/
theorem add1_ideal (a b : Ideal .bf16) : add1 a b = a + b := rfl

/-- What a device has summed is the sum over the devices it has heard of. -/
theorem acc_heard (t : Fin 16 → Vec Ideal ⟨2, ![2048, 1024]⟩ .bf16) (s : Nat) (i : (⟨2, ![2048, 1024]⟩ : Shape).Idx) :
    ∀ (k : Nat) (c : Fin 16), acc t s k c i = ((heard s k c).map fun d => (t d i : EReal)).sum
  | 0, c => by simp [acc, heard]
  | k + 1, c => by
    rw [heard, List.map_append, List.sum_append, ← acc_heard t s i k c, ← acc_heard t s i k]
    rfl

/-- After four halvings it is the sum over all devices. -/
theorem acc_sum (t : Fin 16 → Vec Ideal ⟨2, ![2048, 1024]⟩ .bf16) {s : Nat} (hs : s < 4) (c : Fin 16) (i : (⟨2, ![2048, 1024]⟩ : Shape).Idx) :
    acc t s 4 c i = ∑ d : Fin 16, (t d i : EReal) := by
  rw [acc_heard, ((heard_all ⟨s, hs⟩ c).map _).sum_eq, Fin.sum_univ_def]

end Cert.Cube

end
-- ==== Proof.Value.lean ====
/-
# The kernel's result is the reference's

At every position, the result all devices end with is the reference's: a row of the summed blocks times a column
of the matrix. The kernel's row comes from its owner's slab of thirty-two rows, the reference's from the array of
all blocks read as sixteen stacked ones.
-/
module

public import proofs.«01_k».proof.Proof.Sum
public import proofs.«01_k».proof.Proof.KernelIdeal.Run
public import proofs.«01_k».proof.Proof.Gen.ReferenceIdeal.Run
public import Idealize.ShloMosaic.Lib.Layout

@[expose] public section

noncomputable section

namespace Cert.Value

open Idealize.ShloMosaic Cert.Cube

/-- A block of the reference's argument cut in sixteen along the rows. -/
abbrev part (X : Vec Ideal Cert.ReferenceIdeal.S32768x1024 .bf16) (c : Fin 16) : Vec Ideal ⟨2, ![2048, 1024]⟩ .bf16 :=
  Layout.block ⟨2, ![2048, 1024]⟩ ⟨2, ![32768, 1024]⟩ 0 16 c X

/-- Row `r`, column `l` of the product of a slab and a matrix. -/
theorem dot_apply (v : Vec Ideal ⟨2, ![32, 1024]⟩ .bf16) (w : Vec Ideal ⟨2, ![1024, 1024]⟩ .bf16) (r : Fin 32) (l : Fin 1024) :
    Cert.KernelIdeal.Gen.k0_pay24 (F := Ideal) v w (ix2 r l) = ∑ k : Fin 1024, (v (ix2 r k) * w (ix2 k l) : EReal) := by
  pointwise [Cert.KernelIdeal.Gen.k0_pay24]

/-- The reference's result of the whole array and the matrix. -/
def refOut (X : Vec Ideal Cert.ReferenceIdeal.S32768x1024 .bf16) (w : Vec Ideal Cert.ReferenceIdeal.S1024x1024 .bf16) :
    Vec Ideal Cert.ReferenceIdeal.S2048x1024 .bf16 :=
  truncf (F := Ideal) .bf16 (Host.dotGeneral (φ₂ := .bf16) Cert.ReferenceIdeal.dot_S2048x1024_S1024x1024_S2048x1024_1_0_0_1_n_n none
    (truncf .bf16 (Host.reduceAdd (extf .f32 (shapeCast Cert.ReferenceIdeal.S16x2048x1024 X Cert.ReferenceIdeal.Gen.shapeCasts_S32768x1024_S16x2048x1024)
      Cert.ReferenceIdeal.Gen.bitsLt_bf16_f32) (constant Cert.ReferenceIdeal.S_ .f32 0x00000000#32)
      Cert.ReferenceIdeal.Gen.reducesTo_S16x2048x1024_S2048x1024_d0 Cert.ReferenceIdeal.Gen.h_S_) Cert.ReferenceIdeal.Gen.bitsLt_bf16_f32) w)
    Cert.ReferenceIdeal.Gen.bitsLt_bf16_f32

/-- The whole array read as sixteen stacked blocks: block `d`'s row `r` is its part `d`'s row `r`. -/
theorem stack_apply (X : Vec Ideal Cert.ReferenceIdeal.S32768x1024 .bf16) (d : Fin 16) (r : Fin 2048) (k : Fin 1024) :
    shapeCast Cert.ReferenceIdeal.S16x2048x1024 X Cert.ReferenceIdeal.Gen.shapeCasts_S32768x1024_S16x2048x1024 (ix3 d r k) = part X d (ix2 r k) := by
  pointwise [part, Layout.block]
  refine congrArg X (funext fun b => ?_)
  match b with
  | ⟨0, _⟩ => exact Fin.ext rfl
  | ⟨1, _⟩ => exact Fin.ext rfl

/-- Row `r`, column `l` of the reference's result. -/
theorem refOut_apply (X : Vec Ideal Cert.ReferenceIdeal.S32768x1024 .bf16) (w : Vec Ideal Cert.ReferenceIdeal.S1024x1024 .bf16)
    (r : Fin 2048) (l : Fin 1024) :
    refOut X w (ix2 r l) = ∑ k : Fin 1024, ((∑ d : Fin 16, (part X d (ix2 r k) : EReal)) * w (ix2 k l) : EReal) := by
  have h : refOut X w (ix2 r l) = ∑ k : Fin 1024, ((∑ d : Fin 16,
      (shapeCast Cert.ReferenceIdeal.S16x2048x1024 X Cert.ReferenceIdeal.Gen.shapeCasts_S32768x1024_S16x2048x1024 (ix3 d r k) : EReal)) * w (ix2 k l) : EReal) := by
    pointwise [refOut]
  exact h.trans (Finset.sum_congr rfl fun k _ => congrArg (· * (w (ix2 k l) : EReal)) (Finset.sum_congr rfl fun d _ => stack_apply X d r k))

/-- Row `a` of the slab a device multiplies is a row of the sum of all blocks. -/
theorem slab_apply (t : Fin 16 → Vec Ideal ⟨2, ![2048, 1024]⟩ .bf16) (r : Fin 2048) (k : Fin 1024) :
    slab t (r.val / 32 / 16) (owner (r.val / 32)) (ix2 ⟨r.val % 32, Nat.mod_lt _ (by decide)⟩ k) = ∑ d : Fin 16, (t d (ix2 r k) : EReal) := by
  have hr : r.val < 2048 := r.isLt
  have h := lo_owner_fin ⟨r.val / 32, by omega⟩
  simp only at h
  unfold slab blkOf
  rw [acc_sum t (by omega : r.val / 32 / 16 < 4), h]
  have hi : rowOf (ix2 (⟨r.val % 32, Nat.mod_lt _ (by decide)⟩ : Fin 32) k) (32 * (r.val / 32) + r.val % 32) = ix2 r k := by
    rw [Nat.div_add_mod]
    funext b
    match b with
    | ⟨0, _⟩ => exact Fin.ext (Nat.mod_eq_of_lt hr)
    | ⟨1, _⟩ => rfl
  exact Finset.sum_congr rfl fun d _ => congrArg (t d) hi

/-- The result all devices end with, of the parts of an array and a matrix every device has, is the reference's. -/
theorem out_eq (X : Vec Ideal Cert.ReferenceIdeal.S32768x1024 .bf16) (w : Vec Ideal Cert.ReferenceIdeal.S1024x1024 .bf16) :
    outAll Cert.KernelIdeal.Gen.k0_pay24 (part X) (fun _ => w) = refOut X w := by
  funext i
  obtain ⟨r, l, rfl⟩ : ∃ (r : Fin 2048) (l : Fin 1024), i = ix2 r l := ⟨i 0, i 1, Idealize.ShloMosaic.eq_ix2 i⟩
  rw [refOut_apply]
  refine (dot_apply _ _ ⟨r.val % 32, Nat.mod_lt _ (by decide)⟩ l).trans ?_
  exact Finset.sum_congr rfl fun k _ => congrArg (· * (w (ix2 k l) : EReal)) (slab_apply (part X) r k)

end Cert.Value

end
-- ==== Proof.lean ====
/-
# The claims, assembled

Every run of the kernel, over any float values, ends with the arguments unchanged and every counter at zero
(`run_values`, which `Same` carries to the kernel over machine floats); so does every run of the reference. Over the extended reals the kernel's result on every
device is the reference's (`Cert.Value.out_eq`).
-/
module

public import proofs.«01_k».proof.Defs
public import proofs.«01_k».proof.Proof.Same
public import proofs.«01_k».proof.Proof.KernelIdeal.Run
public import proofs.«01_k».proof.Proof.Value
public import Idealize.ShloMosaic.Adequacy
public import Idealize.ShloMosaic.Init

@[expose] public section

noncomputable section

namespace Cert.Proof

open Idealize.ShloMosaic Idealize.SL.Sem

/-- The kernel over machine floats leaves its arguments and ends with every counter at zero. -/
theorem quiet_kernel : Cert.quiescent_Kernel (hKernel := Cert.Kernel.Gen.facts) := fun m g _ => by
  rw [defs_same, main_same]
  exact (θ_run _ _ _).mono (fun _ h => ⟨fun c => ⟨(h.1 c).1, (h.1 c).2.1⟩, h.2⟩) (Cert.KernelIdealProof.run_values m g)

/-- The same over the extended reals. -/
theorem quiet_ideal : Cert.quiescent_KernelIdeal (hKernelIdeal := Cert.KernelIdeal.Gen.facts) := fun m g _ =>
  (θ_run _ _ _).mono (fun _ h => ⟨fun c => ⟨(h.1 c).1, (h.1 c).2.1⟩, h.2⟩) (Cert.KernelIdealProof.run_values m g)

/-- The reference leaves its arguments; it has no counter. -/
theorem quiet_reference : Cert.quiescent_ReferenceIdeal (hReferenceIdeal := Cert.ReferenceIdeal.Gen.facts) := fun m g _ =>
  (θ_run _ _ _).mono (fun r h => ⟨fun c => (h c).2, sem_eq_zero_of_no_sems (by decide) r.2⟩) (Cert.ReferenceIdeal.Value.run m g)

/-- Over the extended reals, every device that holds its part of the reference's array and the reference's matrix ends
    with the reference's result. -/
theorem same_result : Cert.algebraic_KernelIdeal_ReferenceIdeal (hKernelIdeal := Cert.KernelIdeal.Gen.facts)
    (hReferenceIdeal := Cert.ReferenceIdeal.Gen.facts) := fun m g m' g' _ hin => by
  have ht : Cert.KernelIdealProof.tt m = Cert.Value.part (m' (((0 : Dev Cert.ReferenceIdeal.nD).tc : Thread Cert.ReferenceIdeal.nD Cert.ReferenceIdeal.τ).loc Cert.ReferenceIdeal.main_arg0)) :=
    funext fun c => (hin c).1
  have hw : Cert.KernelIdealProof.ww m = fun _ => m' (((0 : Dev Cert.ReferenceIdeal.nD).tc : Thread Cert.ReferenceIdeal.nD Cert.ReferenceIdeal.τ).loc Cert.ReferenceIdeal.main_arg1) :=
    funext fun c => (hin c).2
  refine ⟨Cert.Value.refOut (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run _ _ _).mono (fun _ h c => ⟨(h.1 c).2.2.trans ?_, (h.1 c).1, (h.1 c).2.1⟩) (Cert.KernelIdealProof.run_values m g),
    (θ_run _ _ _).mono (fun _ h => h 0) (Cert.ReferenceIdeal.Value.run m' g')⟩
  rw [ht, hw]
  exact Cert.Value.out_eq _ _

theorem claim : Cert.Claim := ⟨Cert.Kernel.Gen.facts, Cert.KernelIdeal.Gen.facts, Cert.ReferenceIdeal.Gen.facts,
  quiet_kernel, quiet_ideal, quiet_reference, trivial, same_result⟩

end Cert.Proof

end
